-- ==== Defs.lean ====
def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_GlaStep (m : (ℓ : Loc Cert.GlaStep.nD Cert.GlaStep.τ Cert.GlaStep.sig) → Buf (Elt Bits) ℓ) : Prop :=
  True

def Pre_GlaStepIdeal (m : (ℓ : Loc Cert.GlaStepIdeal.nD Cert.GlaStepIdeal.τ Cert.GlaStepIdeal.sig) → Buf (Elt Ideal) ℓ) : Prop :=
  True

def Pre_GlaStepRefIdeal (m : (ℓ : Loc Cert.GlaStepRefIdeal.nD Cert.GlaStepRefIdeal.τ Cert.GlaStepRefIdeal.sig) → Buf (Elt Ideal) ℓ) : Prop :=
  True

def Pre_MlstmStep (m : (ℓ : Loc Cert.MlstmStep.nD Cert.MlstmStep.τ Cert.MlstmStep.sig) → Buf (Elt Bits) ℓ) : Prop :=
  True

def Pre_MlstmStepIdeal (m : (ℓ : Loc Cert.MlstmStepIdeal.nD Cert.MlstmStepIdeal.τ Cert.MlstmStepIdeal.sig) → Buf (Elt Ideal) ℓ) : Prop :=
  True

def Pre_MlstmStepRefIdeal (m : (ℓ : Loc Cert.MlstmStepRefIdeal.nD Cert.MlstmStepRefIdeal.τ Cert.MlstmStepRefIdeal.sig) → Buf (Elt Ideal) ℓ) : Prop :=
  True

def Pre_InStep (m : (ℓ : Loc Cert.InStep.nD Cert.InStep.τ Cert.InStep.sig) → Buf (Elt Bits) ℓ) : Prop :=
  True

def Pre_InStepIdeal (m : (ℓ : Loc Cert.InStepIdeal.nD Cert.InStepIdeal.τ Cert.InStepIdeal.sig) → Buf (Elt Ideal) ℓ) : Prop :=
  True

def Pre_InStepRefIdeal (m : (ℓ : Loc Cert.InStepRefIdeal.nD Cert.InStepRefIdeal.τ Cert.InStepRefIdeal.sig) → Buf (Elt Ideal) ℓ) : Prop :=
  True

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_FfnStepRefIdeal (m : (ℓ : Loc Cert.FfnStepRefIdeal.nD Cert.FfnStepRefIdeal.τ Cert.FfnStepRefIdeal.sig) → Buf (Elt Ideal) ℓ) : Prop :=
  True

def Pre_S5Step (m : (ℓ : Loc Cert.S5Step.nD Cert.S5Step.τ Cert.S5Step.sig) → Buf (Elt Bits) ℓ) : Prop :=
  True

def Pre_S5StepIdeal (m : (ℓ : Loc Cert.S5StepIdeal.nD Cert.S5StepIdeal.τ Cert.S5StepIdeal.sig) → Buf (Elt Ideal) ℓ) : Prop :=
  True

def Pre_S5StepRefIdeal (m : (ℓ : Loc Cert.S5StepRefIdeal.nD Cert.S5StepRefIdeal.τ Cert.S5StepRefIdeal.sig) → Buf (Elt Ideal) ℓ) : Prop :=
  True

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_GlaStep [hGlaStep : Cert.GlaStep.Facts] : Prop :=
  ∀ (m : (ℓ : Loc Cert.GlaStep.nD Cert.GlaStep.τ Cert.GlaStep.sig) → Buf (Elt Bits) ℓ) (g : Dev Cert.GlaStep.nD → PrngReg), Pre_GlaStep m →
    θ_run (Cert.GlaStep.defs (F := Bits)) (onTc (τ := Cert.GlaStep.τ) (Cert.GlaStep.main (F := Bits))) ⟨m, fun _ => 0, g⟩ (fun r => (∀ c : Dev Cert.GlaStep.nD,
      r.2.mem ((c.tc : Thread Cert.GlaStep.nD Cert.GlaStep.τ).loc Cert.GlaStep.main_arg0) = m ((c.tc : Thread Cert.GlaStep.nD Cert.GlaStep.τ).loc Cert.GlaStep.main_arg0)
      ∧ r.2.mem ((c.tc : Thread Cert.GlaStep.nD Cert.GlaStep.τ).loc Cert.GlaStep.main_arg1) = m ((c.tc : Thread Cert.GlaStep.nD Cert.GlaStep.τ).loc Cert.GlaStep.main_arg1)
      ∧ r.2.mem ((c.tc : Thread Cert.GlaStep.nD Cert.GlaStep.τ).loc Cert.GlaStep.main_arg2) = m ((c.tc : Thread Cert.GlaStep.nD Cert.GlaStep.τ).loc Cert.GlaStep.main_arg2)
      ∧ r.2.mem ((c.tc : Thread Cert.GlaStep.nD Cert.GlaStep.τ).loc Cert.GlaStep.main_arg3) = m ((c.tc : Thread Cert.GlaStep.nD Cert.GlaStep.τ).loc Cert.GlaStep.main_arg3)
      ∧ r.2.mem ((c.tc : Thread Cert.GlaStep.nD Cert.GlaStep.τ).loc Cert.GlaStep.main_arg4) = m ((c.tc : Thread Cert.GlaStep.nD Cert.GlaStep.τ).loc Cert.GlaStep.main_arg4))
      ∧ r.2.sem = fun _ => 0)

def quiescent_GlaStepIdeal [hGlaStepIdeal : Cert.GlaStepIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg), Pre_GlaStepIdeal m →
    θ_run (Cert.GlaStepIdeal.defs (F := Ideal)) (onTc (τ := Cert.GlaStepIdeal.τ) (Cert.GlaStepIdeal.main (F := Ideal))) ⟨m, fun _ => 0, g⟩ (fun r => (∀ c : Dev Cert.GlaStepIdeal.nD,
      r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
      ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
      ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
      ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
      ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ r.2.sem = fun _ => 0)

def quiescent_GlaStepRefIdeal [hGlaStepRefIdeal : Cert.GlaStepRefIdeal.Facts] : Prop :=
  ∀ (m : (ℓ : Loc Cert.GlaStepRefIdeal.nD Cert.GlaStepRefIdeal.τ Cert.GlaStepRefIdeal.sig) → Buf (Elt Ideal) ℓ) (g : Dev Cert.GlaStepRefIdeal.nD → PrngReg), Pre_GlaStepRefIdeal m →
    θ_run (Cert.GlaStepRefIdeal.defs (F := Ideal)) (onTc (τ := Cert.GlaStepRefIdeal.τ) (Cert.GlaStepRefIdeal.main (F := Ideal))) ⟨m, fun _ => 0, g⟩ (fun r => (∀ c : Dev Cert.GlaStepRefIdeal.nD,
      r.2.mem ((c.tc : Thread Cert.GlaStepRefIdeal.nD Cert.GlaStepRefIdeal.τ).loc Cert.GlaStepRefIdeal.main_arg0) = m ((c.tc : Thread Cert.GlaStepRefIdeal.nD Cert.GlaStepRefIdeal.τ).loc Cert.GlaStepRefIdeal.main_arg0)
      ∧ r.2.mem ((c.tc : Thread Cert.GlaStepRefIdeal.nD Cert.GlaStepRefIdeal.τ).loc Cert.GlaStepRefIdeal.main_arg1) = m ((c.tc : Thread Cert.GlaStepRefIdeal.nD Cert.GlaStepRefIdeal.τ).loc Cert.GlaStepRefIdeal.main_arg1)
      ∧ r.2.mem ((c.tc : Thread Cert.GlaStepRefIdeal.nD Cert.GlaStepRefIdeal.τ).loc Cert.GlaStepRefIdeal.main_arg2) = m ((c.tc : Thread Cert.GlaStepRefIdeal.nD Cert.GlaStepRefIdeal.τ).loc Cert.GlaStepRefIdeal.main_arg2)
      ∧ r.2.mem ((c.tc : Thread Cert.GlaStepRefIdeal.nD Cert.GlaStepRefIdeal.τ).loc Cert.GlaStepRefIdeal.main_arg3) = m ((c.tc : Thread Cert.GlaStepRefIdeal.nD Cert.GlaStepRefIdeal.τ).loc Cert.GlaStepRefIdeal.main_arg3)
      ∧ r.2.mem ((c.tc : Thread Cert.GlaStepRefIdeal.nD Cert.GlaStepRefIdeal.τ).loc Cert.GlaStepRefIdeal.main_arg4) = m ((c.tc : Thread Cert.GlaStepRefIdeal.nD Cert.GlaStepRefIdeal.τ).loc Cert.GlaStepRefIdeal.main_arg4))
      ∧ r.2.sem = fun _ => 0)

def quiescent_MlstmStep [hMlstmStep : Cert.MlstmStep.Facts] : Prop :=
  ∀ (m : (ℓ : Loc Cert.MlstmStep.nD Cert.MlstmStep.τ Cert.MlstmStep.sig) → Buf (Elt Bits) ℓ) (g : Dev Cert.MlstmStep.nD → PrngReg), Pre_MlstmStep m →
    θ_run (Cert.MlstmStep.defs (F := Bits)) (onTc (τ := Cert.MlstmStep.τ) (Cert.MlstmStep.main (F := Bits))) ⟨m, fun _ => 0, g⟩ (fun r => (∀ c : Dev Cert.MlstmStep.nD,
      r.2.mem ((c.tc : Thread Cert.MlstmStep.nD Cert.MlstmStep.τ).loc Cert.MlstmStep.main_arg0) = m ((c.tc : Thread Cert.MlstmStep.nD Cert.MlstmStep.τ).loc Cert.MlstmStep.main_arg0)
      ∧ r.2.mem ((c.tc : Thread Cert.MlstmStep.nD Cert.MlstmStep.τ).loc Cert.MlstmStep.main_arg1) = m ((c.tc : Thread Cert.MlstmStep.nD Cert.MlstmStep.τ).loc Cert.MlstmStep.main_arg1)
      ∧ r.2.mem ((c.tc : Thread Cert.MlstmStep.nD Cert.MlstmStep.τ).loc Cert.MlstmStep.main_arg2) = m ((c.tc : Thread Cert.MlstmStep.nD Cert.MlstmStep.τ).loc Cert.MlstmStep.main_arg2)
      ∧ r.2.mem ((c.tc : Thread Cert.MlstmStep.nD Cert.MlstmStep.τ).loc Cert.MlstmStep.main_arg3) = m ((c.tc : Thread Cert.MlstmStep.nD Cert.MlstmStep.τ).loc Cert.MlstmStep.main_arg3)
      ∧ r.2.mem ((c.tc : Thread Cert.MlstmStep.nD Cert.MlstmStep.τ).loc Cert.MlstmStep.main_arg4) = m ((c.tc : Thread Cert.MlstmStep.nD Cert.MlstmStep.τ).loc Cert.MlstmStep.main_arg4)
      ∧ r.2.mem ((c.tc : Thread Cert.MlstmStep.nD Cert.MlstmStep.τ).loc Cert.MlstmStep.main_arg5) = m ((c.tc : Thread Cert.MlstmStep.nD Cert.MlstmStep.τ).loc Cert.MlstmStep.main_arg5)
      ∧ r.2.mem ((c.tc : Thread Cert.MlstmStep.nD Cert.MlstmStep.τ).loc Cert.MlstmStep.main_arg6) = m ((c.tc : Thread Cert.MlstmStep.nD Cert.MlstmStep.τ).loc Cert.MlstmStep.main_arg6)
      ∧ r.2.mem ((c.tc : Thread Cert.MlstmStep.nD Cert.MlstmStep.τ).loc Cert.MlstmStep.main_arg7) = m ((c.tc : Thread Cert.MlstmStep.nD Cert.MlstmStep.τ).loc Cert.MlstmStep.main_arg7))
      ∧ r.2.sem = fun _ => 0)

def quiescent_MlstmStepIdeal [hMlstmStepIdeal : Cert.MlstmStepIdeal.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg), Pre_MlstmStepIdeal m →
    θ_run (Cert.MlstmStepIdeal.defs (F := Ideal)) (onTc (τ := Cert.MlstmStepIdeal.τ) (Cert.MlstmStepIdeal.main (F := Ideal))) ⟨m, fun _ => 0, g⟩ (fun r => (∀ c : Dev Cert.MlstmStepIdeal.nD,
      r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
      ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
      ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
      ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
      ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
      ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
      ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6)
      ∧ r.2.mem ((c.tc : Thread Cert.MlstmStepIdeal.nD Cert.MlstmStepIdeal.τ).loc Cert.MlstmStepIdeal.main_arg7) = m ((c.tc : Thread Cert.MlstmStepIdeal.nD Cert.MlstmStepIdeal.τ).loc Cert.MlstmStepIdeal.main_arg7))
      ∧ r.2.sem = fun _ => 0)

def quiescent_MlstmStepRefIdeal [hMlstmStepRefIdeal : Cert.MlstmStepRefIdeal.Facts] : Prop :=
  ∀ (m : (ℓ : Loc Cert.MlstmStepRefIdeal.nD Cert.MlstmStepRefIdeal.τ Cert.MlstmStepRefIdeal.sig) → Buf (Elt Ideal) ℓ) (g : Dev Cert.MlstmStepRefIdeal.nD → PrngReg), Pre_MlstmStepRefIdeal m →
    θ_run (Cert.MlstmStepRefIdeal.defs (F := Ideal)) (onTc (τ := Cert.MlstmStepRefIdeal.τ) (Cert.MlstmStepRefIdeal.main (F := Ideal))) ⟨m, fun _ => 0, g⟩ (fun r => (∀ c : Dev Cert.MlstmStepRefIdeal.nD,
      r.2.mem ((c.tc : Thread Cert.MlstmStepRefIdeal.nD Cert.MlstmStepRefIdeal.τ).loc Cert.MlstmStepRefIdeal.main_arg0) = m ((c.tc : Thread Cert.MlstmStepRefIdeal.nD Cert.MlstmStepRefIdeal.τ).loc Cert.MlstmStepRefIdeal.main_arg0)
      ∧ r.2.mem ((c.tc : Thread Cert.MlstmStepRefIdeal.nD Cert.MlstmStepRefIdeal.τ).loc Cert.MlstmStepRefIdeal.main_arg1) = m ((c.tc : Thread Cert.MlstmStepRefIdeal.nD Cert.MlstmStepRefIdeal.τ).loc Cert.MlstmStepRefIdeal.main_arg1)
      ∧ r.2.mem ((c.tc : Thread Cert.MlstmStepRefIdeal.nD Cert.MlstmStepRefIdeal.τ).loc Cert.MlstmStepRefIdeal.main_arg2) = m ((c.tc : Thread Cert.MlstmStepRefIdeal.nD Cert.MlstmStepRefIdeal.τ).loc Cert.MlstmStepRefIdeal.main_arg2)
      ∧ r.2.mem ((c.tc : Thread Cert.MlstmStepRefIdeal.nD Cert.MlstmStepRefIdeal.τ).loc Cert.MlstmStepRefIdeal.main_arg3) = m ((c.tc : Thread Cert.MlstmStepRefIdeal.nD Cert.MlstmStepRefIdeal.τ).loc Cert.MlstmStepRefIdeal.main_arg3)
      ∧ r.2.mem ((c.tc : Thread Cert.MlstmStepRefIdeal.nD Cert.MlstmStepRefIdeal.τ).loc Cert.MlstmStepRefIdeal.main_arg4) = m ((c.tc : Thread Cert.MlstmStepRefIdeal.nD Cert.MlstmStepRefIdeal.τ).loc Cert.MlstmStepRefIdeal.main_arg4)
      ∧ r.2.mem ((c.tc : Thread Cert.MlstmStepRefIdeal.nD Cert.MlstmStepRefIdeal.τ).loc Cert.MlstmStepRefIdeal.main_arg5) = m ((c.tc : Thread Cert.MlstmStepRefIdeal.nD Cert.MlstmStepRefIdeal.τ).loc Cert.MlstmStepRefIdeal.main_arg5)
      ∧ r.2.mem ((c.tc : Thread Cert.MlstmStepRefIdeal.nD Cert.MlstmStepRefIdeal.τ).loc Cert.MlstmStepRefIdeal.main_arg6) = m ((c.tc : Thread Cert.MlstmStepRefIdeal.nD Cert.MlstmStepRefIdeal.τ).loc Cert.MlstmStepRefIdeal.main_arg6)
      ∧ r.2.mem ((c.tc : Thread Cert.MlstmStepRefIdeal.nD Cert.MlstmStepRefIdeal.τ).loc Cert.MlstmStepRefIdeal.main_arg7) = m ((c.tc : Thread Cert.MlstmStepRefIdeal.nD Cert.MlstmStepRefIdeal.τ).loc Cert.MlstmStepRefIdeal.main_arg7))
      ∧ r.2.sem = fun _ => 0)

def quiescent_InStep [hInStep : Cert.InStep.Facts] : Prop :=
  ∀ (m : (ℓ : Loc Cert.InStep.nD Cert.InStep.τ Cert.InStep.sig) → Buf (Elt Bits) ℓ) (g : Dev Cert.InStep.nD → PrngReg), Pre_InStep m →
    θ_run (Cert.InStep.defs (F := Bits)) (onTc (τ := Cert.InStep.τ) (Cert.InStep.main (F := Bits))) ⟨m, fun _ => 0, g⟩ (fun r => (∀ c : Dev Cert.InStep.nD,
      r.2.mem ((c.tc : Thread Cert.InStep.nD Cert.InStep.τ).loc Cert.InStep.main_arg0) = m ((c.tc : Thread Cert.InStep.nD Cert.InStep.τ).loc Cert.InStep.main_arg0)
      ∧ r.2.mem ((c.tc : Thread Cert.InStep.nD Cert.InStep.τ).loc Cert.InStep.main_arg1) = m ((c.tc : Thread Cert.InStep.nD Cert.InStep.τ).loc Cert.InStep.main_arg1)
      ∧ r.2.mem ((c.tc : Thread Cert.InStep.nD Cert.InStep.τ).loc Cert.InStep.main_arg2) = m ((c.tc : Thread Cert.InStep.nD Cert.InStep.τ).loc Cert.InStep.main_arg2))
      ∧ r.2.sem = fun _ => 0)

def quiescent_InStepIdeal [hInStepIdeal : Cert.InStepIdeal.Facts] : Prop :=
  ∀ (m : (ℓ : Loc Cert.InStepIdeal.nD Cert.InStepIdeal.τ Cert.InStepIdeal.sig) → Buf (Elt Ideal) ℓ) (g : Dev Cert.InStepIdeal.nD → PrngReg), Pre_InStepIdeal m →
    θ_run (Cert.InStepIdeal.defs (F := Ideal)) (onTc (τ := Cert.InStepIdeal.τ) (Cert.InStepIdeal.main (F := Ideal))) ⟨m, fun _ => 0, g⟩ (fun r => (∀ c : Dev Cert.InStepIdeal.nD,
      r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
      ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
      ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2))
      ∧ r.2.sem = fun _ => 0)

def quiescent_InStepRefIdeal [hInStepRefIdeal : Cert.InStepRefIdeal.Facts] : Prop :=
  ∀ (m : (ℓ : Loc Cert.InStepRefIdeal.nD Cert.InStepRefIdeal.τ Cert.InStepRefIdeal.sig) → Buf (Elt Ideal) ℓ) (g : Dev Cert.InStepRefIdeal.nD → PrngReg), Pre_InStepRefIdeal m →
    θ_run (Cert.InStepRefIdeal.defs (F := Ideal)) (onTc (τ := Cert.InStepRefIdeal.τ) (Cert.InStepRefIdeal.main (F := Ideal))) ⟨m, fun _ => 0, g⟩ (fun r => (∀ c : Dev Cert.InStepRefIdeal.nD,
      r.2.mem ((c.tc : Thread Cert.InStepRefIdeal.nD Cert.InStepRefIdeal.τ).loc Cert.InStepRefIdeal.main_arg0) = m ((c.tc : Thread Cert.InStepRefIdeal.nD Cert.InStepRefIdeal.τ).loc Cert.InStepRefIdeal.main_arg0)
      ∧ r.2.mem ((c.tc : Thread Cert.InStepRefIdeal.nD Cert.InStepRefIdeal.τ).loc Cert.InStepRefIdeal.main_arg1) = m ((c.tc : Thread Cert.InStepRefIdeal.nD Cert.InStepRefIdeal.τ).loc Cert.InStepRefIdeal.main_arg1)
      ∧ r.2.mem ((c.tc : Thread Cert.InStepRefIdeal.nD Cert.InStepRefIdeal.τ).loc Cert.InStepRefIdeal.main_arg2) = m ((c.tc : Thread Cert.InStepRefIdeal.nD Cert.InStepRefIdeal.τ).loc Cert.InStepRefIdeal.main_arg2))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6)
      ∧ r.2.mem ((c.tc : Thread Cert.FfnStep.nD Cert.FfnStep.τ).loc Cert.FfnStep.main_arg7) = m ((c.tc : Thread Cert.FfnStep.nD Cert.FfnStep.τ).loc Cert.FfnStep.main_arg7)
      ∧ r.2.mem ((c.tc : Thread Cert.FfnStep.nD Cert.FfnStep.τ).loc Cert.FfnStep.main_arg8) = m ((c.tc : Thread Cert.FfnStep.nD Cert.FfnStep.τ).loc Cert.FfnStep.main_arg8)
      ∧ r.2.mem ((c.tc : Thread Cert.FfnStep.nD Cert.FfnStep.τ).loc Cert.FfnStep.main_arg9) = m ((c.tc : Thread Cert.FfnStep.nD Cert.FfnStep.τ).loc Cert.FfnStep.main_arg9)
      ∧ r.2.mem ((c.tc : Thread Cert.FfnStep.nD Cert.FfnStep.τ).loc Cert.FfnStep.main_arg10) = m ((c.tc : Thread Cert.FfnStep.nD Cert.FfnStep.τ).loc Cert.FfnStep.main_arg10)
      ∧ r.2.mem ((c.tc : Thread Cert.FfnStep.nD Cert.FfnStep.τ).loc Cert.FfnStep.main_arg11) = m ((c.tc : Thread Cert.FfnStep.nD Cert.FfnStep.τ).loc Cert.FfnStep.main_arg11)
      ∧ r.2.mem ((c.tc : Thread Cert.FfnStep.nD Cert.FfnStep.τ).loc Cert.FfnStep.main_arg12) = m ((c.tc : Thread Cert.FfnStep.nD Cert.FfnStep.τ).loc Cert.FfnStep.main_arg12))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
      ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7)
      ∧ r.2.mem ((c.tc : Thread Cert.FfnStepIdeal.nD Cert.FfnStepIdeal.τ).loc Cert.FfnStepIdeal.main_arg8) = m ((c.tc : Thread Cert.FfnStepIdeal.nD Cert.FfnStepIdeal.τ).loc Cert.FfnStepIdeal.main_arg8)
      ∧ r.2.mem ((c.tc : Thread Cert.FfnStepIdeal.nD Cert.FfnStepIdeal.τ).loc Cert.FfnStepIdeal.main_arg9) = m ((c.tc : Thread Cert.FfnStepIdeal.nD Cert.FfnStepIdeal.τ).loc Cert.FfnStepIdeal.main_arg9)
      ∧ r.2.mem ((c.tc : Thread Cert.FfnStepIdeal.nD Cert.FfnStepIdeal.τ).loc Cert.FfnStepIdeal.main_arg10) = m ((c.tc : Thread Cert.FfnStepIdeal.nD Cert.FfnStepIdeal.τ).loc Cert.FfnStepIdeal.main_arg10)
      ∧ r.2.mem ((c.tc : Thread Cert.FfnStepIdeal.nD Cert.FfnStepIdeal.τ).loc Cert.FfnStepIdeal.main_arg11) = m ((c.tc : Thread Cert.FfnStepIdeal.nD Cert.FfnStepIdeal.τ).loc Cert.FfnStepIdeal.main_arg11)
      ∧ r.2.mem ((c.tc : Thread Cert.FfnStepIdeal.nD Cert.FfnStepIdeal.τ).loc Cert.FfnStepIdeal.main_arg12) = m ((c.tc : Thread Cert.FfnStepIdeal.nD Cert.FfnStepIdeal.τ).loc Cert.FfnStepIdeal.main_arg12))
      ∧ r.2.sem = fun _ => 0)

def quiescent_FfnStepRefIdeal [hFfnStepRefIdeal : Cert.FfnStepRefIdeal.Facts] : Prop :=
  ∀ (m : (ℓ : Loc Cert.FfnStepRefIdeal.nD Cert.FfnStepRefIdeal.τ Cert.FfnStepRefIdeal.sig) → Buf (Elt Ideal) ℓ) (g : Dev Cert.FfnStepRefIdeal.nD → PrngReg), Pre_FfnStepRefIdeal m →
    θ_run (Cert.FfnStepRefIdeal.defs (F := Ideal)) (onTc (τ := Cert.FfnStepRefIdeal.τ) (Cert.FfnStepRefIdeal.main (F := Ideal))) ⟨m, fun _ => 0, g⟩ (fun r => (∀ c : Dev Cert.FfnStepRefIdeal.nD,
      r.2.mem ((c.tc : Thread Cert.FfnStepRefIdeal.nD Cert.FfnStepRefIdeal.τ).loc Cert.FfnStepRefIdeal.main_arg0) = m ((c.tc : Thread Cert.FfnStepRefIdeal.nD Cert.FfnStepRefIdeal.τ).loc Cert.FfnStepRefIdeal.main_arg0)
      ∧ r.2.mem ((c.tc : Thread Cert.FfnStepRefIdeal.nD Cert.FfnStepRefIdeal.τ).loc Cert.FfnStepRefIdeal.main_arg1) = m ((c.tc : Thread Cert.FfnStepRefIdeal.nD Cert.FfnStepRefIdeal.τ).loc Cert.FfnStepRefIdeal.main_arg1)
      ∧ r.2.mem ((c.tc : Thread Cert.FfnStepRefIdeal.nD Cert.FfnStepRefIdeal.τ).loc Cert.FfnStepRefIdeal.main_arg2) = m ((c.tc : Thread Cert.FfnStepRefIdeal.nD Cert.FfnStepRefIdeal.τ).loc Cert.FfnStepRefIdeal.main_arg2)
      ∧ r.2.mem ((c.tc : Thread Cert.FfnStepRefIdeal.nD Cert.FfnStepRefIdeal.τ).loc Cert.FfnStepRefIdeal.main_arg3) = m ((c.tc : Thread Cert.FfnStepRefIdeal.nD Cert.FfnStepRefIdeal.τ).loc Cert.FfnStepRefIdeal.main_arg3)
      ∧ r.2.mem ((c.tc : Thread Cert.FfnStepRefIdeal.nD Cert.FfnStepRefIdeal.τ).loc Cert.FfnStepRefIdeal.main_arg4) = m ((c.tc : Thread Cert.FfnStepRefIdeal.nD Cert.FfnStepRefIdeal.τ).loc Cert.FfnStepRefIdeal.main_arg4)
      ∧ r.2.mem ((c.tc : Thread Cert.FfnStepRefIdeal.nD Cert.FfnStepRefIdeal.τ).loc Cert.FfnStepRefIdeal.main_arg5) = m ((c.tc : Thread Cert.FfnStepRefIdeal.nD Cert.FfnStepRefIdeal.τ).loc Cert.FfnStepRefIdeal.main_arg5)
      ∧ r.2.mem ((c.tc : Thread Cert.FfnStepRefIdeal.nD Cert.FfnStepRefIdeal.τ).loc Cert.FfnStepRefIdeal.main_arg6) = m ((c.tc : Thread Cert.FfnStepRefIdeal.nD Cert.FfnStepRefIdeal.τ).loc Cert.FfnStepRefIdeal.main_arg6)
      ∧ r.2.mem ((c.tc : Thread Cert.FfnStepRefIdeal.nD Cert.FfnStepRefIdeal.τ).loc Cert.FfnStepRefIdeal.main_arg7) = m ((c.tc : Thread Cert.FfnStepRefIdeal.nD Cert.FfnStepRefIdeal.τ).loc Cert.FfnStepRefIdeal.main_arg7)
      ∧ r.2.mem ((c.tc : Thread Cert.FfnStepRefIdeal.nD Cert.FfnStepRefIdeal.τ).loc Cert.FfnStepRefIdeal.main_arg8) = m ((c.tc : Thread Cert.FfnStepRefIdeal.nD Cert.FfnStepRefIdeal.τ).loc Cert.FfnStepRefIdeal.main_arg8)
      ∧ r.2.mem ((c.tc : Thread Cert.FfnStepRefIdeal.nD Cert.FfnStepRefIdeal.τ).loc Cert.FfnStepRefIdeal.main_arg9) = m ((c.tc : Thread Cert.FfnStepRefIdeal.nD Cert.FfnStepRefIdeal.τ).loc Cert.FfnStepRefIdeal.main_arg9)
      ∧ r.2.mem ((c.tc : Thread Cert.FfnStepRefIdeal.nD Cert.FfnStepRefIdeal.τ).loc Cert.FfnStepRefIdeal.main_arg10) = m ((c.tc : Thread Cert.FfnStepRefIdeal.nD Cert.FfnStepRefIdeal.τ).loc Cert.FfnStepRefIdeal.main_arg10)
      ∧ r.2.mem ((c.tc : Thread Cert.FfnStepRefIdeal.nD Cert.FfnStepRefIdeal.τ).loc Cert.FfnStepRefIdeal.main_arg11) = m ((c.tc : Thread Cert.FfnStepRefIdeal.nD Cert.FfnStepRefIdeal.τ).loc Cert.FfnStepRefIdeal.main_arg11)
      ∧ r.2.mem ((c.tc : Thread Cert.FfnStepRefIdeal.nD Cert.FfnStepRefIdeal.τ).loc Cert.FfnStepRefIdeal.main_arg12) = m ((c.tc : Thread Cert.FfnStepRefIdeal.nD Cert.FfnStepRefIdeal.τ).loc Cert.FfnStepRefIdeal.main_arg12))
      ∧ r.2.sem = fun _ => 0)

def quiescent_S5Step [hS5Step : Cert.S5Step.Facts] : Prop :=
  ∀ (m : (ℓ : Loc Cert.S5Step.nD Cert.S5Step.τ Cert.S5Step.sig) → Buf (Elt Bits) ℓ) (g : Dev Cert.S5Step.nD → PrngReg), Pre_S5Step m →
    θ_run (Cert.S5Step.defs (F := Bits)) (onTc (τ := Cert.S5Step.τ) (Cert.S5Step.main (F := Bits))) ⟨m, fun _ => 0, g⟩ (fun r => (∀ c : Dev Cert.S5Step.nD,
      r.2.mem ((c.tc : Thread Cert.S5Step.nD Cert.S5Step.τ).loc Cert.S5Step.main_arg0) = m ((c.tc : Thread Cert.S5Step.nD Cert.S5Step.τ).loc Cert.S5Step.main_arg0)
      ∧ r.2.mem ((c.tc : Thread Cert.S5Step.nD Cert.S5Step.τ).loc Cert.S5Step.main_arg1) = m ((c.tc : Thread Cert.S5Step.nD Cert.S5Step.τ).loc Cert.S5Step.main_arg1)
      ∧ r.2.mem ((c.tc : Thread Cert.S5Step.nD Cert.S5Step.τ).loc Cert.S5Step.main_arg2) = m ((c.tc : Thread Cert.S5Step.nD Cert.S5Step.τ).loc Cert.S5Step.main_arg2)
      ∧ r.2.mem ((c.tc : Thread Cert.S5Step.nD Cert.S5Step.τ).loc Cert.S5Step.main_arg3) = m ((c.tc : Thread Cert.S5Step.nD Cert.S5Step.τ).loc Cert.S5Step.main_arg3)
      ∧ r.2.mem ((c.tc : Thread Cert.S5Step.nD Cert.S5Step.τ).loc Cert.S5Step.main_arg4) = m ((c.tc : Thread Cert.S5Step.nD Cert.S5Step.τ).loc Cert.S5Step.main_arg4)
      ∧ r.2.mem ((c.tc : Thread Cert.S5Step.nD Cert.S5Step.τ).loc Cert.S5Step.main_arg5) = m ((c.tc : Thread Cert.S5Step.nD Cert.S5Step.τ).loc Cert.S5Step.main_arg5)
      ∧ r.2.mem ((c.tc : Thread Cert.S5Step.nD Cert.S5Step.τ).loc Cert.S5Step.main_arg6) = m ((c.tc : Thread Cert.S5Step.nD Cert.S5Step.τ).loc Cert.S5Step.main_arg6)
      ∧ r.2.mem ((c.tc : Thread Cert.S5Step.nD Cert.S5Step.τ).loc Cert.S5Step.main_arg7) = m ((c.tc : Thread Cert.S5Step.nD Cert.S5Step.τ).loc Cert.S5Step.main_arg7)
      ∧ r.2.mem ((c.tc : Thread Cert.S5Step.nD Cert.S5Step.τ).loc Cert.S5Step.main_arg8) = m ((c.tc : Thread Cert.S5Step.nD Cert.S5Step.τ).loc Cert.S5Step.main_arg8)
      ∧ r.2.mem ((c.tc : Thread Cert.S5Step.nD Cert.S5Step.τ).loc Cert.S5Step.main_arg9) = m ((c.tc : Thread Cert.S5Step.nD Cert.S5Step.τ).loc Cert.S5Step.main_arg9)
      ∧ r.2.mem ((c.tc : Thread Cert.S5Step.nD Cert.S5Step.τ).loc Cert.S5Step.main_arg10) = m ((c.tc : Thread Cert.S5Step.nD Cert.S5Step.τ).loc Cert.S5Step.main_arg10)
      ∧ r.2.mem ((c.tc : Thread Cert.S5Step.nD Cert.S5Step.τ).loc Cert.S5Step.main_arg11) = m ((c.tc : Thread Cert.S5Step.nD Cert.S5Step.τ).loc Cert.S5Step.main_arg11))
      ∧ r.2.sem = fun _ => 0)

def quiescent_S5StepIdeal [hS5StepIdeal : Cert.S5StepIdeal.Facts] : Prop :=
  ∀ (m : (ℓ : Loc Cert.S5StepIdeal.nD Cert.S5StepIdeal.τ Cert.S5StepIdeal.sig) → Buf (Elt Ideal) ℓ) (g : Dev Cert.S5StepIdeal.nD → PrngReg), Pre_S5StepIdeal m →
    θ_run (Cert.S5StepIdeal.defs (F := Ideal)) (onTc (τ := Cert.S5StepIdeal.τ) (Cert.S5StepIdeal.main (F := Ideal))) ⟨m, fun _ => 0, g⟩ (fun r => (∀ c : Dev Cert.S5StepIdeal.nD,
      r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
      ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
      ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
      ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
      ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
      ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
      ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6)
      ∧ r.2.mem ((c.tc : Thread Cert.S5StepIdeal.nD Cert.S5StepIdeal.τ).loc Cert.S5StepIdeal.main_arg7) = m ((c.tc : Thread Cert.S5StepIdeal.nD Cert.S5StepIdeal.τ).loc Cert.S5StepIdeal.main_arg7)
      ∧ r.2.mem ((c.tc : Thread Cert.S5StepIdeal.nD Cert.S5StepIdeal.τ).loc Cert.S5StepIdeal.main_arg8) = m ((c.tc : Thread Cert.S5StepIdeal.nD Cert.S5StepIdeal.τ).loc Cert.S5StepIdeal.main_arg8)
      ∧ r.2.mem ((c.tc : Thread Cert.S5StepIdeal.nD Cert.S5StepIdeal.τ).loc Cert.S5StepIdeal.main_arg9) = m ((c.tc : Thread Cert.S5StepIdeal.nD Cert.S5StepIdeal.τ).loc Cert.S5StepIdeal.main_arg9)
      ∧ r.2.mem ((c.tc : Thread Cert.S5StepIdeal.nD Cert.S5StepIdeal.τ).loc Cert.S5StepIdeal.main_arg10) = m ((c.tc : Thread Cert.S5StepIdeal.nD Cert.S5StepIdeal.τ).loc Cert.S5StepIdeal.main_arg10)
      ∧ r.2.mem ((c.tc : Thread Cert.S5StepIdeal.nD Cert.S5StepIdeal.τ).loc Cert.S5StepIdeal.main_arg11) = m ((c.tc : Thread Cert.S5StepIdeal.nD Cert.S5StepIdeal.τ).loc Cert.S5StepIdeal.main_arg11))
      ∧ r.2.sem = fun _ => 0)

def quiescent_S5StepRefIdeal [hS5StepRefIdeal : Cert.S5StepRefIdeal.Facts] : Prop :=
  ∀ (m : (ℓ : Loc Cert.S5StepRefIdeal.nD Cert.S5StepRefIdeal.τ Cert.S5StepRefIdeal.sig) → Buf (Elt Ideal) ℓ) (g : Dev Cert.S5StepRefIdeal.nD → PrngReg), Pre_S5StepRefIdeal m →
    θ_run (Cert.S5StepRefIdeal.defs (F := Ideal)) (onTc (τ := Cert.S5StepRefIdeal.τ) (Cert.S5StepRefIdeal.main (F := Ideal))) ⟨m, fun _ => 0, g⟩ (fun r => (∀ c : Dev Cert.S5StepRefIdeal.nD,
      r.2.mem ((c.tc : Thread Cert.S5StepRefIdeal.nD Cert.S5StepRefIdeal.τ).loc Cert.S5StepRefIdeal.main_arg0) = m ((c.tc : Thread Cert.S5StepRefIdeal.nD Cert.S5StepRefIdeal.τ).loc Cert.S5StepRefIdeal.main_arg0)
      ∧ r.2.mem ((c.tc : Thread Cert.S5StepRefIdeal.nD Cert.S5StepRefIdeal.τ).loc Cert.S5StepRefIdeal.main_arg1) = m ((c.tc : Thread Cert.S5StepRefIdeal.nD Cert.S5StepRefIdeal.τ).loc Cert.S5StepRefIdeal.main_arg1)
      ∧ r.2.mem ((c.tc : Thread Cert.S5StepRefIdeal.nD Cert.S5StepRefIdeal.τ).loc Cert.S5StepRefIdeal.main_arg2) = m ((c.tc : Thread Cert.S5StepRefIdeal.nD Cert.S5StepRefIdeal.τ).loc Cert.S5StepRefIdeal.main_arg2)
      ∧ r.2.mem ((c.tc : Thread Cert.S5StepRefIdeal.nD Cert.S5StepRefIdeal.τ).loc Cert.S5StepRefIdeal.main_arg3) = m ((c.tc : Thread Cert.S5StepRefIdeal.nD Cert.S5StepRefIdeal.τ).loc Cert.S5StepRefIdeal.main_arg3)
      ∧ r.2.mem ((c.tc : Thread Cert.S5StepRefIdeal.nD Cert.S5StepRefIdeal.τ).loc Cert.S5StepRefIdeal.main_arg4) = m ((c.tc : Thread Cert.S5StepRefIdeal.nD Cert.S5StepRefIdeal.τ).loc Cert.S5StepRefIdeal.main_arg4)
      ∧ r.2.mem ((c.tc : Thread Cert.S5StepRefIdeal.nD Cert.S5StepRefIdeal.τ).loc Cert.S5StepRefIdeal.main_arg5) = m ((c.tc : Thread Cert.S5StepRefIdeal.nD Cert.S5StepRefIdeal.τ).loc Cert.S5StepRefIdeal.main_arg5)
      ∧ r.2.mem ((c.tc : Thread Cert.S5StepRefIdeal.nD Cert.S5StepRefIdeal.τ).loc Cert.S5StepRefIdeal.main_arg6) = m ((c.tc : Thread Cert.S5StepRefIdeal.nD Cert.S5StepRefIdeal.τ).loc Cert.S5StepRefIdeal.main_arg6)
      ∧ r.2.mem ((c.tc : Thread Cert.S5StepRefIdeal.nD Cert.S5StepRefIdeal.τ).loc Cert.S5StepRefIdeal.main_arg7) = m ((c.tc : Thread Cert.S5StepRefIdeal.nD Cert.S5StepRefIdeal.τ).loc Cert.S5StepRefIdeal.main_arg7)
      ∧ r.2.mem ((c.tc : Thread Cert.S5StepRefIdeal.nD Cert.S5StepRefIdeal.τ).loc Cert.S5StepRefIdeal.main_arg8) = m ((c.tc : Thread Cert.S5StepRefIdeal.nD Cert.S5StepRefIdeal.τ).loc Cert.S5StepRefIdeal.main_arg8)
      ∧ r.2.mem ((c.tc : Thread Cert.S5StepRefIdeal.nD Cert.S5StepRefIdeal.τ).loc Cert.S5StepRefIdeal.main_arg9) = m ((c.tc : Thread Cert.S5StepRefIdeal.nD Cert.S5StepRefIdeal.τ).loc Cert.S5StepRefIdeal.main_arg9)
      ∧ r.2.mem ((c.tc : Thread Cert.S5StepRefIdeal.nD Cert.S5StepRefIdeal.τ).loc Cert.S5StepRefIdeal.main_arg10) = m ((c.tc : Thread Cert.S5StepRefIdeal.nD Cert.S5StepRefIdeal.τ).loc Cert.S5StepRefIdeal.main_arg10)
      ∧ r.2.mem ((c.tc : Thread Cert.S5StepRefIdeal.nD Cert.S5StepRefIdeal.τ).loc Cert.S5StepRefIdeal.main_arg11) = m ((c.tc : Thread Cert.S5StepRefIdeal.nD Cert.S5StepRefIdeal.τ).loc Cert.S5StepRefIdeal.main_arg11))
      ∧ r.2.sem = fun _ => 0)

def preserves_Rwkv_RwkvIdeal : Prop :=
  True

def algebraic_RwkvIdeal_RwkvRefIdeal [hRwkvIdeal : Cert.RwkvIdeal.Facts] [hRwkvRefIdeal : Cert.RwkvRefIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)) →
    ∃ (v0 : (c : Dev Cert.RwkvIdeal.nD) → Buf (Elt Ideal) ((c.tc : Thread Cert.RwkvIdeal.nD Cert.RwkvIdeal.τ).loc Cert.RwkvIdeal.main_v7_0)) (v1 : (c : Dev Cert.RwkvIdeal.nD) → Buf (Elt Ideal) ((c.tc : Thread Cert.RwkvIdeal.nD Cert.RwkvIdeal.τ).loc Cert.RwkvIdeal.main_v7_1)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v7_0) = v0 c
          ∧ r.2.mem ((c.tc : Thread Cert.RwkvIdeal.nD Cert.RwkvIdeal.τ).loc Cert.RwkvIdeal.main_v7_1) = v1 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v23) = v0 c
          ∧ r.2.mem ((c.tc : Thread Cert.RwkvRefIdeal.nD Cert.RwkvRefIdeal.τ).loc Cert.RwkvRefIdeal.main_v24) = v1 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v21_0)) (v1 : (c : Dev Cert.InprojIdeal.nD) → Buf (Elt Ideal) ((c.tc : Thread Cert.InprojIdeal.nD Cert.InprojIdeal.τ).loc Cert.InprojIdeal.main_v21_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v21_0) = v0 c
          ∧ r.2.mem ((c.tc : Thread Cert.InprojIdeal.nD Cert.InprojIdeal.τ).loc Cert.InprojIdeal.main_v21_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v31) = v0 c
          ∧ r.2.mem ((c.tc : Thread Cert.InprojRefIdeal.nD Cert.InprojRefIdeal.τ).loc Cert.InprojRefIdeal.main_v32) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v82) = v0 c
          ∧ r.2.mem ((c.tc : Thread Cert.FfnRefIdeal.nD Cert.FfnRefIdeal.τ).loc Cert.FfnRefIdeal.main_v83) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_GlaStep_GlaStepIdeal : Prop :=
  True

def algebraic_GlaStepIdeal_GlaStepRefIdeal [hGlaStepIdeal : Cert.GlaStepIdeal.Facts] [hGlaStepRefIdeal : Cert.GlaStepRefIdeal.Facts] : Prop :=
  ∀ (m : (ℓ : Loc Cert.GlaStepIdeal.nD Cert.GlaStepIdeal.τ Cert.GlaStepIdeal.sig) → Buf (Elt Ideal) ℓ) (g : Dev Cert.GlaStepIdeal.nD → PrngReg)
    (m' : (ℓ : Loc Cert.GlaStepRefIdeal.nD Cert.GlaStepRefIdeal.τ Cert.GlaStepRefIdeal.sig) → Buf (Elt Ideal) ℓ) (g' : Dev Cert.GlaStepRefIdeal.nD → PrngReg), Pre_GlaStepIdeal m →
    (∀ c : Dev Cert.GlaStepIdeal.nD,
      m' ((c.tc : Thread Cert.GlaStepRefIdeal.nD Cert.GlaStepRefIdeal.τ).loc Cert.GlaStepRefIdeal.main_arg0) = m ((c.tc : Thread Cert.GlaStepIdeal.nD Cert.GlaStepIdeal.τ).loc Cert.GlaStepIdeal.main_arg0)
      ∧ m' ((c.tc : Thread Cert.GlaStepRefIdeal.nD Cert.GlaStepRefIdeal.τ).loc Cert.GlaStepRefIdeal.main_arg1) = m ((c.tc : Thread Cert.GlaStepIdeal.nD Cert.GlaStepIdeal.τ).loc Cert.GlaStepIdeal.main_arg1)
      ∧ m' ((c.tc : Thread Cert.GlaStepRefIdeal.nD Cert.GlaStepRefIdeal.τ).loc Cert.GlaStepRefIdeal.main_arg2) = m ((c.tc : Thread Cert.GlaStepIdeal.nD Cert.GlaStepIdeal.τ).loc Cert.GlaStepIdeal.main_arg2)
      ∧ m' ((c.tc : Thread Cert.GlaStepRefIdeal.nD Cert.GlaStepRefIdeal.τ).loc Cert.GlaStepRefIdeal.main_arg3) = m ((c.tc : Thread Cert.GlaStepIdeal.nD Cert.GlaStepIdeal.τ).loc Cert.GlaStepIdeal.main_arg3)
      ∧ m' ((c.tc : Thread Cert.GlaStepRefIdeal.nD Cert.GlaStepRefIdeal.τ).loc Cert.GlaStepRefIdeal.main_arg4) = m ((c.tc : Thread Cert.GlaStepIdeal.nD Cert.GlaStepIdeal.τ).loc Cert.GlaStepIdeal.main_arg4)) →
    ∃ (v0 : (c : Dev Cert.GlaStepIdeal.nD) → Buf (Elt Ideal) ((c.tc : Thread Cert.GlaStepIdeal.nD Cert.GlaStepIdeal.τ).loc Cert.GlaStepIdeal.main_v5_0)) (v1 : (c : Dev Cert.GlaStepIdeal.nD) → Buf (Elt Ideal) ((c.tc : Thread Cert.GlaStepIdeal.nD Cert.GlaStepIdeal.τ).loc Cert.GlaStepIdeal.main_v5_1)),
      θ_run (Cert.GlaStepIdeal.defs (F := Ideal)) (onTc (τ := Cert.GlaStepIdeal.τ) (Cert.GlaStepIdeal.main (F := Ideal))) ⟨m, fun _ => 0, g⟩ (fun r => ∀ c : Dev Cert.GlaStepIdeal.nD,
          r.2.mem ((c.tc : Thread Cert.GlaStepIdeal.nD Cert.GlaStepIdeal.τ).loc Cert.GlaStepIdeal.main_v5_0) = v0 c
          ∧ r.2.mem ((c.tc : Thread Cert.GlaStepIdeal.nD Cert.GlaStepIdeal.τ).loc Cert.GlaStepIdeal.main_v5_1) = v1 c
          ∧ r.2.mem ((c.tc : Thread Cert.GlaStepIdeal.nD Cert.GlaStepIdeal.τ).loc Cert.GlaStepIdeal.main_arg0) = m ((c.tc : Thread Cert.GlaStepIdeal.nD Cert.GlaStepIdeal.τ).loc Cert.GlaStepIdeal.main_arg0)
          ∧ r.2.mem ((c.tc : Thread Cert.GlaStepIdeal.nD Cert.GlaStepIdeal.τ).loc Cert.GlaStepIdeal.main_arg1) = m ((c.tc : Thread Cert.GlaStepIdeal.nD Cert.GlaStepIdeal.τ).loc Cert.GlaStepIdeal.main_arg1)
          ∧ r.2.mem ((c.tc : Thread Cert.GlaStepIdeal.nD Cert.GlaStepIdeal.τ).loc Cert.GlaStepIdeal.main_arg2) = m ((c.tc : Thread Cert.GlaStepIdeal.nD Cert.GlaStepIdeal.τ).loc Cert.GlaStepIdeal.main_arg2)
          ∧ r.2.mem ((c.tc : Thread Cert.GlaStepIdeal.nD Cert.GlaStepIdeal.τ).loc Cert.GlaStepIdeal.main_arg3) = m ((c.tc : Thread Cert.GlaStepIdeal.nD Cert.GlaStepIdeal.τ).loc Cert.GlaStepIdeal.main_arg3)
          ∧ r.2.mem ((c.tc : Thread Cert.GlaStepIdeal.nD Cert.GlaStepIdeal.τ).loc Cert.GlaStepIdeal.main_arg4) = m ((c.tc : Thread Cert.GlaStepIdeal.nD Cert.GlaStepIdeal.τ).loc Cert.GlaStepIdeal.main_arg4))
      ∧ θ_run (Cert.GlaStepRefIdeal.defs (F := Ideal)) (onTc (τ := Cert.GlaStepRefIdeal.τ) (Cert.GlaStepRefIdeal.main (F := Ideal))) ⟨m', fun _ => 0, g'⟩ (fun r => ∀ c : Dev Cert.GlaStepRefIdeal.nD,
          r.2.mem ((c.tc : Thread Cert.GlaStepRefIdeal.nD Cert.GlaStepRefIdeal.τ).loc Cert.GlaStepRefIdeal.main_v16) = v0 c
          ∧ r.2.mem ((c.tc : Thread Cert.GlaStepRefIdeal.nD Cert.GlaStepRefIdeal.τ).loc Cert.GlaStepRefIdeal.main_v17) = v1 c
          ∧ r.2.mem ((c.tc : Thread Cert.GlaStepRefIdeal.nD Cert.GlaStepRefIdeal.τ).loc Cert.GlaStepRefIdeal.main_arg0) = m' ((c.tc : Thread Cert.GlaStepRefIdeal.nD Cert.GlaStepRefIdeal.τ).loc Cert.GlaStepRefIdeal.main_arg0)
          ∧ r.2.mem ((c.tc : Thread Cert.GlaStepRefIdeal.nD Cert.GlaStepRefIdeal.τ).loc Cert.GlaStepRefIdeal.main_arg1) = m' ((c.tc : Thread Cert.GlaStepRefIdeal.nD Cert.GlaStepRefIdeal.τ).loc Cert.GlaStepRefIdeal.main_arg1)
          ∧ r.2.mem ((c.tc : Thread Cert.GlaStepRefIdeal.nD Cert.GlaStepRefIdeal.τ).loc Cert.GlaStepRefIdeal.main_arg2) = m' ((c.tc : Thread Cert.GlaStepRefIdeal.nD Cert.GlaStepRefIdeal.τ).loc Cert.GlaStepRefIdeal.main_arg2)
          ∧ r.2.mem ((c.tc : Thread Cert.GlaStepRefIdeal.nD Cert.GlaStepRefIdeal.τ).loc Cert.GlaStepRefIdeal.main_arg3) = m' ((c.tc : Thread Cert.GlaStepRefIdeal.nD Cert.GlaStepRefIdeal.τ).loc Cert.GlaStepRefIdeal.main_arg3)
          ∧ r.2.mem ((c.tc : Thread Cert.GlaStepRefIdeal.nD Cert.GlaStepRefIdeal.τ).loc Cert.GlaStepRefIdeal.main_arg4) = m' ((c.tc : Thread Cert.GlaStepRefIdeal.nD Cert.GlaStepRefIdeal.τ).loc Cert.GlaStepRefIdeal.main_arg4))

def preserves_MlstmStep_MlstmStepIdeal : Prop :=
  True

def algebraic_MlstmStepIdeal_MlstmStepRefIdeal [hMlstmStepIdeal : Cert.MlstmStepIdeal.Facts] [hMlstmStepRefIdeal : Cert.MlstmStepRefIdeal.Facts] : Prop :=
  ∀ (m : (ℓ : Loc Cert.MlstmStepIdeal.nD Cert.MlstmStepIdeal.τ Cert.MlstmStepIdeal.sig) → Buf (Elt Ideal) ℓ) (g : Dev Cert.MlstmStepIdeal.nD → PrngReg)
    (m' : (ℓ : Loc Cert.MlstmStepRefIdeal.nD Cert.MlstmStepRefIdeal.τ Cert.MlstmStepRefIdeal.sig) → Buf (Elt Ideal) ℓ) (g' : Dev Cert.MlstmStepRefIdeal.nD → PrngReg), Pre_MlstmStepIdeal m →
    (∀ c : Dev Cert.MlstmStepIdeal.nD,
      m' ((c.tc : Thread Cert.MlstmStepRefIdeal.nD Cert.MlstmStepRefIdeal.τ).loc Cert.MlstmStepRefIdeal.main_arg0) = m ((c.tc : Thread Cert.MlstmStepIdeal.nD Cert.MlstmStepIdeal.τ).loc Cert.MlstmStepIdeal.main_arg0)
      ∧ m' ((c.tc : Thread Cert.MlstmStepRefIdeal.nD Cert.MlstmStepRefIdeal.τ).loc Cert.MlstmStepRefIdeal.main_arg1) = m ((c.tc : Thread Cert.MlstmStepIdeal.nD Cert.MlstmStepIdeal.τ).loc Cert.MlstmStepIdeal.main_arg1)
      ∧ m' ((c.tc : Thread Cert.MlstmStepRefIdeal.nD Cert.MlstmStepRefIdeal.τ).loc Cert.MlstmStepRefIdeal.main_arg2) = m ((c.tc : Thread Cert.MlstmStepIdeal.nD Cert.MlstmStepIdeal.τ).loc Cert.MlstmStepIdeal.main_arg2)
      ∧ m' ((c.tc : Thread Cert.MlstmStepRefIdeal.nD Cert.MlstmStepRefIdeal.τ).loc Cert.MlstmStepRefIdeal.main_arg3) = m ((c.tc : Thread Cert.MlstmStepIdeal.nD Cert.MlstmStepIdeal.τ).loc Cert.MlstmStepIdeal.main_arg3)
      ∧ m' ((c.tc : Thread Cert.MlstmStepRefIdeal.nD Cert.MlstmStepRefIdeal.τ).loc Cert.MlstmStepRefIdeal.main_arg4) = m ((c.tc : Thread Cert.MlstmStepIdeal.nD Cert.MlstmStepIdeal.τ).loc Cert.MlstmStepIdeal.main_arg4)
      ∧ m' ((c.tc : Thread Cert.MlstmStepRefIdeal.nD Cert.MlstmStepRefIdeal.τ).loc Cert.MlstmStepRefIdeal.main_arg5) = m ((c.tc : Thread Cert.MlstmStepIdeal.nD Cert.MlstmStepIdeal.τ).loc Cert.MlstmStepIdeal.main_arg5)
      ∧ m' ((c.tc : Thread Cert.MlstmStepRefIdeal.nD Cert.MlstmStepRefIdeal.τ).loc Cert.MlstmStepRefIdeal.main_arg6) = m ((c.tc : Thread Cert.MlstmStepIdeal.nD Cert.MlstmStepIdeal.τ).loc Cert.MlstmStepIdeal.main_arg6)
      ∧ m' ((c.tc : Thread Cert.MlstmStepRefIdeal.nD Cert.MlstmStepRefIdeal.τ).loc Cert.MlstmStepRefIdeal.main_arg7) = m ((c.tc : Thread Cert.MlstmStepIdeal.nD Cert.MlstmStepIdeal.τ).loc Cert.MlstmStepIdeal.main_arg7)) →
    ∃ (v0 : (c : Dev Cert.MlstmStepIdeal.nD) → Buf (Elt Ideal) ((c.tc : Thread Cert.MlstmStepIdeal.nD Cert.MlstmStepIdeal.τ).loc Cert.MlstmStepIdeal.main_v11_0)) (v1 : (c : Dev Cert.MlstmStepIdeal.nD) → Buf (Elt Ideal) ((c.tc : Thread Cert.MlstmStepIdeal.nD Cert.MlstmStepIdeal.τ).loc Cert.MlstmStepIdeal.main_v11_1)) (v2 : (c : Dev Cert.MlstmStepIdeal.nD) → Buf (Elt Ideal) ((c.tc : Thread Cert.MlstmStepIdeal.nD Cert.MlstmStepIdeal.τ).loc Cert.MlstmStepIdeal.main_v11_2)),
      θ_run (Cert.MlstmStepIdeal.defs (F := Ideal)) (onTc (τ := Cert.MlstmStepIdeal.τ) (Cert.MlstmStepIdeal.main (F := Ideal))) ⟨m, fun _ => 0, g⟩ (fun r => ∀ c : Dev Cert.MlstmStepIdeal.nD,
          r.2.mem ((c.tc : Thread Cert.MlstmStepIdeal.nD Cert.MlstmStepIdeal.τ).loc Cert.MlstmStepIdeal.main_v11_0) = v0 c
          ∧ r.2.mem ((c.tc : Thread Cert.MlstmStepIdeal.nD Cert.MlstmStepIdeal.τ).loc Cert.MlstmStepIdeal.main_v11_1) = v1 c
          ∧ r.2.mem ((c.tc : Thread Cert.MlstmStepIdeal.nD Cert.MlstmStepIdeal.τ).loc Cert.MlstmStepIdeal.main_v11_2) = v2 c
          ∧ r.2.mem ((c.tc : Thread Cert.MlstmStepIdeal.nD Cert.MlstmStepIdeal.τ).loc Cert.MlstmStepIdeal.main_arg0) = m ((c.tc : Thread Cert.MlstmStepIdeal.nD Cert.MlstmStepIdeal.τ).loc Cert.MlstmStepIdeal.main_arg0)
          ∧ r.2.mem ((c.tc : Thread Cert.MlstmStepIdeal.nD Cert.MlstmStepIdeal.τ).loc Cert.MlstmStepIdeal.main_arg1) = m ((c.tc : Thread Cert.MlstmStepIdeal.nD Cert.MlstmStepIdeal.τ).loc Cert.MlstmStepIdeal.main_arg1)
          ∧ r.2.mem ((c.tc : Thread Cert.MlstmStepIdeal.nD Cert.MlstmStepIdeal.τ).loc Cert.MlstmStepIdeal.main_arg2) = m ((c.tc : Thread Cert.MlstmStepIdeal.nD Cert.MlstmStepIdeal.τ).loc Cert.MlstmStepIdeal.main_arg2)
          ∧ r.2.mem ((c.tc : Thread Cert.MlstmStepIdeal.nD Cert.MlstmStepIdeal.τ).loc Cert.MlstmStepIdeal.main_arg3) = m ((c.tc : Thread Cert.MlstmStepIdeal.nD Cert.MlstmStepIdeal.τ).loc Cert.MlstmStepIdeal.main_arg3)
          ∧ r.2.mem ((c.tc : Thread Cert.MlstmStepIdeal.nD Cert.MlstmStepIdeal.τ).loc Cert.MlstmStepIdeal.main_arg4) = m ((c.tc : Thread Cert.MlstmStepIdeal.nD Cert.MlstmStepIdeal.τ).loc Cert.MlstmStepIdeal.main_arg4)
          ∧ r.2.mem ((c.tc : Thread Cert.MlstmStepIdeal.nD Cert.MlstmStepIdeal.τ).loc Cert.MlstmStepIdeal.main_arg5) = m ((c.tc : Thread Cert.MlstmStepIdeal.nD Cert.MlstmStepIdeal.τ).loc Cert.MlstmStepIdeal.main_arg5)
          ∧ r.2.mem ((c.tc : Thread Cert.MlstmStepIdeal.nD Cert.MlstmStepIdeal.τ).loc Cert.MlstmStepIdeal.main_arg6) = m ((c.tc : Thread Cert.MlstmStepIdeal.nD Cert.MlstmStepIdeal.τ).loc Cert.MlstmStepIdeal.main_arg6)
          ∧ r.2.mem ((c.tc : Thread Cert.MlstmStepIdeal.nD Cert.MlstmStepIdeal.τ).loc Cert.MlstmStepIdeal.main_arg7) = m ((c.tc : Thread Cert.MlstmStepIdeal.nD Cert.MlstmStepIdeal.τ).loc Cert.MlstmStepIdeal.main_arg7))
      ∧ θ_run (Cert.MlstmStepRefIdeal.defs (F := Ideal)) (onTc (τ := Cert.MlstmStepRefIdeal.τ) (Cert.MlstmStepRefIdeal.main (F := Ideal))) ⟨m', fun _ => 0, g'⟩ (fun r => ∀ c : Dev Cert.MlstmStepRefIdeal.nD,
          r.2.mem ((c.tc : Thread Cert.MlstmStepRefIdeal.nD Cert.MlstmStepRefIdeal.τ).loc Cert.MlstmStepRefIdeal.main_v36) = v0 c
          ∧ r.2.mem ((c.tc : Thread Cert.MlstmStepRefIdeal.nD Cert.MlstmStepRefIdeal.τ).loc Cert.MlstmStepRefIdeal.main_v37) = v1 c
          ∧ r.2.mem ((c.tc : Thread Cert.MlstmStepRefIdeal.nD Cert.MlstmStepRefIdeal.τ).loc Cert.MlstmStepRefIdeal.main_v38) = v2 c
          ∧ r.2.mem ((c.tc : Thread Cert.MlstmStepRefIdeal.nD Cert.MlstmStepRefIdeal.τ).loc Cert.MlstmStepRefIdeal.main_arg0) = m' ((c.tc : Thread Cert.MlstmStepRefIdeal.nD Cert.MlstmStepRefIdeal.τ).loc Cert.MlstmStepRefIdeal.main_arg0)
          ∧ r.2.mem ((c.tc : Thread Cert.MlstmStepRefIdeal.nD Cert.MlstmStepRefIdeal.τ).loc Cert.MlstmStepRefIdeal.main_arg1) = m' ((c.tc : Thread Cert.MlstmStepRefIdeal.nD Cert.MlstmStepRefIdeal.τ).loc Cert.MlstmStepRefIdeal.main_arg1)
          ∧ r.2.mem ((c.tc : Thread Cert.MlstmStepRefIdeal.nD Cert.MlstmStepRefIdeal.τ).loc Cert.MlstmStepRefIdeal.main_arg2) = m' ((c.tc : Thread Cert.MlstmStepRefIdeal.nD Cert.MlstmStepRefIdeal.τ).loc Cert.MlstmStepRefIdeal.main_arg2)
          ∧ r.2.mem ((c.tc : Thread Cert.MlstmStepRefIdeal.nD Cert.MlstmStepRefIdeal.τ).loc Cert.MlstmStepRefIdeal.main_arg3) = m' ((c.tc : Thread Cert.MlstmStepRefIdeal.nD Cert.MlstmStepRefIdeal.τ).loc Cert.MlstmStepRefIdeal.main_arg3)
          ∧ r.2.mem ((c.tc : Thread Cert.MlstmStepRefIdeal.nD Cert.MlstmStepRefIdeal.τ).loc Cert.MlstmStepRefIdeal.main_arg4) = m' ((c.tc : Thread Cert.MlstmStepRefIdeal.nD Cert.MlstmStepRefIdeal.τ).loc Cert.MlstmStepRefIdeal.main_arg4)
          ∧ r.2.mem ((c.tc : Thread Cert.MlstmStepRefIdeal.nD Cert.MlstmStepRefIdeal.τ).loc Cert.MlstmStepRefIdeal.main_arg5) = m' ((c.tc : Thread Cert.MlstmStepRefIdeal.nD Cert.MlstmStepRefIdeal.τ).loc Cert.MlstmStepRefIdeal.main_arg5)
          ∧ r.2.mem ((c.tc : Thread Cert.MlstmStepRefIdeal.nD Cert.MlstmStepRefIdeal.τ).loc Cert.MlstmStepRefIdeal.main_arg6) = m' ((c.tc : Thread Cert.MlstmStepRefIdeal.nD Cert.MlstmStepRefIdeal.τ).loc Cert.MlstmStepRefIdeal.main_arg6)
          ∧ r.2.mem ((c.tc : Thread Cert.MlstmStepRefIdeal.nD Cert.MlstmStepRefIdeal.τ).loc Cert.MlstmStepRefIdeal.main_arg7) = m' ((c.tc : Thread Cert.MlstmStepRefIdeal.nD Cert.MlstmStepRefIdeal.τ).loc Cert.MlstmStepRefIdeal.main_arg7))

def preserves_InStep_InStepIdeal : Prop :=
  True

def algebraic_InStepIdeal_InStepRefIdeal [hInStepIdeal : Cert.InStepIdeal.Facts] [hInStepRefIdeal : Cert.InStepRefIdeal.Facts] : Prop :=
  ∀ (m : (ℓ : Loc Cert.InStepIdeal.nD Cert.InStepIdeal.τ Cert.InStepIdeal.sig) → Buf (Elt Ideal) ℓ) (g : Dev Cert.InStepIdeal.nD → PrngReg)
    (m' : (ℓ : Loc Cert.InStepRefIdeal.nD Cert.InStepRefIdeal.τ Cert.InStepRefIdeal.sig) → Buf (Elt Ideal) ℓ) (g' : Dev Cert.InStepRefIdeal.nD → PrngReg), Pre_InStepIdeal m →
    (∀ c : Dev Cert.InStepIdeal.nD,
      m' ((c.tc : Thread Cert.InStepRefIdeal.nD Cert.InStepRefIdeal.τ).loc Cert.InStepRefIdeal.main_arg0) = m ((c.tc : Thread Cert.InStepIdeal.nD Cert.InStepIdeal.τ).loc Cert.InStepIdeal.main_arg0)
      ∧ m' ((c.tc : Thread Cert.InStepRefIdeal.nD Cert.InStepRefIdeal.τ).loc Cert.InStepRefIdeal.main_arg1) = m ((c.tc : Thread Cert.InStepIdeal.nD Cert.InStepIdeal.τ).loc Cert.InStepIdeal.main_arg1)
      ∧ m' ((c.tc : Thread Cert.InStepRefIdeal.nD Cert.InStepRefIdeal.τ).loc Cert.InStepRefIdeal.main_arg2) = m ((c.tc : Thread Cert.InStepIdeal.nD Cert.InStepIdeal.τ).loc Cert.InStepIdeal.main_arg2)) →
    ∃ (v0 : (c : Dev Cert.InStepIdeal.nD) → Buf (Elt Ideal) ((c.tc : Thread Cert.InStepIdeal.nD Cert.InStepIdeal.τ).loc Cert.InStepIdeal.main_v21_0)) (v1 : (c : Dev Cert.InStepIdeal.nD) → Buf (Elt Ideal) ((c.tc : Thread Cert.InStepIdeal.nD Cert.InStepIdeal.τ).loc Cert.InStepIdeal.main_v21_1)),
      θ_run (Cert.InStepIdeal.defs (F := Ideal)) (onTc (τ := Cert.InStepIdeal.τ) (Cert.InStepIdeal.main (F := Ideal))) ⟨m, fun _ => 0, g⟩ (fun r => ∀ c : Dev Cert.InStepIdeal.nD,
          r.2.mem ((c.tc : Thread Cert.InStepIdeal.nD Cert.InStepIdeal.τ).loc Cert.InStepIdeal.main_v21_0) = v0 c
          ∧ r.2.mem ((c.tc : Thread Cert.InStepIdeal.nD Cert.InStepIdeal.τ).loc Cert.InStepIdeal.main_v21_1) = v1 c
          ∧ r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
          ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
          ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2))
      ∧ θ_run (Cert.InStepRefIdeal.defs (F := Ideal)) (onTc (τ := Cert.InStepRefIdeal.τ) (Cert.InStepRefIdeal.main (F := Ideal))) ⟨m', fun _ => 0, g'⟩ (fun r => ∀ c : Dev Cert.InStepRefIdeal.nD,
          r.2.mem ((c.tc : Thread Cert.InStepRefIdeal.nD Cert.InStepRefIdeal.τ).loc Cert.InStepRefIdeal.main_v28) = v0 c
          ∧ r.2.mem ((c.tc : Thread Cert.InStepRefIdeal.nD Cert.InStepRefIdeal.τ).loc Cert.InStepRefIdeal.main_v31) = v1 c
          ∧ r.2.mem ((c.tc : Thread Cert.InStepRefIdeal.nD Cert.InStepRefIdeal.τ).loc Cert.InStepRefIdeal.main_arg0) = m' ((c.tc : Thread Cert.InStepRefIdeal.nD Cert.InStepRefIdeal.τ).loc Cert.InStepRefIdeal.main_arg0)
          ∧ r.2.mem ((c.tc : Thread Cert.InStepRefIdeal.nD Cert.InStepRefIdeal.τ).loc Cert.InStepRefIdeal.main_arg1) = m' ((c.tc : Thread Cert.InStepRefIdeal.nD Cert.InStepRefIdeal.τ).loc Cert.InStepRefIdeal.main_arg1)
          ∧ r.2.mem ((c.tc : Thread Cert.InStepRefIdeal.nD Cert.InStepRefIdeal.τ).loc Cert.InStepRefIdeal.main_arg2) = m' ((c.tc : Thread Cert.InStepRefIdeal.nD Cert.InStepRefIdeal.τ).loc Cert.InStepRefIdeal.main_arg2))

def preserves_FfnStep_FfnStepIdeal : Prop :=
  True

def algebraic_FfnStepIdeal_FfnStepRefIdeal [hFfnStepIdeal : Cert.FfnStepIdeal.Facts] [hFfnStepRefIdeal : Cert.FfnStepRefIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.FfnStepRefIdeal.nD Cert.FfnStepRefIdeal.τ Cert.FfnStepRefIdeal.sig) → Buf (Elt Ideal) ℓ) (g' : Dev Cert.FfnStepRefIdeal.nD → PrngReg), Pre_FfnStepIdeal m →
    (∀ c : Dev Cert.FfnStepIdeal.nD,
      m' ((c.tc : Thread Cert.FfnStepRefIdeal.nD Cert.FfnStepRefIdeal.τ).loc Cert.FfnStepRefIdeal.main_arg0) = m ((c.tc : Thread Cert.FfnStepIdeal.nD Cert.FfnStepIdeal.τ).loc Cert.FfnStepIdeal.main_arg0)
      ∧ m' ((c.tc : Thread Cert.FfnStepRefIdeal.nD Cert.FfnStepRefIdeal.τ).loc Cert.FfnStepRefIdeal.main_arg1) = m ((c.tc : Thread Cert.FfnStepIdeal.nD Cert.FfnStepIdeal.τ).loc Cert.FfnStepIdeal.main_arg1)
      ∧ m' ((c.tc : Thread Cert.FfnStepRefIdeal.nD Cert.FfnStepRefIdeal.τ).loc Cert.FfnStepRefIdeal.main_arg2) = m ((c.tc : Thread Cert.FfnStepIdeal.nD Cert.FfnStepIdeal.τ).loc Cert.FfnStepIdeal.main_arg2)
      ∧ m' ((c.tc : Thread Cert.FfnStepRefIdeal.nD Cert.FfnStepRefIdeal.τ).loc Cert.FfnStepRefIdeal.main_arg3) = m ((c.tc : Thread Cert.FfnStepIdeal.nD Cert.FfnStepIdeal.τ).loc Cert.FfnStepIdeal.main_arg3)
      ∧ m' ((c.tc : Thread Cert.FfnStepRefIdeal.nD Cert.FfnStepRefIdeal.τ).loc Cert.FfnStepRefIdeal.main_arg4) = m ((c.tc : Thread Cert.FfnStepIdeal.nD Cert.FfnStepIdeal.τ).loc Cert.FfnStepIdeal.main_arg4)
      ∧ m' ((c.tc : Thread Cert.FfnStepRefIdeal.nD Cert.FfnStepRefIdeal.τ).loc Cert.FfnStepRefIdeal.main_arg5) = m ((c.tc : Thread Cert.FfnStepIdeal.nD Cert.FfnStepIdeal.τ).loc Cert.FfnStepIdeal.main_arg5)
      ∧ m' ((c.tc : Thread Cert.FfnStepRefIdeal.nD Cert.FfnStepRefIdeal.τ).loc Cert.FfnStepRefIdeal.main_arg6) = m ((c.tc : Thread Cert.FfnStepIdeal.nD Cert.FfnStepIdeal.τ).loc Cert.FfnStepIdeal.main_arg6)
      ∧ m' ((c.tc : Thread Cert.FfnStepRefIdeal.nD Cert.FfnStepRefIdeal.τ).loc Cert.FfnStepRefIdeal.main_arg7) = m ((c.tc : Thread Cert.FfnStepIdeal.nD Cert.FfnStepIdeal.τ).loc Cert.FfnStepIdeal.main_arg7)
      ∧ m' ((c.tc : Thread Cert.FfnStepRefIdeal.nD Cert.FfnStepRefIdeal.τ).loc Cert.FfnStepRefIdeal.main_arg8) = m ((c.tc : Thread Cert.FfnStepIdeal.nD Cert.FfnStepIdeal.τ).loc Cert.FfnStepIdeal.main_arg8)
      ∧ m' ((c.tc : Thread Cert.FfnStepRefIdeal.nD Cert.FfnStepRefIdeal.τ).loc Cert.FfnStepRefIdeal.main_arg9) = m ((c.tc : Thread Cert.FfnStepIdeal.nD Cert.FfnStepIdeal.τ).loc Cert.FfnStepIdeal.main_arg9)
      ∧ m' ((c.tc : Thread Cert.FfnStepRefIdeal.nD Cert.FfnStepRefIdeal.τ).loc Cert.FfnStepRefIdeal.main_arg10) = m ((c.tc : Thread Cert.FfnStepIdeal.nD Cert.FfnStepIdeal.τ).loc Cert.FfnStepIdeal.main_arg10)
      ∧ m' ((c.tc : Thread Cert.FfnStepRefIdeal.nD Cert.FfnStepRefIdeal.τ).loc Cert.FfnStepRefIdeal.main_arg11) = m ((c.tc : Thread Cert.FfnStepIdeal.nD Cert.FfnStepIdeal.τ).loc Cert.FfnStepIdeal.main_arg11)
      ∧ m' ((c.tc : Thread Cert.FfnStepRefIdeal.nD Cert.FfnStepRefIdeal.τ).loc Cert.FfnStepRefIdeal.main_arg12) = m ((c.tc : Thread Cert.FfnStepIdeal.nD Cert.FfnStepIdeal.τ).loc Cert.FfnStepIdeal.main_arg12)) →
    ∃ (v0 : (c : Dev Cert.FfnStepIdeal.nD) → Buf (Elt Ideal) ((c.tc : Thread Cert.FfnStepIdeal.nD Cert.FfnStepIdeal.τ).loc Cert.FfnStepIdeal.main_v10_0)) (v1 : (c : Dev Cert.FfnStepIdeal.nD) → Buf (Elt Ideal) ((c.tc : Thread Cert.FfnStepIdeal.nD Cert.FfnStepIdeal.τ).loc Cert.FfnStepIdeal.main_v10_1)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v10_0) = v0 c
          ∧ r.2.mem ((c.tc : Thread Cert.FfnStepIdeal.nD Cert.FfnStepIdeal.τ).loc Cert.FfnStepIdeal.main_v10_1) = v1 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
          ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7)
          ∧ r.2.mem ((c.tc : Thread Cert.FfnStepIdeal.nD Cert.FfnStepIdeal.τ).loc Cert.FfnStepIdeal.main_arg8) = m ((c.tc : Thread Cert.FfnStepIdeal.nD Cert.FfnStepIdeal.τ).loc Cert.FfnStepIdeal.main_arg8)
          ∧ r.2.mem ((c.tc : Thread Cert.FfnStepIdeal.nD Cert.FfnStepIdeal.τ).loc Cert.FfnStepIdeal.main_arg9) = m ((c.tc : Thread Cert.FfnStepIdeal.nD Cert.FfnStepIdeal.τ).loc Cert.FfnStepIdeal.main_arg9)
          ∧ r.2.mem ((c.tc : Thread Cert.FfnStepIdeal.nD Cert.FfnStepIdeal.τ).loc Cert.FfnStepIdeal.main_arg10) = m ((c.tc : Thread Cert.FfnStepIdeal.nD Cert.FfnStepIdeal.τ).loc Cert.FfnStepIdeal.main_arg10)
          ∧ r.2.mem ((c.tc : Thread Cert.FfnStepIdeal.nD Cert.FfnStepIdeal.τ).loc Cert.FfnStepIdeal.main_arg11) = m ((c.tc : Thread Cert.FfnStepIdeal.nD Cert.FfnStepIdeal.τ).loc Cert.FfnStepIdeal.main_arg11)
          ∧ r.2.mem ((c.tc : Thread Cert.FfnStepIdeal.nD Cert.FfnStepIdeal.τ).loc Cert.FfnStepIdeal.main_arg12) = m ((c.tc : Thread Cert.FfnStepIdeal.nD Cert.FfnStepIdeal.τ).loc Cert.FfnStepIdeal.main_arg12))
      ∧ θ_run (Cert.FfnStepRefIdeal.defs (F := Ideal)) (onTc (τ := Cert.FfnStepRefIdeal.τ) (Cert.FfnStepRefIdeal.main (F := Ideal))) ⟨m', fun _ => 0, g'⟩ (fun r => ∀ c : Dev Cert.FfnStepRefIdeal.nD,
          r.2.mem ((c.tc : Thread Cert.FfnStepRefIdeal.nD Cert.FfnStepRefIdeal.τ).loc Cert.FfnStepRefIdeal.main_v79) = v0 c
          ∧ r.2.mem ((c.tc : Thread Cert.FfnStepRefIdeal.nD Cert.FfnStepRefIdeal.τ).loc Cert.FfnStepRefIdeal.main_v81) = v1 c
          ∧ r.2.mem ((c.tc : Thread Cert.FfnStepRefIdeal.nD Cert.FfnStepRefIdeal.τ).loc Cert.FfnStepRefIdeal.main_arg0) = m' ((c.tc : Thread Cert.FfnStepRefIdeal.nD Cert.FfnStepRefIdeal.τ).loc Cert.FfnStepRefIdeal.main_arg0)
          ∧ r.2.mem ((c.tc : Thread Cert.FfnStepRefIdeal.nD Cert.FfnStepRefIdeal.τ).loc Cert.FfnStepRefIdeal.main_arg1) = m' ((c.tc : Thread Cert.FfnStepRefIdeal.nD Cert.FfnStepRefIdeal.τ).loc Cert.FfnStepRefIdeal.main_arg1)
          ∧ r.2.mem ((c.tc : Thread Cert.FfnStepRefIdeal.nD Cert.FfnStepRefIdeal.τ).loc Cert.FfnStepRefIdeal.main_arg2) = m' ((c.tc : Thread Cert.FfnStepRefIdeal.nD Cert.FfnStepRefIdeal.τ).loc Cert.FfnStepRefIdeal.main_arg2)
          ∧ r.2.mem ((c.tc : Thread Cert.FfnStepRefIdeal.nD Cert.FfnStepRefIdeal.τ).loc Cert.FfnStepRefIdeal.main_arg3) = m' ((c.tc : Thread Cert.FfnStepRefIdeal.nD Cert.FfnStepRefIdeal.τ).loc Cert.FfnStepRefIdeal.main_arg3)
          ∧ r.2.mem ((c.tc : Thread Cert.FfnStepRefIdeal.nD Cert.FfnStepRefIdeal.τ).loc Cert.FfnStepRefIdeal.main_arg4) = m' ((c.tc : Thread Cert.FfnStepRefIdeal.nD Cert.FfnStepRefIdeal.τ).loc Cert.FfnStepRefIdeal.main_arg4)
          ∧ r.2.mem ((c.tc : Thread Cert.FfnStepRefIdeal.nD Cert.FfnStepRefIdeal.τ).loc Cert.FfnStepRefIdeal.main_arg5) = m' ((c.tc : Thread Cert.FfnStepRefIdeal.nD Cert.FfnStepRefIdeal.τ).loc Cert.FfnStepRefIdeal.main_arg5)
          ∧ r.2.mem ((c.tc : Thread Cert.FfnStepRefIdeal.nD Cert.FfnStepRefIdeal.τ).loc Cert.FfnStepRefIdeal.main_arg6) = m' ((c.tc : Thread Cert.FfnStepRefIdeal.nD Cert.FfnStepRefIdeal.τ).loc Cert.FfnStepRefIdeal.main_arg6)
          ∧ r.2.mem ((c.tc : Thread Cert.FfnStepRefIdeal.nD Cert.FfnStepRefIdeal.τ).loc Cert.FfnStepRefIdeal.main_arg7) = m' ((c.tc : Thread Cert.FfnStepRefIdeal.nD Cert.FfnStepRefIdeal.τ).loc Cert.FfnStepRefIdeal.main_arg7)
          ∧ r.2.mem ((c.tc : Thread Cert.FfnStepRefIdeal.nD Cert.FfnStepRefIdeal.τ).loc Cert.FfnStepRefIdeal.main_arg8) = m' ((c.tc : Thread Cert.FfnStepRefIdeal.nD Cert.FfnStepRefIdeal.τ).loc Cert.FfnStepRefIdeal.main_arg8)
          ∧ r.2.mem ((c.tc : Thread Cert.FfnStepRefIdeal.nD Cert.FfnStepRefIdeal.τ).loc Cert.FfnStepRefIdeal.main_arg9) = m' ((c.tc : Thread Cert.FfnStepRefIdeal.nD Cert.FfnStepRefIdeal.τ).loc Cert.FfnStepRefIdeal.main_arg9)
          ∧ r.2.mem ((c.tc : Thread Cert.FfnStepRefIdeal.nD Cert.FfnStepRefIdeal.τ).loc Cert.FfnStepRefIdeal.main_arg10) = m' ((c.tc : Thread Cert.FfnStepRefIdeal.nD Cert.FfnStepRefIdeal.τ).loc Cert.FfnStepRefIdeal.main_arg10)
          ∧ r.2.mem ((c.tc : Thread Cert.FfnStepRefIdeal.nD Cert.FfnStepRefIdeal.τ).loc Cert.FfnStepRefIdeal.main_arg11) = m' ((c.tc : Thread Cert.FfnStepRefIdeal.nD Cert.FfnStepRefIdeal.τ).loc Cert.FfnStepRefIdeal.main_arg11)
          ∧ r.2.mem ((c.tc : Thread Cert.FfnStepRefIdeal.nD Cert.FfnStepRefIdeal.τ).loc Cert.FfnStepRefIdeal.main_arg12) = m' ((c.tc : Thread Cert.FfnStepRefIdeal.nD Cert.FfnStepRefIdeal.τ).loc Cert.FfnStepRefIdeal.main_arg12))

def preserves_S5Step_S5StepIdeal : Prop :=
  True

def algebraic_S5StepIdeal_S5StepRefIdeal [hS5StepIdeal : Cert.S5StepIdeal.Facts] [hS5StepRefIdeal : Cert.S5StepRefIdeal.Facts] : Prop :=
  ∀ (m : (ℓ : Loc Cert.S5StepIdeal.nD Cert.S5StepIdeal.τ Cert.S5StepIdeal.sig) → Buf (Elt Ideal) ℓ) (g : Dev Cert.S5StepIdeal.nD → PrngReg)
    (m' : (ℓ : Loc Cert.S5StepRefIdeal.nD Cert.S5StepRefIdeal.τ Cert.S5StepRefIdeal.sig) → Buf (Elt Ideal) ℓ) (g' : Dev Cert.S5StepRefIdeal.nD → PrngReg), Pre_S5StepIdeal m →
    (∀ c : Dev Cert.S5StepIdeal.nD,
      m' ((c.tc : Thread Cert.S5StepRefIdeal.nD Cert.S5StepRefIdeal.τ).loc Cert.S5StepRefIdeal.main_arg0) = m ((c.tc : Thread Cert.S5StepIdeal.nD Cert.S5StepIdeal.τ).loc Cert.S5StepIdeal.main_arg0)
      ∧ m' ((c.tc : Thread Cert.S5StepRefIdeal.nD Cert.S5StepRefIdeal.τ).loc Cert.S5StepRefIdeal.main_arg1) = m ((c.tc : Thread Cert.S5StepIdeal.nD Cert.S5StepIdeal.τ).loc Cert.S5StepIdeal.main_arg1)
      ∧ m' ((c.tc : Thread Cert.S5StepRefIdeal.nD Cert.S5StepRefIdeal.τ).loc Cert.S5StepRefIdeal.main_arg2) = m ((c.tc : Thread Cert.S5StepIdeal.nD Cert.S5StepIdeal.τ).loc Cert.S5StepIdeal.main_arg2)
      ∧ m' ((c.tc : Thread Cert.S5StepRefIdeal.nD Cert.S5StepRefIdeal.τ).loc Cert.S5StepRefIdeal.main_arg3) = m ((c.tc : Thread Cert.S5StepIdeal.nD Cert.S5StepIdeal.τ).loc Cert.S5StepIdeal.main_arg3)
      ∧ m' ((c.tc : Thread Cert.S5StepRefIdeal.nD Cert.S5StepRefIdeal.τ).loc Cert.S5StepRefIdeal.main_arg4) = m ((c.tc : Thread Cert.S5StepIdeal.nD Cert.S5StepIdeal.τ).loc Cert.S5StepIdeal.main_arg4)
      ∧ m' ((c.tc : Thread Cert.S5StepRefIdeal.nD Cert.S5StepRefIdeal.τ).loc Cert.S5StepRefIdeal.main_arg5) = m ((c.tc : Thread Cert.S5StepIdeal.nD Cert.S5StepIdeal.τ).loc Cert.S5StepIdeal.main_arg5)
      ∧ m' ((c.tc : Thread Cert.S5StepRefIdeal.nD Cert.S5StepRefIdeal.τ).loc Cert.S5StepRefIdeal.main_arg6) = m ((c.tc : Thread Cert.S5StepIdeal.nD Cert.S5StepIdeal.τ).loc Cert.S5StepIdeal.main_arg6)
      ∧ m' ((c.tc : Thread Cert.S5StepRefIdeal.nD Cert.S5StepRefIdeal.τ).loc Cert.S5StepRefIdeal.main_arg7) = m ((c.tc : Thread Cert.S5StepIdeal.nD Cert.S5StepIdeal.τ).loc Cert.S5StepIdeal.main_arg7)
      ∧ m' ((c.tc : Thread Cert.S5StepRefIdeal.nD Cert.S5StepRefIdeal.τ).loc Cert.S5StepRefIdeal.main_arg8) = m ((c.tc : Thread Cert.S5StepIdeal.nD Cert.S5StepIdeal.τ).loc Cert.S5StepIdeal.main_arg8)
      ∧ m' ((c.tc : Thread Cert.S5StepRefIdeal.nD Cert.S5StepRefIdeal.τ).loc Cert.S5StepRefIdeal.main_arg9) = m ((c.tc : Thread Cert.S5StepIdeal.nD Cert.S5StepIdeal.τ).loc Cert.S5StepIdeal.main_arg9)
      ∧ m' ((c.tc : Thread Cert.S5StepRefIdeal.nD Cert.S5StepRefIdeal.τ).loc Cert.S5StepRefIdeal.main_arg10) = m ((c.tc : Thread Cert.S5StepIdeal.nD Cert.S5StepIdeal.τ).loc Cert.S5StepIdeal.main_arg10)
      ∧ m' ((c.tc : Thread Cert.S5StepRefIdeal.nD Cert.S5StepRefIdeal.τ).loc Cert.S5StepRefIdeal.main_arg11) = m ((c.tc : Thread Cert.S5StepIdeal.nD Cert.S5StepIdeal.τ).loc Cert.S5StepIdeal.main_arg11)) →
    ∃ (v0 : (c : Dev Cert.S5StepIdeal.nD) → Buf (Elt Ideal) ((c.tc : Thread Cert.S5StepIdeal.nD Cert.S5StepIdeal.τ).loc Cert.S5StepIdeal.main_v89_0)) (v1 : (c : Dev Cert.S5StepIdeal.nD) → Buf (Elt Ideal) ((c.tc : Thread Cert.S5StepIdeal.nD Cert.S5StepIdeal.τ).loc Cert.S5StepIdeal.main_v89_1)) (v2 : (c : Dev Cert.S5StepIdeal.nD) → Buf (Elt Ideal) ((c.tc : Thread Cert.S5StepIdeal.nD Cert.S5StepIdeal.τ).loc Cert.S5StepIdeal.main_v89_2)),
      θ_run (Cert.S5StepIdeal.defs (F := Ideal)) (onTc (τ := Cert.S5StepIdeal.τ) (Cert.S5StepIdeal.main (F := Ideal))) ⟨m, fun _ => 0, g⟩ (fun r => ∀ c : Dev Cert.S5StepIdeal.nD,
          r.2.mem ((c.tc : Thread Cert.S5StepIdeal.nD Cert.S5StepIdeal.τ).loc Cert.S5StepIdeal.main_v89_0) = v0 c
          ∧ r.2.mem ((c.tc : Thread Cert.S5StepIdeal.nD Cert.S5StepIdeal.τ).loc Cert.S5StepIdeal.main_v89_1) = v1 c
          ∧ r.2.mem ((c.tc : Thread Cert.S5StepIdeal.nD Cert.S5StepIdeal.τ).loc Cert.S5StepIdeal.main_v89_2) = v2 c
          ∧ r.2.mem ((c.tc : Thread Cert.S5StepIdeal.nD Cert.S5StepIdeal.τ).loc Cert.S5StepIdeal.main_arg0) = m ((c.tc : Thread Cert.S5StepIdeal.nD Cert.S5StepIdeal.τ).loc Cert.S5StepIdeal.main_arg0)
          ∧ r.2.mem ((c.tc : Thread Cert.S5StepIdeal.nD Cert.S5StepIdeal.τ).loc Cert.S5StepIdeal.main_arg1) = m ((c.tc : Thread Cert.S5StepIdeal.nD Cert.S5StepIdeal.τ).loc Cert.S5StepIdeal.main_arg1)
          ∧ r.2.mem ((c.tc : Thread Cert.S5StepIdeal.nD Cert.S5StepIdeal.τ).loc Cert.S5StepIdeal.main_arg2) = m ((c.tc : Thread Cert.S5StepIdeal.nD Cert.S5StepIdeal.τ).loc Cert.S5StepIdeal.main_arg2)
          ∧ r.2.mem ((c.tc : Thread Cert.S5StepIdeal.nD Cert.S5StepIdeal.τ).loc Cert.S5StepIdeal.main_arg3) = m ((c.tc : Thread Cert.S5StepIdeal.nD Cert.S5StepIdeal.τ).loc Cert.S5StepIdeal.main_arg3)
          ∧ r.2.mem ((c.tc : Thread Cert.S5StepIdeal.nD Cert.S5StepIdeal.τ).loc Cert.S5StepIdeal.main_arg4) = m ((c.tc : Thread Cert.S5StepIdeal.nD Cert.S5StepIdeal.τ).loc Cert.S5StepIdeal.main_arg4)
          ∧ r.2.mem ((c.tc : Thread Cert.S5StepIdeal.nD Cert.S5StepIdeal.τ).loc Cert.S5StepIdeal.main_arg5) = m ((c.tc : Thread Cert.S5StepIdeal.nD Cert.S5StepIdeal.τ).loc Cert.S5StepIdeal.main_arg5)
          ∧ r.2.mem ((c.tc : Thread Cert.S5StepIdeal.nD Cert.S5StepIdeal.τ).loc Cert.S5StepIdeal.main_arg6) = m ((c.tc : Thread Cert.S5StepIdeal.nD Cert.S5StepIdeal.τ).loc Cert.S5StepIdeal.main_arg6)
          ∧ r.2.mem ((c.tc : Thread Cert.S5StepIdeal.nD Cert.S5StepIdeal.τ).loc Cert.S5StepIdeal.main_arg7) = m ((c.tc : Thread Cert.S5StepIdeal.nD Cert.S5StepIdeal.τ).loc Cert.S5StepIdeal.main_arg7)
          ∧ r.2.mem ((c.tc : Thread Cert.S5StepIdeal.nD Cert.S5StepIdeal.τ).loc Cert.S5StepIdeal.main_arg8) = m ((c.tc : Thread Cert.S5StepIdeal.nD Cert.S5StepIdeal.τ).loc Cert.S5StepIdeal.main_arg8)
          ∧ r.2.mem ((c.tc : Thread Cert.S5StepIdeal.nD Cert.S5StepIdeal.τ).loc Cert.S5StepIdeal.main_arg9) = m ((c.tc : Thread Cert.S5StepIdeal.nD Cert.S5StepIdeal.τ).loc Cert.S5StepIdeal.main_arg9)
          ∧ r.2.mem ((c.tc : Thread Cert.S5StepIdeal.nD Cert.S5StepIdeal.τ).loc Cert.S5StepIdeal.main_arg10) = m ((c.tc : Thread Cert.S5StepIdeal.nD Cert.S5StepIdeal.τ).loc Cert.S5StepIdeal.main_arg10)
          ∧ r.2.mem ((c.tc : Thread Cert.S5StepIdeal.nD Cert.S5StepIdeal.τ).loc Cert.S5StepIdeal.main_arg11) = m ((c.tc : Thread Cert.S5StepIdeal.nD Cert.S5StepIdeal.τ).loc Cert.S5StepIdeal.main_arg11))
      ∧ θ_run (Cert.S5StepRefIdeal.defs (F := Ideal)) (onTc (τ := Cert.S5StepRefIdeal.τ) (Cert.S5StepRefIdeal.main (F := Ideal))) ⟨m', fun _ => 0, g'⟩ (fun r => ∀ c : Dev Cert.S5StepRefIdeal.nD,
          r.2.mem ((c.tc : Thread Cert.S5StepRefIdeal.nD Cert.S5StepRefIdeal.τ).loc Cert.S5StepRefIdeal.main_v107) = v0 c
          ∧ r.2.mem ((c.tc : Thread Cert.S5StepRefIdeal.nD Cert.S5StepRefIdeal.τ).loc Cert.S5StepRefIdeal.main_v108) = v1 c
          ∧ r.2.mem ((c.tc : Thread Cert.S5StepRefIdeal.nD Cert.S5StepRefIdeal.τ).loc Cert.S5StepRefIdeal.main_v109) = v2 c
          ∧ r.2.mem ((c.tc : Thread Cert.S5StepRefIdeal.nD Cert.S5StepRefIdeal.τ).loc Cert.S5StepRefIdeal.main_arg0) = m' ((c.tc : Thread Cert.S5StepRefIdeal.nD Cert.S5StepRefIdeal.τ).loc Cert.S5StepRefIdeal.main_arg0)
          ∧ r.2.mem ((c.tc : Thread Cert.S5StepRefIdeal.nD Cert.S5StepRefIdeal.τ).loc Cert.S5StepRefIdeal.main_arg1) = m' ((c.tc : Thread Cert.S5StepRefIdeal.nD Cert.S5StepRefIdeal.τ).loc Cert.S5StepRefIdeal.main_arg1)
          ∧ r.2.mem ((c.tc : Thread Cert.S5StepRefIdeal.nD Cert.S5StepRefIdeal.τ).loc Cert.S5StepRefIdeal.main_arg2) = m' ((c.tc : Thread Cert.S5StepRefIdeal.nD Cert.S5StepRefIdeal.τ).loc Cert.S5StepRefIdeal.main_arg2)
          ∧ r.2.mem ((c.tc : Thread Cert.S5StepRefIdeal.nD Cert.S5StepRefIdeal.τ).loc Cert.S5StepRefIdeal.main_arg3) = m' ((c.tc : Thread Cert.S5StepRefIdeal.nD Cert.S5StepRefIdeal.τ).loc Cert.S5StepRefIdeal.main_arg3)
          ∧ r.2.mem ((c.tc : Thread Cert.S5StepRefIdeal.nD Cert.S5StepRefIdeal.τ).loc Cert.S5StepRefIdeal.main_arg4) = m' ((c.tc : Thread Cert.S5StepRefIdeal.nD Cert.S5StepRefIdeal.τ).loc Cert.S5StepRefIdeal.main_arg4)
          ∧ r.2.mem ((c.tc : Thread Cert.S5StepRefIdeal.nD Cert.S5StepRefIdeal.τ).loc Cert.S5StepRefIdeal.main_arg5) = m' ((c.tc : Thread Cert.S5StepRefIdeal.nD Cert.S5StepRefIdeal.τ).loc Cert.S5StepRefIdeal.main_arg5)
          ∧ r.2.mem ((c.tc : Thread Cert.S5StepRefIdeal.nD Cert.S5StepRefIdeal.τ).loc Cert.S5StepRefIdeal.main_arg6) = m' ((c.tc : Thread Cert.S5StepRefIdeal.nD Cert.S5StepRefIdeal.τ).loc Cert.S5StepRefIdeal.main_arg6)
          ∧ r.2.mem ((c.tc : Thread Cert.S5StepRefIdeal.nD Cert.S5StepRefIdeal.τ).loc Cert.S5StepRefIdeal.main_arg7) = m' ((c.tc : Thread Cert.S5StepRefIdeal.nD Cert.S5StepRefIdeal.τ).loc Cert.S5StepRefIdeal.main_arg7)
          ∧ r.2.mem ((c.tc : Thread Cert.S5StepRefIdeal.nD Cert.S5StepRefIdeal.τ).loc Cert.S5StepRefIdeal.main_arg8) = m' ((c.tc : Thread Cert.S5StepRefIdeal.nD Cert.S5StepRefIdeal.τ).loc Cert.S5StepRefIdeal.main_arg8)
          ∧ r.2.mem ((c.tc : Thread Cert.S5StepRefIdeal.nD Cert.S5StepRefIdeal.τ).loc Cert.S5StepRefIdeal.main_arg9) = m' ((c.tc : Thread Cert.S5StepRefIdeal.nD Cert.S5StepRefIdeal.τ).loc Cert.S5StepRefIdeal.main_arg9)
          ∧ r.2.mem ((c.tc : Thread Cert.S5StepRefIdeal.nD Cert.S5StepRefIdeal.τ).loc Cert.S5StepRefIdeal.main_arg10) = m' ((c.tc : Thread Cert.S5StepRefIdeal.nD Cert.S5StepRefIdeal.τ).loc Cert.S5StepRefIdeal.main_arg10)
          ∧ r.2.mem ((c.tc : Thread Cert.S5StepRefIdeal.nD Cert.S5StepRefIdeal.τ).loc Cert.S5StepRefIdeal.main_arg11) = m' ((c.tc : Thread Cert.S5StepRefIdeal.nD Cert.S5StepRefIdeal.τ).loc Cert.S5StepRefIdeal.main_arg11))

def Claim : Prop :=
  ∃ (hRwkv : Cert.Rwkv.Facts) (hRwkvIdeal : Cert.RwkvIdeal.Facts) (hRwkvRefIdeal : Cert.RwkvRefIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hGlaStep : Cert.GlaStep.Facts) (hGlaStepIdeal : Cert.GlaStepIdeal.Facts) (hGlaStepRefIdeal : Cert.GlaStepRefIdeal.Facts) (hMlstmStep : Cert.MlstmStep.Facts) (hMlstmStepIdeal : Cert.MlstmStepIdeal.Facts) (hMlstmStepRefIdeal : Cert.MlstmStepRefIdeal.Facts) (hInStep : Cert.InStep.Facts) (hInStepIdeal : Cert.InStepIdeal.Facts) (hInStepRefIdeal : Cert.InStepRefIdeal.Facts) (hFfnStep : Cert.FfnStep.Facts) (hFfnStepIdeal : Cert.FfnStepIdeal.Facts) (hFfnStepRefIdeal : Cert.FfnStepRefIdeal.Facts) (hS5Step : Cert.S5Step.Facts) (hS5StepIdeal : Cert.S5StepIdeal.Facts) (hS5StepRefIdeal : Cert.S5StepRefIdeal.Facts),
    quiescent_Rwkv (hRwkv := hRwkv)
    ∧ quiescent_RwkvIdeal (hRwkvIdeal := hRwkvIdeal)
    ∧ quiescent_RwkvRefIdeal (hRwkvRefIdeal := hRwkvRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_GlaStep (hGlaStep := hGlaStep)
    ∧ quiescent_GlaStepIdeal (hGlaStepIdeal := hGlaStepIdeal)
    ∧ quiescent_GlaStepRefIdeal (hGlaStepRefIdeal := hGlaStepRefIdeal)
    ∧ quiescent_MlstmStep (hMlstmStep := hMlstmStep)
    ∧ quiescent_MlstmStepIdeal (hMlstmStepIdeal := hMlstmStepIdeal)
    ∧ quiescent_MlstmStepRefIdeal (hMlstmStepRefIdeal := hMlstmStepRefIdeal)
    ∧ quiescent_InStep (hInStep := hInStep)
    ∧ quiescent_InStepIdeal (hInStepIdeal := hInStepIdeal)
    ∧ quiescent_InStepRefIdeal (hInStepRefIdeal := hInStepRefIdeal)
    ∧ quiescent_FfnStep (hFfnStep := hFfnStep)
    ∧ quiescent_FfnStepIdeal (hFfnStepIdeal := hFfnStepIdeal)
    ∧ quiescent_FfnStepRefIdeal (hFfnStepRefIdeal := hFfnStepRefIdeal)
    ∧ quiescent_S5Step (hS5Step := hS5Step)
    ∧ quiescent_S5StepIdeal (hS5StepIdeal := hS5StepIdeal)
    ∧ quiescent_S5StepRefIdeal (hS5StepRefIdeal := hS5StepRefIdeal)
    ∧ preserves_Rwkv_RwkvIdeal
    ∧ algebraic_RwkvIdeal_RwkvRefIdeal (hRwkvIdeal := hRwkvIdeal) (hRwkvRefIdeal := hRwkvRefIdeal)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_GlaStep_GlaStepIdeal
    ∧ algebraic_GlaStepIdeal_GlaStepRefIdeal (hGlaStepIdeal := hGlaStepIdeal) (hGlaStepRefIdeal := hGlaStepRefIdeal)
    ∧ preserves_MlstmStep_MlstmStepIdeal
    ∧ algebraic_MlstmStepIdeal_MlstmStepRefIdeal (hMlstmStepIdeal := hMlstmStepIdeal) (hMlstmStepRefIdeal := hMlstmStepRefIdeal)
    ∧ preserves_InStep_InStepIdeal
    ∧ algebraic_InStepIdeal_InStepRefIdeal (hInStepIdeal := hInStepIdeal) (hInStepRefIdeal := hInStepRefIdeal)
    ∧ preserves_FfnStep_FfnStepIdeal
    ∧ algebraic_FfnStepIdeal_FfnStepRefIdeal (hFfnStepIdeal := hFfnStepIdeal) (hFfnStepRefIdeal := hFfnStepRefIdeal)
    ∧ preserves_S5Step_S5StepIdeal
    ∧ algebraic_S5StepIdeal_S5StepRefIdeal (hS5StepIdeal := hS5StepIdeal) (hS5StepRefIdeal := hS5StepRefIdeal)
-- ==== Rwkv.lean ====
abbrev S128x4x64x64 : Shape := ⟨4, ![128, 4, 64, 64]⟩
abbrev S128x256 : Shape := ⟨2, ![128, 256]⟩
abbrev S512x64x64 : Shape := ⟨3, ![512, 64, 64]⟩
abbrev S512x1x64 : Shape := ⟨3, ![512, 1, 64]⟩
abbrev S512x64x1 : Shape := ⟨3, ![512, 64, 1]⟩
abbrev S64x64x64 : Shape := ⟨3, ![64, 64, 64]⟩
abbrev S64x1x64 : Shape := ⟨3, ![64, 1, 64]⟩
abbrev S64x64x1 : Shape := ⟨3, ![64, 64, 1]⟩
abbrev S64x64 : Shape := ⟨2, ![64, 64]⟩

abbrev nBuf : Space → Nat
  | .hbm => 16
  | .vmem => 18
  | .smem => 0
  | _ => 0

abbrev bufTy : (tb : Table) → Fin (tcTables nBuf tb) → BufTy
  | .hbm, ⟨0, _⟩ => ⟨S128x4x64x64, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S512x64x64, .f32⟩
  | .hbm, ⟨8, _⟩ => ⟨S512x1x64, .f32⟩
  | .hbm, ⟨9, _⟩ => ⟨S512x1x64, .f32⟩
  | .hbm, ⟨10, _⟩ => ⟨S512x1x64, .f32⟩
  | .hbm, ⟨11, _⟩ => ⟨S512x1x64, .f32⟩
  | .hbm, ⟨12, _⟩ => ⟨S512x1x64, .f32⟩
  | .hbm, ⟨13, _⟩ => ⟨S512x64x1, .f32⟩
  | .hbm, ⟨14, _⟩ => ⟨S512x64x64, .f32⟩
  | .hbm, ⟨15, _⟩ => ⟨S512x64x1, .f32⟩
  | .local _ .vmem, ⟨0, _⟩ => ⟨S64x64x64, .f32⟩
  | .local _ .vmem, ⟨1, _⟩ => ⟨S64x64x64, .f32⟩
  | .local _ .vmem, ⟨2, _⟩ => ⟨S64x1x64, .f32⟩
  | .local _ .vmem, ⟨3, _⟩ => ⟨S64x1x64, .f32⟩
  | .local _ .vmem, ⟨4, _⟩ => ⟨S64x1x64, .f32⟩
  | .local _ .vmem, ⟨5, _⟩ => ⟨S64x1x64, .f32⟩
  | .local _ .vmem, ⟨6, _⟩ => ⟨S64x1x64, .f32⟩
  | .local _ .vmem, ⟨7, _⟩ => ⟨S64x1x64, .f32⟩
  | .local _ .vmem, ⟨8, _⟩ => ⟨S64x1x64, .f32⟩
  | .local _ .vmem, ⟨9, _⟩ => ⟨S64x1x64, .f32⟩
  | .local _ .vmem, ⟨10, _⟩ => ⟨S64x1x64, .f32⟩
  | .local _ .vmem, ⟨11, _⟩ => ⟨S64x1x64, .f32⟩
  | .local _ .vmem, ⟨12, _⟩ => ⟨S64x64x1, .f32⟩
  | .local _ .vmem, ⟨13, _⟩ => ⟨S64x64x1, .f32⟩
  | .local _ .vmem, ⟨14, _⟩ => ⟨S64x64x64, .f32⟩
  | .local _ .vmem, ⟨15, _⟩ => ⟨S64x64x64, .f32⟩
  | .local _ .vmem, ⟨16, _⟩ => ⟨S64x64x1, .f32⟩
  | .local _ .vmem, ⟨17, _⟩ => ⟨S64x64x1, .f32⟩
  | _, _ => ⟨S128x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RwkvRefIdeal.lean ====
abbrev S128x4x64x64 : Shape := ⟨4, ![128, 4, 64, 64]⟩
abbrev S128x256 : Shape := ⟨2, ![128, 256]⟩
abbrev S128x4x64 : Shape := ⟨3, ![128, 4, 64]⟩
abbrev S128x4x1x64 : Shape := ⟨4, ![128, 4, 1, 64]⟩
abbrev S128x4x64x1 : Shape := ⟨4, ![128, 4, 64, 1]⟩
abbrev S512x64x64 : Shape := ⟨3, ![512, 64, 64]⟩
abbrev S512x64x1 : Shape := ⟨3, ![512, 64, 1]⟩

abbrev nBuf : Space → Nat
  | .hbm => 32
  | .vmem => 0
  | .smem => 0
  | _ => 0

abbrev bufTy : (tb : Table) → Fin (tcTables nBuf tb) → BufTy
  | .hbm, ⟨0, _⟩ => ⟨S128x4x64x64, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x4x64, .f32⟩
  | .hbm, ⟨8, _⟩ => ⟨S128x4x64, .f32⟩
  | .hbm, ⟨9, _⟩ => ⟨S128x4x64, .f32⟩
  | .hbm, ⟨10, _⟩ => ⟨S128x4x64, .f32⟩
  | .hbm, ⟨11, _⟩ => ⟨S128x4x64, .f32⟩
  | .hbm, ⟨12, _⟩ => ⟨S128x4x64, .f32⟩
  | .hbm, ⟨13, _⟩ => ⟨S128x4x64, .f32⟩
  | .hbm, ⟨14, _⟩ => ⟨S128x4x1x64, .f32⟩
  | .hbm, ⟨15, _⟩ => ⟨S128x4x64x64, .f32⟩
  | .hbm, ⟨16, _⟩ => ⟨S128x4x64x64, .f32⟩
  | .hbm, ⟨17, _⟩ => ⟨S128x4x64x1, .f32⟩
  | .hbm, ⟨18, _⟩ => ⟨S128x4x1x64, .f32⟩
  | .hbm, ⟨19, _⟩ => ⟨S128x4x64x64, .f32⟩
  | .hbm, ⟨20, _⟩ => ⟨S128x4x64x64, .f32⟩
  | .hbm, ⟨21, _⟩ => ⟨S128x4x64x64, .f32⟩
  | .hbm, ⟨22, _⟩ => ⟨S128x4x64x64, .f32⟩
  | .hbm, ⟨23, _⟩ => ⟨S128x4x64x1, .f32⟩
  | .hbm, ⟨24, _⟩ => ⟨S128x4x1x64, .f32⟩
  | .hbm, ⟨25, _⟩ => ⟨S128x4x64x64, .f32⟩
  | .hbm, ⟨26, _⟩ => ⟨S128x4x64x64, .f32⟩
  | .hbm, ⟨27, _⟩ => ⟨S128x4x64x64, .f32⟩
  | .hbm, ⟨28, _⟩ => ⟨S128x4x64x64, .f32⟩
  | .hbm, ⟨29, _⟩ => ⟨S128x4x64, .f32⟩
  | .hbm, ⟨30, _⟩ => ⟨S512x64x64, .f32⟩
  | .hbm, ⟨31, _⟩ => ⟨S512x64x1, .f32⟩
  | _, _ => ⟨S128x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x3224 : Shape := ⟨2, ![1024, 3224]⟩
abbrev S1024x256 : Shape := ⟨2, ![1024, 256]⟩
abbrev S1024x4 : Shape := ⟨2, ![1024, 4]⟩
abbrev S1024x16 : Shape := ⟨2, ![1024, 16]⟩
abbrev S1024x896 : Shape := ⟨2, ![1024, 896]⟩
abbrev S_ : Shape := ⟨0, ![]⟩
abbrev S1024x104 : Shape := ⟨2, ![1024, 104]⟩
abbrev S1024x128 : Shape := ⟨2, ![1024, 128]⟩
abbrev S1024x3328 : Shape := ⟨2, ![1024, 3328]⟩
abbrev S1024x8 : Shape := ⟨2, ![1024, 8]⟩
abbrev S8x1024 : Shape := ⟨2, ![8, 1024]⟩
abbrev S1x1024 : Shape := ⟨2, ![1, 1024]⟩
abbrev S16384x3328 : Shape := ⟨2, ![16384, 3328]⟩
abbrev S8x8x2048 : Shape := ⟨3, ![8, 8, 2048]⟩
abbrev S512x1024 : Shape := ⟨2, ![512, 1024]⟩
abbrev S512x3328 : Shape := ⟨2, ![512, 3328]⟩
abbrev S1x8x512 : Shape := ⟨3, ![1, 8, 512]⟩
abbrev S512 : Shape := ⟨1, ![512]⟩
abbrev S512x1 : Shape := ⟨2, ![512, 1]⟩
abbrev S8x512 : Shape := ⟨2, ![8, 512]⟩

abbrev nBuf : Space → Nat
  | .hbm => 27
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3224, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x4, .f32⟩
  | .hbm, ⟨8, _⟩ => ⟨S1024x4, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x16, .f32⟩
  | .hbm, ⟨14, _⟩ => ⟨S1024x256, .f32⟩
  | .hbm, ⟨15, _⟩ => ⟨S1024x896, .f32⟩
  | .hbm, ⟨16, _⟩ => ⟨S_, .f32⟩
  | .hbm, ⟨17, _⟩ => ⟨S1024x104, .f32⟩
  | .hbm, ⟨18, _⟩ => ⟨S1024x128, .f32⟩
  | .hbm, ⟨19, _⟩ => ⟨S1024x3328, .f32⟩
  | .hbm, ⟨20, _⟩ => ⟨S1024x3328, .bf16⟩
  | .hbm, ⟨21, _⟩ => ⟨S1024x8, .f32⟩
  | .hbm, ⟨22, _⟩ => ⟨S8x1024, .f32⟩
  | .hbm, ⟨23, _⟩ => ⟨S8x1024, .bf16⟩
  | .hbm, ⟨24, _⟩ => ⟨S1x1024, .f32⟩
  | .hbm, ⟨25, _⟩ => ⟨S16384x3328, .f32⟩
  | .hbm, ⟨26, _⟩ => ⟨S8x8x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S8x1024, .bf16⟩
  | .local _ .vmem, ⟨5, _⟩ => ⟨S512x3328, .f32⟩
  | .local _ .vmem, ⟨6, _⟩ => ⟨S512x3328, .f32⟩
  | .local _ .vmem, ⟨7, _⟩ => ⟨S1x8x512, .f32⟩
  | .local _ .vmem, ⟨8, _⟩ => ⟨S1x8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21_0 : Ref sig .tc := ⟨.hbm, 25, rfl⟩
abbrev main_v21_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S16384x1024 : Shape := ⟨2, ![16384, 1024]⟩
abbrev S1024 : Shape := ⟨1, ![1024]⟩
abbrev S1024x3224 : Shape := ⟨2, ![1024, 3224]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3224 : Shape := ⟨3, ![8, 2048, 3224]⟩
abbrev S8x2048x256 : Shape := ⟨3, ![8, 2048, 256]⟩
abbrev S8x2048x4 : Shape := ⟨3, ![8, 2048, 4]⟩
abbrev S8x2048x16 : Shape := ⟨3, ![8, 2048, 16]⟩
abbrev S8x2048x896 : Shape := ⟨3, ![8, 2048, 896]⟩
abbrev S8x2048x104 : Shape := ⟨3, ![8, 2048, 104]⟩
abbrev S8x2048x3328 : Shape := ⟨3, ![8, 2048, 3328]⟩
abbrev S8x2048x8 : Shape := ⟨3, ![8, 2048, 8]⟩
abbrev S16384x3328 : Shape := ⟨2, ![16384, 3328]⟩
abbrev S8x8x2048 : Shape := ⟨3, ![8, 8, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3224, .f32⟩
  | .hbm, ⟨3, _⟩ => ⟨S8x2048x1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x3224, .f32⟩
  | .hbm, ⟨21, _⟩ => ⟨S8x2048x256, .f32⟩
  | .hbm, ⟨22, _⟩ => ⟨S8x2048x256, .f32⟩
  | .hbm, ⟨23, _⟩ => ⟨S8x2048x256, .f32⟩
  | .hbm, ⟨24, _⟩ => ⟨S8x2048x256, .f32⟩
  | .hbm, ⟨25, _⟩ => ⟨S8x2048x4, .f32⟩
  | .hbm, ⟨26, _⟩ => ⟨S8x2048x4, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S8x2048x256, .f32⟩
  | .hbm, ⟨31, _⟩ => ⟨S8x2048x16, .f32⟩
  | .hbm, ⟨32, _⟩ => ⟨S8x2048x256, .f32⟩
  | .hbm, ⟨33, _⟩ => ⟨S8x2048x896, .f32⟩
  | .hbm, ⟨34, _⟩ => ⟨S_, .f32⟩
  | .hbm, ⟨35, _⟩ => ⟨S8x2048x104, .f32⟩
  | .hbm, ⟨36, _⟩ => ⟨S8x2048x3328, .f32⟩
  | .hbm, ⟨37, _⟩ => ⟨S8x2048x8, .f32⟩
  | .hbm, ⟨38, _⟩ => ⟨S16384x3328, .f32⟩
  | .hbm, ⟨39, _⟩ => ⟨S8x8x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Ffn.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S8x2x2816 : Shape := ⟨3, ![8, 2, 2816]⟩
abbrev S256x1024 : Shape := ⟨2, ![256, 1024]⟩
abbrev S256x256 : Shape := ⟨2, ![256, 256]⟩
abbrev S1x2x2816 : Shape := ⟨3, ![1, 2, 2816]⟩
abbrev S2x2816 : Shape := ⟨2, ![2, 2816]⟩
abbrev S256x2816 : Shape := ⟨2, ![256, 2816]⟩
abbrev S256 : Shape := ⟨1, ![256]⟩
abbrev S256x1 : Shape := ⟨2, ![256, 1]⟩
abbrev S1024x256 : Shape := ⟨2, ![1024, 256]⟩
abbrev S1x256 : Shape := ⟨2, ![1, 256]⟩
abbrev S2x256 : Shape := ⟨2, ![2, 256]⟩

abbrev nBuf : Space → Nat
  | .hbm => 20
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S16384x1024, .f32⟩
  | .hbm, ⟨19, _⟩ => ⟨S8x2x2816, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S3x2816, .f32⟩
  | .local _ .vmem, ⟨14, _⟩ => ⟨S1x2816, .f32⟩
  | .local _ .vmem, ⟨15, _⟩ => ⟨S2816x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x2x2816, .f32⟩
  | .local _ .vmem, ⟨20, _⟩ => ⟨S1x2x2816, .f32⟩
  | .local _ .vmem, ⟨21, _⟩ => ⟨S2x2816, .f32⟩
  | .local _ .vmem, ⟨22, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x2048x256 : Shape := ⟨3, ![8, 2048, 256]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S16384x256, .f32⟩
  | .hbm, ⟨13, _⟩ => ⟨S8x2048x256, .f32⟩
  | .hbm, ⟨14, _⟩ => ⟨S16384x256, .f32⟩
  | .hbm, ⟨15, _⟩ => ⟨S8x2048x256, .f32⟩
  | .hbm, ⟨16, _⟩ => ⟨S16384x256, .f32⟩
  | .hbm, ⟨17, _⟩ => ⟨S8x2048x256, .f32⟩
  | .hbm, ⟨18, _⟩ => ⟨S16384x256, .f32⟩
  | .hbm, ⟨19, _⟩ => ⟨S8x2048x256, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S8x2048x5632, .f32⟩
  | .hbm, ⟨41, _⟩ => ⟨S8x2048x2816, .f32⟩
  | .hbm, ⟨42, _⟩ => ⟨S8x2048x2816, .f32⟩
  | .hbm, ⟨43, _⟩ => ⟨S_, .f32⟩
  | .hbm, ⟨44, _⟩ => ⟨S8x2x2816, .f32⟩
  | .hbm, ⟨45, _⟩ => ⟨S8x2050x2816, .f32⟩
  | .hbm, ⟨46, _⟩ => ⟨S1x2816, .f32⟩
  | .hbm, ⟨47, _⟩ => ⟨S2816, .f32⟩
  | .hbm, ⟨48, _⟩ => ⟨S8x2048x2816, .f32⟩
  | .hbm, ⟨49, _⟩ => ⟨S1x1x2816, .f32⟩
  | .hbm, ⟨50, _⟩ => ⟨S8x2048x2816, .f32⟩
  | .hbm, ⟨51, _⟩ => ⟨S8x2048x2816, .f32⟩
  | .hbm, ⟨52, _⟩ => ⟨S1x1x2816, .f32⟩
  | .hbm, ⟨53, _⟩ => ⟨S8x2048x2816, .f32⟩
  | .hbm, ⟨54, _⟩ => ⟨S8x2048x2816, .f32⟩
  | .hbm, ⟨55, _⟩ => ⟨S1x2816, .f32⟩
  | .hbm, ⟨56, _⟩ => ⟨S2816, .f32⟩
  | .hbm, ⟨57, _⟩ => ⟨S8x2048x2816, .f32⟩
  | .hbm, ⟨58, _⟩ => ⟨S1x1x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S1x2816, .f32⟩
  | .hbm, ⟨63, _⟩ => ⟨S2816, .f32⟩
  | .hbm, ⟨64, _⟩ => ⟨S8x2048x2816, .f32⟩
  | .hbm, ⟨65, _⟩ => ⟨S1x1x2816, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S_, .f32⟩
  | .hbm, ⟨72, _⟩ => ⟨S8x2048x2816, .f32⟩
  | .hbm, ⟨73, _⟩ => ⟨S8x2048x2816, .f32⟩
  | .hbm, ⟨74, _⟩ => ⟨S8x2048x2816, .f32⟩
  | .hbm, ⟨75, _⟩ => ⟨S_, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S_, .f32⟩
  | .hbm, ⟨80, _⟩ => ⟨S8x2048x2816, .f32⟩
  | .hbm, ⟨81, _⟩ => ⟨S8x2048x2816, .f32⟩
  | .hbm, ⟨82, _⟩ => ⟨S_, .f32⟩
  | .hbm, ⟨83, _⟩ => ⟨S8x2048x2816, .f32⟩
  | .hbm, ⟨84, _⟩ => ⟨S8x2048x2816, .f32⟩
  | .hbm, ⟨85, _⟩ => ⟨S8x2048x2816, .f32⟩
  | .hbm, ⟨86, _⟩ => ⟨S8x2048x2816, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S_, .f32⟩
  | .hbm, ⟨91, _⟩ => ⟨S8x2048, .f32⟩
  | .hbm, ⟨92, _⟩ => ⟨S8x2048x1, .f32⟩
  | .hbm, ⟨93, _⟩ => ⟨S_, .f32⟩
  | .hbm, ⟨94, _⟩ => ⟨S8x2048x1, .f32⟩
  | .hbm, ⟨95, _⟩ => ⟨S8x2048x1, .f32⟩
  | .hbm, ⟨96, _⟩ => ⟨S_, .f32⟩
  | .hbm, ⟨97, _⟩ => ⟨S8x2048x1, .f32⟩
  | .hbm, ⟨98, _⟩ => ⟨S8x2048x1, .f32⟩
  | .hbm, ⟨99, _⟩ => ⟨S8x2048x1, .f32⟩
  | .hbm, ⟨100, _⟩ => ⟨S8x2048x1024, .f32⟩
  | .hbm, ⟨101, _⟩ => ⟨S8x2048x1024, .f32⟩
  | .hbm, ⟨102, _⟩ => ⟨S1x1x1024, .f32⟩
  | .hbm, ⟨103, _⟩ => ⟨S8x2048x1024, .f32⟩
  | .hbm, ⟨104, _⟩ => ⟨S8x2048x1024, .f32⟩
  | .hbm, ⟨105, _⟩ => ⟨S16384x1024, .f32⟩
  | .hbm, ⟨106, _⟩ => ⟨S8x2x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_3 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_4 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_cst_8 : Ref sig .tc := ⟨.hbm, 93, rfl⟩
abbrev main_v72 : Ref sig .tc := ⟨.hbm, 94, rfl⟩
abbrev main_v73 : Ref sig .tc := ⟨.hbm, 95, rfl⟩
abbrev main_cst_9 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== GlaStep.lean ====
abbrev S128x4x64x64 : Shape := ⟨4, ![128, 4, 64, 64]⟩
abbrev S128x256 : Shape := ⟨2, ![128, 256]⟩
abbrev S512x64x64 : Shape := ⟨3, ![512, 64, 64]⟩
abbrev S512x64x1 : Shape := ⟨3, ![512, 64, 1]⟩
abbrev S512x1x64 : Shape := ⟨3, ![512, 1, 64]⟩
abbrev S64x64x64 : Shape := ⟨3, ![64, 64, 64]⟩
abbrev S64x64x1 : Shape := ⟨3, ![64, 64, 1]⟩
abbrev S64x1x64 : Shape := ⟨3, ![64, 1, 64]⟩
abbrev S64x64 : Shape := ⟨2, ![64, 64]⟩

abbrev nBuf : Space → Nat
  | .hbm => 12
  | .vmem => 14
  | .smem => 0
  | _ => 0

abbrev bufTy : (tb : Table) → Fin (tcTables nBuf tb) → BufTy
  | .hbm, ⟨0, _⟩ => ⟨S128x4x64x64, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S512x64x64, .f32⟩
  | .hbm, ⟨6, _⟩ => ⟨S512x64x1, .f32⟩
  | .hbm, ⟨7, _⟩ => ⟨S512x64x1, .f32⟩
  | .hbm, ⟨8, _⟩ => ⟨S512x1x64, .f32⟩
  | .hbm, ⟨9, _⟩ => ⟨S512x64x1, .f32⟩
  | .hbm, ⟨10, _⟩ => ⟨S512x64x64, .f32⟩
  | .hbm, ⟨11, _⟩ => ⟨S512x1x64, .f32⟩
  | .local _ .vmem, ⟨0, _⟩ => ⟨S64x64x64, .f32⟩
  | .local _ .vmem, ⟨1, _⟩ => ⟨S64x64x64, .f32⟩
  | .local _ .vmem, ⟨2, _⟩ => ⟨S64x64x1, .f32⟩
  | .local _ .vmem, ⟨3, _⟩ => ⟨S64x64x1, .f32⟩
  | .local _ .vmem, ⟨4, _⟩ => ⟨S64x64x1, .f32⟩
  | .local _ .vmem, ⟨5, _⟩ => ⟨S64x64x1, .f32⟩
  | .local _ .vmem, ⟨6, _⟩ => ⟨S64x1x64, .f32⟩
  | .local _ .vmem, ⟨7, _⟩ => ⟨S64x1x64, .f32⟩
  | .local _ .vmem, ⟨8, _⟩ => ⟨S64x64x1, .f32⟩
  | .local _ .vmem, ⟨9, _⟩ => ⟨S64x64x1, .f32⟩
  | .local _ .vmem, ⟨10, _⟩ => ⟨S64x64x64, .f32⟩
  | .local _ .vmem, ⟨11, _⟩ => ⟨S64x64x64, .f32⟩
  | .local _ .vmem, ⟨12, _⟩ => ⟨S64x1x64, .f32⟩
  | .local _ .vmem, ⟨13, _⟩ => ⟨S64x1x64, .f32⟩
  | _, _ => ⟨S128x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaStepRefIdeal.lean ====
abbrev S128x4x64x64 : Shape := ⟨4, ![128, 4, 64, 64]⟩
abbrev S128x256 : Shape := ⟨2, ![128, 256]⟩
abbrev S128x4x64 : Shape := ⟨3, ![128, 4, 64]⟩
abbrev S_ : Shape := ⟨0, ![]⟩
abbrev S128x4x64x1 : Shape := ⟨4, ![128, 4, 64, 1]⟩
abbrev S128x4x1x64 : Shape := ⟨4, ![128, 4, 1, 64]⟩
abbrev S512x64x64 : Shape := ⟨3, ![512, 64, 64]⟩
abbrev S512x1x64 : Shape := ⟨3, ![512, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S128x4x64x64, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x4x64, .f32⟩
  | .hbm, ⟨6, _⟩ => ⟨S_, .f32⟩
  | .hbm, ⟨7, _⟩ => ⟨S128x4x64, .f32⟩
  | .hbm, ⟨8, _⟩ => ⟨S128x4x64, .f32⟩
  | .hbm, ⟨9, _⟩ => ⟨S128x4x64, .f32⟩
  | .hbm, ⟨10, _⟩ => ⟨S128x4x64, .f32⟩
  | .hbm, ⟨11, _⟩ => ⟨S128x4x64, .f32⟩
  | .hbm, ⟨12, _⟩ => ⟨S128x4x64x1, .f32⟩
  | .hbm, ⟨13, _⟩ => ⟨S128x4x64x64, .f32⟩
  | .hbm, ⟨14, _⟩ => ⟨S128x4x64x64, .f32⟩
  | .hbm, ⟨15, _⟩ => ⟨S128x4x64x1, .f32⟩
  | .hbm, ⟨16, _⟩ => ⟨S128x4x1x64, .f32⟩
  | .hbm, ⟨17, _⟩ => ⟨S128x4x64x64, .f32⟩
  | .hbm, ⟨18, _⟩ => ⟨S128x4x64x64, .f32⟩
  | .hbm, ⟨19, _⟩ => ⟨S128x4x64x64, .f32⟩
  | .hbm, ⟨20, _⟩ => ⟨S128x4x64x64, .f32⟩
  | .hbm, ⟨21, _⟩ => ⟨S128x4x64, .f32⟩
  | .hbm, ⟨22, _⟩ => ⟨S512x64x64, .f32⟩
  | .hbm, ⟨23, _⟩ => ⟨S512x1x64, .f32⟩
  | _, _ => ⟨S128x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MlstmStep.lean ====
abbrev S128x4x64x64 : Shape := ⟨4, ![128, 4, 64, 64]⟩
abbrev S128x4x64 : Shape := ⟨3, ![128, 4, 64]⟩
abbrev S128x256 : Shape := ⟨2, ![128, 256]⟩
abbrev S128x128 : Shape := ⟨2, ![128, 128]⟩
abbrev S512x64x64 : Shape := ⟨3, ![512, 64, 64]⟩
abbrev S512x1x64 : Shape := ⟨3, ![512, 1, 64]⟩
abbrev S512x64x1 : Shape := ⟨3, ![512, 64, 1]⟩
abbrev S128x4 : Shape := ⟨2, ![128, 4]⟩
abbrev S512x1x1 : Shape := ⟨3, ![512, 1, 1]⟩
abbrev S64x64x64 : Shape := ⟨3, ![64, 64, 64]⟩
abbrev S64x1x64 : Shape := ⟨3, ![64, 1, 64]⟩
abbrev S64x64x1 : Shape := ⟨3, ![64, 64, 1]⟩
abbrev S64x1x1 : Shape := ⟨3, ![64, 1, 1]⟩
abbrev S64x64 : Shape := ⟨2, ![64, 64]⟩
abbrev S64x1 : Shape := ⟨2, ![64, 1]⟩

abbrev nBuf : Space → Nat
  | .hbm => 22
  | .vmem => 22
  | .smem => 0
  | _ => 0

abbrev bufTy : (tb : Table) → Fin (tcTables nBuf tb) → BufTy
  | .hbm, ⟨0, _⟩ => ⟨S128x4x64x64, .f32⟩
  | .hbm, ⟨1, _⟩ => ⟨S128x4x64, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S512x64x64, .f32⟩
  | .hbm, ⟨9, _⟩ => ⟨S512x1x64, .f32⟩
  | .hbm, ⟨10, _⟩ => ⟨S512x1x64, .f32⟩
  | .hbm, ⟨11, _⟩ => ⟨S512x1x64, .f32⟩
  | .hbm, ⟨12, _⟩ => ⟨S512x64x1, .f32⟩
  | .hbm, ⟨13, _⟩ => ⟨S128x4, .f32⟩
  | .hbm, ⟨14, _⟩ => ⟨S512x1x1, .f32⟩
  | .hbm, ⟨15, _⟩ => ⟨S128x4, .f32⟩
  | .hbm, ⟨16, _⟩ => ⟨S512x1x1, .f32⟩
  | .hbm, ⟨17, _⟩ => ⟨S128x4, .f32⟩
  | .hbm, ⟨18, _⟩ => ⟨S512x1x1, .f32⟩
  | .hbm, ⟨19, _⟩ => ⟨S512x64x64, .f32⟩
  | .hbm, ⟨20, _⟩ => ⟨S512x1x64, .f32⟩
  | .hbm, ⟨21, _⟩ => ⟨S512x64x1, .f32⟩
  | .local _ .vmem, ⟨0, _⟩ => ⟨S64x64x64, .f32⟩
  | .local _ .vmem, ⟨1, _⟩ => ⟨S64x64x64, .f32⟩
  | .local _ .vmem, ⟨2, _⟩ => ⟨S64x1x64, .f32⟩
  | .local _ .vmem, ⟨3, _⟩ => ⟨S64x1x64, .f32⟩
  | .local _ .vmem, ⟨4, _⟩ => ⟨S64x1x64, .f32⟩
  | .local _ .vmem, ⟨5, _⟩ => ⟨S64x1x64, .f32⟩
  | .local _ .vmem, ⟨6, _⟩ => ⟨S64x1x64, .f32⟩
  | .local _ .vmem, ⟨7, _⟩ => ⟨S64x1x64, .f32⟩
  | .local _ .vmem, ⟨8, _⟩ => ⟨S64x64x1, .f32⟩
  | .local _ .vmem, ⟨9, _⟩ => ⟨S64x64x1, .f32⟩
  | .local _ .vmem, ⟨10, _⟩ => ⟨S64x1x1, .f32⟩
  | .local _ .vmem, ⟨11, _⟩ => ⟨S64x1x1, .f32⟩
  | .local _ .vmem, ⟨12, _⟩ => ⟨S64x1x1, .f32⟩
  | .local _ .vmem, ⟨13, _⟩ => ⟨S64x1x1, .f32⟩
  | .local _ .vmem, ⟨14, _⟩ => ⟨S64x1x1, .f32⟩
  | .local _ .vmem, ⟨15, _⟩ => ⟨S64x1x1, .f32⟩
  | .local _ .vmem, ⟨16, _⟩ => ⟨S64x64x64, .f32⟩
  | .local _ .vmem, ⟨17, _⟩ => ⟨S64x64x64, .f32⟩
  | .local _ .vmem, ⟨18, _⟩ => ⟨S64x1x64, .f32⟩
  | .local _ .vmem, ⟨19, _⟩ => ⟨S64x1x64, .f32⟩
  | .local _ .vmem, ⟨20, _⟩ => ⟨S64x64x1, .f32⟩
  | .local _ .vmem, ⟨21, _⟩ => ⟨S64x64x1, .f32⟩
  | _, _ => ⟨S128x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x64x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlstmStepRefIdeal.lean ====
abbrev S128x4x64x64 : Shape := ⟨4, ![128, 4, 64, 64]⟩
abbrev S128x4x64 : Shape := ⟨3, ![128, 4, 64]⟩
abbrev S128x256 : Shape := ⟨2, ![128, 256]⟩
abbrev S128x128 : Shape := ⟨2, ![128, 128]⟩
abbrev S_ : Shape := ⟨0, ![]⟩
abbrev S128x4 : Shape := ⟨2, ![128, 4]⟩
abbrev S128x4x1x1 : Shape := ⟨4, ![128, 4, 1, 1]⟩
abbrev S128x4x64x1 : Shape := ⟨4, ![128, 4, 64, 1]⟩
abbrev S128x4x1x64 : Shape := ⟨4, ![128, 4, 1, 64]⟩
abbrev S128x4x1 : Shape := ⟨3, ![128, 4, 1]⟩
abbrev S512x64x64 : Shape := ⟨3, ![512, 64, 64]⟩
abbrev S512x1x64 : Shape := ⟨3, ![512, 1, 64]⟩
abbrev S512x64x1 : Shape := ⟨3, ![512, 64, 1]⟩

abbrev nBuf : Space → Nat
  | .hbm => 48
  | .vmem => 0
  | .smem => 0
  | _ => 0

abbrev bufTy : (tb : Table) → Fin (tcTables nBuf tb) → BufTy
  | .hbm, ⟨0, _⟩ => ⟨S128x4x64x64, .f32⟩
  | .hbm, ⟨1, _⟩ => ⟨S128x4x64, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x4x64, .f32⟩
  | .hbm, ⟨9, _⟩ => ⟨S128x4x64, .f32⟩
  | .hbm, ⟨10, _⟩ => ⟨S_, .f32⟩
  | .hbm, ⟨11, _⟩ => ⟨S128x4x64, .f32⟩
  | .hbm, ⟨12, _⟩ => ⟨S128x4x64, .f32⟩
  | .hbm, ⟨13, _⟩ => ⟨S128x4x64, .f32⟩
  | .hbm, ⟨14, _⟩ => ⟨S128x4, .f32⟩
  | .hbm, ⟨15, _⟩ => ⟨S128x4, .f32⟩
  | .hbm, ⟨16, _⟩ => ⟨S128x4, .f32⟩
  | .hbm, ⟨17, _⟩ => ⟨S128x4x1x1, .f32⟩
  | .hbm, ⟨18, _⟩ => ⟨S128x4x64x64, .f32⟩
  | .hbm, ⟨19, _⟩ => ⟨S128x4x64x64, .f32⟩
  | .hbm, ⟨20, _⟩ => ⟨S128x4x1x1, .f32⟩
  | .hbm, ⟨21, _⟩ => ⟨S128x4x64x1, .f32⟩
  | .hbm, ⟨22, _⟩ => ⟨S128x4x1x64, .f32⟩
  | .hbm, ⟨23, _⟩ => ⟨S128x4x64x64, .f32⟩
  | .hbm, ⟨24, _⟩ => ⟨S128x4x64x64, .f32⟩
  | .hbm, ⟨25, _⟩ => ⟨S128x4x64x64, .f32⟩
  | .hbm, ⟨26, _⟩ => ⟨S128x4x64x64, .f32⟩
  | .hbm, ⟨27, _⟩ => ⟨S128x4x64x64, .f32⟩
  | .hbm, ⟨28, _⟩ => ⟨S128x4x64x64, .f32⟩
  | .hbm, ⟨29, _⟩ => ⟨S128x4x1, .f32⟩
  | .hbm, ⟨30, _⟩ => ⟨S128x4x64, .f32⟩
  | .hbm, ⟨31, _⟩ => ⟨S128x4x64, .f32⟩
  | .hbm, ⟨32, _⟩ => ⟨S128x4x1, .f32⟩
  | .hbm, ⟨33, _⟩ => ⟨S128x4x64, .f32⟩
  | .hbm, ⟨34, _⟩ => ⟨S128x4x64, .f32⟩
  | .hbm, ⟨35, _⟩ => ⟨S128x4x64, .f32⟩
  | .hbm, ⟨36, _⟩ => ⟨S128x4x64, .f32⟩
  | .hbm, ⟨37, _⟩ => ⟨S128x4, .f32⟩
  | .hbm, ⟨38, _⟩ => ⟨S128x4, .f32⟩
  | .hbm, ⟨39, _⟩ => ⟨S128x4, .f32⟩
  | .hbm, ⟨40, _⟩ => ⟨S128x4, .f32⟩
  | .hbm, ⟨41, _⟩ => ⟨S128x4, .f32⟩
  | .hbm, ⟨42, _⟩ => ⟨S128x4x1, .f32⟩
  | .hbm, ⟨43, _⟩ => ⟨S128x4x64, .f32⟩
  | .hbm, ⟨44, _⟩ => ⟨S128x4x64, .f32⟩
  | .hbm, ⟨45, _⟩ => ⟨S512x64x64, .f32⟩
  | .hbm, ⟨46, _⟩ => ⟨S512x1x64, .f32⟩
  | .hbm, ⟨47, _⟩ => ⟨S512x64x1, .f32⟩
  | _, _ => ⟨S128x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== InStep.lean ====
abbrev S128x1024 : Shape := ⟨2, ![128, 1024]⟩
abbrev S1024 : Shape := ⟨1, ![1024]⟩
abbrev S1024x3224 : Shape := ⟨2, ![1024, 3224]⟩
abbrev S1024x256 : Shape := ⟨2, ![1024, 256]⟩
abbrev S1024x4 : Shape := ⟨2, ![1024, 4]⟩
abbrev S1024x16 : Shape := ⟨2, ![1024, 16]⟩
abbrev S1024x896 : Shape := ⟨2, ![1024, 896]⟩
abbrev S_ : Shape := ⟨0, ![]⟩
abbrev S1024x104 : Shape := ⟨2, ![1024, 104]⟩
abbrev S1024x128 : Shape := ⟨2, ![1024, 128]⟩
abbrev S1024x3328 : Shape := ⟨2, ![1024, 3328]⟩
abbrev S1024x8 : Shape := ⟨2, ![1024, 8]⟩
abbrev S8x1024 : Shape := ⟨2, ![8, 1024]⟩
abbrev S1x1024 : Shape := ⟨2, ![1, 1024]⟩
abbrev S128x3328 : Shape := ⟨2, ![128, 3328]⟩
abbrev S1x8x128 : Shape := ⟨3, ![1, 8, 128]⟩
abbrev S128 : Shape := ⟨1, ![128]⟩
abbrev S128x1 : Shape := ⟨2, ![128, 1]⟩
abbrev S8x128 : Shape := ⟨2, ![8, 128]⟩

abbrev nBuf : Space → Nat
  | .hbm => 27
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3224, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x4, .f32⟩
  | .hbm, ⟨8, _⟩ => ⟨S1024x4, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x16, .f32⟩
  | .hbm, ⟨14, _⟩ => ⟨S1024x256, .f32⟩
  | .hbm, ⟨15, _⟩ => ⟨S1024x896, .f32⟩
  | .hbm, ⟨16, _⟩ => ⟨S_, .f32⟩
  | .hbm, ⟨17, _⟩ => ⟨S1024x104, .f32⟩
  | .hbm, ⟨18, _⟩ => ⟨S1024x128, .f32⟩
  | .hbm, ⟨19, _⟩ => ⟨S1024x3328, .f32⟩
  | .hbm, ⟨20, _⟩ => ⟨S1024x3328, .bf16⟩
  | .hbm, ⟨21, _⟩ => ⟨S1024x8, .f32⟩
  | .hbm, ⟨22, _⟩ => ⟨S8x1024, .f32⟩
  | .hbm, ⟨23, _⟩ => ⟨S8x1024, .bf16⟩
  | .hbm, ⟨24, _⟩ => ⟨S1x1024, .f32⟩
  | .hbm, ⟨25, _⟩ => ⟨S128x3328, .f32⟩
  | .hbm, ⟨26, _⟩ => ⟨S1x8x128, .f32⟩
  | .local _ .vmem, ⟨0, _⟩ => ⟨S128x1024, .f32⟩
  | .local _ .vmem, ⟨1, _⟩ => ⟨S1x1024, .f32⟩
  | .local _ .vmem, ⟨2, _⟩ => ⟨S1024x3328, .bf16⟩
  | .local _ .vmem, ⟨3, _⟩ => ⟨S8x1024, .bf16⟩
  | .local _ .vmem, ⟨4, _⟩ => ⟨S128x3328, .f32⟩
  | .local _ .vmem, ⟨5, _⟩ => ⟨S1x8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21_0 : Ref sig .tc := ⟨.hbm, 25, rfl⟩
abbrev main_v21_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3328 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== InStepRefIdeal.lean ====
abbrev S128x1024 : Shape := ⟨2, ![128, 1024]⟩
abbrev S1024 : Shape := ⟨1, ![1024]⟩
abbrev S1024x3224 : Shape := ⟨2, ![1024, 3224]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3224 : Shape := ⟨2, ![128, 3224]⟩
abbrev S128x256 : Shape := ⟨2, ![128, 256]⟩
abbrev S128x4 : Shape := ⟨2, ![128, 4]⟩
abbrev S128x16 : Shape := ⟨2, ![128, 16]⟩
abbrev S128x896 : Shape := ⟨2, ![128, 896]⟩
abbrev S128x104 : Shape := ⟨2, ![128, 104]⟩
abbrev S128x3328 : Shape := ⟨2, ![128, 3328]⟩
abbrev S128x8 : Shape := ⟨2, ![128, 8]⟩
abbrev S8x128 : Shape := ⟨2, ![8, 128]⟩
abbrev S1x8x128 : Shape := ⟨3, ![1, 8, 128]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3224, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x3224, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S128x4, .f32⟩
  | .hbm, ⟨25, _⟩ => ⟨S128x4, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S128x16, .f32⟩
  | .hbm, ⟨31, _⟩ => ⟨S128x256, .f32⟩
  | .hbm, ⟨32, _⟩ => ⟨S128x896, .f32⟩
  | .hbm, ⟨33, _⟩ => ⟨S_, .f32⟩
  | .hbm, ⟨34, _⟩ => ⟨S128x104, .f32⟩
  | .hbm, ⟨35, _⟩ => ⟨S128x3328, .f32⟩
  | .hbm, ⟨36, _⟩ => ⟨S128x8, .f32⟩
  | .hbm, ⟨37, _⟩ => ⟨S8x128, .f32⟩
  | .hbm, ⟨38, _⟩ => ⟨S1x8x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== FfnStep.lean ====
abbrev S128x1024 : Shape := ⟨2, ![128, 1024]⟩
abbrev S128x256 : Shape := ⟨2, ![128, 256]⟩
abbrev S128x2x2816 : Shape := ⟨3, ![128, 2, 2816]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S128x1x2816 : Shape := ⟨3, ![128, 1, 2816]⟩
abbrev S128x2816 : Shape := ⟨2, ![128, 2816]⟩
abbrev S256x1024 : Shape := ⟨2, ![256, 1024]⟩
abbrev S128 : Shape := ⟨1, ![128]⟩
abbrev S128x1 : Shape := ⟨2, ![128, 1]⟩
abbrev S1024x256 : Shape := ⟨2, ![1024, 256]⟩
abbrev S1x256 : Shape := ⟨2, ![1, 256]⟩

abbrev nBuf : Space → Nat
  | .hbm => 25
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S128x256, .bf16⟩
  | .hbm, ⟨5, _⟩ => ⟨S128x2x2816, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S1024, .f32⟩
  | .hbm, ⟨13, _⟩ => ⟨S1024x1024, .bf16⟩
  | .hbm, ⟨14, _⟩ => ⟨S1x1024, .f32⟩
  | .hbm, ⟨15, _⟩ => ⟨S1024x5632, .bf16⟩
  | .hbm, ⟨16, _⟩ => ⟨S1x2816, .f32⟩
  | .hbm, ⟨17, _⟩ => ⟨S2816x1024, .bf16⟩
  | .hbm, ⟨18, _⟩ => ⟨S1x1024, .f32⟩
  | .hbm, ⟨19, _⟩ => ⟨S128x1x2816, .f32⟩
  | .hbm, ⟨20, _⟩ => ⟨S128x2816, .f32⟩
  | .hbm, ⟨21, _⟩ => ⟨S128x1x2816, .f32⟩
  | .hbm, ⟨22, _⟩ => ⟨S128x2816, .f32⟩
  | .hbm, ⟨23, _⟩ => ⟨S128x1024, .f32⟩
  | .hbm, ⟨24, _⟩ => ⟨S128x2816, .f32⟩
  | .local _ .vmem, ⟨0, _⟩ => ⟨S128x1024, .f32⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S1024x1024, .bf16⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S128x2816, .f32⟩
  | .local _ .vmem, ⟨13, _⟩ => ⟨S128x2816, .f32⟩
  | .local _ .vmem, ⟨14, _⟩ => ⟨S128x1024, .f32⟩
  | .local _ .vmem, ⟨15, _⟩ => ⟨S128x2816, .f32⟩
  | .local _ .vmem, ⟨16, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnStepRefIdeal.lean ====
abbrev S128x1024 : Shape := ⟨2, ![128, 1024]⟩
abbrev S128x256 : Shape := ⟨2, ![128, 256]⟩
abbrev S128x2x2816 : Shape := ⟨3, ![128, 2, 2816]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x5632 : Shape := ⟨2, ![128, 5632]⟩
abbrev S128x2816 : Shape := ⟨2, ![128, 2816]⟩
abbrev S128x1x2816 : Shape := ⟨3, ![128, 1, 2816]⟩
abbrev S128x3x2816 : Shape := ⟨3, ![128, 3, 2816]⟩
abbrev S1x2816 : Shape := ⟨2, ![1, 2816]⟩

abbrev nBuf : Space → Nat
  | .hbm => 105
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S128x256, .bf16⟩
  | .hbm, ⟨5, _⟩ => ⟨S128x2x2816, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S1024, .f32⟩
  | .hbm, ⟨13, _⟩ => ⟨S128x256, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S128x1, .f32⟩
  | .hbm, ⟨31, _⟩ => ⟨S128x1024, .f32⟩
  | .hbm, ⟨32, _⟩ => ⟨S128x1024, .f32⟩
  | .hbm, ⟨33, _⟩ => ⟨S1x1024, .f32⟩
  | .hbm, ⟨34, _⟩ => ⟨S128x1024, .f32⟩
  | .hbm, ⟨35, _⟩ => ⟨S128x1024, .f32⟩
  | .hbm, ⟨36, _⟩ => ⟨S128x5632, .f32⟩
  | .hbm, ⟨37, _⟩ => ⟨S128x2816, .f32⟩
  | .hbm, ⟨38, _⟩ => ⟨S128x2816, .f32⟩
  | .hbm, ⟨39, _⟩ => ⟨S128x1x2816, .f32⟩
  | .hbm, ⟨40, _⟩ => ⟨S128x3x2816, .f32⟩
  | .hbm, ⟨41, _⟩ => ⟨S1x2816, .f32⟩
  | .hbm, ⟨42, _⟩ => ⟨S2816, .f32⟩
  | .hbm, ⟨43, _⟩ => ⟨S128x1x2816, .f32⟩
  | .hbm, ⟨44, _⟩ => ⟨S128x2816, .f32⟩
  | .hbm, ⟨45, _⟩ => ⟨S1x2816, .f32⟩
  | .hbm, ⟨46, _⟩ => ⟨S128x2816, .f32⟩
  | .hbm, ⟨47, _⟩ => ⟨S128x2816, .f32⟩
  | .hbm, ⟨48, _⟩ => ⟨S1x2816, .f32⟩
  | .hbm, ⟨49, _⟩ => ⟨S128x2816, .f32⟩
  | .hbm, ⟨50, _⟩ => ⟨S128x2816, .f32⟩
  | .hbm, ⟨51, _⟩ => ⟨S1x2816, .f32⟩
  | .hbm, ⟨52, _⟩ => ⟨S2816, .f32⟩
  | .hbm, ⟨53, _⟩ => ⟨S128x1x2816, .f32⟩
  | .hbm, ⟨54, _⟩ => ⟨S128x2816, .f32⟩
  | .hbm, ⟨55, _⟩ => ⟨S1x2816, .f32⟩
  | .hbm, ⟨56, _⟩ => ⟨S128x2816, .f32⟩
  | .hbm, ⟨57, _⟩ => ⟨S128x2816, .f32⟩
  | .hbm, ⟨58, _⟩ => ⟨S128x2816, .f32⟩
  | .hbm, ⟨59, _⟩ => ⟨S1x2816, .f32⟩
  | .hbm, ⟨60, _⟩ => ⟨S2816, .f32⟩
  | .hbm, ⟨61, _⟩ => ⟨S128x1x2816, .f32⟩
  | .hbm, ⟨62, _⟩ => ⟨S128x2816, .f32⟩
  | .hbm, ⟨63, _⟩ => ⟨S1x2816, .f32⟩
  | .hbm, ⟨64, _⟩ => ⟨S128x2816, .f32⟩
  | .hbm, ⟨65, _⟩ => ⟨S128x2816, .f32⟩
  | .hbm, ⟨66, _⟩ => ⟨S128x2816, .f32⟩
  | .hbm, ⟨67, _⟩ => ⟨S128x2816, .f32⟩
  | .hbm, ⟨68, _⟩ => ⟨S128x2816, .f32⟩
  | .hbm, ⟨69, _⟩ => ⟨S_, .f32⟩
  | .hbm, ⟨70, _⟩ => ⟨S128x2816, .f32⟩
  | .hbm, ⟨71, _⟩ => ⟨S128x2816, .f32⟩
  | .hbm, ⟨72, _⟩ => ⟨S128x2816, .f32⟩
  | .hbm, ⟨73, _⟩ => ⟨S_, .f32⟩
  | .hbm, ⟨74, _⟩ => ⟨S128x2816, .f32⟩
  | .hbm, ⟨75, _⟩ => ⟨S128x2816, .f32⟩
  | .hbm, ⟨76, _⟩ => ⟨S128x2816, .f32⟩
  | .hbm, ⟨77, _⟩ => ⟨S_, .f32⟩
  | .hbm, ⟨78, _⟩ => ⟨S128x2816, .f32⟩
  | .hbm, ⟨79, _⟩ => ⟨S128x2816, .f32⟩
  | .hbm, ⟨80, _⟩ => ⟨S_, .f32⟩
  | .hbm, ⟨81, _⟩ => ⟨S128x2816, .f32⟩
  | .hbm, ⟨82, _⟩ => ⟨S128x2816, .f32⟩
  | .hbm, ⟨83, _⟩ => ⟨S128x2816, .f32⟩
  | .hbm, ⟨84, _⟩ => ⟨S128x2816, .f32⟩
  | .hbm, ⟨85, _⟩ => ⟨S128x1024, .f32⟩
  | .hbm, ⟨86, _⟩ => ⟨S128x1024, .f32⟩
  | .hbm, ⟨87, _⟩ => ⟨S128x1024, .f32⟩
  | .hbm, ⟨88, _⟩ => ⟨S_, .f32⟩
  | .hbm, ⟨89, _⟩ => ⟨S128, .f32⟩
  | .hbm, ⟨90, _⟩ => ⟨S128x1, .f32⟩
  | .hbm, ⟨91, _⟩ => ⟨S_, .f32⟩
  | .hbm, ⟨92, _⟩ => ⟨S128x1, .f32⟩
  | .hbm, ⟨93, _⟩ => ⟨S128x1, .f32⟩
  | .hbm, ⟨94, _⟩ => ⟨S_, .f32⟩
  | .hbm, ⟨95, _⟩ => ⟨S128x1, .f32⟩
  | .hbm, ⟨96, _⟩ => ⟨S128x1, .f32⟩
  | .hbm, ⟨97, _⟩ => ⟨S128x1, .f32⟩
  | .hbm, ⟨98, _⟩ => ⟨S128x1024, .f32⟩
  | .hbm, ⟨99, _⟩ => ⟨S128x1024, .f32⟩
  | .hbm, ⟨100, _⟩ => ⟨S1x1024, .f32⟩
  | .hbm, ⟨101, _⟩ => ⟨S128x1024, .f32⟩
  | .hbm, ⟨102, _⟩ => ⟨S128x1024, .f32⟩
  | .hbm, ⟨103, _⟩ => ⟨S128x1x2816, .f32⟩
  | .hbm, ⟨104, _⟩ => ⟨S128x2816, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_cst_5 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_6 : Ref sig .tc := ⟨.hbm, 88, rfl⟩
abbrev main_v68 : Ref sig .tc := ⟨.hbm, 89, rfl⟩
abbrev main_v69 : Ref sig .tc := ⟨.hbm, 90, rfl⟩
abbrev main_cst_7 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== S5Step.lean ====
abbrev S128x256 : Shape := ⟨2, ![128, 256]⟩
abbrev S128x16x64 : Shape := ⟨3, ![128, 16, 64]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S16x1 : Shape := ⟨2, ![16, 1]⟩
abbrev S_ : Shape := ⟨0, ![]⟩
abbrev S16x64x1 : Shape := ⟨3, ![16, 64, 1]⟩
abbrev S16x16 : Shape := ⟨2, ![16, 16]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S256x2048 : Shape := ⟨2, ![256, 2048]⟩
abbrev S64x16x16 : Shape := ⟨3, ![64, 16, 16]⟩
abbrev S1x64x16x16 : Shape := ⟨4, ![1, 64, 16, 16]⟩
abbrev S16x64x16x16 : Shape := ⟨4, ![16, 64, 16, 16]⟩
abbrev S1024x256 : Shape := ⟨2, ![1024, 256]⟩
abbrev S2048x256 : Shape := ⟨2, ![2048, 256]⟩
abbrev S1x1024 : Shape := ⟨2, ![1, 1024]⟩
abbrev S1x256 : Shape := ⟨2, ![1, 256]⟩
abbrev S128x1024 : Shape := ⟨2, ![128, 1024]⟩
abbrev S128x2048 : Shape := ⟨2, ![128, 2048]⟩

abbrev nBuf : Space → Nat
  | .hbm => 107
  | .vmem => 16
  | .smem => 0
  | _ => 0

abbrev bufTy : (tb : Table) → Fin (tcTables nBuf tb) → BufTy
  | .hbm, ⟨0, _⟩ => ⟨S128x256, .f32⟩
  | .hbm, ⟨1, _⟩ => ⟨S128x16x64, .f32⟩
  | .hbm, ⟨2, _⟩ => ⟨S128x16x64, .f32⟩
  | .hbm, ⟨3, _⟩ => ⟨S16x64, .f32⟩
  | .hbm, ⟨4, _⟩ => ⟨S16x64, .f32⟩
  | .hbm, ⟨5, _⟩ => ⟨S16, .f32⟩
  | .hbm, ⟨6, _⟩ => ⟨S16x64x16, .f32⟩
  | .hbm, ⟨7, _⟩ => ⟨S16x64x16, .f32⟩
  | .hbm, ⟨8, _⟩ => ⟨S16x16x64, .f32⟩
  | .hbm, ⟨9, _⟩ => ⟨S16x16x64, .f32⟩
  | .hbm, ⟨10, _⟩ => ⟨S256, .f32⟩
  | .hbm, ⟨11, _⟩ => ⟨S256x256, .f32⟩
  | .hbm, ⟨12, _⟩ => ⟨S16, .f32⟩
  | .hbm, ⟨13, _⟩ => ⟨S16x1, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S_, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64x1, .f32⟩
  | .hbm, ⟨36, _⟩ => ⟨S16x64, .f32⟩
  | .hbm, ⟨37, _⟩ => ⟨S_, .f32⟩
  | .hbm, ⟨38, _⟩ => ⟨S16x64, .f32⟩
  | .hbm, ⟨39, _⟩ => ⟨S16x64, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x64x1, .f32⟩
  | .hbm, ⟨44, _⟩ => ⟨S16x64x16, .f32⟩
  | .hbm, ⟨45, _⟩ => ⟨S16x64x16, .f32⟩
  | .hbm, ⟨46, _⟩ => ⟨S16x64x16, .f32⟩
  | .hbm, ⟨47, _⟩ => ⟨S16x64x16, .f32⟩
  | .hbm, ⟨48, _⟩ => ⟨S16x64x16, .f32⟩
  | .hbm, ⟨49, _⟩ => ⟨S16x64x16, .f32⟩
  | .hbm, ⟨50, _⟩ => ⟨S16x64x16, .f32⟩
  | .hbm, ⟨51, _⟩ => ⟨S16x64x16, .f32⟩
  | .hbm, ⟨52, _⟩ => ⟨S16x64x16, .f32⟩
  | .hbm, ⟨53, _⟩ => ⟨S16x64x16, .f32⟩
  | .hbm, ⟨54, _⟩ => ⟨S16x16, .i32⟩
  | .hbm, ⟨55, _⟩ => ⟨S16x16, .i32⟩
  | .hbm, ⟨56, _⟩ => ⟨S_, .i32⟩
  | .hbm, ⟨57, _⟩ => ⟨S16x16, .i32⟩
  | .hbm, ⟨58, _⟩ => ⟨S16x16, .i32⟩
  | .hbm, ⟨59, _⟩ => ⟨S16x16, .i1⟩
  | .hbm, ⟨60, _⟩ => ⟨S16x16, .f32⟩
  | .hbm, ⟨61, _⟩ => ⟨S16x16x64, .f32⟩
  | .hbm, ⟨62, _⟩ => ⟨S16x16x1x64, .f32⟩
  | .hbm, ⟨63, _⟩ => ⟨S16x1x16x1, .f32⟩
  | .hbm, ⟨64, _⟩ => ⟨S16x16x16x64, .f32⟩
  | .hbm, ⟨65, _⟩ => ⟨S16x16x16x64, .f32⟩
  | .hbm, ⟨66, _⟩ => ⟨S16x16x16x64, .f32⟩
  | .hbm, ⟨67, _⟩ => ⟨S256x1024, .f32⟩
  | .hbm, ⟨68, _⟩ => ⟨S16x16x64, .f32⟩
  | .hbm, ⟨69, _⟩ => ⟨S16x16x1x64, .f32⟩
  | .hbm, ⟨70, _⟩ => ⟨S16x1x16x1, .f32⟩
  | .hbm, ⟨71, _⟩ => ⟨S16x16x16x64, .f32⟩
  | .hbm, ⟨72, _⟩ => ⟨S16x16x16x64, .f32⟩
  | .hbm, ⟨73, _⟩ => ⟨S16x16x16x64, .f32⟩
  | .hbm, ⟨74, _⟩ => ⟨S256x1024, .f32⟩
  | .hbm, ⟨75, _⟩ => ⟨S256x2048, .f32⟩
  | .hbm, ⟨76, _⟩ => ⟨S256x2048, .bf16⟩
  | .hbm, ⟨77, _⟩ => ⟨S64x16x16, .f32⟩
  | .hbm, ⟨78, _⟩ => ⟨S1x64x16x16, .f32⟩
  | .hbm, ⟨79, _⟩ => ⟨S16x16, .f32⟩
  | .hbm, ⟨80, _⟩ => ⟨S16x1x16x1, .f32⟩
  | .hbm, ⟨81, _⟩ => ⟨S16x64x16x16, .f32⟩
  | .hbm, ⟨82, _⟩ => ⟨S16x64x16x16, .f32⟩
  | .hbm, ⟨83, _⟩ => ⟨S16x64x16x16, .f32⟩
  | .hbm, ⟨84, _⟩ => ⟨S1024x256, .f32⟩
  | .hbm, ⟨85, _⟩ => ⟨S64x16x16, .f32⟩
  | .hbm, ⟨86, _⟩ => ⟨S1x64x16x16, .f32⟩
  | .hbm, ⟨87, _⟩ => ⟨S16x16, .f32⟩
  | .hbm, ⟨88, _⟩ => ⟨S16x1x16x1, .f32⟩
  | .hbm, ⟨89, _⟩ => ⟨S16x64x16x16, .f32⟩
  | .hbm, ⟨90, _⟩ => ⟨S16x64x16x16, .f32⟩
  | .hbm, ⟨91, _⟩ => ⟨S16x64x16x16, .f32⟩
  | .hbm, ⟨92, _⟩ => ⟨S1024x256, .f32⟩
  | .hbm, ⟨93, _⟩ => ⟨S1024x256, .f32⟩
  | .hbm, ⟨94, _⟩ => ⟨S2048x256, .f32⟩
  | .hbm, ⟨95, _⟩ => ⟨S2048x256, .bf16⟩
  | .hbm, ⟨96, _⟩ => ⟨S1x1024, .f32⟩
  | .hbm, ⟨97, _⟩ => ⟨S1x1024, .f32⟩
  | .hbm, ⟨98, _⟩ => ⟨S1x256, .f32⟩
  | .hbm, ⟨99, _⟩ => ⟨S256x256, .bf16⟩
  | .hbm, ⟨100, _⟩ => ⟨S128x1024, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S128x256, .bf16⟩
  | .hbm, ⟨105, _⟩ => ⟨S128x1024, .f32⟩
  | .hbm, ⟨106, _⟩ => ⟨S128x1024, .f32⟩
  | .local _ .vmem, ⟨0, _⟩ => ⟨S128x256, .f32⟩
  | .local _ .vmem, ⟨1, _⟩ => ⟨S128x1024, .f32⟩
  | .local _ .vmem, ⟨2, _⟩ => ⟨S128x1024, .f32⟩
  | .local _ .vmem, ⟨3, _⟩ => ⟨S256x2048, .bf16⟩
  | .local _ .vmem, ⟨4, _⟩ => ⟨S128x1024, .f32⟩
  | .local _ .vmem, ⟨5, _⟩ => ⟨S128x1024, .f32⟩
  | .local _ .vmem, ⟨6, _⟩ => ⟨S2048x256, .bf16⟩
  | .local _ .vmem, ⟨7, _⟩ => ⟨S1x256, .f32⟩
  | .local _ .vmem, ⟨8, _⟩ => ⟨S256x256, .bf16⟩
  | .local _ .vmem, ⟨9, _⟩ => ⟨S128x256, .bf16⟩
  | .local _ .vmem, ⟨10, _⟩ => ⟨S128x1024, .f32⟩
  | .local _ .vmem, ⟨11, _⟩ => ⟨S128x1024, .f32⟩
  | .local _ .vmem, ⟨12, _⟩ => ⟨S128x2048, .f32⟩
  | .local _ .vmem, ⟨13, _⟩ => ⟨S128x2048, .f32⟩
  | .local _ .vmem, ⟨14, _⟩ => ⟨S128x1024, .f32⟩
  | .local _ .vmem, ⟨15, _⟩ => ⟨S128x1024, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89_0 : Ref sig .tc := ⟨.hbm, 104, rfl⟩
abbrev main_v89_1 : Ref sig .tc := ⟨.hbm, 105, rfl⟩
abbrev main_v89_2 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def k0_mult1 : BitVec 32 :=
  let c0_i32_14 : BitVec 32 := 0#32
  c0_i32_14
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== S5StepRefIdeal.lean ====
abbrev S128x256 : Shape := ⟨2, ![128, 256]⟩
abbrev S128x16x64 : Shape := ⟨3, ![128, 16, 64]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S256 : Shape := ⟨1, ![256]⟩
abbrev S256x256 : Shape := ⟨2, ![256, 256]⟩
abbrev S16x1 : Shape := ⟨2, ![16, 1]⟩
abbrev S_ : Shape := ⟨0, ![]⟩
abbrev S16x64x1 : Shape := ⟨3, ![16, 64, 1]⟩
abbrev S128x16x16 : Shape := ⟨3, ![128, 16, 16]⟩
abbrev S128x16x1x16 : Shape := ⟨4, ![128, 16, 1, 16]⟩
abbrev S1x16x64x16 : Shape := ⟨4, ![1, 16, 64, 16]⟩
abbrev S128x16x64x16 : Shape := ⟨4, ![128, 16, 64, 16]⟩
abbrev S1x16x64 : Shape := ⟨3, ![1, 16, 64]⟩
abbrev S128x16x1x64 : Shape := ⟨4, ![128, 16, 1, 64]⟩
abbrev S1x16x16x64 : Shape := ⟨4, ![1, 16, 16, 64]⟩
abbrev S128x16x16x64 : Shape := ⟨4, ![128, 16, 16, 64]⟩
abbrev S1x256 : Shape := ⟨2, ![1, 256]⟩
abbrev S128x1024 : Shape := ⟨2, ![128, 1024]⟩

abbrev nBuf : Space → Nat
  | .hbm => 133
  | .vmem => 0
  | .smem => 0
  | _ => 0

abbrev hbmTy0_0 (i : Nat) : BufTy := match i % 128 with
  | 0 => ⟨S128x256, .f32⟩
  | 1 => ⟨S128x16x64, .f32⟩
  | 2 => ⟨S128x16x64, .f32⟩
  | 3 => ⟨S16x64, .f32⟩
  | 4 => ⟨S16x64, .f32⟩
  | 5 => ⟨S16, .f32⟩
  | 6 => ⟨S16x64x16, .f32⟩
  | 7 => ⟨S16x64x16, .f32⟩
  | 8 => ⟨S16x16x64, .f32⟩
  | 9 => ⟨S16x16x64, .f32⟩
  | 10 => ⟨S256, .f32⟩
  | 11 => ⟨S256x256, .f32⟩
  | 12 => ⟨S16, .f32⟩
  | 13 => ⟨S16x1, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S_, .f32⟩
  | 29 => ⟨S16x64, .f32⟩
  | 30 => ⟨S16x64, .f32⟩
  | 31 => ⟨S16x64, .f32⟩
  | 32 => ⟨S16x64, .f32⟩
  | 33 => ⟨S16x64, .f32⟩
  | 34 => ⟨S16x64, .f32⟩
  | 35 => ⟨S16x64x1, .f32⟩
  | 36 => ⟨S16x64, .f32⟩
  | 37 => ⟨S_, .f32⟩
  | 38 => ⟨S16x64, .f32⟩
  | 39 => ⟨S16x64, .f32⟩
  | 40 => ⟨S16x64, .f32⟩
  | 41 => ⟨S16x64, .f32⟩
  | 42 => ⟨S16x64, .f32⟩
  | 43 => ⟨S16x64x1, .f32⟩
  | 44 => ⟨S16x64x16, .f32⟩
  | 45 => ⟨S16x64x16, .f32⟩
  | 46 => ⟨S16x64x16, .f32⟩
  | 47 => ⟨S16x64x16, .f32⟩
  | 48 => ⟨S16x64x16, .f32⟩
  | 49 => ⟨S16x64x16, .f32⟩
  | 50 => ⟨S16x64x16, .f32⟩
  | 51 => ⟨S16x64x16, .f32⟩
  | 52 => ⟨S16x64x16, .f32⟩
  | 53 => ⟨S16x64x16, .f32⟩
  | 54 => ⟨S128x16x16, .f32⟩
  | 55 => ⟨S128x16x1x16, .f32⟩
  | 56 => ⟨S1x16x64x16, .f32⟩
  | 57 => ⟨S128x16x64x16, .f32⟩
  | 58 => ⟨S128x16x64x16, .f32⟩
  | 59 => ⟨S128x16x64x16, .f32⟩
  | 60 => ⟨S_, .f32⟩
  | 61 => ⟨S128x16x64, .f32⟩
  | 62 => ⟨S128x16x1x16, .f32⟩
  | 63 => ⟨S1x16x64x16, .f32⟩
  | 64 => ⟨S128x16x64x16, .f32⟩
  | 65 => ⟨S128x16x64x16, .f32⟩
  | 66 => ⟨S128x16x64x16, .f32⟩
  | 67 => ⟨S_, .f32⟩
  | 68 => ⟨S128x16x64, .f32⟩
  | 69 => ⟨S1x16x64, .f32⟩
  | 70 => ⟨S128x16x64, .f32⟩
  | 71 => ⟨S128x16x64, .f32⟩
  | 72 => ⟨S1x16x64, .f32⟩
  | 73 => ⟨S128x16x64, .f32⟩
  | 74 => ⟨S128x16x64, .f32⟩
  | 75 => ⟨S128x16x64, .f32⟩
  | 76 => ⟨S128x16x64, .f32⟩
  | 77 => ⟨S1x16x64, .f32⟩
  | 78 => ⟨S128x16x64, .f32⟩
  | 79 => ⟨S128x16x64, .f32⟩
  | 80 => ⟨S1x16x64, .f32⟩
  | 81 => ⟨S128x16x64, .f32⟩
  | 82 => ⟨S128x16x64, .f32⟩
  | 83 => ⟨S128x16x64, .f32⟩
  | 84 => ⟨S128x16x64, .f32⟩
  | 85 => ⟨S128x16x1x64, .f32⟩
  | 86 => ⟨S1x16x16x64, .f32⟩
  | 87 => ⟨S128x16x16x64, .f32⟩
  | 88 => ⟨S128x16x16x64, .f32⟩
  | 89 => ⟨S128x16x16x64, .f32⟩
  | 90 => ⟨S128x16x1x64, .f32⟩
  | 91 => ⟨S1x16x16x64, .f32⟩
  | 92 => ⟨S128x16x16x64, .f32⟩
  | 93 => ⟨S128x16x16x64, .f32⟩
  | 94 => ⟨S128x16x16x64, .f32⟩
  | 95 => ⟨S128x16x16x64, .f32⟩
  | 96 => ⟨S_, .f32⟩
  | 97 => ⟨S128x16x16, .f32⟩
  | 98 => ⟨S128x256, .f32⟩
  | 99 => ⟨S1x256, .f32⟩
  | 100 => ⟨S128x256, .f32⟩
  | 101 => ⟨S128x256, .f32⟩
  | 102 => ⟨S128x256, .f32⟩
  | 103 => ⟨S128x256, .f32⟩
  | 104 => ⟨S128x256, .f32⟩
  | 105 => ⟨S_, .f32⟩
  | 106 => ⟨S128x256, .f32⟩
  | 107 => ⟨S128x256, .f32⟩
  | 108 => ⟨S128x256, .f32⟩
  | 109 => ⟨S_, .f32⟩
  | 110 => ⟨S128x256, .f32⟩
  | 111 => ⟨S128x256, .f32⟩
  | 112 => ⟨S128x256, .f32⟩
  | 113 => ⟨S_, .f32⟩
  | 114 => ⟨S128x256, .f32⟩
  | 115 => ⟨S128x256, .f32⟩
  | 116 => ⟨S_, .f32⟩
  | 117 => ⟨S128x256, .f32⟩
  | 118 => ⟨S128x256, .f32⟩
  | 119 => ⟨S128x256, .f32⟩
  | 120 => ⟨S128x256, .f32⟩
  | 121 => ⟨S128x256, .f32⟩
  | 122 => ⟨S128x256, .f32⟩
  | 123 => ⟨S_, .f32⟩
  | 124 => ⟨S128x256, .f32⟩
  | 125 => ⟨S128x256, .f32⟩
  | 126 => ⟨S_, .f32⟩
  | 127 => ⟨S128x256, .f32⟩
  | _ => ⟨S128x256, .f32⟩

abbrev hbmTy0_1 (i : Nat) : BufTy := match i % 128 with
  | 0 => ⟨S128x256, .f32⟩
  | 1 => ⟨S128x256, .f32⟩
  | 2 => ⟨S128x256, .bf16⟩
  | 3 => ⟨S128x1024, .f32⟩
  | 4 => ⟨S128x1024, .f32⟩
  | _ => ⟨S128x256, .f32⟩

abbrev hbmTy (i : Nat) : BufTy := match i / 128 with
  | 0 => hbmTy0_0 i
  | 1 => hbmTy0_1 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_1 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_3 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_4 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_5 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_6 : Ref sig .tc := ⟨.hbm, 113, rfl⟩
abbrev main_v94 : Ref sig .tc := ⟨.hbm, 114, rfl⟩
abbrev main_v95 : Ref sig .tc := ⟨.hbm, 115, rfl⟩
abbrev main_cst_7 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_8 : Ref sig .tc := ⟨.hbm, 123, rfl⟩
abbrev main_v102 : Ref sig .tc := ⟨.hbm, 124, rfl⟩
abbrev main_v103 : Ref sig .tc := ⟨.hbm, 125, rfl⟩
abbrev main_cst_9 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩

abbrev nD : Nat := 1
abbrev τ : Topo := Topo.v7x

variable {F : FTy → Type} [FloatOps F]
-- ==== Proof.RwkvValue.lean ====
/- The values the RWKV-7 state update leaves in its two result arrays: each is the reference's array, index by index.
   The kernel works on 64 of the 512 (sample, head) pairs at a time; pair `r` of the flattened arrays is head `r % 4` of
   sample `r / 4`, so both sides read the same entries of the arguments and do the same operations on them. -/
module

public import proofs.«01_k».proof.Defs
public import proofs.«01_k».proof.Proof.Gen.Rwkv.Frame
public import proofs.«01_k».proof.Proof.Gen.RwkvIdeal.Value
public import proofs.«01_k».proof.Proof.Gen.RwkvRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RwkvIdeal.RefValue

open Cert.RwkvIdeal Cert.RwkvIdeal.Gen

variable (m : (ℓ : Loc nD τ sig) → Buf (Elt Ideal) ℓ) (ρ : Dev nD → PrngReg)

/-- The memory of argument `k`, of device `c`. -/
abbrev arg (c : Dev nD) (b : Ref sig .tc) : Buf (Elt Ideal) ((c : Thread nD τ).loc b) := m ((c : Thread nD τ).loc b)

theorem hz3 : (![0, 0, 0] : Fin 3 → Nat) = fun _ => 0 := funext fun a => by fin_cases a <;> rfl

/-! ### What the host lays out before the call -/

theorem V_v0 (c : Dev nD) : V m c main_v0 = shapeCast S512x64x64 (arg m c main_arg0) shapeCasts_S128x4x64x64_S512x64x64 := by
  unfold V; after_results <;> rfl
theorem V_v1 (c : Dev nD) : V m c main_v1 = shapeCast S512x1x64 (arg m c main_arg1) shapeCasts_S128x256_S512x1x64 := by
  unfold V; after_results <;> rfl
theorem V_v2 (c : Dev nD) : V m c main_v2 = shapeCast S512x1x64 (arg m c main_arg2) shapeCasts_S128x256_S512x1x64 := by
  unfold V; after_results <;> rfl
theorem V_v3 (c : Dev nD) : V m c main_v3 = shapeCast S512x1x64 (arg m c main_arg3) shapeCasts_S128x256_S512x1x64 := by
  unfold V; after_results <;> rfl
theorem V_v4 (c : Dev nD) : V m c main_v4 = shapeCast S512x1x64 (arg m c main_arg4) shapeCasts_S128x256_S512x1x64 := by
  unfold V; after_results <;> rfl
theorem V_v5 (c : Dev nD) : V m c main_v5 = shapeCast S512x1x64 (arg m c main_arg5) shapeCasts_S128x256_S512x1x64 := by
  unfold V; after_results <;> rfl
theorem V_v6 (c : Dev nD) : V m c main_v6 = shapeCast S512x64x1 (arg m c main_arg6) shapeCasts_S128x256_S512x64x1 := by
  unfold V; after_results <;> rfl

/-! ### The windows move one block of 64 pairs at a time -/

theorem index_0 : ∀ t : Fin grid0.N, win0_0.index t 0 = t.val ∧ win0_0.index t 1 = 0 ∧ win0_0.index t 2 = 0 := by decide +kernel
theorem index_1 : ∀ t : Fin grid0.N, win0_1.index t 0 = t.val ∧ win0_1.index t 1 = 0 ∧ win0_1.index t 2 = 0 := by decide +kernel
theorem index_2 : ∀ t : Fin grid0.N, win0_2.index t 0 = t.val ∧ win0_2.index t 1 = 0 ∧ win0_2.index t 2 = 0 := by decide +kernel
theorem index_3 : ∀ t : Fin grid0.N, win0_3.index t 0 = t.val ∧ win0_3.index t 1 = 0 ∧ win0_3.index t 2 = 0 := by decide +kernel
theorem index_4 : ∀ t : Fin grid0.N, win0_4.index t 0 = t.val ∧ win0_4.index t 1 = 0 ∧ win0_4.index t 2 = 0 := by decide +kernel
theorem index_5 : ∀ t : Fin grid0.N, win0_5.index t 0 = t.val ∧ win0_5.index t 1 = 0 ∧ win0_5.index t 2 = 0 := by decide +kernel
theorem index_6 : ∀ t : Fin grid0.N, win0_6.index t 0 = t.val ∧ win0_6.index t 1 = 0 ∧ win0_6.index t 2 = 0 := by decide +kernel
theorem index_7 : ∀ t : Fin grid0.N, win0_7.index t 0 = t.val ∧ win0_7.index t 1 = 0 ∧ win0_7.index t 2 = 0 := by decide +kernel
theorem index_8 : ∀ t : Fin grid0.N, win0_8.index t 0 = t.val ∧ win0_8.index t 1 = 0 ∧ win0_8.index t 2 = 0 := by decide +kernel

/-- Block `t` of the states, read at `y`: the state argument at the index of the same row-major position. -/
theorem blk_0 (c : Dev nD) (t : Fin cfg0.N) (y : S64x64x64.Idx) (i : S128x4x64x64.Idx)
    (h0 : (i 0).val * 4 + (i 1).val = t.val * 64 + (y 0).val) (h2 : (i 2).val = (y 1).val) (h3 : (i 3).val = (y 2).val) :
    iblk m c 0 t y = arg m c main_arg0 i := by
  show V m c main_v0 ((win0_0.rect t).idx y) = _
  rw [V_v0]
  refine shapeCast_apply _ _ _ i ?_
  rw [Shape.rowMajor_val_four, Shape.rowMajor_val_three]
  show (((i 0).val * 4 + (i 1).val) * 64 + (i 2).val) * 64 + (i 3).val = ((win0_0.index t 0 * 64 + 1 * (y 0).val) * 64 + (win0_0.index t 1 * 64 + 1 * (y 1).val)) * 64 + (win0_0.index t 2 * 64 + 1 * (y 2).val)
  rw [(index_0 t).1, (index_0 t).2.1, (index_0 t).2.2, h0, h2, h3]; omega
theorem blk_1 (c : Dev nD) (t : Fin cfg0.N) (y : S64x1x64.Idx) (i : S128x256.Idx)
    (h0 : (i 0).val * 256 + (i 1).val = (t.val * 64 + (y 0).val) * 64 + (y 2).val) :
    iblk m c 1 t y = arg m c main_arg1 i := by
  show V m c main_v1 ((win0_1.rect t).idx y) = _
  rw [V_v1]
  refine shapeCast_apply _ _ _ i ?_
  rw [Shape.rowMajor_val_two, Shape.rowMajor_val_three]
  show (i 0).val * 256 + (i 1).val = ((win0_1.index t 0 * 64 + 1 * (y 0).val) * 1 + (win0_1.index t 1 * 1 + 1 * (y 1).val)) * 64 + (win0_1.index t 2 * 64 + 1 * (y 2).val)
  have h1 : (y 1).val < 1 := (y 1).isLt
  rw [(index_1 t).1, (index_1 t).2.1, (index_1 t).2.2, h0]; omega
theorem blk_2 (c : Dev nD) (t : Fin cfg0.N) (y : S64x1x64.Idx) (i : S128x256.Idx)
    (h0 : (i 0).val * 256 + (i 1).val = (t.val * 64 + (y 0).val) * 64 + (y 2).val) :
    iblk m c 2 t y = arg m c main_arg2 i := by
  show V m c main_v2 ((win0_2.rect t).idx y) = _
  rw [V_v2]
  refine shapeCast_apply _ _ _ i ?_
  rw [Shape.rowMajor_val_two, Shape.rowMajor_val_three]
  show (i 0).val * 256 + (i 1).val = ((win0_2.index t 0 * 64 + 1 * (y 0).val) * 1 + (win0_2.index t 1 * 1 + 1 * (y 1).val)) * 64 + (win0_2.index t 2 * 64 + 1 * (y 2).val)
  have h1 : (y 1).val < 1 := (y 1).isLt
  rw [(index_2 t).1, (index_2 t).2.1, (index_2 t).2.2, h0]; omega
theorem blk_3 (c : Dev nD) (t : Fin cfg0.N) (y : S64x1x64.Idx) (i : S128x256.Idx)
    (h0 : (i 0).val * 256 + (i 1).val = (t.val * 64 + (y 0).val) * 64 + (y 2).val) :
    iblk m c 3 t y = arg m c main_arg3 i := by
  show V m c main_v3 ((win0_3.rect t).idx y) = _
  rw [V_v3]
  refine shapeCast_apply _ _ _ i ?_
  rw [Shape.rowMajor_val_two, Shape.rowMajor_val_three]
  show (i 0).val * 256 + (i 1).val = ((win0_3.index t 0 * 64 + 1 * (y 0).val) * 1 + (win0_3.index t 1 * 1 + 1 * (y 1).val)) * 64 + (win0_3.index t 2 * 64 + 1 * (y 2).val)
  have h1 : (y 1).val < 1 := (y 1).isLt
  rw [(index_3 t).1, (index_3 t).2.1, (index_3 t).2.2, h0]; omega
theorem blk_4 (c : Dev nD) (t : Fin cfg0.N) (y : S64x1x64.Idx) (i : S128x256.Idx)
    (h0 : (i 0).val * 256 + (i 1).val = (t.val * 64 + (y 0).val) * 64 + (y 2).val) :
    iblk m c 4 t y = arg m c main_arg4 i := by
  show V m c main_v4 ((win0_4.rect t).idx y) = _
  rw [V_v4]
  refine shapeCast_apply _ _ _ i ?_
  rw [Shape.rowMajor_val_two, Shape.rowMajor_val_three]
  show (i 0).val * 256 + (i 1).val = ((win0_4.index t 0 * 64 + 1 * (y 0).val) * 1 + (win0_4.index t 1 * 1 + 1 * (y 1).val)) * 64 + (win0_4.index t 2 * 64 + 1 * (y 2).val)
  have h1 : (y 1).val < 1 := (y 1).isLt
  rw [(index_4 t).1, (index_4 t).2.1, (index_4 t).2.2, h0]; omega
theorem blk_5 (c : Dev nD) (t : Fin cfg0.N) (y : S64x1x64.Idx) (i : S128x256.Idx)
    (h0 : (i 0).val * 256 + (i 1).val = (t.val * 64 + (y 0).val) * 64 + (y 2).val) :
    iblk m c 5 t y = arg m c main_arg5 i := by
  show V m c main_v5 ((win0_5.rect t).idx y) = _
  rw [V_v5]
  refine shapeCast_apply _ _ _ i ?_
  rw [Shape.rowMajor_val_two, Shape.rowMajor_val_three]
  show (i 0).val * 256 + (i 1).val = ((win0_5.index t 0 * 64 + 1 * (y 0).val) * 1 + (win0_5.index t 1 * 1 + 1 * (y 1).val)) * 64 + (win0_5.index t 2 * 64 + 1 * (y 2).val)
  have h1 : (y 1).val < 1 := (y 1).isLt
  rw [(index_5 t).1, (index_5 t).2.1, (index_5 t).2.2, h0]; omega
theorem blk_6 (c : Dev nD) (t : Fin cfg0.N) (y : S64x64x1.Idx) (i : S128x256.Idx)
    (h0 : (i 0).val * 256 + (i 1).val = (t.val * 64 + (y 0).val) * 64 + (y 1).val) :
    iblk m c 6 t y = arg m c main_arg6 i := by
  show V m c main_v6 ((win0_6.rect t).idx y) = _
  rw [V_v6]
  refine shapeCast_apply _ _ _ i ?_
  rw [Shape.rowMajor_val_two, Shape.rowMajor_val_three]
  show (i 0).val * 256 + (i 1).val = ((win0_6.index t 0 * 64 + 1 * (y 0).val) * 64 + (win0_6.index t 1 * 64 + 1 * (y 1).val)) * 1 + (win0_6.index t 2 * 1 + 1 * (y 2).val)
  have h1 : (y 2).val < 1 := (y 2).isLt
  rw [(index_6 t).1, (index_6 t).2.1, (index_6 t).2.2, h0]; omega

/-- One row of a product with a row vector, summed. -/
theorem rowSum' (a : FVec Ideal S64x64x64 .f32) (b : FVec Ideal S64x1x64 .f32) (hφ) (hn) (j : S64x64.Idx) :
    multiReduction (F := Ideal) .add [2] S64x64 (mulf a
      (broadcastTo S64x64x64 (shapeCast S64x1x64 b shapeCasts_S64x1x64_S64x1x64) broadcasts_S64x1x64_S64x64x64))
      0x00000000#32 reduces_S64x64x64_S64x64 hφ hn j
      = ∑ k : Fin 64, a (fun x => match x with | ⟨0, _⟩ => j 0 | ⟨1, _⟩ => j 1 | ⟨2, _⟩ => k) * b (fun x => match x with | ⟨0, _⟩ => j 0 | ⟨1, _⟩ => ⟨0, Nat.one_pos⟩ | ⟨2, _⟩ => k) := by
  rw [Ideal.multiReduction_add_single]
  refine Finset.sum_congr rfl fun k _ => ?_
  have el : reduces_S64x64x64_S64x64.lift j k = (fun x => match x with | ⟨0, _⟩ => j 0 | ⟨1, _⟩ => j 1 | ⟨2, _⟩ => k : S64x64x64.Idx) :=
    funext fun x => Fin.ext (by match x with | ⟨0, _⟩ => rfl | ⟨1, _⟩ => rfl | ⟨2, _⟩ => rfl)
  rw [el]
  refine congrArg (_ * ·) ?_
  refine (broadcastTo_apply _ _ _ (fun x => match x with | ⟨0, _⟩ => j 0 | ⟨1, _⟩ => ⟨0, Nat.one_pos⟩ | ⟨2, _⟩ => k : S64x1x64.Idx) (fun x => by
    match x with | ⟨0, _⟩ => rfl | ⟨1, _⟩ => rfl | ⟨2, _⟩ => rfl)).trans ?_
  exact shapeCast_apply _ _ _ _ rfl

/-- One row of a product with a row vector, summed: the kernel's reduction over the last axis, entry by entry. -/
theorem rowSum (a : FVec Ideal S64x64x64 .f32) (b : FVec Ideal S64x1x64 .f32) (hφ) (hn) (j : S64x64.Idx) :
    multiReduction (F := Ideal) .add [2] S64x64 (mulf (shapeCast S64x64x64 a shapeCasts_S64x64x64_S64x64x64)
      (broadcastTo S64x64x64 (shapeCast S64x1x64 b shapeCasts_S64x1x64_S64x1x64) broadcasts_S64x1x64_S64x64x64))
      0x00000000#32 reduces_S64x64x64_S64x64 hφ hn j
      = ∑ k : Fin 64, a (fun x => match x with | ⟨0, _⟩ => j 0 | ⟨1, _⟩ => j 1 | ⟨2, _⟩ => k) * b (fun x => match x with | ⟨0, _⟩ => j 0 | ⟨1, _⟩ => ⟨0, Nat.one_pos⟩ | ⟨2, _⟩ => k) := by
  rw [rowSum']
  refine Finset.sum_congr rfl fun k _ => ?_
  congr 1
  exact shapeCast_apply _ _ _ _ rfl

/-- The new state as the reference computes it. -/
abbrev G7 (c : Dev nD) : Buf (Elt Ideal) ((c : Thread nD τ).loc main_v7_0) :=
  RwkvRefIdeal.Read.val_main_v23 (F := Ideal) (arg m c main_arg0) (arg m c main_arg1) (arg m c main_arg2) (arg m c main_arg3) (arg m c main_arg4) (arg m c main_arg6)

/-- The output vectors as the reference computes them. -/
abbrev G8 (c : Dev nD) : Buf (Elt Ideal) ((c : Thread nD τ).loc main_v7_1) :=
  RwkvRefIdeal.Read.val_main_v24 (F := Ideal) (arg m c main_arg0) (arg m c main_arg1) (arg m c main_arg2) (arg m c main_arg3) (arg m c main_arg4) (arg m c main_arg5) (arg m c main_arg6)

open RwkvRefIdeal.Read in
/-- One entry of the new state of one pair, from block `t`: the kernel's arithmetic is the reference's. -/
theorem state_eq (c : Dev nD) (t : Fin cfg0.N) (y : S64x64x64.Idx) (i : RwkvRefIdeal.S128x4x64x64.Idx)
    (h0 : (i 0).val * 4 + (i 1).val = t.val * 64 + (y 0).val) (h2 : (i 2).val = (y 1).val) (h3 : (i 3).val = (y 2).val) :
    Value.E7 (F := Ideal) (iblk m c 0 t) (iblk m c 3 t) (iblk m c 1 t) (iblk m c 2 t) (iblk m c 6 t) (iblk m c 4 t) y
      = val_main_v21 (F := Ideal) (arg m c main_arg0) (arg m c main_arg1) (arg m c main_arg2) (arg m c main_arg3) (arg m c main_arg4) (arg m c main_arg6) i := by
  have l1 : (i 1).val < 4 := (i 1).isLt
  have l2 : (i 2).val < 64 := (i 2).isLt
  have l3 : (i 3).val < 64 := (i 3).isLt
  rw [val_main_v21_apply, val_main_v15_apply, val_main_v9_apply, val_main_v14_apply, val_main_v20_apply,
    val_main_v8_apply, val_main_v7_apply, val_main_v2_apply, val_main_v12_apply, val_main_v10_apply, val_main_v6_apply,
    val_main_v13_apply, val_main_v11_apply, val_main_v1_apply, val_main_v18_apply, val_main_v16_apply, val_main_v5_apply,
    val_main_v19_apply, val_main_v17_apply, val_main_v3_apply]
  refine congrArg₂ FloatOps.addf (congrArg₂ FloatOps.subf (congrArg₂ FloatOps.mulf ?_ ?_) (congrArg₂ FloatOps.mulf ?_ ?_)) (congrArg₂ FloatOps.mulf ?_ ?_)
  · exact blk_0 m c t _ i h0 h2 h3
  · refine blk_3 m c t _ _ ?_
    show (((i 0).val * 4 + (i 1).val) * 64 + (i 3).val) / 256 * 256 + (((i 0).val * 4 + (i 1).val) * 64 + (i 3).val) % 256 = (t.val * 64 + (y 0).val) * 64 + (y 2).val
    omega
  · refine (rowSum _ _ _ _ _).trans (Finset.sum_congr rfl fun k _ => ?_)
    have hk : k.val < 64 := k.isLt
    rw [val_main_v0_apply]
    refine congrArg₂ (· * ·) (blk_0 m c t _ _ h0 h2 rfl) (blk_1 m c t _ _ ?_)
    show (((i 0).val * 4 + (i 1).val) * 64 + k.val) / 256 * 256 + (((i 0).val * 4 + (i 1).val) * 64 + k.val) % 256 = (t.val * 64 + (y 0).val) * 64 + k.val
    omega
  · refine blk_2 m c t _ _ ?_
    show (((i 0).val * 4 + (i 1).val) * 64 + (i 3).val) / 256 * 256 + (((i 0).val * 4 + (i 1).val) * 64 + (i 3).val) % 256 = (t.val * 64 + (y 0).val) * 64 + (y 2).val
    omega
  · refine blk_6 m c t _ _ ?_
    show (((i 0).val * 4 + (i 1).val) * 64 + (i 2).val) / 256 * 256 + (((i 0).val * 4 + (i 1).val) * 64 + (i 2).val) % 256 = (t.val * 64 + (y 0).val) * 64 + (y 1).val
    omega
  · refine blk_4 m c t _ _ ?_
    show (((i 0).val * 4 + (i 1).val) * 64 + (i 3).val) / 256 * 256 + (((i 0).val * 4 + (i 1).val) * 64 + (i 3).val) % 256 = (t.val * 64 + (y 0).val) * 64 + (y 2).val
    omega

/-! ### What each point writes back is its block of the reference's array -/

open RwkvRefIdeal.Read in
theorem flushed_7 (c : Dev nD) (t : Fin cfg0.N) :
    (dats m 0 c).flushed 7 t = ((cfg0.win 7).blk t).view.read (Elt Ideal) (G7 m c) := by
  rw [Value.flushed7]
  funext y
  have y0 : (y 0).val < 64 := (y 0).isLt
  have y1 : (y 1).val < 64 := (y 1).isLt
  have y2 : (y 2).val < 64 := (y 2).isLt
  show out0_7 (iblk m c 0 t) (iblk m c 1 t) (iblk m c 2 t) (iblk m c 3 t) (iblk m c 4 t) (iblk m c 5 t) (iblk m c 6 t) y
    = G7 m c ((win0_7.rect t).idx y)
  unfold out0_7
  rw [View.ld_unit_zero hz3, View.ld_unit_zero hz3, View.ld_unit_zero hz3, View.ld_unit_zero hz3, View.ld_unit_zero hz3, View.ld_unit_zero hz3]
  refine (Value.canon7_eq _ _ _ _ _ _ y).trans ?_
  unfold G7
  rw [val_main_v23_apply]
  have e0 : (((win0_7.rect t).idx y) 0).val = win0_7.index t 0 * 64 + 1 * (y 0).val := rfl
  have e1 : (((win0_7.rect t).idx y) 1).val = win0_7.index t 1 * 64 + 1 * (y 1).val := rfl
  have e2 : (((win0_7.rect t).idx y) 2).val = win0_7.index t 2 * 64 + 1 * (y 2).val := rfl
  rw [(index_7 t).1] at e0; rw [(index_7 t).2.1] at e1; rw [(index_7 t).2.2] at e2
  generalize (win0_7.rect t).idx y = z at e0 e1 e2 ⊢
  refine state_eq m c t y _ ?_ ?_ ?_
  · show (((z 0).val * 64 + (z 1).val) * 64 + (z 2).val) / 16384 * 4 + (((z 0).val * 64 + (z 1).val) * 64 + (z 2).val) / 4096 % 4 = _
    omega
  · show (((z 0).val * 64 + (z 1).val) * 64 + (z 2).val) / 64 % 64 = _
    omega
  · show (((z 0).val * 64 + (z 1).val) * 64 + (z 2).val) % 64 = _
    omega

open RwkvRefIdeal.Read in
theorem flushed_8 (c : Dev nD) (t : Fin cfg0.N) :
    (dats m 0 c).flushed 8 t = ((cfg0.win 8).blk t).view.read (Elt Ideal) (G8 m c) := by
  rw [Value.flushed8]
  funext y
  have y0 : (y 0).val < 64 := (y 0).isLt
  have y1 : (y 1).val < 64 := (y 1).isLt
  have y2 : (y 2).val < 1 := (y 2).isLt
  show out0_8 (iblk m c 0 t) (iblk m c 1 t) (iblk m c 2 t) (iblk m c 3 t) (iblk m c 4 t) (iblk m c 5 t) (iblk m c 6 t) y
    = G8 m c ((win0_8.rect t).idx y)
  unfold out0_8
  rw [View.ld_unit_zero hz3, View.ld_unit_zero hz3, View.ld_unit_zero hz3, View.ld_unit_zero hz3, View.ld_unit_zero hz3, View.ld_unit_zero hz3, View.ld_unit_zero hz3]
  refine (Value.canon8_eq _ _ _ _ _ _ _ y).trans ?_
  unfold G8
  rw [val_main_v24_apply, val_main_v22_apply]
  have e0 : (((win0_8.rect t).idx y) 0).val = win0_8.index t 0 * 64 + 1 * (y 0).val := rfl
  have e1 : (((win0_8.rect t).idx y) 1).val = win0_8.index t 1 * 64 + 1 * (y 1).val := rfl
  have e2 : (((win0_8.rect t).idx y) 2).val = win0_8.index t 2 * 1 + 1 * (y 2).val := rfl
  rw [(index_8 t).1] at e0; rw [(index_8 t).2.1] at e1; rw [(index_8 t).2.2] at e2
  generalize (win0_8.rect t).idx y = z at e0 e1 e2 ⊢
  refine (rowSum' _ _ _ _ _).trans (Finset.sum_congr rfl fun k _ => ?_)
  have hk : k.val < 64 := k.isLt
  refine congrArg₂ (· * ·) ?_ ?_
  · refine (congrFun (Value.lay7_0_eq _ _ _ _ _ _).symm _).trans ((Value.piece7_0 _ _ _ _ _ _ _).trans (state_eq m c t _ _ ?_ ?_ ?_))
    · show (((z 0).val * 64 + (z 1).val) * 1 + (z 2).val) / 256 * 4 + (((z 0).val * 64 + (z 1).val) * 1 + (z 2).val) / 64 % 4 = t.val * 64 + (0 + 1 * (y 0).val)
      omega
    · show (((z 0).val * 64 + (z 1).val) * 1 + (z 2).val) % 64 = 0 + 1 * (y 1).val
      omega
    · show k.val = 0 + 1 * k.val
      omega
  · rw [val_main_v4_apply]
    refine blk_5 m c t _ _ ?_
    have hz : ((idx_main_v24 z) 0).val * 4 + ((idx_main_v24 z) 1).val = t.val * 64 + (y 0).val := by
      show (((z 0).val * 64 + (z 1).val) * 1 + (z 2).val) / 256 * 4 + (((z 0).val * 64 + (z 1).val) * 1 + (z 2).val) / 64 % 4 = t.val * 64 + (y 0).val
      omega
    generalize idx_main_v24 z = w at hz ⊢
    show (((w 0).val * 4 + (w 1).val) * 64 + k.val) / 256 * 256 + (((w 0).val * 4 + (w 1).val) * 64 + k.val) % 256 = (t.val * 64 + (y 0).val) * 64 + k.val
    omega

/-! ### The blocks tile the arrays -/

theorem cover_7 (i : S512x64x64.Idx) : ∃ t : Fin cfg0.N, (cfg0.win 7).flush t = true ∧ i ∈ ((cfg0.win 7).blk t).view.set := by
  have h0 : (i 0 : Nat) < 512 := (i 0).isLt
  have h1 : (i 1 : Nat) < 64 := (i 1).isLt
  have h2 : (i 2 : Nat) < 64 := (i 2).isLt
  have hN : cfg0.N = 8 := N_0
  have ht : (i 0 : Nat) / 64 < cfg0.N := by omega
  refine ⟨⟨(i 0 : Nat) / 64, ht⟩, flush0_7 _, ?_⟩
  show i ∈ ((View.whole main_v7_0).slice (win0_7.rect ⟨(i 0 : Nat) / 64, ht⟩)).set
  rw [View.set_slice_whole, Rect.mem_set_unit]
  obtain ⟨e0, e1, e2⟩ := index_7 ⟨(i 0 : Nat) / 64, ht⟩
  intro a
  match a with
  | ⟨0, _⟩ => show win0_7.index _ 0 * 64 ≤ (i 0 : Nat) ∧ (i 0 : Nat) < win0_7.index _ 0 * 64 + 64
              rw [e0]; dsimp only; omega
  | ⟨1, _⟩ => show win0_7.index _ 1 * 64 ≤ (i 1 : Nat) ∧ (i 1 : Nat) < win0_7.index _ 1 * 64 + 64
              rw [e1]; omega
  | ⟨2, _⟩ => show win0_7.index _ 2 * 64 ≤ (i 2 : Nat) ∧ (i 2 : Nat) < win0_7.index _ 2 * 64 + 64
              rw [e2]; omega

theorem cover_8 (i : S512x64x1.Idx) : ∃ t : Fin cfg0.N, (cfg0.win 8).flush t = true ∧ i ∈ ((cfg0.win 8).blk t).view.set := by
  have h0 : (i 0 : Nat) < 512 := (i 0).isLt
  have h1 : (i 1 : Nat) < 64 := (i 1).isLt
  have h2 : (i 2 : Nat) < 1 := (i 2).isLt
  have hN : cfg0.N = 8 := N_0
  have ht : (i 0 : Nat) / 64 < cfg0.N := by omega
  refine ⟨⟨(i 0 : Nat) / 64, ht⟩, flush0_8 _, ?_⟩
  show i ∈ ((View.whole main_v7_1).slice (win0_8.rect ⟨(i 0 : Nat) / 64, ht⟩)).set
  rw [View.set_slice_whole, Rect.mem_set_unit]
  obtain ⟨e0, e1, e2⟩ := index_8 ⟨(i 0 : Nat) / 64, ht⟩
  intro a
  match a with
  | ⟨0, _⟩ => show win0_8.index _ 0 * 64 ≤ (i 0 : Nat) ∧ (i 0 : Nat) < win0_8.index _ 0 * 64 + 64
              rw [e0]; dsimp only; omega
  | ⟨1, _⟩ => show win0_8.index _ 1 * 64 ≤ (i 1 : Nat) ∧ (i 1 : Nat) < win0_8.index _ 1 * 64 + 64
              rw [e1]; omega
  | ⟨2, _⟩ => show win0_8.index _ 2 * 1 ≤ (i 2 : Nat) ∧ (i 2 : Nat) < win0_8.index _ 2 * 1 + 1
              rw [e2]; omega

theorem final_7 (c : Dev nD) : (dats m 0 c).arrAt 7 cfg0.N = G7 m c :=
  (dats m 0 c).arrAt_eq_of_cover 7 (G7 m c) (fun t _ => flushed_7 m c t) cover_7

theorem final_8 (c : Dev nD) : (dats m 0 c).arrAt 8 cfg0.N = G8 m c :=
  (dats m 0 c).arrAt_eq_of_cover 8 (G8 m c) (fun t _ => flushed_8 m c t) cover_8

end Cert.RwkvIdeal.RefValue

/-! ### The claims -/

namespace Cert.Proof.RwkvClaims

theorem frame_k : Cert.quiescent_Rwkv := fun m ρ _ => Cert.Rwkv.Gen.frame m ρ
theorem frame_ki : Cert.quiescent_RwkvIdeal := fun m ρ _ => Cert.RwkvIdeal.Gen.frame m ρ
theorem frame_ri : Cert.quiescent_RwkvRefIdeal := fun m ρ _ =>
  (θ_run Cert.RwkvRefIdeal.defs _ _).mono (fun r h => ⟨fun c => (h c).2.2, sem_eq_zero_of_no_sems (by decide) r.2⟩)
    (Cert.RwkvRefIdeal.Value.run (F := Ideal) m ρ)
theorem preserves : Cert.preserves_Rwkv_RwkvIdeal := trivial

/-- The kernel's new state and outputs are the reference's. -/
theorem algebraic : Cert.algebraic_RwkvIdeal_RwkvRefIdeal := by
  intro m ρ m' ρ' _ hagree
  refine ⟨fun c => RwkvIdeal.RefValue.G7 m c, fun c => RwkvIdeal.RefValue.G8 m c, ?_, ?_⟩
  · exact (θ_run Cert.RwkvIdeal.defs _ _).mono
      (fun _ h c => ⟨(h c).1.trans (RwkvIdeal.RefValue.final_7 m c), (h c).2.1.trans (RwkvIdeal.RefValue.final_8 m c), (h c).2.2⟩)
      (Cert.RwkvIdeal.Value.run_blocks (F := Ideal) m ρ)
  · refine (θ_run Cert.RwkvRefIdeal.defs _ _).mono
      (fun _ h c => ⟨(h c).1.trans ?_, (h c).2.1.trans ?_, (h c).2.2⟩)
      (Cert.RwkvRefIdeal.Value.run (F := Ideal) m' ρ')
    · obtain ⟨a0, a1, a2, a3, a4, a5, a6⟩ := hagree c
      refine (RwkvRefIdeal.Read.val_main_v23_eq _ _ _ _ _ _).trans ?_
      rw [a0, a1, a2, a3, a4, a6]
    · obtain ⟨a0, a1, a2, a3, a4, a5, a6⟩ := hagree c
      refine (RwkvRefIdeal.Read.val_main_v24_eq _ _ _ _ _ _ _).trans ?_
      rw [a0, a1, a2, a3, a4, a5, a6]

end Cert.Proof.RwkvClaims

end
-- ==== Proof.Common.lean ====
/- What the projection and the feed-forward proofs share: one entry of a normalised row. -/
module

public import Idealize.ShloMosaic.Lib.Pipeline.Value
public import Idealize.ShloMosaic.Lib.Pointwise

@[expose] public section

noncomputable section

open Idealize.ShloMosaic

namespace Cert.Common

/-- Entry `k` of a row scaled to mean square one and multiplied by the gains: `x / sqrt(mean(x²) + 1e-6) · g`, over rows of
    1024 entries, in the order of operations both programs use. -/
def rms (row g : Fin 1024 → EReal) (k : Fin 1024) : EReal :=
  row k * Ideal.rsqrt (Ideal.div (∑ j : Fin 1024, row j * row j) (Ideal.ofBits .f32 0x44800000#32) + Ideal.ofBits .f32 0x358637BD#32) * g k

/-- A concatenation along the second of two axes, read inside its piece `k`. -/
theorem piece2 {α : Type} {R n W : Nat} (xs : List ((s : Shape) × (s.Idx → α))) (h : Shape.Concatenates (xs.map (·.1)) ⟨2, ![R, W]⟩ 1)
    (k : Nat) (hk : k < xs.length) (x : (⟨2, ![R, n]⟩ : Shape).Idx → α) (hxk : xs[k] = ⟨⟨2, ![R, n]⟩, x⟩) (pre : Nat)
    (hpre : (((xs.take k).map (·.1)).map fun s => if h : s.rank = 2 then s.size ((1 : Fin 2).cast h.symm) else 0).sum = pre)
    (r : Fin R) (c : Fin W) (h1 : pre ≤ c.val) (h2 : c.val < pre + n) :
    concatenate ⟨2, ![R, W]⟩ 1 xs h (ix2 r c) = x (ix2 r ⟨c.val - pre, by omega⟩) :=
  concatenate_apply_piece (t := ⟨2, ![R, W]⟩) 1 xs h _ k hk _ x hxk rfl pre hpre _
    (fun b hb => by
      match b, hb with
      | ⟨0, _⟩, _ => rfl
      | ⟨1, _⟩, hb => exact absurd rfl hb)
    (by show pre + (c.val - pre) = c.val; omega)

/-- The same, where piece `k` is a run of columns of `w`. -/
theorem slice2 {α : Type} {R n W M : Nat} (xs : List ((s : Shape) × (s.Idx → α))) (h : Shape.Concatenates (xs.map (·.1)) ⟨2, ![R, W]⟩ 1)
    (k : Nat) (hk : k < xs.length) (w : (⟨2, ![R, M]⟩ : Shape).Idx → α) (off : Nat) (hs)
    (hxk : xs[k] = ⟨⟨2, ![R, n]⟩, extractStridedSlice ⟨2, ![R, n]⟩ ![0, off] w hs⟩) (pre : Nat)
    (hpre : (((xs.take k).map (·.1)).map fun s => if h : s.rank = 2 then s.size ((1 : Fin 2).cast h.symm) else 0).sum = pre)
    (r : Fin R) (c : Fin W) (d : Fin M) (h1 : pre ≤ c.val) (h2 : c.val < pre + n) (hd : d.val + pre = c.val + off) :
    concatenate ⟨2, ![R, W]⟩ 1 xs h (ix2 r c) = w (ix2 r d) :=
  (piece2 xs h k hk _ hxk pre hpre r c h1 h2).trans
    (extractStridedSlice_apply _ w hs _ (ix2 r d) (fun a => by
      match a with
      | ⟨0, _⟩ => show r.val = 0 + r.val; omega
      | ⟨1, _⟩ => show d.val = off + (c.val - pre); omega))

/-- A concatenation along the last of three axes, read inside its piece `k`. -/
theorem piece3 {α : Type} {B R n W : Nat} (xs : List ((s : Shape) × (s.Idx → α))) (h : Shape.Concatenates (xs.map (·.1)) ⟨3, ![B, R, W]⟩ 2)
    (k : Nat) (hk : k < xs.length) (x : (⟨3, ![B, R, n]⟩ : Shape).Idx → α) (hxk : xs[k] = ⟨⟨3, ![B, R, n]⟩, x⟩) (pre : Nat)
    (hpre : (((xs.take k).map (·.1)).map fun s => if h : s.rank = 3 then s.size ((2 : Fin 3).cast h.symm) else 0).sum = pre)
    (b : Fin B) (r : Fin R) (c : Fin W) (h1 : pre ≤ c.val) (h2 : c.val < pre + n) :
    concatenate ⟨3, ![B, R, W]⟩ 2 xs h (ix3 b r c) = x (ix3 b r ⟨c.val - pre, by omega⟩) :=
  concatenate_apply_piece (t := ⟨3, ![B, R, W]⟩) 2 xs h _ k hk _ x hxk rfl pre hpre _
    (fun b hb => by
      match b, hb with
      | ⟨0, _⟩, _ => rfl
      | ⟨1, _⟩, _ => rfl
      | ⟨2, _⟩, hb => exact absurd rfl hb)
    (by show pre + (c.val - pre) = c.val; omega)

/-- The same, where piece `k` is a run of columns of `w`. -/
theorem slice3 {α : Type} {B R n W M : Nat} (xs : List ((s : Shape) × (s.Idx → α))) (h : Shape.Concatenates (xs.map (·.1)) ⟨3, ![B, R, W]⟩ 2)
    (k : Nat) (hk : k < xs.length) (w : (⟨3, ![B, R, M]⟩ : Shape).Idx → α) (off : Nat) (hs)
    (hxk : xs[k] = ⟨⟨3, ![B, R, n]⟩, extractStridedSlice ⟨3, ![B, R, n]⟩ ![0, 0, off] w hs⟩) (pre : Nat)
    (hpre : (((xs.take k).map (·.1)).map fun s => if h : s.rank = 3 then s.size ((2 : Fin 3).cast h.symm) else 0).sum = pre)
    (b : Fin B) (r : Fin R) (c : Fin W) (d : Fin M) (h1 : pre ≤ c.val) (h2 : c.val < pre + n) (hd : d.val + pre = c.val + off) :
    concatenate ⟨3, ![B, R, W]⟩ 2 xs h (ix3 b r c) = w (ix3 b r d) :=
  (piece3 xs h k hk _ hxk pre hpre b r c h1 h2).trans
    (extractStridedSlice_apply _ w hs _ (ix3 b r d) (fun a => by
      match a with
      | ⟨0, _⟩ => show b.val = 0 + b.val; omega
      | ⟨1, _⟩ => show r.val = 0 + r.val; omega
      | ⟨2, _⟩ => show d.val = off + (c.val - pre); omega))

/-- The column of the given projection weights that column `c` of the result uses, where it is not one of the zeros. -/
def src (c : Nat) : Nat :=
  if c < 896 then 2328 + c else if c < 912 then 1160 + c else if c < 920 then 112 + c else if c < 2048 then c - 1024
  else if c < 3072 then c - 1016 else c - 1000

theorem src_lt (c : Nat) (h : c < 3328) (hz : ¬ (920 ≤ c ∧ c < 1024)) : src c < 3224 := by
  unfold src; split_ifs <;> omega

end Cert.Common

end
-- ==== Proof.InprojValue.lean ====
/- The values the input projection leaves: each entry is the normalised row times a column of the projection weights.
   The kernel multiplies by the weight columns in a new order (with 104 columns of zeros among them); the reference
   multiplies by the columns as given and puts the products in that order. -/
module

public import proofs.«01_k».proof.Defs
public import proofs.«01_k».proof.Proof.Common
public import proofs.«01_k».proof.Proof.Gen.Inproj.Frame
public import proofs.«01_k».proof.Proof.Gen.InprojIdeal.Value
public import proofs.«01_k».proof.Proof.Gen.InprojRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ### The kernel's arithmetic, entry by entry -/

namespace Cert.InprojIdeal.RefValue

open Cert.InprojIdeal Cert.InprojIdeal.Gen Cert.Common

theorem pay1_apply (x : FVec Ideal S512x1024 .f32) (g : FVec Ideal S1x1024 .f32) (p : Fin 512) (k : Fin 1024) :
    k0_pay1 (F := Ideal) x g (ix2 p k) = rms (fun k => x (ix2 p k)) (fun k => g (ix2 0 k)) k := by
  pointwise [k0_pay1, rms]

theorem pay2_apply (x : FVec Ideal S512x1024 .f32) (g : FVec Ideal S1x1024 .f32) (w : FVec Ideal S1024x3328 .bf16) (p : Fin 512) (c : Fin 3328) :
    k0_pay2 (F := Ideal) x g w (ix2 p c) = ∑ k : Fin 1024, rms (fun k => x (ix2 p k)) (fun k => g (ix2 0 k)) k * w (ix2 k c) := by
  pointwise [k0_pay2, pay1_apply]

theorem pay3_apply (x : FVec Ideal S512x1024 .f32) (g : FVec Ideal S1x1024 .f32) (w : FVec Ideal S8x1024 .bf16) (a : Fin 8) (p : Fin 512) :
    k0_pay3 (F := Ideal) x g w (ix3 0 a p) = ∑ k : Fin 1024, w (ix2 a k) * rms (fun k => x (ix2 p k)) (fun k => g (ix2 0 k)) k := by
  pointwise [k0_pay3, pay1_apply]

end Cert.InprojIdeal.RefValue

namespace Cert.InprojRefIdeal.RefValue

open Cert.InprojRefIdeal Cert.InprojRefIdeal.Gen Cert.InprojRefIdeal.Read Cert.Common

theorem proj_apply (x : FVec Ideal S16384x1024 .f32) (g : FVec Ideal S1024 .f32) (w : FVec Ideal S1024x3224 .f32) (b : Fin 8) (t : Fin 2048) (c : Fin 3224) :
    val_main_v14 (F := Ideal) x g w (ix3 b t c)
      = ∑ k : Fin 1024, rms (fun k => x (ix2 ⟨b.val * 2048 + t.val, by omega⟩ k)) (fun k => g (ix1 k)) k * w (ix2 k c) := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

set_option maxHeartbeats 2000000 in
/-- The products in the order of the result: the reference's concatenation, column by column. -/
theorem rows_apply (x : FVec Ideal S16384x1024 .f32) (g : FVec Ideal S1024 .f32) (w : FVec Ideal S1024x3224 .f32) (b : Fin 8) (t : Fin 2048) (c : Fin 3328) :
    val_main_v29 (F := Ideal) x g w (ix3 b t c)
      = if h : 920 ≤ c.val ∧ c.val < 1024 then 0 else val_main_v14 (F := Ideal) x g w (ix3 b t ⟨src c.val, src_lt _ c.isLt h⟩) := by
  obtain ⟨c, hc⟩ := c
  unfold val_main_v29
  by_cases h0 : c < 896
  · rw [dif_neg (by dsimp only; omega)]
    exact slice3 _ _ 0 (Nat.le_of_ble_eq_true rfl) (val_main_v14 (F := Ideal) x g w) 2328 _ rfl 0 rfl b t _ _ (by dsimp only; omega) (by dsimp only; omega) (by dsimp only [src]; split_ifs <;> omega)
  by_cases h1 : c < 912
  · rw [dif_neg (by dsimp only; omega)]
    exact slice3 _ _ 1 (Nat.le_of_ble_eq_true rfl) (val_main_v14 (F := Ideal) x g w) 2056 _ rfl 896 rfl b t _ _ (by dsimp only; omega) (by dsimp only; omega) (by dsimp only [src]; split_ifs <;> omega)
  by_cases h2 : c < 916
  · rw [dif_neg (by dsimp only; omega)]
    exact slice3 _ _ 2 (Nat.le_of_ble_eq_true rfl) (val_main_v14 (F := Ideal) x g w) 1024 _ rfl 912 rfl b t _ _ (by dsimp only; omega) (by dsimp only; omega) (by dsimp only [src]; split_ifs <;> omega)
  by_cases h3 : c < 920
  · rw [dif_neg (by dsimp only; omega)]
    exact slice3 _ _ 3 (Nat.le_of_ble_eq_true rfl) (val_main_v14 (F := Ideal) x g w) 1028 _ rfl 916 rfl b t _ _ (by dsimp only; omega) (by dsimp only; omega) (by dsimp only [src]; split_ifs <;> omega)
  by_cases h4 : c < 1024
  · rw [dif_pos ⟨by dsimp only; omega, by dsimp only; omega⟩]
    exact (piece3 _ _ 4 (Nat.le_of_ble_eq_true rfl) _ rfl 920 rfl b t _ (by dsimp only; omega) (by dsimp only; omega)).trans (by pointwise [val_main_v28, val_main_cst_2])
  by_cases h5 : c < 1280
  · rw [dif_neg (by dsimp only; omega)]
    exact slice3 _ _ 5 (Nat.le_of_ble_eq_true rfl) (val_main_v14 (F := Ideal) x g w) 0 _ rfl 1024 rfl b t _ _ (by dsimp only; omega) (by dsimp only; omega) (by dsimp only [src]; split_ifs <;> omega)
  by_cases h6 : c < 1536
  · rw [dif_neg (by dsimp only; omega)]
    exact slice3 _ _ 6 (Nat.le_of_ble_eq_true rfl) (val_main_v14 (F := Ideal) x g w) 256 _ rfl 1280 rfl b t _ _ (by dsimp only; omega) (by dsimp only; omega) (by dsimp only [src]; split_ifs <;> omega)
  by_cases h7 : c < 1792
  · rw [dif_neg (by dsimp only; omega)]
    exact slice3 _ _ 7 (Nat.le_of_ble_eq_true rfl) (val_main_v14 (F := Ideal) x g w) 512 _ rfl 1536 rfl b t _ _ (by dsimp only; omega) (by dsimp only; omega) (by dsimp only [src]; split_ifs <;> omega)
  by_cases h8 : c < 2048
  · rw [dif_neg (by dsimp only; omega)]
    exact slice3 _ _ 8 (Nat.le_of_ble_eq_true rfl) (val_main_v14 (F := Ideal) x g w) 768 _ rfl 1792 rfl b t _ _ (by dsimp only; omega) (by dsimp only; omega) (by dsimp only [src]; split_ifs <;> omega)
  by_cases h9 : c < 2304
  · rw [dif_neg (by dsimp only; omega)]
    exact slice3 _ _ 9 (Nat.le_of_ble_eq_true rfl) (val_main_v14 (F := Ideal) x g w) 1032 _ rfl 2048 rfl b t _ _ (by dsimp only; omega) (by dsimp only; omega) (by dsimp only [src]; split_ifs <;> omega)
  by_cases h10 : c < 2560
  · rw [dif_neg (by dsimp only; omega)]
    exact slice3 _ _ 10 (Nat.le_of_ble_eq_true rfl) (val_main_v14 (F := Ideal) x g w) 1288 _ rfl 2304 rfl b t _ _ (by dsimp only; omega) (by dsimp only; omega) (by dsimp only [src]; split_ifs <;> omega)
  by_cases h11 : c < 2816
  · rw [dif_neg (by dsimp only; omega)]
    exact slice3 _ _ 11 (Nat.le_of_ble_eq_true rfl) (val_main_v14 (F := Ideal) x g w) 1544 _ rfl 2560 rfl b t _ _ (by dsimp only; omega) (by dsimp only; omega) (by dsimp only [src]; split_ifs <;> omega)
  by_cases h12 : c < 3072
  · rw [dif_neg (by dsimp only; omega)]
    exact slice3 _ _ 12 (Nat.le_of_ble_eq_true rfl) (val_main_v14 (F := Ideal) x g w) 1800 _ rfl 2816 rfl b t _ _ (by dsimp only; omega) (by dsimp only; omega) (by dsimp only [src]; split_ifs <;> omega)
  rw [dif_neg (by dsimp only; omega)]
  exact slice3 _ _ 13 (Nat.le_of_ble_eq_true rfl) (val_main_v14 (F := Ideal) x g w) 2072 _ rfl 3072 rfl b t _ _ (by dsimp only; omega) (by dsimp only; omega) (by dsimp only [src]; split_ifs <;> omega)

/-- The gate products: columns 1024 to 1031. -/
theorem gates_apply (x : FVec Ideal S16384x1024 .f32) (g : FVec Ideal S1024 .f32) (w : FVec Ideal S1024x3224 .f32) (b : Fin 8) (t : Fin 2048) (a : Fin 8) :
    val_main_v30 (F := Ideal) x g w (ix3 b t a) = val_main_v14 (F := Ideal) x g w (ix3 b t ⟨1024 + a.val, by omega⟩) := by
  unfold val_main_v30
  by_cases h : a.val < 4
  · exact slice3 _ _ 0 (Nat.le_of_ble_eq_true rfl) (val_main_v14 (F := Ideal) x g w) 1024 _ rfl 0 rfl b t _ _ (by omega) (by omega) (by dsimp only; omega)
  · exact slice3 _ _ 1 (Nat.le_of_ble_eq_true rfl) (val_main_v14 (F := Ideal) x g w) 1028 _ rfl 4 rfl b t _ _ (by omega) (by omega) (by dsimp only; omega)

end Cert.InprojRefIdeal.RefValue

/-! ### The weights as the kernel takes them -/

namespace Cert.InprojIdeal.RefValue

open Cert.InprojIdeal Cert.InprojIdeal.Gen Cert.Common

variable (m : (ℓ : Loc nD τ sig) → Buf (Elt Ideal) ℓ) (ρ : Dev nD → PrngReg)

/-- The memory of argument `b`, of device `c`. -/
abbrev arg (c : Dev nD) (b : Ref sig .tc) : Buf (Elt Ideal) ((c : Thread nD τ).loc b) := m ((c : Thread nD τ).loc b)

/-- A run of 256 columns of the weights. -/
abbrev cols (w : FVec Ideal S1024x3224 .f32) (o : Nat) (h : S1024x3224.Slices ![0, o] S1024x256) : FVec Ideal S1024x256 .f32 := extractStridedSlice S1024x256 ![0, o] w h

/-- The 128 columns around the gates: 24 columns of the weights and 104 columns of zeros. -/
def packedG (w : FVec Ideal S1024x3224 .f32) : FVec Ideal S1024x128 .f32 :=
  concatenate S1024x128 1 [⟨S1024x16, extractStridedSlice S1024x16 ![0, 2056] w slices_S1024x3224_S1024x16_0_2056⟩,
    ⟨S1024x4, extractStridedSlice S1024x4 ![0, 1024] w slices_S1024x3224_S1024x4_0_1024⟩,
    ⟨S1024x4, extractStridedSlice S1024x4 ![0, 1028] w slices_S1024x3224_S1024x4_0_1028⟩,
    ⟨S1024x104, broadcastInDim S1024x104 ![] bcast_S_S1024x104 (constant S_ .f32 0x00000000#32)⟩]
    concatenates_S1024x16_S1024x4_S1024x4_S1024x104_S1024x128_d1

/-- The weights with their columns in the order of the result. -/
def packed (w : FVec Ideal S1024x3224 .f32) : FVec Ideal S1024x3328 .f32 :=
  concatenate S1024x3328 1 [⟨S1024x896, extractStridedSlice S1024x896 ![0, 2328] w slices_S1024x3224_S1024x896_0_2328⟩,
    ⟨S1024x128, packedG w⟩, ⟨S1024x256, cols w 0 slices_S1024x3224_S1024x256_0_0⟩, ⟨S1024x256, cols w 256 slices_S1024x3224_S1024x256_0_256⟩,
    ⟨S1024x256, cols w 512 slices_S1024x3224_S1024x256_0_512⟩, ⟨S1024x256, cols w 768 slices_S1024x3224_S1024x256_0_768⟩,
    ⟨S1024x256, cols w 1032 slices_S1024x3224_S1024x256_0_1032⟩, ⟨S1024x256, cols w 1288 slices_S1024x3224_S1024x256_0_1288⟩,
    ⟨S1024x256, cols w 1544 slices_S1024x3224_S1024x256_0_1544⟩, ⟨S1024x256, cols w 1800 slices_S1024x3224_S1024x256_0_1800⟩,
    ⟨S1024x256, cols w 2072 slices_S1024x3224_S1024x256_0_2072⟩]
    concatenates_S1024x896_S1024x128_S1024x256_S1024x256_S1024x256_S1024x256_S1024x256_S1024x256_S1024x256_S1024x256_S1024x256_S1024x3328_d1

/-- The gate columns. -/
def gatesC (w : FVec Ideal S1024x3224 .f32) : FVec Ideal S1024x8 .f32 :=
  concatenate S1024x8 1 [⟨S1024x4, extractStridedSlice S1024x4 ![0, 1024] w slices_S1024x3224_S1024x4_0_1024⟩,
    ⟨S1024x4, extractStridedSlice S1024x4 ![0, 1028] w slices_S1024x3224_S1024x4_0_1028⟩] concatenates_S1024x4_S1024x4_S1024x8_d1

/-- The gate columns, turned. -/
def gatesT (w : FVec Ideal S1024x3224 .f32) : FVec Ideal S8x1024 .f32 :=
  transpose S8x1024 [1, 0] (gatesC w) transposes_S1024x8_S8x1024_1_0

theorem result_v14 (hxs) (hy) (W : Valuation τ sig (Elt Ideal)) :
    (StableHlo.nary (τ := τ) ![main_v10, main_v4, main_v5, main_v13] main_v14 (fun u => (concatenate S1024x128 1 [⟨S1024x16, (u 0 : (⟨S1024x16, .f32⟩ : BufTy).Contents (Elt Ideal))⟩, ⟨S1024x4, (u 1 : (⟨S1024x4, .f32⟩ : BufTy).Contents (Elt Ideal))⟩, ⟨S1024x4, (u 2 : (⟨S1024x4, .f32⟩ : BufTy).Contents (Elt Ideal))⟩, ⟨S1024x104, (u 3 : (⟨S1024x104, .f32⟩ : BufTy).Contents (Elt Ideal))⟩] concatenates_S1024x16_S1024x4_S1024x4_S1024x104_S1024x128_d1 : (⟨S1024x128, .f32⟩ : BufTy).Contents (Elt Ideal))) hxs hy).result W (Proc.devRef .tc main_v14)
      = concatenate S1024x128 1 [⟨S1024x16, (W (Proc.devRef .tc main_v10) : (⟨S1024x16, .f32⟩ : BufTy).Contents (Elt Ideal))⟩, ⟨S1024x4, (W (Proc.devRef .tc main_v4) : (⟨S1024x4, .f32⟩ : BufTy).Contents (Elt Ideal))⟩, ⟨S1024x4, (W (Proc.devRef .tc main_v5) : (⟨S1024x4, .f32⟩ : BufTy).Contents (Elt Ideal))⟩, ⟨S1024x104, (W (Proc.devRef .tc main_v13) : (⟨S1024x104, .f32⟩ : BufTy).Contents (Elt Ideal))⟩] concatenates_S1024x16_S1024x4_S1024x4_S1024x104_S1024x128_d1 := StableHlo.nary_result _ _ _ _ _ _

theorem result_v15 (hxs) (hy) (W : Valuation τ sig (Elt Ideal)) :
    (StableHlo.nary (τ := τ) ![main_v12, main_v14, main_v0, main_v1, main_v2, main_v3, main_v6, main_v7, main_v8, main_v9, main_v11] main_v15 (fun u => (concatenate S1024x3328 1 [⟨S1024x896, (u 0 : (⟨S1024x896, .f32⟩ : BufTy).Contents (Elt Ideal))⟩, ⟨S1024x128, (u 1 : (⟨S1024x128, .f32⟩ : BufTy).Contents (Elt Ideal))⟩, ⟨S1024x256, (u 2 : (⟨S1024x256, .f32⟩ : BufTy).Contents (Elt Ideal))⟩, ⟨S1024x256, (u 3 : (⟨S1024x256, .f32⟩ : BufTy).Contents (Elt Ideal))⟩, ⟨S1024x256, (u 4 : (⟨S1024x256, .f32⟩ : BufTy).Contents (Elt Ideal))⟩, ⟨S1024x256, (u 5 : (⟨S1024x256, .f32⟩ : BufTy).Contents (Elt Ideal))⟩, ⟨S1024x256, (u 6 : (⟨S1024x256, .f32⟩ : BufTy).Contents (Elt Ideal))⟩, ⟨S1024x256, (u 7 : (⟨S1024x256, .f32⟩ : BufTy).Contents (Elt Ideal))⟩, ⟨S1024x256, (u 8 : (⟨S1024x256, .f32⟩ : BufTy).Contents (Elt Ideal))⟩, ⟨S1024x256, (u 9 : (⟨S1024x256, .f32⟩ : BufTy).Contents (Elt Ideal))⟩, ⟨S1024x256, (u 10 : (⟨S1024x256, .f32⟩ : BufTy).Contents (Elt Ideal))⟩] concatenates_S1024x896_S1024x128_S1024x256_S1024x256_S1024x256_S1024x256_S1024x256_S1024x256_S1024x256_S1024x256_S1024x256_S1024x3328_d1 : (⟨S1024x3328, .f32⟩ : BufTy).Contents (Elt Ideal))) hxs hy).result W (Proc.devRef .tc main_v15)
      = concatenate S1024x3328 1 [⟨S1024x896, (W (Proc.devRef .tc main_v12) : (⟨S1024x896, .f32⟩ : BufTy).Contents (Elt Ideal))⟩, ⟨S1024x128, (W (Proc.devRef .tc main_v14) : (⟨S1024x128, .f32⟩ : BufTy).Contents (Elt Ideal))⟩, ⟨S1024x256, (W (Proc.devRef .tc main_v0) : (⟨S1024x256, .f32⟩ : BufTy).Contents (Elt Ideal))⟩, ⟨S1024x256, (W (Proc.devRef .tc main_v1) : (⟨S1024x256, .f32⟩ : BufTy).Contents (Elt Ideal))⟩, ⟨S1024x256, (W (Proc.devRef .tc main_v2) : (⟨S1024x256, .f32⟩ : BufTy).Contents (Elt Ideal))⟩, ⟨S1024x256, (W (Proc.devRef .tc main_v3) : (⟨S1024x256, .f32⟩ : BufTy).Contents (Elt Ideal))⟩, ⟨S1024x256, (W (Proc.devRef .tc main_v6) : (⟨S1024x256, .f32⟩ : BufTy).Contents (Elt Ideal))⟩, ⟨S1024x256, (W (Proc.devRef .tc main_v7) : (⟨S1024x256, .f32⟩ : BufTy).Contents (Elt Ideal))⟩, ⟨S1024x256, (W (Proc.devRef .tc main_v8) : (⟨S1024x256, .f32⟩ : BufTy).Contents (Elt Ideal))⟩, ⟨S1024x256, (W (Proc.devRef .tc main_v9) : (⟨S1024x256, .f32⟩ : BufTy).Contents (Elt Ideal))⟩, ⟨S1024x256, (W (Proc.devRef .tc main_v11) : (⟨S1024x256, .f32⟩ : BufTy).Contents (Elt Ideal))⟩] concatenates_S1024x896_S1024x128_S1024x256_S1024x256_S1024x256_S1024x256_S1024x256_S1024x256_S1024x256_S1024x256_S1024x256_S1024x3328_d1 := StableHlo.nary_result _ _ _ _ _ _

/-- The arrays after the columns are cut out and before they are joined. -/
abbrev W (c : Dev nD) : Valuation τ sig (Elt Ideal) := StableHlo.after ((hostOps0 (F := Ideal)).take 15) (fun b => m (c, b))
theorem V_W (c : Dev nD) (b : Ref sig .tc) : V m c b = StableHlo.after ((hostOps0 (F := Ideal)).drop 15) (W m c) (Proc.devRef .tc b) := by
  unfold W
  rw [← StableHlo.after_append, List.take_append_drop]
theorem W_v0 (c : Dev nD) : W m c (Proc.devRef .tc main_v0) = extractStridedSlice S1024x256 ![0, 0] (arg m c main_arg2) slices_S1024x3224_S1024x256_0_0 := by
  unfold W hostOps0; dsimp only [List.take]; after_results <;> rfl
theorem W_v1 (c : Dev nD) : W m c (Proc.devRef .tc main_v1) = extractStridedSlice S1024x256 ![0, 256] (arg m c main_arg2) slices_S1024x3224_S1024x256_0_256 := by
  unfold W hostOps0; dsimp only [List.take]; after_results <;> rfl
theorem W_v2 (c : Dev nD) : W m c (Proc.devRef .tc main_v2) = extractStridedSlice S1024x256 ![0, 512] (arg m c main_arg2) slices_S1024x3224_S1024x256_0_512 := by
  unfold W hostOps0; dsimp only [List.take]; after_results <;> rfl
theorem W_v3 (c : Dev nD) : W m c (Proc.devRef .tc main_v3) = extractStridedSlice S1024x256 ![0, 768] (arg m c main_arg2) slices_S1024x3224_S1024x256_0_768 := by
  unfold W hostOps0; dsimp only [List.take]; after_results <;> rfl
theorem W_v4 (c : Dev nD) : W m c (Proc.devRef .tc main_v4) = extractStridedSlice S1024x4 ![0, 1024] (arg m c main_arg2) slices_S1024x3224_S1024x4_0_1024 := by
  unfold W hostOps0; dsimp only [List.take]; after_results <;> rfl
theorem W_v5 (c : Dev nD) : W m c (Proc.devRef .tc main_v5) = extractStridedSlice S1024x4 ![0, 1028] (arg m c main_arg2) slices_S1024x3224_S1024x4_0_1028 := by
  unfold W hostOps0; dsimp only [List.take]; after_results <;> rfl
theorem W_v6 (c : Dev nD) : W m c (Proc.devRef .tc main_v6) = extractStridedSlice S1024x256 ![0, 1032] (arg m c main_arg2) slices_S1024x3224_S1024x256_0_1032 := by
  unfold W hostOps0; dsimp only [List.take]; after_results <;> rfl
theorem W_v7 (c : Dev nD) : W m c (Proc.devRef .tc main_v7) = extractStridedSlice S1024x256 ![0, 1288] (arg m c main_arg2) slices_S1024x3224_S1024x256_0_1288 := by
  unfold W hostOps0; dsimp only [List.take]; after_results <;> rfl
theorem W_v8 (c : Dev nD) : W m c (Proc.devRef .tc main_v8) = extractStridedSlice S1024x256 ![0, 1544] (arg m c main_arg2) slices_S1024x3224_S1024x256_0_1544 := by
  unfold W hostOps0; dsimp only [List.take]; after_results <;> rfl
theorem W_v9 (c : Dev nD) : W m c (Proc.devRef .tc main_v9) = extractStridedSlice S1024x256 ![0, 1800] (arg m c main_arg2) slices_S1024x3224_S1024x256_0_1800 := by
  unfold W hostOps0; dsimp only [List.take]; after_results <;> rfl
theorem W_v10 (c : Dev nD) : W m c (Proc.devRef .tc main_v10) = extractStridedSlice S1024x16 ![0, 2056] (arg m c main_arg2) slices_S1024x3224_S1024x16_0_2056 := by
  unfold W hostOps0; dsimp only [List.take]; after_results <;> rfl
theorem W_v11 (c : Dev nD) : W m c (Proc.devRef .tc main_v11) = extractStridedSlice S1024x256 ![0, 2072] (arg m c main_arg2) slices_S1024x3224_S1024x256_0_2072 := by
  unfold W hostOps0; dsimp only [List.take]; after_results <;> rfl
theorem W_v12 (c : Dev nD) : W m c (Proc.devRef .tc main_v12) = extractStridedSlice S1024x896 ![0, 2328] (arg m c main_arg2) slices_S1024x3224_S1024x896_0_2328 := by
  unfold W hostOps0; dsimp only [List.take]; after_results <;> rfl
theorem W_v13 (c : Dev nD) : W m c (Proc.devRef .tc main_v13) = broadcastInDim S1024x104 ![] bcast_S_S1024x104 (constant (F := Ideal) S_ .f32 0x00000000#32) := by
  unfold W hostOps0; dsimp only [List.take]; after_results <;> rfl

theorem V_v16 (c : Dev nD) : V m c main_v16 = truncf .bf16 (packed (arg m c main_arg2)) bitsLt_bf16_f32 := by
  rw [V_W]
  have e0 := W_v0 m c; have e1 := W_v1 m c; have e2 := W_v2 m c; have e3 := W_v3 m c; have e4 := W_v4 m c; have e5 := W_v5 m c
  have e6 := W_v6 m c; have e7 := W_v7 m c; have e8 := W_v8 m c; have e9 := W_v9 m c; have e10 := W_v10 m c; have e11 := W_v11 m c
  have e12 := W_v12 m c; have e13 := W_v13 m c
  generalize W m c = X at e0 e1 e2 e3 e4 e5 e6 e7 e8 e9 e10 e11 e12 e13 ⊢
  unfold hostOps0
  dsimp only [List.drop]
  simp only [StableHlo.after_cons, StableHlo.after_nil]
  repeat (first
    | rw [StableHlo.unary_result] | rw [result_v14] | rw [result_v15]
    | (rw [StableHlo.unary_result_ne]; rotate_left; decide)
    | (rw [StableHlo.binary_result_ne]; rotate_left; decide)
    | (rw [StableHlo.nary_result_ne]; rotate_left; decide))
  rw [e0, e1, e2, e3, e4, e5, e6, e7, e8, e9, e10, e11, e12, e13]
  rfl
theorem V_v19 (c : Dev nD) : V m c main_v19 = truncf .bf16 (gatesT (arg m c main_arg2)) bitsLt_bf16_f32 := by
  unfold V; after_results <;> rfl
theorem V_v20 (c : Dev nD) : V m c main_v20 = broadcastInDim S1x1024 ![1] bcast_S1024_S1x1024_1 (arg m c main_arg1) := by
  unfold V; after_results <;> rfl
theorem V_arg0 (c : Dev nD) : V m c main_arg0 = arg m c main_arg0 := by
  unfold V; after_results <;> rfl

theorem packed_apply (w : FVec Ideal S1024x3224 .f32) (k : Fin 1024) (c : Fin 3328) :
    packed w (ix2 k c) = if h : 920 ≤ c.val ∧ c.val < 1024 then 0 else w (ix2 k ⟨src c.val, src_lt _ c.isLt h⟩) := by
  obtain ⟨c, hc⟩ := c
  unfold packed
  by_cases h0 : c < 896
  · rw [dif_neg (by dsimp only; omega)]
    exact slice2 (n := 896) _ _ 0 (Nat.le_of_ble_eq_true rfl) w 2328 _ rfl 0 rfl k _ _ (by dsimp only; omega) (by dsimp only; omega) (by dsimp only [src]; split_ifs <;> omega)
  by_cases h1 : c < 1024
  · refine (piece2 _ _ 1 (Nat.le_of_ble_eq_true rfl) (packedG w) rfl 896 rfl k _ (by dsimp only; omega) (by dsimp only; omega)).trans ?_
    unfold packedG
    by_cases g0 : c < 912
    · rw [dif_neg (by dsimp only; omega)]
      exact slice2 (n := 16) _ _ 0 (Nat.le_of_ble_eq_true rfl) w 2056 _ rfl 0 rfl k _ _ (by dsimp only; omega) (by dsimp only; omega) (by dsimp only [src]; split_ifs <;> omega)
    by_cases g1 : c < 916
    · rw [dif_neg (by dsimp only; omega)]
      exact slice2 (n := 4) _ _ 1 (Nat.le_of_ble_eq_true rfl) w 1024 _ rfl 16 rfl k _ _ (by dsimp only; omega) (by dsimp only; omega) (by dsimp only [src]; split_ifs <;> omega)
    by_cases g2 : c < 920
    · rw [dif_neg (by dsimp only; omega)]
      exact slice2 (n := 4) _ _ 2 (Nat.le_of_ble_eq_true rfl) w 1028 _ rfl 20 rfl k _ _ (by dsimp only; omega) (by dsimp only; omega) (by dsimp only [src]; split_ifs <;> omega)
    rw [dif_pos ⟨by dsimp only; omega, by dsimp only; omega⟩]
    exact (piece2 _ _ 3 (Nat.le_of_ble_eq_true rfl) _ rfl 24 rfl k _ (by dsimp only; omega) (by dsimp only; omega)).trans (by pointwise)
  by_cases h2 : c < 1280
  · rw [dif_neg (by dsimp only; omega)]
    exact slice2 (n := 256) _ _ 2 (Nat.le_of_ble_eq_true rfl) w 0 _ rfl 1024 rfl k _ _ (by dsimp only; omega) (by dsimp only; omega) (by dsimp only [src]; split_ifs <;> omega)
  by_cases h3 : c < 1536
  · rw [dif_neg (by dsimp only; omega)]
    exact slice2 (n := 256) _ _ 3 (Nat.le_of_ble_eq_true rfl) w 256 _ rfl 1280 rfl k _ _ (by dsimp only; omega) (by dsimp only; omega) (by dsimp only [src]; split_ifs <;> omega)
  by_cases h4 : c < 1792
  · rw [dif_neg (by dsimp only; omega)]
    exact slice2 (n := 256) _ _ 4 (Nat.le_of_ble_eq_true rfl) w 512 _ rfl 1536 rfl k _ _ (by dsimp only; omega) (by dsimp only; omega) (by dsimp only [src]; split_ifs <;> omega)
  by_cases h5 : c < 2048
  · rw [dif_neg (by dsimp only; omega)]
    exact slice2 (n := 256) _ _ 5 (Nat.le_of_ble_eq_true rfl) w 768 _ rfl 1792 rfl k _ _ (by dsimp only; omega) (by dsimp only; omega) (by dsimp only [src]; split_ifs <;> omega)
  by_cases h6 : c < 2304
  · rw [dif_neg (by dsimp only; omega)]
    exact slice2 (n := 256) _ _ 6 (Nat.le_of_ble_eq_true rfl) w 1032 _ rfl 2048 rfl k _ _ (by dsimp only; omega) (by dsimp only; omega) (by dsimp only [src]; split_ifs <;> omega)
  by_cases h7 : c < 2560
  · rw [dif_neg (by dsimp only; omega)]
    exact slice2 (n := 256) _ _ 7 (Nat.le_of_ble_eq_true rfl) w 1288 _ rfl 2304 rfl k _ _ (by dsimp only; omega) (by dsimp only; omega) (by dsimp only [src]; split_ifs <;> omega)
  by_cases h8 : c < 2816
  · rw [dif_neg (by dsimp only; omega)]
    exact slice2 (n := 256) _ _ 8 (Nat.le_of_ble_eq_true rfl) w 1544 _ rfl 2560 rfl k _ _ (by dsimp only; omega) (by dsimp only; omega) (by dsimp only [src]; split_ifs <;> omega)
  by_cases h9 : c < 3072
  · rw [dif_neg (by dsimp only; omega)]
    exact slice2 (n := 256) _ _ 9 (Nat.le_of_ble_eq_true rfl) w 1800 _ rfl 2816 rfl k _ _ (by dsimp only; omega) (by dsimp only; omega) (by dsimp only [src]; split_ifs <;> omega)
  rw [dif_neg (by dsimp only; omega)]
  exact slice2 (n := 256) _ _ 10 (Nat.le_of_ble_eq_true rfl) w 2072 _ rfl 3072 rfl k _ _ (by dsimp only; omega) (by dsimp only; omega) (by dsimp only [src]; split_ifs <;> omega)

theorem gatesC_apply (w : FVec Ideal S1024x3224 .f32) (k : Fin 1024) (a : Fin 8) :
    gatesC w (ix2 k a) = w (ix2 k ⟨1024 + a.val, by omega⟩) := by
  unfold gatesC
  by_cases h : a.val < 4
  · exact slice2 (n := 4) _ _ 0 (Nat.le_of_ble_eq_true rfl) w 1024 _ rfl 0 rfl k _ _ (by omega) (by omega) (by dsimp only; omega)
  · exact slice2 (n := 4) _ _ 1 (Nat.le_of_ble_eq_true rfl) w 1028 _ rfl 4 rfl k _ _ (by omega) (by omega) (by dsimp only; omega)

theorem gatesT_apply (w : FVec Ideal S1024x3224 .f32) (a : Fin 8) (k : Fin 1024) :
    gatesT w (ix2 a k) = w (ix2 k ⟨1024 + a.val, by omega⟩) := by
  pointwise [gatesT, gatesC_apply]

/-! ### The windows -/

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = t.val / 4 ∧ win0_5.index t 1 = 0 ∧ win0_5.index t 2 = t.val % 4 := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem rowLt (t : Fin cfg0.N) (p : Fin 512) : t.val * 512 + p.val < 16384 := by
  have h : cfg0.N = 32 := N_0
  have ht := t.isLt
  omega

/-- Block `t` of the rows. -/
theorem blk_0 (c : Dev nD) (t : Fin cfg0.N) (p : Fin 512) (k : Fin 1024) :
    iblk m c 0 t (ix2 p k) = arg m c main_arg0 (ix2 ⟨t.val * 512 + p.val, rowLt t p⟩ k) := by
  show V m c main_arg0 ((win0_0.rect t).idx (ix2 p k)) = _
  rw [V_arg0]
  refine congrArg (arg m c main_arg0) (funext fun a => Fin.ext ?_)
  match a with
  | ⟨0, _⟩ => show win0_0.index t 0 * 512 + 1 * p.val = t.val * 512 + p.val; rw [(index_0 t).1]; omega
  | ⟨1, _⟩ => show win0_0.index t 1 * 1024 + 1 * k.val = k.val; rw [(index_0 t).2]; omega

/-- The gains: one block, the whole vector. -/
theorem blk_1 (c : Dev nD) (t : Fin cfg0.N) (k : Fin 1024) :
    iblk m c 1 t (ix2 0 k) = arg m c main_arg1 (ix1 k) := by
  show V m c main_v20 ((win0_1.rect t).idx (ix2 0 k)) = _
  have e : (win0_1.rect t).idx (ix2 0 k) = (ix2 0 k : S1x1024.Idx) := funext fun a => Fin.ext (by
    match a with
    | ⟨0, _⟩ => show win0_1.index t 0 * 1 + 1 * 0 = 0; rw [(index_1 t).1]
    | ⟨1, _⟩ => show win0_1.index t 1 * 1024 + 1 * k.val = k.val; rw [(index_1 t).2]; omega)
  rw [V_v20, e]
  pointwise

/-- The weights in the kernel's order: one block, all of them. -/
theorem blk_2 (c : Dev nD) (t : Fin cfg0.N) (k : Fin 1024) (j : Fin 3328) :
    iblk m c 2 t (ix2 k j) = packed (arg m c main_arg2) (ix2 k j) := by
  show V m c main_v16 ((win0_2.rect t).idx (ix2 k j)) = _
  have e : (win0_2.rect t).idx (ix2 k j) = (ix2 k j : S1024x3328.Idx) := funext fun a => Fin.ext (by
    match a with
    | ⟨0, _⟩ => show win0_2.index t 0 * 1024 + 1 * k.val = k.val; rw [(index_2 t).1]; omega
    | ⟨1, _⟩ => show win0_2.index t 1 * 3328 + 1 * j.val = j.val; rw [(index_2 t).2]; omega)
  rw [V_v16, e]
  rfl

/-- The gate columns, turned: one block, all of them. -/
theorem blk_3 (c : Dev nD) (t : Fin cfg0.N) (a : Fin 8) (k : Fin 1024) :
    iblk m c 3 t (ix2 a k) = gatesT (arg m c main_arg2) (ix2 a k) := by
  show V m c main_v19 ((win0_3.rect t).idx (ix2 a k)) = _
  have e : (win0_3.rect t).idx (ix2 a k) = (ix2 a k : S8x1024.Idx) := funext fun b => Fin.ext (by
    match b with
    | ⟨0, _⟩ => show win0_3.index t 0 * 8 + 1 * a.val = a.val; rw [(index_3 t).1]; omega
    | ⟨1, _⟩ => show win0_3.index t 1 * 1024 + 1 * k.val = k.val; rw [(index_3 t).2]; omega)
  rw [V_v19, e]
  rfl

/-! ### What each point writes back is its block of the reference's array -/

/-- The projected rows as the reference computes them. -/
abbrev G4 (c : Dev nD) : Buf (Elt Ideal) ((c : Thread nD τ).loc main_v21_0) :=
  InprojRefIdeal.Read.val_main_v31 (F := Ideal) (arg m c main_arg0) (arg m c main_arg1) (arg m c main_arg2)

/-- The gates as the reference computes them. -/
abbrev G5 (c : Dev nD) : Buf (Elt Ideal) ((c : Thread nD τ).loc main_v21_1) :=
  InprojRefIdeal.Read.val_main_v32 (F := Ideal) (arg m c main_arg0) (arg m c main_arg1) (arg m c main_arg2)

/-- One normalised row of a block, times a column of weights, is the reference's product. -/
theorem row_eq (c : Dev nD) (t : Fin cfg0.N) (p : Fin 512) (b : Fin 8) (r : Fin 2048) (hr : b.val * 2048 + r.val = t.val * 512 + p.val) (j : Fin 3224) :
    InprojRefIdeal.Read.val_main_v14 (F := Ideal) (arg m c main_arg0) (arg m c main_arg1) (arg m c main_arg2) (ix3 b r j)
      = ∑ k : Fin 1024, rms (fun k => iblk m c 0 t (ix2 p k)) (fun k => iblk m c 1 t (ix2 0 k)) k * (arg m c main_arg2 (ix2 k j) : EReal) := by
  rw [InprojRefIdeal.RefValue.proj_apply]
  have e0 : (fun k : Fin 1024 => iblk m c 0 t (ix2 p k)) = fun k => arg m c main_arg0 (ix2 ⟨b.val * 2048 + r.val, by omega⟩ k) :=
    funext fun k => (blk_0 m c t p k).trans (congrArg (arg m c main_arg0) (by congr 1; exact Fin.ext hr.symm))
  have e1 : (fun k : Fin 1024 => iblk m c 1 t (ix2 0 k)) = fun k => arg m c main_arg1 (ix1 k) := funext fun k => blk_1 m c t k
  rw [e0, e1]

open InprojRefIdeal.Read in
theorem flushed_4 (c : Dev nD) (t : Fin cfg0.N) :
    (dats m 0 c).flushed 4 t = ((cfg0.win 4).blk t).view.read (Elt Ideal) (G4 m c) := by
  rw [Value.flushed4]
  funext y
  show out0_4 (iblk m c 0 t) (iblk m c 1 t) (iblk m c 2 t) (iblk m c 3 t) y = G4 m c ((win0_4.rect t).idx y)
  unfold out0_4
  rw [View.ld_unit_zero hz2, View.ld_unit_zero hz2, View.ld_unit_zero hz2, View.canon_unit_zero hz2]
  have e0 : (((win0_4.rect t).idx y) 0).val = win0_4.index t 0 * 512 + 1 * (y 0).val := rfl
  have e1 : (((win0_4.rect t).idx y) 1).val = win0_4.index t 1 * 3328 + 1 * (y 1).val := rfl
  rw [(index_4 t).1] at e0; rw [(index_4 t).2] at e1
  generalize (win0_4.rect t).idx y = z at e0 e1 ⊢
  unfold G4
  rw [val_main_v31_apply]
  obtain ⟨p, j, rfl⟩ : ∃ (p : Fin 512) (j : Fin 3328), y = ix2 p j := ⟨y 0, y 1, by idx_vars y⟩
  replace e0 : (z 0).val = t.val * 512 + 1 * p.val := e0
  replace e1 : (z 1).val = 0 * 3328 + 1 * j.val := e1
  have hz : idx_main_v31 z = ix3 ⟨(t.val * 512 + p.val) / 2048, by have := rowLt t p; omega⟩ ⟨(t.val * 512 + p.val) % 2048, by omega⟩ j := funext fun a => Fin.ext (by
    have hj := j.isLt
    match a with
    | ⟨0, _⟩ => show ((z 0).val * 3328 + (z 1).val) / 6815744 = (t.val * 512 + p.val) / 2048; omega
    | ⟨1, _⟩ => show ((z 0).val * 3328 + (z 1).val) / 3328 % 2048 = (t.val * 512 + p.val) % 2048; omega
    | ⟨2, _⟩ => show ((z 0).val * 3328 + (z 1).val) % 3328 = j.val; omega)
  rw [hz, InprojRefIdeal.RefValue.rows_apply, pay2_apply]
  split_ifs with h
  · refine Finset.sum_eq_zero fun k _ => ?_
    rw [blk_2, packed_apply, dif_pos h]
    exact mul_zero _
  · rw [row_eq m c t p _ _ (by dsimp only; omega)]
    refine Finset.sum_congr rfl fun k _ => ?_
    rw [blk_2, packed_apply, dif_neg h]

open InprojRefIdeal.Read in
theorem flushed_5 (c : Dev nD) (t : Fin cfg0.N) :
    (dats m 0 c).flushed 5 t = ((cfg0.win 5).blk t).view.read (Elt Ideal) (G5 m c) := by
  rw [Value.flushed5]
  funext y
  show out0_5 (iblk m c 0 t) (iblk m c 1 t) (iblk m c 2 t) (iblk m c 3 t) y = G5 m c ((win0_5.rect t).idx y)
  unfold out0_5
  rw [View.ld_unit_zero hz2, View.ld_unit_zero hz2, View.ld_unit_zero hz2, View.canon_unit_zero hz3]
  have e0 : (((win0_5.rect t).idx y) 0).val = win0_5.index t 0 * 1 + 1 * (y 0).val := rfl
  have e1 : (((win0_5.rect t).idx y) 1).val = win0_5.index t 1 * 8 + 1 * (y 1).val := rfl
  have e2 : (((win0_5.rect t).idx y) 2).val = win0_5.index t 2 * 512 + 1 * (y 2).val := rfl
  rw [(index_5 t).1] at e0; rw [(index_5 t).2.1] at e1; rw [(index_5 t).2.2] at e2
  generalize (win0_5.rect t).idx y = z at e0 e1 e2 ⊢
  unfold G5
  rw [val_main_v32_apply]
  obtain ⟨a, p, rfl⟩ : ∃ (a : Fin 8) (p : Fin 512), y = ix3 0 a p := ⟨y 1, y 2, by
    have h0 : (y 0).val < 1 := (y 0).isLt
    funext b
    match b with
    | ⟨0, _⟩ => exact Fin.ext (by show (y 0).val = 0; omega)
    | ⟨1, _⟩ => rfl
    | ⟨2, _⟩ => rfl⟩
  replace e0 : (z 0).val = t.val / 4 * 1 + 1 * 0 := e0
  replace e1 : (z 1).val = 0 * 8 + 1 * a.val := e1
  replace e2 : (z 2).val = t.val % 4 * 512 + 1 * p.val := e2
  have hN : cfg0.N = 32 := N_0
  have ht := t.isLt
  have hz : idx_main_v32 z = ix3 ⟨t.val / 4, by omega⟩ ⟨t.val % 4 * 512 + p.val, by omega⟩ a := funext fun b => Fin.ext (by
    match b with
    | ⟨0, _⟩ => show (z 0).val = t.val / 4; omega
    | ⟨1, _⟩ => show (z 2).val = t.val % 4 * 512 + p.val; omega
    | ⟨2, _⟩ => show (z 1).val = a.val; omega)
  rw [hz, InprojRefIdeal.RefValue.gates_apply, pay3_apply, row_eq m c t p _ _ (by dsimp only; omega)]
  refine Finset.sum_congr rfl fun k _ => ?_
  rw [blk_3, gatesT_apply, mul_comm]

/-! ### The blocks tile the arrays -/

theorem cover_4 (i : S16384x3328.Idx) : ∃ t : Fin cfg0.N, (cfg0.win 4).flush t = true ∧ i ∈ ((cfg0.win 4).blk t).view.set := by
  have h0 : (i 0 : Nat) < 16384 := (i 0).isLt
  have h1 : (i 1 : Nat) < 3328 := (i 1).isLt
  have hN : cfg0.N = 32 := N_0
  have ht : (i 0 : Nat) / 512 < cfg0.N := by omega
  refine ⟨⟨(i 0 : Nat) / 512, ht⟩, flush0_4 _, ?_⟩
  show i ∈ ((View.whole main_v21_0).slice (win0_4.rect ⟨(i 0 : Nat) / 512, ht⟩)).set
  rw [View.set_slice_whole, Rect.mem_set_unit]
  obtain ⟨e0, e1⟩ := index_4 ⟨(i 0 : Nat) / 512, ht⟩
  intro a
  match a with
  | ⟨0, _⟩ => show win0_4.index _ 0 * 512 ≤ (i 0 : Nat) ∧ (i 0 : Nat) < win0_4.index _ 0 * 512 + 512
              rw [e0]; dsimp only; omega
  | ⟨1, _⟩ => show win0_4.index _ 1 * 3328 ≤ (i 1 : Nat) ∧ (i 1 : Nat) < win0_4.index _ 1 * 3328 + 3328
              rw [e1]; omega

theorem cover_5 (i : S8x8x2048.Idx) : ∃ t : Fin cfg0.N, (cfg0.win 5).flush t = true ∧ i ∈ ((cfg0.win 5).blk t).view.set := by
  have h0 : (i 0 : Nat) < 8 := (i 0).isLt
  have h1 : (i 1 : Nat) < 8 := (i 1).isLt
  have h2 : (i 2 : Nat) < 2048 := (i 2).isLt
  have hN : cfg0.N = 32 := N_0
  have ht : (i 0 : Nat) * 4 + (i 2 : Nat) / 512 < cfg0.N := by omega
  refine ⟨⟨(i 0 : Nat) * 4 + (i 2 : Nat) / 512, ht⟩, flush0_5 _, ?_⟩
  show i ∈ ((View.whole main_v21_1).slice (win0_5.rect ⟨(i 0 : Nat) * 4 + (i 2 : Nat) / 512, ht⟩)).set
  rw [View.set_slice_whole, Rect.mem_set_unit]
  obtain ⟨e0, e1, e2⟩ := index_5 ⟨(i 0 : Nat) * 4 + (i 2 : Nat) / 512, ht⟩
  intro a
  match a with
  | ⟨0, _⟩ => show win0_5.index _ 0 * 1 ≤ (i 0 : Nat) ∧ (i 0 : Nat) < win0_5.index _ 0 * 1 + 1
              rw [e0]; dsimp only; omega
  | ⟨1, _⟩ => show win0_5.index _ 1 * 8 ≤ (i 1 : Nat) ∧ (i 1 : Nat) < win0_5.index _ 1 * 8 + 8
              rw [e1]; omega
  | ⟨2, _⟩ => show win0_5.index _ 2 * 512 ≤ (i 2 : Nat) ∧ (i 2 : Nat) < win0_5.index _ 2 * 512 + 512
              rw [e2]; dsimp only; omega

theorem final_4 (c : Dev nD) : (dats m 0 c).arrAt 4 cfg0.N = G4 m c :=
  (dats m 0 c).arrAt_eq_of_cover 4 (G4 m c) (fun t _ => flushed_4 m c t) cover_4

theorem final_5 (c : Dev nD) : (dats m 0 c).arrAt 5 cfg0.N = G5 m c :=
  (dats m 0 c).arrAt_eq_of_cover 5 (G5 m c) (fun t _ => flushed_5 m c t) cover_5

end Cert.InprojIdeal.RefValue

/-! ### The claims -/

namespace Cert.Proof.InprojClaims

theorem frame_k : Cert.quiescent_Inproj := fun m ρ _ => Cert.Inproj.Gen.frame m ρ
theorem frame_ki : Cert.quiescent_InprojIdeal := fun m ρ _ => Cert.InprojIdeal.Gen.frame m ρ
theorem frame_ri : Cert.quiescent_InprojRefIdeal := fun m ρ _ =>
  (θ_run Cert.InprojRefIdeal.defs _ _).mono (fun r h => ⟨fun c => (h c).2.2, sem_eq_zero_of_no_sems (by decide) r.2⟩)
    (Cert.InprojRefIdeal.Value.run (F := Ideal) m ρ)
theorem preserves : Cert.preserves_Inproj_InprojIdeal := trivial

/-- The kernel's projected rows and gates are the reference's. -/
theorem algebraic : Cert.algebraic_InprojIdeal_InprojRefIdeal := by
  intro m ρ m' ρ' _ hagree
  refine ⟨fun c => InprojIdeal.RefValue.G4 m c, fun c => InprojIdeal.RefValue.G5 m c, ?_, ?_⟩
  · exact (θ_run Cert.InprojIdeal.defs _ _).mono
      (fun _ h c => ⟨(h c).1.trans (InprojIdeal.RefValue.final_4 m c), (h c).2.1.trans (InprojIdeal.RefValue.final_5 m c), (h c).2.2⟩)
      (Cert.InprojIdeal.Value.run_blocks (F := Ideal) m ρ)
  · refine (θ_run Cert.InprojRefIdeal.defs _ _).mono
      (fun _ h c => ⟨(h c).1.trans ?_, (h c).2.1.trans ?_, (h c).2.2⟩)
      (Cert.InprojRefIdeal.Value.run (F := Ideal) m' ρ')
    · obtain ⟨a0, a1, a2⟩ := hagree c
      refine (InprojRefIdeal.Read.val_main_v31_eq m' c).trans ?_
      rw [a0, a1, a2]
    · obtain ⟨a0, a1, a2⟩ := hagree c
      refine (InprojRefIdeal.Read.val_main_v32_eq _ _ _).trans ?_
      rw [a0, a1, a2]

end Cert.Proof.InprojClaims

end
-- ==== Proof.FfnMath.lean ====
/- The feed-forward call's arithmetic at one row: the mixers' outputs through the output projection and the residual, the
   up projection of the normalised row, the causal convolution of three taps, the gate, the down projection. Both programs
   are read as these functions. -/
module

public import proofs.«01_k».proof.Proof.Common
public import proofs.«01_k».proof.Proof.Gen.FfnIdeal.Skeleton
public import proofs.«01_k».proof.Proof.Gen.FfnRefIdeal.Read
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.Ffn

open Cert.Common

/-- Entry `n` of the row after the output projection of its four mixer outputs. -/
def res (x : Fin 1024 → EReal) (y0 y1 y2 y3 : Fin 256 → EReal) (wo : Fin 1024 → Fin 1024 → EReal) (n : Fin 1024) : EReal :=
  x n + (∑ k : Fin 256, y0 k * wo ⟨k.val, by omega⟩ n) + (∑ k : Fin 256, y1 k * wo ⟨256 + k.val, by omega⟩ n)
    + (∑ k : Fin 256, y2 k * wo ⟨512 + k.val, by omega⟩ n) + (∑ k : Fin 256, y3 k * wo ⟨768 + k.val, by omega⟩ n)

/-- Entry `c` of the normalised row times the up projection. -/
def up (r g : Fin 1024 → EReal) (wu : Fin 1024 → Fin 5632 → EReal) (c : Fin 5632) : EReal :=
  ∑ k : Fin 1024, rms r g k * wu k c

/-- The convolution of one column: the row two before, the row before and the row itself. -/
def conv (cb w0 w1 w2 p2 p1 p0 : EReal) : EReal := cb + w0 * p2 + w1 * p1 + w2 * p0

/-- The gate (the tanh form of gelu) times the value. -/
def gate (z v : EReal) : EReal :=
  Ideal.ofBits .f32 0x3F000000#32 * z * (Ideal.ofBits .f32 0x3F800000#32
    + Ideal.tanh (Ideal.ofBits .f32 0x3F4C422A#32 * (z + Ideal.ofBits .f32 0x3D372713#32 * (z * z * z)))) * v

/-- Entry `n` of the row after the down projection, before the last normalisation. -/
def down (r : Fin 1024 → EReal) (a : Fin 2816 → EReal) (wd : Fin 2816 → Fin 1024 → EReal) (n : Fin 1024) : EReal :=
  r n + ∑ f : Fin 2816, a f * wd f n

end Cert.Ffn

/-! ### The kernel's expressions, entry by entry -/

namespace Cert.FfnIdeal.RefValue

open Cert.FfnIdeal Cert.FfnIdeal.Gen Cert.Common Cert.Ffn

/-- The rows' numbers inside a block. -/
abbrev rows : IVec S256x256 32 := iota .tc S256x256 32 [0] iota_S256x256_d0_w32

/-- A row of a block times a column of 256. -/
def dotc (h : FVec Ideal S256x1024 .bf16) (w : FVec Ideal S1024x256 .bf16) (p l : Fin 256) : EReal :=
  ∑ k : Fin 1024, h (ix2 p k) * w (ix2 k l)

/-- The row before in the block, or the carried row. -/
def back1 (c : EReal) (u : Fin 256 → EReal) (p : Fin 256) : EReal := if p.val = 0 then c else u ⟨p.val - 1, by omega⟩

/-- The row two before in the block, or a carried row. -/
def back2 (c0 c1 : EReal) (u : Fin 256 → EReal) (p : Fin 256) : EReal :=
  if p.val = 0 then c0 else if p.val = 1 then c1 else u ⟨p.val - 2, by omega⟩

/-- One chunk of 256 columns, as the kernel computes it. -/
def actV (h : FVec Ideal S256x1024 .bf16) (wu wv : FVec Ideal S1024x256 .bf16) (c0 c1 cb w0 w1 w2 : FVec Ideal S1x256 .f32) : FVec Ideal S256x256 .bf16 :=
  k0_pay19 (k0_pay15 h wv) (k0_pay17 rows (k0_pay14 h wu) c0 c1 cb w0 w1 w2) (k0_pay18 rows (k0_pay14 h wu) c0 c1 cb w0 w1 w2)

theorem pay14_apply (h : FVec Ideal S256x1024 .bf16) (w : FVec Ideal S1024x256 .bf16) (p l : Fin 256) :
    k0_pay14 h w (ix2 p l) = dotc h w p l := by
  pointwise [k0_pay14, dotc]

theorem pay15_apply (h : FVec Ideal S256x1024 .bf16) (w : FVec Ideal S1024x256 .bf16) (p l : Fin 256) :
    k0_pay15 h w (ix2 p l) = dotc h w p l := by
  pointwise [k0_pay15, dotc]

theorem pay16_apply (u : FVec Ideal S256x256 .f32) (j : Fin 2) (l : Fin 256) :
    k0_pay16 u (ix2 j l) = u (ix2 ⟨254 + j.val, by omega⟩ l) := by
  pointwise [k0_pay16]

theorem rows_eq (p l : Fin 256) (n : Nat) (hn : n < 256) :
    IntOp.cmpi .eq (rows (ix2 p l)) (BitVec.ofNat 32 n) = if p.val = n then 1#1 else 0#1 := by
  have e : rows (ix2 p l) = BitVec.ofNat 32 p.val := iota_single_apply _ _ _ _ _ _
  rw [e]
  have : (BitVec.ofNat 32 p.val = BitVec.ofNat 32 n) ↔ p.val = n := by
    constructor
    · intro h
      have := congrArg BitVec.toNat h
      rw [BitVec.toNat_ofNat, BitVec.toNat_ofNat] at this
      have := p.isLt
      omega
    · intro h; rw [h]
  unfold IntOp.cmpi
  by_cases hp : p.val = n
  · rw [if_pos hp, hp]; simp
  · rw [if_neg hp]
    show BitVec.ofBool (BitVec.ofNat 32 p.val == BitVec.ofNat 32 n) = 0#1
    rw [beq_eq_false_iff_ne.2 (fun h => hp (this.1 h))]
    rfl

theorem shift1 (u a : FVec Ideal S256x256 .f32) (p l : Fin 256) :
    select (cmpi .eq rows (broadcast S256x256 0#32)) a (dynamicRotate 0 1#32 none u rotates_S256x256_d0) (ix2 p l)
      = back1 (a (ix2 p l)) (fun q => u (ix2 q l)) p := by
  show Scalar.select (IntOp.cmpi .eq (rows (ix2 p l)) (BitVec.ofNat 32 0)) (a (ix2 p l)) (dynamicRotate 0 1#32 none u rotates_S256x256_d0 (ix2 p l)) = _
  rw [rows_eq p l 0 (by omega)]
  unfold back1 Scalar.select
  by_cases hp : p.val = 0
  · simp [hp]
  · rw [if_neg hp, if_neg hp, if_neg (by decide)]
    refine congrArg u (funext fun b => Fin.ext ?_)
    match b with
    | ⟨0, _⟩ => show (p.val + 256 - (1 + 0) % 256) % 256 = p.val - 1; omega
    | ⟨1, _⟩ => rfl

theorem shift2 (u a b : FVec Ideal S256x256 .f32) (p l : Fin 256) :
    select (cmpi .eq rows (broadcast S256x256 0#32)) a (select (cmpi .eq rows (broadcast S256x256 1#32)) b
        (dynamicRotate 0 2#32 none u rotates_S256x256_d0)) (ix2 p l)
      = back2 (a (ix2 p l)) (b (ix2 p l)) (fun q => u (ix2 q l)) p := by
  show Scalar.select (IntOp.cmpi .eq (rows (ix2 p l)) (BitVec.ofNat 32 0)) (a (ix2 p l))
    (Scalar.select (IntOp.cmpi .eq (rows (ix2 p l)) (BitVec.ofNat 32 1)) (b (ix2 p l)) (dynamicRotate 0 2#32 none u rotates_S256x256_d0 (ix2 p l))) = _
  rw [rows_eq p l 0 (by omega), rows_eq p l 1 (by omega)]
  unfold back2 Scalar.select
  by_cases hp : p.val = 0
  · simp [hp]
  by_cases hq : p.val = 1
  · simp [hq]
  · rw [if_neg hp, if_neg hp, if_neg hq, if_neg hq, if_neg (by decide), if_neg (by decide)]
    refine congrArg u (funext fun b => Fin.ext ?_)
    match b with
    | ⟨0, _⟩ => show (p.val + 256 - (2 + 0) % 256) % 256 = p.val - 2; omega
    | ⟨1, _⟩ => rfl

theorem pay17_apply (u : FVec Ideal S256x256 .f32) (c0 c1 cb w0 w1 w2 : FVec Ideal S1x256 .f32) (p l : Fin 256) :
    k0_pay17 rows u c0 c1 cb w0 w1 w2 (ix2 p l)
      = conv (cb (ix2 0 l)) (w0 (ix2 0 l)) (w1 (ix2 0 l)) (w2 (ix2 0 l))
          (back2 (c0 (ix2 0 l)) (c1 (ix2 0 l)) (fun q => u (ix2 q l)) p) (back1 (c1 (ix2 0 l)) (fun q => u (ix2 q l)) p) (u (ix2 p l)) := by
  have e0 : ∀ c : FVec Ideal S1x256 .f32, broadcastTo S256x256 (shapeCast S1x256 c shapeCasts_S1x256_S1x256) broadcasts_S1x256_S256x256 (ix2 p l) = c (ix2 0 l) := fun c => by pointwise
  have h1 := shift1 u (broadcastTo S256x256 (shapeCast S1x256 c1 shapeCasts_S1x256_S1x256) broadcasts_S1x256_S256x256) p l
  have h2 := shift2 u (broadcastTo S256x256 (shapeCast S1x256 c0 shapeCasts_S1x256_S1x256) broadcasts_S1x256_S256x256)
    (broadcastTo S256x256 (shapeCast S1x256 c1 shapeCasts_S1x256_S1x256) broadcasts_S1x256_S256x256) p l
  rw [e0] at h1
  rw [e0, e0] at h2
  have e1 : ∀ c : FVec Ideal S1x256 .f32, broadcastTo S256x256 c broadcasts_S1x256_S256x256 (ix2 p l) = c (ix2 0 l) := fun c => by pointwise
  rw [← h1, ← h2, ← e0 cb, ← e1 w0, ← e1 w1, ← e1 w2]
  rfl

theorem actV_apply (h : FVec Ideal S256x1024 .bf16) (wu wv : FVec Ideal S1024x256 .bf16) (c0 c1 cb w0 w1 w2 : FVec Ideal S1x256 .f32) (p l : Fin 256) :
    actV h wu wv c0 c1 cb w0 w1 w2 (ix2 p l)
      = gate (conv (cb (ix2 0 l)) (w0 (ix2 0 l)) (w1 (ix2 0 l)) (w2 (ix2 0 l))
          (back2 (c0 (ix2 0 l)) (c1 (ix2 0 l)) (fun q => dotc h wu q l) p) (back1 (c1 (ix2 0 l)) (fun q => dotc h wu q l) p) (dotc h wu p l))
        (dotc h wv p l) := by
  simp only [← pay14_apply h wu, ← pay15_apply h wv, ← pay17_apply (k0_pay14 h wu)]
  unfold actV k0_pay18
  generalize k0_pay17 rows (k0_pay14 h wu) c0 c1 cb w0 w1 w2 = z
  generalize k0_pay15 h wv = v
  pointwise [k0_pay19, gate]

/-- The residual rows of a block. -/
def resV (x : FVec Ideal S256x1024 .f32) (y0 y1 y2 y3 : FVec Ideal S256x256 .bf16) (wo : FVec Ideal S1024x1024 .bf16) (p : Fin 256) : Fin 1024 → EReal :=
  res (fun n => x (ix2 p n)) (fun k => y0 (ix2 p k)) (fun k => y1 (ix2 p k)) (fun k => y2 (ix2 p k)) (fun k => y3 (ix2 p k)) (fun k n => wo (ix2 k n))

theorem pay4_apply (x : FVec Ideal S256x1024 .f32) (y0 y1 y2 y3 : FVec Ideal S256x256 .bf16) (w0 w1 w2 w3 : FVec Ideal S256x1024 .bf16)
    (p : Fin 256) (n : Fin 1024) :
    k0_pay4 y0 y1 y2 y3 x w0 w1 w2 w3 (ix2 p n)
      = x (ix2 p n) + (∑ k : Fin 256, y0 (ix2 p k) * w0 (ix2 k n)) + (∑ k : Fin 256, y1 (ix2 p k) * w1 (ix2 k n))
          + (∑ k : Fin 256, y2 (ix2 p k) * w2 (ix2 k n)) + (∑ k : Fin 256, y3 (ix2 p k) * w3 (ix2 k n)) := by
  pointwise [k0_pay4]

theorem pay7_apply (y0 y1 y2 y3 : FVec Ideal S256x256 .bf16) (x : FVec Ideal S256x1024 .f32) (w0 w1 w2 w3 : FVec Ideal S256x1024 .bf16)
    (g : FVec Ideal S1x1024 .f32) (p : Fin 256) (k : Fin 1024) :
    k0_pay7 (F := Ideal) (k0_pay4 y0 y1 y2 y3 x w0 w1 w2 w3) (k0_pay5 g) (k0_pay6 y0 y1 y2 y3 x w0 w1 w2 w3) (ix2 p k)
      = rms (fun n => k0_pay4 (F := Ideal) y0 y1 y2 y3 x w0 w1 w2 w3 (ix2 p n)) (fun n => g (ix2 0 n)) k := by
  unfold k0_pay6
  generalize k0_pay4 (F := Ideal) y0 y1 y2 y3 x w0 w1 w2 w3 = r
  pointwise [k0_pay7, k0_pay5, rms]

theorem pay82_apply (r : FVec Ideal S256x1024 .f32) (a : FVec Ideal S256x2816 .bf16) (wd : FVec Ideal S2816x1024 .bf16) (p : Fin 256) (n : Fin 1024) :
    k0_pay82 r a wd (ix2 p n) = down (fun n => r (ix2 p n)) (fun f => a (ix2 p f)) (fun f n => wd (ix2 f n)) n := by
  pointwise [k0_pay82, down]

theorem pay1_apply (r : FVec Ideal S256x1024 .f32) (a : FVec Ideal S256x2816 .bf16) (wd : FVec Ideal S2816x1024 .bf16) (nf : FVec Ideal S1x1024 .f32)
    (p : Fin 256) (n : Fin 1024) :
    k0_pay1 (k0_pay82 r a wd) (k0_pay83 nf) (k0_pay84 r a wd) (k0_pay85 (F := Ideal)) (ix2 p n)
      = rms (down (fun n => r (ix2 p n)) (fun f => a (ix2 p f)) (fun f n => wd (ix2 f n))) (fun n => nf (ix2 0 n)) n := by
  have e : down (fun n => r (ix2 p n)) (fun f => a (ix2 p f)) (fun f n => wd (ix2 f n)) = fun n => k0_pay82 r a wd (ix2 p n) :=
    funext fun n => (pay82_apply r a wd p n).symm
  rw [e]
  unfold k0_pay84
  generalize k0_pay82 r a wd = z
  pointwise [k0_pay1, k0_pay83, k0_pay85, rms]

end Cert.FfnIdeal.RefValue

/-! ### The reference's values, entry by entry -/

namespace Cert.FfnRefIdeal.RefValue

open Cert.FfnRefIdeal Cert.FfnRefIdeal.Gen Cert.FfnRefIdeal.Read Cert.Common Cert.Ffn

/-- Row `t` of sequence `b` among all rows. -/
def row (b : Fin 8) (t : Fin 2048) : Fin 16384 := ⟨b.val * 2048 + t.val, by omega⟩

variable (x0 : FVec Ideal S16384x1024 .f32) (x1 x2 x3 x4 : FVec Ideal S16384x256 .bf16) (x5 : FVec Ideal S1024x1024 .f32) (x6 : FVec Ideal S1024 .f32)
  (x7 : FVec Ideal S1024x5632 .f32) (x8 : FVec Ideal S3x2816 .f32) (x9 : FVec Ideal S2816 .f32) (x10 : FVec Ideal S2816x1024 .f32) (x11 : FVec Ideal S1024 .f32)

/-- The residual row `r` of all rows. -/
def resR (r : Fin 16384) : Fin 1024 → EReal :=
  res (fun n => x0 (ix2 r n)) (fun k => x1 (ix2 r k)) (fun k => x2 (ix2 r k)) (fun k => x3 (ix2 r k)) (fun k => x4 (ix2 r k)) (fun k n => x5 (ix2 k n))

theorem v10_apply (b : Fin 8) (t : Fin 2048) (n : Fin 1024) : val_main_v10 (F := Ideal) x0 (ix3 b t n) = x0 (ix2 (row b t) n) := by
  pointwise [val_main_v10, row]
theorem v1_apply (b : Fin 8) (t : Fin 2048) (k : Fin 256) : val_main_v1 (F := Ideal) x1 (ix3 b t k) = x1 (ix2 (row b t) k) := by
  pointwise [val_main_v1, val_main_v0, row]
theorem v3_apply (b : Fin 8) (t : Fin 2048) (k : Fin 256) : val_main_v3 (F := Ideal) x2 (ix3 b t k) = x2 (ix2 (row b t) k) := by
  pointwise [val_main_v3, val_main_v2, row]
theorem v5_apply (b : Fin 8) (t : Fin 2048) (k : Fin 256) : val_main_v5 (F := Ideal) x3 (ix3 b t k) = x3 (ix2 (row b t) k) := by
  pointwise [val_main_v5, val_main_v4, row]
theorem v7_apply (b : Fin 8) (t : Fin 2048) (k : Fin 256) : val_main_v7 (F := Ideal) x4 (ix3 b t k) = x4 (ix2 (row b t) k) := by
  pointwise [val_main_v7, val_main_v6, row]

/-- A sum of 1024 terms, 256 at a time. -/
theorem sum4 (f : Fin 1024 → EReal) :
    ∑ k : Fin 1024, f k = (∑ k : Fin 256, f ⟨k.val, by omega⟩) + (∑ k : Fin 256, f ⟨256 + k.val, by omega⟩)
      + (∑ k : Fin 256, f ⟨512 + k.val, by omega⟩) + (∑ k : Fin 256, f ⟨768 + k.val, by omega⟩) := by
  rw [show (∑ k : Fin 1024, f k) = ∑ k : Fin (768 + 256), f k from rfl, Fin.sum_univ_add]
  rw [show (∑ k : Fin 768, f (Fin.castAdd 256 k)) = ∑ k : Fin (512 + 256), f (Fin.castAdd 256 k) from rfl, Fin.sum_univ_add]
  rw [show (∑ k : Fin 512, f (Fin.castAdd 256 (Fin.castAdd 256 k))) = ∑ k : Fin (256 + 256), f (Fin.castAdd 256 (Fin.castAdd 256 k)) from rfl, Fin.sum_univ_add]
  rfl

theorem v11_apply (b : Fin 8) (t : Fin 2048) (n : Fin 1024) :
    val_main_v11 (F := Ideal) x0 x1 x2 x3 x4 x5 (ix3 b t n) = resR x0 x1 x2 x3 x4 x5 (row b t) n := by
  have e : val_main_v11 (F := Ideal) x0 x1 x2 x3 x4 x5 (ix3 b t n)
      = val_main_v10 (F := Ideal) x0 (ix3 b t n) + ∑ k : Fin 1024, val_main_v8 (F := Ideal) x1 x2 x3 x4 (ix3 b t k) * x5 (ix2 k n) := by
    unfold val_main_v11 val_main_v9
    generalize val_main_v8 (F := Ideal) x1 x2 x3 x4 = z
    generalize val_main_v10 (F := Ideal) x0 = x
    pointwise
  have c0 : ∀ k : Fin 256, val_main_v8 (F := Ideal) x1 x2 x3 x4 (ix3 b t ⟨k.val, by omega⟩) = x1 (ix2 (row b t) k) := fun k => by
    unfold val_main_v8
    exact (piece3 _ _ 0 (Nat.le_of_ble_eq_true rfl) (val_main_v1 (F := Ideal) x1) rfl 0 rfl b t _ (by dsimp only; omega) (by dsimp only; omega)).trans
      ((congrArg (val_main_v1 (F := Ideal) x1) (congrArg (ix3 b t) (Fin.ext (by dsimp only; omega)))).trans (v1_apply x1 b t k))
  have c1 : ∀ k : Fin 256, val_main_v8 (F := Ideal) x1 x2 x3 x4 (ix3 b t ⟨256 + k.val, by omega⟩) = x2 (ix2 (row b t) k) := fun k => by
    unfold val_main_v8
    exact (piece3 _ _ 1 (Nat.le_of_ble_eq_true rfl) (val_main_v3 (F := Ideal) x2) rfl 256 rfl b t _ (by dsimp only; omega) (by dsimp only; omega)).trans
      ((congrArg (val_main_v3 (F := Ideal) x2) (congrArg (ix3 b t) (Fin.ext (by dsimp only; omega)))).trans (v3_apply x2 b t k))
  have c2 : ∀ k : Fin 256, val_main_v8 (F := Ideal) x1 x2 x3 x4 (ix3 b t ⟨512 + k.val, by omega⟩) = x3 (ix2 (row b t) k) := fun k => by
    unfold val_main_v8
    exact (piece3 _ _ 2 (Nat.le_of_ble_eq_true rfl) (val_main_v5 (F := Ideal) x3) rfl 512 rfl b t _ (by dsimp only; omega) (by dsimp only; omega)).trans
      ((congrArg (val_main_v5 (F := Ideal) x3) (congrArg (ix3 b t) (Fin.ext (by dsimp only; omega)))).trans (v5_apply x3 b t k))
  have c3 : ∀ k : Fin 256, val_main_v8 (F := Ideal) x1 x2 x3 x4 (ix3 b t ⟨768 + k.val, by omega⟩) = x4 (ix2 (row b t) k) := fun k => by
    unfold val_main_v8
    exact (piece3 _ _ 3 (Nat.le_of_ble_eq_true rfl) (val_main_v7 (F := Ideal) x4) rfl 768 rfl b t _ (by dsimp only; omega) (by dsimp only; omega)).trans
      ((congrArg (val_main_v7 (F := Ideal) x4) (congrArg (ix3 b t) (Fin.ext (by dsimp only; omega)))).trans (v7_apply x4 b t k))
  rw [e, sum4]
  simp only [c0, c1, c2, c3, v10_apply]
  unfold resR res
  simp only [add_assoc]

/-- The up projection of row `r`, column `c`. -/
def upR (r : Fin 16384) (c : Fin 5632) : EReal :=
  up (resR x0 x1 x2 x3 x4 x5 r) (fun k => x6 (ix1 k)) (fun k c => x7 (ix2 k c)) c

theorem v24_apply (b : Fin 8) (t : Fin 2048) (k : Fin 1024) :
    val_main_v24 (F := Ideal) x0 x1 x2 x3 x4 x5 x6 (ix3 b t k) = rms (resR x0 x1 x2 x3 x4 x5 (row b t)) (fun k => x6 (ix1 k)) k := by
  have e : resR x0 x1 x2 x3 x4 x5 (row b t) = fun n => val_main_v11 (F := Ideal) x0 x1 x2 x3 x4 x5 (ix3 b t n) :=
    funext fun n => (v11_apply x0 x1 x2 x3 x4 x5 b t n).symm
  rw [e]
  unfold val_main_v24 val_main_v21 val_main_v20 val_main_v19 val_main_v18 val_main_v16 val_main_v14 val_main_v13 val_main_v12
  generalize val_main_v11 (F := Ideal) x0 x1 x2 x3 x4 x5 = z
  pointwise [val_main_cst, val_main_cst_0, val_main_v15, val_main_cst_1, val_main_v17, val_main_v22, val_main_v23, rms]

theorem v25_apply (b : Fin 8) (t : Fin 2048) (c : Fin 5632) :
    val_main_v25 (F := Ideal) x0 x1 x2 x3 x4 x5 x6 x7 (ix3 b t c) = upR x0 x1 x2 x3 x4 x5 x6 x7 (row b t) c := by
  have e : val_main_v25 (F := Ideal) x0 x1 x2 x3 x4 x5 x6 x7 (ix3 b t c)
      = ∑ k : Fin 1024, val_main_v24 (F := Ideal) x0 x1 x2 x3 x4 x5 x6 (ix3 b t k) * x7 (ix2 k c) := by
    unfold val_main_v25
    generalize val_main_v24 (F := Ideal) x0 x1 x2 x3 x4 x5 x6 = z
    pointwise
  rw [e]
  simp only [v24_apply]
  rfl

/-- Row `i` of sequence `b` with two rows of zeros in front, column `f`. -/
def padR (b : Fin 8) (i : Nat) (f : Fin 2816) : EReal :=
  if h : 2 ≤ i ∧ i < 2050 then upR x0 x1 x2 x3 x4 x5 x6 x7 (row b ⟨i - 2, by omega⟩) ⟨f.val, by omega⟩ else 0

theorem v29_apply (b : Fin 8) (i : Fin 2050) (f : Fin 2816) :
    val_main_v29 (F := Ideal) x0 x1 x2 x3 x4 x5 x6 x7 (ix3 b i f) = padR x0 x1 x2 x3 x4 x5 x6 x7 b i.val f := by
  have e26 : ∀ (t : Fin 2048), val_main_v26 (F := Ideal) x0 x1 x2 x3 x4 x5 x6 x7 (ix3 b t f) = upR x0 x1 x2 x3 x4 x5 x6 x7 (row b t) ⟨f.val, by omega⟩ := fun t => by
    rw [← v25_apply]
    unfold val_main_v26
    generalize val_main_v25 (F := Ideal) x0 x1 x2 x3 x4 x5 x6 x7 = z
    pointwise
  have e28 : ∀ (t : Fin 2), val_main_v28 (F := Ideal) (ix3 b t f) = 0 := fun t => by
    pointwise [val_main_v28, val_main_cst_2]
  unfold padR
  have hi := i.isLt
  by_cases h : 2 ≤ i.val
  · rw [dif_pos ⟨h, hi⟩, ← e26]
    unfold val_main_v29
    exact concatenate_apply_piece (t := S8x2050x2816) 1 _ _ (ix3 b i f) 1 (Nat.le_of_ble_eq_true rfl) _ (val_main_v26 (F := Ideal) x0 x1 x2 x3 x4 x5 x6 x7) rfl rfl 2 rfl (ix3 b ⟨i.val - 2, by omega⟩ f)
      (fun a ha => by
        match a, ha with
        | ⟨0, _⟩, _ => rfl
        | ⟨1, _⟩, ha => exact absurd rfl ha
        | ⟨2, _⟩, _ => rfl)
      (by show 2 + (i.val - 2) = i.val; omega)
  · rw [dif_neg (by omega), ← e28 ⟨i.val, by omega⟩]
    unfold val_main_v29
    exact concatenate_apply_piece (t := S8x2050x2816) 1 _ _ (ix3 b i f) 0 (Nat.le_of_ble_eq_true rfl) _ (val_main_v28 (F := Ideal)) rfl rfl 0 rfl (ix3 b ⟨i.val, by omega⟩ f)
      (fun a ha => by
        match a, ha with
        | ⟨0, _⟩, _ => rfl
        | ⟨1, _⟩, ha => exact absurd rfl ha
        | ⟨2, _⟩, _ => rfl)
      (by show 0 + i.val = i.val; omega)

/-- The gated value of row `t` of sequence `b`, column `f`. -/
def actR (b : Fin 8) (t : Fin 2048) (f : Fin 2816) : EReal :=
  gate (conv (x9 (ix1 f)) (x8 (ix2 0 f)) (x8 (ix2 1 f)) (x8 (ix2 2 f))
      (padR x0 x1 x2 x3 x4 x5 x6 x7 b t.val f) (padR x0 x1 x2 x3 x4 x5 x6 x7 b (1 + t.val) f) (padR x0 x1 x2 x3 x4 x5 x6 x7 b (2 + t.val) f))
    (upR x0 x1 x2 x3 x4 x5 x6 x7 (row b t) ⟨2816 + f.val, by omega⟩)

theorem v52_apply (b : Fin 8) (t : Fin 2048) (f : Fin 2816) :
    val_main_v52 (F := Ideal) x0 x1 x2 x3 x4 x5 x6 x7 x8 x9 (ix3 b t f)
      = conv (x9 (ix1 f)) (x8 (ix2 0 f)) (x8 (ix2 1 f)) (x8 (ix2 2 f))
      (padR x0 x1 x2 x3 x4 x5 x6 x7 b t.val f) (padR x0 x1 x2 x3 x4 x5 x6 x7 b (1 + t.val) f) (padR x0 x1 x2 x3 x4 x5 x6 x7 b (2 + t.val) f) := by
  have a0 := v29_apply x0 x1 x2 x3 x4 x5 x6 x7 b ⟨t.val, by omega⟩ f
  have a1 := v29_apply x0 x1 x2 x3 x4 x5 x6 x7 b ⟨1 + t.val, by omega⟩ f
  have a2 := v29_apply x0 x1 x2 x3 x4 x5 x6 x7 b ⟨2 + t.val, by omega⟩ f
  dsimp only at a0 a1 a2
  rw [← a0, ← a1, ← a2]
  unfold val_main_v52 val_main_v45 val_main_v38 val_main_v35 val_main_v44 val_main_v51 val_main_v32 val_main_v41 val_main_v48
  generalize val_main_v29 (F := Ideal) x0 x1 x2 x3 x4 x5 x6 x7 = z
  pointwise [val_main_v37, val_main_v36, val_main_v34, val_main_v33, val_main_v31, val_main_v30, val_main_v43, val_main_v42, val_main_v40, val_main_v39,
    val_main_v50, val_main_v49, val_main_v47, val_main_v46, conv]

theorem v66_apply (b : Fin 8) (t : Fin 2048) (f : Fin 2816) :
    val_main_v66 (F := Ideal) x0 x1 x2 x3 x4 x5 x6 x7 x8 x9 (ix3 b t f) = actR x0 x1 x2 x3 x4 x5 x6 x7 x8 x9 b t f := by
  have e27 : val_main_v27 (F := Ideal) x0 x1 x2 x3 x4 x5 x6 x7 (ix3 b t f) = upR x0 x1 x2 x3 x4 x5 x6 x7 (row b t) ⟨2816 + f.val, by omega⟩ := by
    rw [← v25_apply]
    unfold val_main_v27
    generalize val_main_v25 (F := Ideal) x0 x1 x2 x3 x4 x5 x6 x7 = z
    pointwise
  unfold actR
  rw [← e27, ← v52_apply]
  unfold val_main_v66 val_main_v65 val_main_v64 val_main_v62 val_main_v60 val_main_v59 val_main_v57 val_main_v56 val_main_v54 val_main_v53
  generalize val_main_v52 (F := Ideal) x0 x1 x2 x3 x4 x5 x6 x7 x8 x9 = z
  generalize val_main_v27 (F := Ideal) x0 x1 x2 x3 x4 x5 x6 x7 = v
  have e : ∀ (h z a v : EReal), z * (h * a) * v = h * z * a * v := fun h z a v => by
    rw [← mul_assoc z h a, mul_comm z h]
  refine Eq.trans ?_ (e _ _ _ _)
  pointwise [val_main_v55, val_main_v58, val_main_v61, val_main_v63, val_main_cst_3, val_main_cst_4, val_main_cst_5, val_main_cst_6]

/-- The result's row `t` of sequence `b`. -/
def outR (b : Fin 8) (t : Fin 2048) (n : Fin 1024) : EReal :=
  rms (down (resR x0 x1 x2 x3 x4 x5 (row b t)) (actR x0 x1 x2 x3 x4 x5 x6 x7 x8 x9 b t) (fun f n => x10 (ix2 f n))) (fun n => x11 (ix1 n)) n

theorem v81_apply (b : Fin 8) (t : Fin 2048) (n : Fin 1024) :
    val_main_v81 (F := Ideal) x0 x1 x2 x3 x4 x5 x6 x7 x8 x9 x10 x11 (ix3 b t n) = outR x0 x1 x2 x3 x4 x5 x6 x7 x8 x9 x10 x11 b t n := by
  have e67 : ∀ n : Fin 1024, val_main_v68 (F := Ideal) x0 x1 x2 x3 x4 x5 x6 x7 x8 x9 x10 (ix3 b t n)
      = down (resR x0 x1 x2 x3 x4 x5 (row b t)) (actR x0 x1 x2 x3 x4 x5 x6 x7 x8 x9 b t) (fun f n => x10 (ix2 f n)) n := fun n => by
    have e : val_main_v68 (F := Ideal) x0 x1 x2 x3 x4 x5 x6 x7 x8 x9 x10 (ix3 b t n)
      = val_main_v11 (F := Ideal) x0 x1 x2 x3 x4 x5 (ix3 b t n) + ∑ f : Fin 2816, val_main_v66 (F := Ideal) x0 x1 x2 x3 x4 x5 x6 x7 x8 x9 (ix3 b t f) * x10 (ix2 f n) := by
      unfold val_main_v68 val_main_v67
      generalize val_main_v66 (F := Ideal) x0 x1 x2 x3 x4 x5 x6 x7 x8 x9 = z
      generalize val_main_v11 (F := Ideal) x0 x1 x2 x3 x4 x5 = r
      pointwise
    rw [e]
    simp only [v11_apply, v66_apply]
    rfl
  unfold outR
  rw [← (funext e67 : (fun n => val_main_v68 (F := Ideal) x0 x1 x2 x3 x4 x5 x6 x7 x8 x9 x10 (ix3 b t n)) = _)]
  unfold val_main_v81 val_main_v78 val_main_v77 val_main_v76 val_main_v75 val_main_v73 val_main_v71 val_main_v70 val_main_v69
  generalize val_main_v68 (F := Ideal) x0 x1 x2 x3 x4 x5 x6 x7 x8 x9 x10 = z
  pointwise [val_main_cst_7, val_main_cst_8, val_main_v72, val_main_cst_9, val_main_v74, val_main_v79, val_main_v80, rms]

theorem v82_apply (b : Fin 8) (t : Fin 2048) (n : Fin 1024) :
    val_main_v82 (F := Ideal) x0 x1 x2 x3 x4 x5 x6 x7 x8 x9 x10 x11 (ix2 (row b t) n) = outR x0 x1 x2 x3 x4 x5 x6 x7 x8 x9 x10 x11 b t n := by
  rw [← v81_apply]
  unfold val_main_v82
  generalize val_main_v81 (F := Ideal) x0 x1 x2 x3 x4 x5 x6 x7 x8 x9 x10 x11 = z
  refine shapeCast_apply z _ _ (ix3 b t n) ?_
  rw [Shape.rowMajor_val_two, Shape.rowMajor_val_three]
  show (b.val * 2048 + t.val) * 1024 + n.val = (b.val * 2048 + t.val) * 1024 + n.val
  rfl

theorem v83_apply (b : Fin 8) (j : Fin 2) (f : Fin 2816) :
    val_main_v83 (F := Ideal) x0 x1 x2 x3 x4 x5 x6 x7 (ix3 b j f) = upR x0 x1 x2 x3 x4 x5 x6 x7 (row b ⟨2046 + j.val, by omega⟩) ⟨f.val, by omega⟩ := by
  have a := v29_apply x0 x1 x2 x3 x4 x5 x6 x7 b ⟨2048 + j.val, by omega⟩ f
  have h : padR x0 x1 x2 x3 x4 x5 x6 x7 b (2048 + j.val) f = upR x0 x1 x2 x3 x4 x5 x6 x7 (row b ⟨2046 + j.val, by omega⟩) ⟨f.val, by omega⟩ := by
    unfold padR
    rw [dif_pos ⟨by omega, by omega⟩]
    exact congrArg (fun t => upR x0 x1 x2 x3 x4 x5 x6 x7 (row b t) ⟨f.val, by omega⟩) (Fin.ext (by show 2048 + j.val - 2 = 2046 + j.val; omega))
  refine Eq.trans ?_ (a.trans h)
  unfold val_main_v83
  generalize val_main_v29 (F := Ideal) x0 x1 x2 x3 x4 x5 x6 x7 = z
  pointwise

end Cert.FfnRefIdeal.RefValue

end
-- ==== Proof.FfnChunk.lean ====
module

public import proofs.«01_k».proof.Proof.FfnMath
public import proofs.«01_k».proof.Proof.Gen.FfnIdeal.Frame
public import Idealize.ShloMosaic.Lib.Pipeline.Value
public import Idealize.ShloMosaic.Lib.Pipeline.ReadBack
public import Idealize.ShloMosaic.Lib.Pointwise
public import Idealize.ShloMosaic.Lib.Pipeline.ValueKit

/-!
# The feed-forward kernel's chunks of 256 columns

The kernel works through the 2816 columns in eleven chunks of 256. Each chunk's stored block is a block of one array, `actG`, and the
rows it carries to the next tile are a block of another, `carG`.
-/

@[expose] public section

set_option maxRecDepth 16384

noncomputable section

open Idealize.ShloMosaic Idealize.ShloMosaic.TcCoe Idealize.SL.Sem

namespace Cert.FfnIdeal.RefValue

open Cert.Common Cert.Ffn Cert.FfnIdeal Cert.FfnIdeal.Gen

/-! ### The eleven chunks are one function -/

section
variable (h : FVec Ideal S256x1024 .bf16) (r : FVec Ideal S256x1024 .f32) (r1 : FVec Ideal S1x1024 .f32) (r2 : FVec Ideal S256x1 .f32)
  (wu wv : FVec Ideal S1024x256 .bf16) (c0 c1 cb w0 w1 w2 : FVec Ideal S1x256 .f32)

theorem act0 : k0_pay13 (k0_pay8 r r1 r2 wu) (k0_pay9 r r1 r2 wv) (k0_pay10 r rows r1 r2 wu c1) (k0_pay11 r rows r1 r2 wu c0 c1) cb w0 w1 w2 = actV (k0_pay7 r r1 r2) wu wv c0 c1 cb w0 w1 w2 := rfl
theorem act2 : k0_pay27 (k0_pay20 h wu) (k0_pay21 h wv) (k0_pay22 rows h wu c1) (k0_pay23 rows) (k0_pay24 rows h wu c1) (k0_pay25 c0) cb w0 w1 w2 = actV h wu wv c0 c1 cb w0 w1 w2 := rfl
theorem act3 : k0_pay33 (k0_pay28 h wu) (k0_pay29 h wv) (k0_pay31 rows h wu c0 c1 cb w0) (k0_pay32 rows h wu c1 w1) w2 = actV h wu wv c0 c1 cb w0 w1 w2 := rfl
theorem act4 : k0_pay40 (k0_pay39 rows (k0_pay34 h wu) (k0_pay35 h wv) c0 c1 (k0_pay36 rows h wu c1) k0_pay37 cb w0 w1 w2) = actV h wu wv c0 c1 cb w0 w1 w2 := rfl
theorem act5 : k0_pay47 (k0_pay41 h wu) (k0_pay42 h wv) (k0_pay43 rows h wu c1) (k0_pay44 rows h wu c0 c1) (k0_pay46 cb) w0 w1 w2 = actV h wu wv c0 c1 cb w0 w1 w2 := rfl
theorem act6 : k0_pay54 (k0_pay49 h wv) (k0_pay51 rows (k0_pay48 h wu) c0 c1 cb w0 w1 w2) (k0_pay52 rows (k0_pay48 h wu) c0 c1 cb w0 w1 w2) (k0_pay53 rows (k0_pay48 h wu) c0 c1 cb w0 w1 w2) = actV h wu wv c0 c1 cb w0 w1 w2 := rfl
theorem act7 : k0_pay61 (k0_pay55 h wu) (k0_pay56 h wv) (k0_pay57 rows h wu c1) (k0_pay58 rows h wu c0 c1) cb w0 w1 w2 = actV h wu wv c0 c1 cb w0 w1 w2 := rfl
theorem act8 : k0_pay67 (k0_pay62 h wu) (k0_pay63 h wv) (k0_pay65 rows (k0_pay62 h wu) c0 c1 cb w0 w1) (k0_pay66 w2) = actV h wu wv c0 c1 cb w0 w1 w2 := rfl
theorem act9 : k0_pay75 (k0_pay74 (k0_pay68 h wu) (k0_pay69 h wv) c0 c1 (k0_pay70 rows h wu c1) (k0_pay71 rows) (k0_pay72 rows) 2#32 cb w0 w1 w2) = actV h wu wv c0 c1 cb w0 w1 w2 := rfl
theorem act10 : k0_pay81 (k0_pay76 h wu) (k0_pay77 h wv) (k0_pay78 rows h wu c1) (k0_pay80 rows h wu c0 c1 cb w0) w1 w2 = actV h wu wv c0 c1 cb w0 w1 w2 := rfl

theorem car0 : k0_pay12 r r1 r2 wu = k0_pay16 (F := Ideal) (k0_pay14 (k0_pay7 r r1 r2) wu) := rfl
theorem car2 : k0_pay26 (k0_pay20 h wu) = k0_pay16 (F := Ideal) (k0_pay14 h wu) := rfl
theorem car3 : k0_pay30 h wu = k0_pay16 (F := Ideal) (k0_pay14 h wu) := rfl
theorem car4 : k0_pay38 (k0_pay34 h wu) = k0_pay16 (F := Ideal) (k0_pay14 h wu) := rfl
theorem car5 : k0_pay45 h wu = k0_pay16 (F := Ideal) (k0_pay14 h wu) := rfl
theorem car6 : k0_pay50 (k0_pay48 h wu) = k0_pay16 (F := Ideal) (k0_pay14 h wu) := rfl
theorem car7 : k0_pay60 (k0_pay59 h wu) = k0_pay16 (F := Ideal) (k0_pay14 h wu) := rfl
theorem car8 : k0_pay64 (k0_pay62 h wu) = k0_pay16 (F := Ideal) (k0_pay14 h wu) := rfl
theorem car9 : k0_pay73 (k0_pay68 h wu) = k0_pay16 (F := Ideal) (k0_pay14 h wu) := rfl
theorem car10 : k0_pay79 h wu = k0_pay16 (F := Ideal) (k0_pay14 h wu) := rfl
end

/-! ### What a chunk loads -/

/-- Column `c` of the up projection of row `p`. -/
def dotF (h : FVec Ideal S256x1024 .bf16) (x7 : FVec Ideal S1024x5632 .bf16) (c : Fin 5632) (p : Fin 256) : EReal :=
  ∑ k : Fin 1024, h (ix2 p k) * x7 (ix2 k c)

/-- The gated value at row `p`, column `f`, after carried rows `cr`. -/
def actG (h : FVec Ideal S256x1024 .bf16) (x7 : FVec Ideal S1024x5632 .bf16) (x8 : FVec Ideal S3x2816 .f32) (x9 : FVec Ideal S1x2816 .f32)
    (cr : Fin 2 → Fin 2816 → EReal) (p : Fin 256) (f : Fin 2816) : EReal :=
  gate (conv (x9 (ix2 0 f)) (x8 (ix2 0 f)) (x8 (ix2 1 f)) (x8 (ix2 2 f))
      (back2 (cr 0 f) (cr 1 f) (dotF h x7 ⟨f.val, by omega⟩) p) (back1 (cr 1 f) (dotF h x7 ⟨f.val, by omega⟩) p) (dotF h x7 ⟨f.val, by omega⟩ p))
    (dotF h x7 ⟨2816 + f.val, by omega⟩ p)

/-- The carried rows: the last two rows of the tile's up projection. -/
def carG (h : FVec Ideal S256x1024 .bf16) (x7 : FVec Ideal S1024x5632 .bf16) (j : Fin 2) (f : Fin 2816) : EReal :=
  dotF h x7 ⟨f.val, by omega⟩ ⟨254 + j.val, by omega⟩

/-- A block loaded from the whole buffer, at one entry. -/
theorem rd {S : Shape} {e : EltTy} (a : Memref sig .tc .vmem S e) (ha : a.IsWhole) (x : Vec Ideal S e) (off size : Fin S.rank → Nat) (inb)
    (y : (Rect.unit off size inb).shape.Idx) (i : S.Idx) (hi : ∀ d, (i d : Nat) = off d + y d) :
    View.readAt (Elt Ideal) a.view (Rect.unit off size inb).toLoadRect (ha.unread x) y = x i := by
  rw [View.readAt_eq_ld, ha.read_unread]
  exact View.ld_unit_apply_of x off size inb y i hi

section
variable (h : FVec Ideal S256x1024 .bf16) (a9 : Memref sig .tc .vmem S1024x5632 .bf16) (h9 : a9.IsWhole)
  (a10 : Memref sig .tc .vmem S3x2816 .f32) (h10 : a10.IsWhole) (a11 : Memref sig .tc .vmem S1x2816 .f32) (h11 : a11.IsWhole)
  (x7 : FVec Ideal S1024x5632 .bf16) (x8 : FVec Ideal S3x2816 .f32) (x9 : FVec Ideal S1x2816 .f32) (cr : Fin 2 → Fin 2816 → EReal)

/-- The load of 256 columns of the up projection. -/
abbrev ldW (o : Nat) (i : ∀ a, (![0, o] : Fin 2 → Nat) a + S1024x256.size a ≤ S1024x5632.size a) : FVec Ideal S1024x256 .bf16 :=
  View.readAt (Elt Ideal) a9.view (Rect.unit (s := S1024x5632) ![0, o] S1024x256.size i).toLoadRect (h9.unread x7)

theorem dotc_ld (o : Nat) (i : ∀ a, (![0, o] : Fin 2 → Nat) a + S1024x256.size a ≤ S1024x5632.size a) (p l : Fin 256) (c : Fin 5632) (hc : c.val = o + l.val) :
    dotc h (ldW a9 h9 x7 o i) p l = dotF h x7 c p := by
  unfold dotc dotF
  refine Finset.sum_congr rfl fun k _ => congrArg (h (ix2 p k) * ·) ?_
  refine rd a9 h9 x7 _ _ _ _ _ fun d => ?_
  match d with
  | ⟨0, _⟩ => show k.val = 0 + k.val; omega
  | ⟨1, _⟩ => exact hc

/-- One chunk's stored block is the block of `actG` at its columns. -/
theorem act_piece (o v : Nat) (hv : v = 2816 + o)
    (iu : ∀ a, (![0, o] : Fin 2 → Nat) a + S1024x256.size a ≤ S1024x5632.size a) (iv : ∀ a, (![0, v] : Fin 2 → Nat) a + S1024x256.size a ≤ S1024x5632.size a)
    (ib : ∀ a, (![0, o] : Fin 2 → Nat) a + S1x256.size a ≤ S1x2816.size a)
    (i0 : ∀ a, (![0, o] : Fin 2 → Nat) a + S1x256.size a ≤ S3x2816.size a) (i1 : ∀ a, (![1, o] : Fin 2 → Nat) a + S1x256.size a ≤ S3x2816.size a)
    (i2 : ∀ a, (![2, o] : Fin 2 → Nat) a + S1x256.size a ≤ S3x2816.size a)
    (ia : ∀ a, (![0, o] : Fin 2 → Nat) a + S256x256.size a ≤ S256x2816.size a)
    (c0 c1 : FVec Ideal S1x256 .f32) (h0 : ∀ (l : Fin 256) (f : Fin 2816), f.val = o + l.val → c0 (ix2 0 l) = cr 0 f)
    (h1 : ∀ (l : Fin 256) (f : Fin 2816), f.val = o + l.val → c1 (ix2 0 l) = cr 1 f)
    (x : (Rect.unit (s := S256x2816) ![0, o] S256x256.size ia).shape.Idx) :
    actV h (ldW a9 h9 x7 o iu) (ldW a9 h9 x7 v iv) c0 c1
        (View.readAt (Elt Ideal) a11.view (Rect.unit (s := S1x2816) ![0, o] S1x256.size ib).toLoadRect (h11.unread x9))
        (View.readAt (Elt Ideal) a10.view (Rect.unit (s := S3x2816) ![0, o] S1x256.size i0).toLoadRect (h10.unread x8))
        (View.readAt (Elt Ideal) a10.view (Rect.unit (s := S3x2816) ![1, o] S1x256.size i1).toLoadRect (h10.unread x8))
        (View.readAt (Elt Ideal) a10.view (Rect.unit (s := S3x2816) ![2, o] S1x256.size i2).toLoadRect (h10.unread x8)) x
      = (fun y : S256x2816.Idx => actG h x7 x8 x9 cr (y 0) (y 1)) ((Rect.unit (s := S256x2816) ![0, o] S256x256.size ia).emb x) := by
  obtain ⟨p, l, rfl⟩ : ∃ (p : Fin 256) (l : Fin 256), x = ix2 p l := ⟨x 0, x 1, by idx_vars x⟩
  have hl : o + l.val < 2816 := by have := ia 1; simp at this; omega
  have e0 : (Rect.unit (s := S256x2816) ![0, o] S256x256.size ia).emb (ix2 p l) 0 = p := Fin.ext (by
    refine (Rect.idx_unit_val _ _ _ _ _).trans ?_
    show 0 + p.val = p.val; omega)
  have e1 : (Rect.unit (s := S256x2816) ![0, o] S256x256.size ia).emb (ix2 p l) 1 = ⟨o + l.val, hl⟩ := Fin.ext (Rect.idx_unit_val _ _ _ _ _)
  dsimp only
  rw [e0, e1, actV_apply]
  unfold actG
  have eu : ∀ q, dotc h (ldW a9 h9 x7 o iu) q l = dotF h x7 ⟨o + l.val, by omega⟩ q := fun q => dotc_ld h a9 h9 x7 o iu q l _ rfl
  simp only [eu]
  rw [dotc_ld h a9 h9 x7 v iv p l ⟨2816 + (o + l.val), by omega⟩ (by show 2816 + (o + l.val) = v + l.val; omega),
    h0 l ⟨o + l.val, hl⟩ rfl, h1 l ⟨o + l.val, hl⟩ rfl,
    rd a11 h11 x9 _ _ ib (ix2 0 l) (ix2 0 ⟨o + l.val, hl⟩) (fun d => match d with | ⟨0, _⟩ => rfl | ⟨1, _⟩ => rfl),
    rd a10 h10 x8 _ _ i0 (ix2 0 l) (ix2 0 ⟨o + l.val, hl⟩) (fun d => match d with | ⟨0, _⟩ => rfl | ⟨1, _⟩ => rfl),
    rd a10 h10 x8 _ _ i1 (ix2 0 l) (ix2 1 ⟨o + l.val, hl⟩) (fun d => match d with | ⟨0, _⟩ => rfl | ⟨1, _⟩ => rfl),
    rd a10 h10 x8 _ _ i2 (ix2 0 l) (ix2 2 ⟨o + l.val, hl⟩) (fun d => match d with | ⟨0, _⟩ => rfl | ⟨1, _⟩ => rfl)]
  rfl

/-- One chunk's carried rows are the block of `carG` at its columns. -/
theorem car_piece (o : Nat) (iu : ∀ a, (![0, o] : Fin 2 → Nat) a + S1024x256.size a ≤ S1024x5632.size a)
    (ic : ∀ a, (![0, o] : Fin 2 → Nat) a + S2x256.size a ≤ S2x2816.size a) (x : (Rect.unit (s := S2x2816) ![0, o] S2x256.size ic).shape.Idx) :
    k0_pay16 (F := Ideal) (k0_pay14 h (ldW a9 h9 x7 o iu)) x
      = (fun y : S2x2816.Idx => carG h x7 (y 0) (y 1)) ((Rect.unit (s := S2x2816) ![0, o] S2x256.size ic).emb x) := by
  obtain ⟨j, l, rfl⟩ : ∃ (j : Fin 2) (l : Fin 256), x = ix2 j l := ⟨x 0, x 1, by idx_vars x⟩
  have hl : o + l.val < 2816 := by have := ic 1; simp at this; omega
  have e0 : (Rect.unit (s := S2x2816) ![0, o] S2x256.size ic).emb (ix2 j l) 0 = j := Fin.ext (by
    refine (Rect.idx_unit_val _ _ _ _ _).trans ?_
    show 0 + j.val = j.val; omega)
  have e1 : (Rect.unit (s := S2x2816) ![0, o] S2x256.size ic).emb (ix2 j l) 1 = ⟨o + l.val, hl⟩ := Fin.ext (Rect.idx_unit_val _ _ _ _ _)
  dsimp only
  rw [e0, e1]
  refine (pay16_apply _ j l).trans ((pay14_apply _ _ _ _).trans ?_)
  exact dotc_ld h a9 h9 x7 o iu _ l _ rfl

end

/-- Stores that are blocks of one array, where they cover. -/
theorem canon_of_pieces {S : Shape} {e : EltTy} (G : S.Idx → Elt Ideal e) (L L' : List (View.Piece (Elt Ideal) S e)) (h : View.PiecesOf G L) (y : S.Idx)
    (hc : ∃ p ∈ L, y ∈ p.1.set) : View.canon (L ++ L') y = G y :=
  View.canon_append_of_piecesOf G L' L h y hc

theorem canon_of_pieces' {S : Shape} {e : EltTy} (G : S.Idx → Elt Ideal e) (L : List (View.Piece (Elt Ideal) S e)) (h : View.PiecesOf G L) (y : S.Idx)
    (hc : ∃ p ∈ L, y ∈ p.1.set) : View.canon L y = G y := by
  have := canon_of_pieces G L [] h y hc
  rwa [List.append_nil] at this

/-- The index of the whole buffer's rectangle. -/
theorem whole_idx {S : Shape} (off : Fin S.rank → Nat) (inb) (h0 : ∀ d, off d = 0) (y : S.Idx) :
    (Rect.unit off S.size inb).toLoadRect.idx y = y :=
  funext fun d => Fin.ext ((Rect.idx_unit_val off S.size inb y d).trans (by rw [h0 d]; omega))

/-- A carried row loaded from a buffer filled with zeros. -/
theorem zero_ld (r o : Nat) (i : ∀ a, (![r, o] : Fin 2 → Nat) a + S1x256.size a ≤ S2x2816.size a) (y : S1x256.Idx) :
    (View.ld (Val := Elt Ideal) (S := S2x2816) (e' := .f32) (k0_pay3 (F := Ideal)) (Rect.unit (s := S2x2816) ![r, o] S1x256.size i) : Vec Ideal S1x256 .f32) y = (0 : EReal) := by
  have e : ∀ z : S2x2816.Idx, k0_pay3 (F := Ideal) z = 0 := fun z => by
    obtain ⟨a, b, rfl⟩ : ∃ (a : Fin 2) (b : Fin 2816), z = ix2 a b := ⟨z 0, z 1, by idx_vars z⟩
    pointwise [k0_pay3]
  exact e _

end Cert.FfnIdeal.RefValue

end

end
-- ==== Proof.FfnCase.lean ====
module

public import proofs.«01_k».proof.Proof.FfnChunk
public import proofs.«01_k».proof.Proof.Gen.FfnIdeal.Frame
public import Idealize.ShloMosaic.Lib.Pipeline.Value
public import Idealize.ShloMosaic.Lib.Pipeline.ReadBack
public import Idealize.ShloMosaic.Lib.Pointwise
public import Idealize.ShloMosaic.Lib.Tactic

/-!
# One tile of the feed-forward kernel

What one grid point leaves in its two outputs and in the carried rows, entry by entry: in case A (the first tile of a sequence) the
carried rows start at zero, in case B they are the rows the tile before left.
-/

@[expose] public section

set_option maxRecDepth 16384

noncomputable section

open Idealize.ShloMosaic Idealize.ShloMosaic.TcCoe Idealize.SL.Sem

namespace Cert.FfnIdeal.RefValue

open Cert.Common Cert.Ffn Cert.FfnIdeal Cert.FfnIdeal.Gen

/-- The normalised rows of a tile. -/
def hX (x0 : FVec Ideal S256x1024 .f32) (x1 x2 x3 x4 : FVec Ideal S256x256 .bf16) (x5 : FVec Ideal S1024x1024 .bf16) (x6 : FVec Ideal S1x1024 .f32) :
    FVec Ideal S256x1024 .bf16 :=
  fun y => rms (resV x0 x1 x2 x3 x4 x5 (y 0)) (fun k => x6 (ix2 0 k)) (y 1)

/-- Entry `(p, n)` of a tile's first output, after carried rows `cr`. -/
def outG (x0 : FVec Ideal S256x1024 .f32) (x1 x2 x3 x4 : FVec Ideal S256x256 .bf16) (x5 : FVec Ideal S1024x1024 .bf16) (x6 : FVec Ideal S1x1024 .f32)
    (x7 : FVec Ideal S1024x5632 .bf16) (x8 : FVec Ideal S3x2816 .f32) (x9 : FVec Ideal S1x2816 .f32) (x10 : FVec Ideal S2816x1024 .bf16)
    (x11 : FVec Ideal S1x1024 .f32) (cr : Fin 2 → Fin 2816 → EReal) (p : Fin 256) (n : Fin 1024) : EReal :=
  rms (down (resV x0 x1 x2 x3 x4 x5 p) (actG (hX x0 x1 x2 x3 x4 x5 x6) x7 x8 x9 cr p) (fun f n => x10 (ix2 f n))) (fun n => x11 (ix2 0 n)) n

theorem pay2_apply (v : FVec Ideal S2x2816 .f32) (j : Fin 2) (f : Fin 2816) : k0_pay2 v (ix3 0 j f) = v (ix2 j f) := by
  pointwise [k0_pay2]

/-- A whole buffer loaded back. -/
theorem rdw {S : Shape} {e : EltTy} (a : Memref sig .tc .vmem S e) (ha : a.IsWhole) (x : Vec Ideal S e) (off : Fin S.rank → Nat) (inb)
    (h0 : ∀ d, off d = 0) : View.readAt (Elt Ideal) a.view (Rect.unit off S.size inb).toLoadRect (ha.unread x) = x :=
  funext fun y => rd a ha x off S.size inb y y fun d => by rw [h0 d]; omega

theorem z2 : ∀ d, (![0, 0] : Fin 2 → Nat) d = 0 := fun d => match d with | ⟨0, _⟩ => rfl | ⟨1, _⟩ => rfl
theorem z3 : ∀ d, (![0, 0, 0] : Fin 3 → Nat) d = 0 := fun d => match d with | ⟨0, _⟩ => rfl | ⟨1, _⟩ => rfl | ⟨2, _⟩ => rfl

section
variable (c : Dev nD) (i : grid0.Coords) (arg2 : Memref sig .tc .vmem S256x1024 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x2x2816 .f32) (harg15 : arg15.IsWhole) (arg16 : Memref sig .tc .vmem S2x2816 .f32) (harg16 : arg16.IsWhole) (arg17 : Memref sig .tc .vmem S256x2816 .bf16) (harg17 : arg17.IsWhole) (hc0 : cond0_0 i)
  (x0 : Vec Ideal S256x1024 .f32) (x1 : Vec Ideal S256x256 .bf16) (x2 : Vec Ideal S256x256 .bf16) (x3 : Vec Ideal S256x256 .bf16) (x4 : Vec Ideal S256x256 .bf16) (x5 : Vec Ideal S1024x1024 .bf16) (x6 : Vec Ideal S1x1024 .f32) (x7 : Vec Ideal S1024x5632 .bf16) (x8 : Vec Ideal S3x2816 .f32) (x9 : Vec Ideal S1x2816 .f32) (x10 : Vec Ideal S2816x1024 .bf16) (x11 : Vec Ideal S1x1024 .f32)

theorem r_A (p : Fin 256) (n : Fin 1024) : (kernelRun0_A.sl.r (F := Ideal) c arg2 harg2 arg3 harg3 arg4 harg4 arg5 harg5 arg6 harg6 arg7 harg7 x0 x1 x2 x3 x4 x5) (ix2 p n) = resV x0 x1 x2 x3 x4 x5 p n := by
  unfold kernelRun0_A.sl.r
  rw [rdw arg3 harg3 x1 _ _ z2, rdw arg4 harg4 x2 _ _ z2, rdw arg5 harg5 x3 _ _ z2, rdw arg6 harg6 x4 _ _ z2, rdw arg2 harg2 x0 _ _ z2]
  refine (pay4_apply _ _ _ _ _ _ _ _ _ p n).trans ?_
  unfold resV res
  have e0 : ∀ k : Fin 256, View.readAt (Elt Ideal) arg7.view (Rect.unit (s := S1024x1024) ![0, 0] S256x1024.size inb_S1024x1024_S256x1024_0_0).toLoadRect (harg7.unread x5) (ix2 k n)
      = x5 (ix2 ⟨k.val, by omega⟩ n) := fun k =>
    rd arg7 harg7 x5 _ _ _ _ _ fun d => match d with
      | ⟨0, _⟩ => by show k.val = 0 + k.val; omega
      | ⟨1, _⟩ => by show n.val = 0 + n.val; omega
  have e1 : ∀ k : Fin 256, View.readAt (Elt Ideal) arg7.view (Rect.unit (s := S1024x1024) ![256, 0] S256x1024.size inb_S1024x1024_S256x1024_256_0).toLoadRect (harg7.unread x5) (ix2 k n)
      = x5 (ix2 ⟨256 + k.val, by omega⟩ n) := fun k =>
    rd arg7 harg7 x5 _ _ _ _ _ fun d => match d with
      | ⟨0, _⟩ => by show 256 + k.val = 256 + k.val; omega
      | ⟨1, _⟩ => by show n.val = 0 + n.val; omega
  have e2 : ∀ k : Fin 256, View.readAt (Elt Ideal) arg7.view (Rect.unit (s := S1024x1024) ![512, 0] S256x1024.size inb_S1024x1024_S256x1024_512_0).toLoadRect (harg7.unread x5) (ix2 k n)
      = x5 (ix2 ⟨512 + k.val, by omega⟩ n) := fun k =>
    rd arg7 harg7 x5 _ _ _ _ _ fun d => match d with
      | ⟨0, _⟩ => by show 512 + k.val = 512 + k.val; omega
      | ⟨1, _⟩ => by show n.val = 0 + n.val; omega
  have e3 : ∀ k : Fin 256, View.readAt (Elt Ideal) arg7.view (Rect.unit (s := S1024x1024) ![768, 0] S256x1024.size inb_S1024x1024_S256x1024_768_0).toLoadRect (harg7.unread x5) (ix2 k n)
      = x5 (ix2 ⟨768 + k.val, by omega⟩ n) := fun k =>
    rd arg7 harg7 x5 _ _ _ _ _ fun d => match d with
      | ⟨0, _⟩ => by show 768 + k.val = 768 + k.val; omega
      | ⟨1, _⟩ => by show n.val = 0 + n.val; omega
  simp only [e0, e1, e2, e3]

theorem r3_A : (kernelRun0_A.sl.r_3 (F := Ideal) c arg2 harg2 arg3 harg3 arg4 harg4 arg5 harg5 arg6 harg6 arg7 harg7 arg8 harg8 x0 x1 x2 x3 x4 x5 x6) = hX x0 x1 x2 x3 x4 x5 x6 := by
  funext y
  obtain ⟨p, k, rfl⟩ : ∃ (p : Fin 256) (k : Fin 1024), y = ix2 p k := ⟨y 0, y 1, by idx_vars y⟩
  refine (pay7_apply _ _ _ _ _ _ _ _ _ _ p k).trans ?_
  exact congrFun (congrArg₂ rms (funext fun n => r_A c arg2 harg2 arg3 harg3 arg4 harg4 arg5 harg5 arg6 harg6 arg7 harg7 x0 x1 x2 x3 x4 x5 p n)
    (funext fun n => congrFun (rdw arg8 harg8 x6 _ _ z2) (ix2 0 n))) k

theorem zero_0_0 (l : Fin 256) : kernelRun0_A.sl.v46 (F := Ideal) c arg16 (ix2 0 l) = (0 : EReal) := by
  unfold kernelRun0_A.sl.v46 kernelRun0_A.sl.HS0_1
  rw [View.readCov_fill _ _ _ _ _ z2]
  exact zero_ld 0 0 _ _

theorem zero_0_1 (l : Fin 256) : kernelRun0_A.sl.v47 (F := Ideal) c arg16 (ix2 0 l) = (0 : EReal) := by
  unfold kernelRun0_A.sl.v47 kernelRun0_A.sl.HS0_1
  rw [View.readCov_fill _ _ _ _ _ z2]
  exact zero_ld 1 0 _ _

theorem zero_1_0 (l : Fin 256) : kernelRun0_A.sl.v108 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v108 kernelRun0_A.sl.HS0_2 kernelRun0_A.sl.HS0_1
  rw [View.readCov_skip _ _ _ _ _ (by decide), View.readCov_fill _ _ _ _ _ z2]
  exact zero_ld 0 256 _ _

theorem zero_1_1 (l : Fin 256) : kernelRun0_A.sl.v109 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v109 kernelRun0_A.sl.HS0_2 kernelRun0_A.sl.HS0_1
  rw [View.readCov_skip _ _ _ _ _ (by decide), View.readCov_fill _ _ _ _ _ z2]
  exact zero_ld 1 256 _ _

theorem zero_2_0 (l : Fin 256) : kernelRun0_A.sl.v170 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v170 kernelRun0_A.sl.HS0_3 kernelRun0_A.sl.HS0_2 kernelRun0_A.sl.HS0_1
  rw [View.readCov_skip _ _ _ _ _ (by decide), View.readCov_skip _ _ _ _ _ (by decide), View.readCov_fill _ _ _ _ _ z2]
  exact zero_ld 0 512 _ _

theorem zero_2_1 (l : Fin 256) : kernelRun0_A.sl.v171 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v171 kernelRun0_A.sl.HS0_3 kernelRun0_A.sl.HS0_2 kernelRun0_A.sl.HS0_1
  rw [View.readCov_skip _ _ _ _ _ (by decide), View.readCov_skip _ _ _ _ _ (by decide), View.readCov_fill _ _ _ _ _ z2]
  exact zero_ld 1 512 _ _

theorem zero_3_0 (l : Fin 256) : kernelRun0_A.sl.v232 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v232 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_fill _ _ _ _ _ z2]
  exact zero_ld 0 768 _ _

theorem zero_3_1 (l : Fin 256) : kernelRun0_A.sl.v233 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v233 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_fill _ _ _ _ _ z2]
  exact zero_ld 1 768 _ _

theorem zero_4_0 (l : Fin 256) : kernelRun0_A.sl.v294 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v294 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_fill _ _ _ _ _ z2]
  exact zero_ld 0 1024 _ _

theorem zero_4_1 (l : Fin 256) : kernelRun0_A.sl.v295 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v295 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_fill _ _ _ _ _ z2]
  exact zero_ld 1 1024 _ _

theorem zero_5_0 (l : Fin 256) : kernelRun0_A.sl.v356 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v356 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 0 1280 _ _

theorem zero_5_1 (l : Fin 256) : kernelRun0_A.sl.v357 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v357 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 1 1280 _ _

theorem zero_6_0 (l : Fin 256) : kernelRun0_A.sl.v418 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v418 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 0 1536 _ _

theorem zero_6_1 (l : Fin 256) : kernelRun0_A.sl.v419 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v419 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 1 1536 _ _

theorem zero_7_0 (l : Fin 256) : kernelRun0_A.sl.v480 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v480 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 0 1792 _ _

theorem zero_7_1 (l : Fin 256) : kernelRun0_A.sl.v481 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v481 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 1 1792 _ _

theorem zero_8_0 (l : Fin 256) : kernelRun0_A.sl.v542 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v542 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 0 2048 _ _

theorem zero_8_1 (l : Fin 256) : kernelRun0_A.sl.v543 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v543 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 1 2048 _ _

theorem zero_9_0 (l : Fin 256) : kernelRun0_A.sl.v604 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v604 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 0 2304 _ _

theorem zero_9_1 (l : Fin 256) : kernelRun0_A.sl.v605 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v605 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 1 2304 _ _

theorem zero_10_0 (l : Fin 256) : kernelRun0_A.sl.v666 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v666 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 0 2560 _ _

theorem zero_10_1 (l : Fin 256) : kernelRun0_A.sl.v667 (F := Ideal) c arg2 harg2 arg3 harg3 arg4 harg4 arg5 harg5 arg6 harg6 arg7 harg7 arg8 harg8 arg9 harg9 arg16 x0 x1 x2 x3 x4 x5 x6 x7 (ix2 0 l) = (0 : EReal) := by
  unfold kernelRun0_A.sl.v667 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ z2]
  exact zero_ld 1 2560 _ _

theorem act_A (p : Fin 256) (f : Fin 2816) : (kernelRun0_A.sl.v722 (F := Ideal) c arg2 harg2 arg3 harg3 arg4 harg4 arg5 harg5 arg6 harg6 arg7 harg7 arg8 harg8 arg9 harg9 arg10 harg10 arg11 harg11 arg16 arg17 x0 x1 x2 x3 x4 x5 x6 x7 x8 x9) (ix2 p f) = actG (hX x0 x1 x2 x3 x4 x5 x6) x7 x8 x9 (fun _ _ => 0) p f := by
  have P : View.PiecesOf (fun y : S256x2816.Idx => actG (hX x0 x1 x2 x3 x4 x5 x6) x7 x8 x9 (fun _ _ => 0) (y 0) (y 1)) (kernelRun0_A.sl.HS1_11 (F := Ideal) c arg2 harg2 arg3 harg3 arg4 harg4 arg5 harg5 arg6 harg6 arg7 harg7 arg8 harg8 arg9 harg9 arg10 harg10 arg11 harg11 arg16 x0 x1 x2 x3 x4 x5 x6 x7 x8 x9) := by
    rw [← r3_A c arg2 harg2 arg3 harg3 arg4 harg4 arg5 harg5 arg6 harg6 arg7 harg7 arg8 harg8 x0 x1 x2 x3 x4 x5 x6]
    exact ⟨
      fun x => (congrFun (act10 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 2560 5376 rfl inb_S1024x5632_S1024x256_0_2560 inb_S1024x5632_S1024x256_0_5376 inb_S1x2816_S1x256_0_2560 inb_S3x2816_S1x256_0_2560 inb_S3x2816_S1x256_1_2560 inb_S3x2816_S1x256_2_2560 inb_S256x2816_S256x256_0_2560 _ _ (fun l _ _ => zero_10_0 c arg2 harg2 arg3 harg3 arg4 harg4 arg5 harg5 arg6 harg6 arg7 harg7 arg8 harg8 arg9 harg9 arg16 x0 x1 x2 x3 x4 x5 x6 x7 l) (fun l _ _ => zero_10_1 c arg2 harg2 arg3 harg3 arg4 harg4 arg5 harg5 arg6 harg6 arg7 harg7 arg8 harg8 arg9 harg9 arg16 x0 x1 x2 x3 x4 x5 x6 x7 l) x),
      fun x => (congrFun (act9 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 2304 5120 rfl inb_S1024x5632_S1024x256_0_2304 inb_S1024x5632_S1024x256_0_5120 inb_S1x2816_S1x256_0_2304 inb_S3x2816_S1x256_0_2304 inb_S3x2816_S1x256_1_2304 inb_S3x2816_S1x256_2_2304 inb_S256x2816_S256x256_0_2304 _ _ (fun l _ _ => zero_9_0 c arg2 harg2 arg3 harg3 arg4 harg4 arg5 harg5 arg6 harg6 arg7 harg7 arg8 harg8 arg9 harg9 arg16 x0 x1 x2 x3 x4 x5 x6 x7 l) (fun l _ _ => zero_9_1 c arg2 harg2 arg3 harg3 arg4 harg4 arg5 harg5 arg6 harg6 arg7 harg7 arg8 harg8 arg9 harg9 arg16 x0 x1 x2 x3 x4 x5 x6 x7 l) x),
      fun x => (congrFun (act8 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 2048 4864 rfl inb_S1024x5632_S1024x256_0_2048 inb_S1024x5632_S1024x256_0_4864 inb_S1x2816_S1x256_0_2048 inb_S3x2816_S1x256_0_2048 inb_S3x2816_S1x256_1_2048 inb_S3x2816_S1x256_2_2048 inb_S256x2816_S256x256_0_2048 _ _ (fun l _ _ => zero_8_0 c arg2 harg2 arg3 harg3 arg4 harg4 arg5 harg5 arg6 harg6 arg7 harg7 arg8 harg8 arg9 harg9 arg16 x0 x1 x2 x3 x4 x5 x6 x7 l) (fun l _ _ => zero_8_1 c arg2 harg2 arg3 harg3 arg4 harg4 arg5 harg5 arg6 harg6 arg7 harg7 arg8 harg8 arg9 harg9 arg16 x0 x1 x2 x3 x4 x5 x6 x7 l) x),
      fun x => (congrFun (act7 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 1792 4608 rfl inb_S1024x5632_S1024x256_0_1792 inb_S1024x5632_S1024x256_0_4608 inb_S1x2816_S1x256_0_1792 inb_S3x2816_S1x256_0_1792 inb_S3x2816_S1x256_1_1792 inb_S3x2816_S1x256_2_1792 inb_S256x2816_S256x256_0_1792 _ _ (fun l _ _ => zero_7_0 c arg2 harg2 arg3 harg3 arg4 harg4 arg5 harg5 arg6 harg6 arg7 harg7 arg8 harg8 arg9 harg9 arg16 x0 x1 x2 x3 x4 x5 x6 x7 l) (fun l _ _ => zero_7_1 c arg2 harg2 arg3 harg3 arg4 harg4 arg5 harg5 arg6 harg6 arg7 harg7 arg8 harg8 arg9 harg9 arg16 x0 x1 x2 x3 x4 x5 x6 x7 l) x),
      fun x => (congrFun (act6 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 1536 4352 rfl inb_S1024x5632_S1024x256_0_1536 inb_S1024x5632_S1024x256_0_4352 inb_S1x2816_S1x256_0_1536 inb_S3x2816_S1x256_0_1536 inb_S3x2816_S1x256_1_1536 inb_S3x2816_S1x256_2_1536 inb_S256x2816_S256x256_0_1536 _ _ (fun l _ _ => zero_6_0 c arg2 harg2 arg3 harg3 arg4 harg4 arg5 harg5 arg6 harg6 arg7 harg7 arg8 harg8 arg9 harg9 arg16 x0 x1 x2 x3 x4 x5 x6 x7 l) (fun l _ _ => zero_6_1 c arg2 harg2 arg3 harg3 arg4 harg4 arg5 harg5 arg6 harg6 arg7 harg7 arg8 harg8 arg9 harg9 arg16 x0 x1 x2 x3 x4 x5 x6 x7 l) x),
      fun x => (congrFun (act5 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 1280 4096 rfl inb_S1024x5632_S1024x256_0_1280 inb_S1024x5632_S1024x256_0_4096 inb_S1x2816_S1x256_0_1280 inb_S3x2816_S1x256_0_1280 inb_S3x2816_S1x256_1_1280 inb_S3x2816_S1x256_2_1280 inb_S256x2816_S256x256_0_1280 _ _ (fun l _ _ => zero_5_0 c arg2 harg2 arg3 harg3 arg4 harg4 arg5 harg5 arg6 harg6 arg7 harg7 arg8 harg8 arg9 harg9 arg16 x0 x1 x2 x3 x4 x5 x6 x7 l) (fun l _ _ => zero_5_1 c arg2 harg2 arg3 harg3 arg4 harg4 arg5 harg5 arg6 harg6 arg7 harg7 arg8 harg8 arg9 harg9 arg16 x0 x1 x2 x3 x4 x5 x6 x7 l) x),
      fun x => (congrFun (act4 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 1024 3840 rfl inb_S1024x5632_S1024x256_0_1024 inb_S1024x5632_S1024x256_0_3840 inb_S1x2816_S1x256_0_1024 inb_S3x2816_S1x256_0_1024 inb_S3x2816_S1x256_1_1024 inb_S3x2816_S1x256_2_1024 inb_S256x2816_S256x256_0_1024 _ _ (fun l _ _ => zero_4_0 c arg2 harg2 arg3 harg3 arg4 harg4 arg5 harg5 arg6 harg6 arg7 harg7 arg8 harg8 arg9 harg9 arg16 x0 x1 x2 x3 x4 x5 x6 x7 l) (fun l _ _ => zero_4_1 c arg2 harg2 arg3 harg3 arg4 harg4 arg5 harg5 arg6 harg6 arg7 harg7 arg8 harg8 arg9 harg9 arg16 x0 x1 x2 x3 x4 x5 x6 x7 l) x),
      fun x => (congrFun (act3 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 768 3584 rfl inb_S1024x5632_S1024x256_0_768 inb_S1024x5632_S1024x256_0_3584 inb_S1x2816_S1x256_0_768 inb_S3x2816_S1x256_0_768 inb_S3x2816_S1x256_1_768 inb_S3x2816_S1x256_2_768 inb_S256x2816_S256x256_0_768 _ _ (fun l _ _ => zero_3_0 c arg2 harg2 arg3 harg3 arg4 harg4 arg5 harg5 arg6 harg6 arg7 harg7 arg8 harg8 arg9 harg9 arg16 x0 x1 x2 x3 x4 x5 x6 x7 l) (fun l _ _ => zero_3_1 c arg2 harg2 arg3 harg3 arg4 harg4 arg5 harg5 arg6 harg6 arg7 harg7 arg8 harg8 arg9 harg9 arg16 x0 x1 x2 x3 x4 x5 x6 x7 l) x),
      fun x => (congrFun (act2 _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 512 3328 rfl inb_S1024x5632_S1024x256_0_512 inb_S1024x5632_S1024x256_0_3328 inb_S1x2816_S1x256_0_512 inb_S3x2816_S1x256_0_512 inb_S3x2816_S1x256_1_512 inb_S3x2816_S1x256_2_512 inb_S256x2816_S256x256_0_512 _ _ (fun l _ _ => zero_2_0 c arg2 harg2 arg3 harg3 arg4 harg4 arg5 harg5 arg6 harg6 arg7 harg7 arg8 harg8 arg9 harg9 arg16 x0 x1 x2 x3 x4 x5 x6 x7 l) (fun l _ _ => zero_2_1 c arg2 harg2 arg3 harg3 arg4 harg4 arg5 harg5 arg6 harg6 arg7 harg7 arg8 harg8 arg9 harg9 arg16 x0 x1 x2 x3 x4 x5 x6 x7 l) x),
      fun x => act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 256 3072 rfl inb_S1024x5632_S1024x256_0_256 inb_S1024x5632_S1024x256_0_3072 inb_S1x2816_S1x256_0_256 inb_S3x2816_S1x256_0_256 inb_S3x2816_S1x256_1_256 inb_S3x2816_S1x256_2_256 inb_S256x2816_S256x256_0_256 _ _ (fun l _ _ => zero_1_0 c arg2 harg2 arg3 harg3 arg4 harg4 arg5 harg5 arg6 harg6 arg7 harg7 arg8 harg8 arg9 harg9 arg16 x0 x1 x2 x3 x4 x5 x6 x7 l) (fun l _ _ => zero_1_1 c arg2 harg2 arg3 harg3 arg4 harg4 arg5 harg5 arg6 harg6 arg7 harg7 arg8 harg8 arg9 harg9 arg16 x0 x1 x2 x3 x4 x5 x6 x7 l) x,
      fun x => (congrFun (act0 _ _ _ _ _ _ _ _ _ _ _) x).trans (act_piece (kernelRun0_A.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun _ _ => 0) 0 2816 rfl inb_S1024x5632_S1024x256_0_0 inb_S1024x5632_S1024x256_0_2816 inb_S1x2816_S1x256_0_0 inb_S3x2816_S1x256_0_0 inb_S3x2816_S1x256_1_0 inb_S3x2816_S1x256_2_0 inb_S256x2816_S256x256_0_0 _ _ (fun l _ _ => zero_0_0 c arg16 l) (fun l _ _ => zero_0_1 c arg16 l) x),
      trivial⟩
  unfold kernelRun0_A.sl.v722
  rw [View.readCov_eq_canon']
  refine (congrArg (View.canon _) (whole_idx (S := S256x2816) _ _ z2 (ix2 p f))).trans ?_
  exact canon_of_pieces' _ _ P _ (View.cover_of_tiledL (kernelRun0_A.sl.HS1_11 (F := Ideal) c arg2 harg2 arg3 harg3 arg4 harg4 arg5 harg5 arg6 harg6 arg7 harg7 arg8 harg8 arg9 harg9 arg10 harg10 arg11 harg11 arg16 x0 x1 x2 x3 x4 x5 x6 x7 x8 x9) S256x256.size (by sl_kernel_rfl) _)

theorem car_pieces : View.PiecesOf (fun y : S2x2816.Idx => carG (hX x0 x1 x2 x3 x4 x5 x6) x7 (y 0) (y 1)) (kernelRun0_B.sl.HS0_11 (F := Ideal) c arg2 harg2 arg3 harg3 arg4 harg4 arg5 harg5 arg6 harg6 arg7 harg7 arg8 harg8 arg9 harg9 x0 x1 x2 x3 x4 x5 x6 x7) := by
    rw [← r3_A c arg2 harg2 arg3 harg3 arg4 harg4 arg5 harg5 arg6 harg6 arg7 harg7 arg8 harg8 x0 x1 x2 x3 x4 x5 x6]
    exact ⟨
      fun x => (congrFun (car10 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 2560 inb_S1024x5632_S1024x256_0_2560 inb_S2x2816_S2x256_0_2560 x),
      fun x => (congrFun (car9 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 2304 inb_S1024x5632_S1024x256_0_2304 inb_S2x2816_S2x256_0_2304 x),
      fun x => (congrFun (car8 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 2048 inb_S1024x5632_S1024x256_0_2048 inb_S2x2816_S2x256_0_2048 x),
      fun x => (congrFun (car7 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 1792 inb_S1024x5632_S1024x256_0_1792 inb_S2x2816_S2x256_0_1792 x),
      fun x => (congrFun (car6 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 1536 inb_S1024x5632_S1024x256_0_1536 inb_S2x2816_S2x256_0_1536 x),
      fun x => (congrFun (car5 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 1280 inb_S1024x5632_S1024x256_0_1280 inb_S2x2816_S2x256_0_1280 x),
      fun x => (congrFun (car4 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 1024 inb_S1024x5632_S1024x256_0_1024 inb_S2x2816_S2x256_0_1024 x),
      fun x => (congrFun (car3 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 768 inb_S1024x5632_S1024x256_0_768 inb_S2x2816_S2x256_0_768 x),
      fun x => (congrFun (car2 _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 512 inb_S1024x5632_S1024x256_0_512 inb_S2x2816_S2x256_0_512 x),
      fun x => car_piece (kernelRun0_A.sl.r_3 (F := Ideal) c arg2 harg2 arg3 harg3 arg4 harg4 arg5 harg5 arg6 harg6 arg7 harg7 arg8 harg8 x0 x1 x2 x3 x4 x5 x6) arg9 harg9 x7 256 inb_S1024x5632_S1024x256_0_256 inb_S2x2816_S2x256_0_256 x,
      fun x => (congrFun (car0 _ _ _ _) x).trans (car_piece (kernelRun0_A.sl.r_3 (F := Ideal) c arg2 harg2 arg3 harg3 arg4 harg4 arg5 harg5 arg6 harg6 arg7 harg7 arg8 harg8 x0 x1 x2 x3 x4 x5 x6) arg9 harg9 x7 0 inb_S1024x5632_S1024x256_0_0 inb_S2x2816_S2x256_0_0 x),
      trivial⟩

theorem carry_A (y : S2x2816.Idx) : View.canon (kernelRun0_A.sl.HS0_12 (F := Ideal) c arg2 harg2 arg3 harg3 arg4 harg4 arg5 harg5 arg6 harg6 arg7 harg7 arg8 harg8 arg9 harg9 x0 x1 x2 x3 x4 x5 x6 x7) y = carG (hX x0 x1 x2 x3 x4 x5 x6) x7 (y 0) (y 1) := by
  exact canon_of_pieces _ (kernelRun0_B.sl.HS0_11 (F := Ideal) c arg2 harg2 arg3 harg3 arg4 harg4 arg5 harg5 arg6 harg6 arg7 harg7 arg8 harg8 arg9 harg9 x0 x1 x2 x3 x4 x5 x6 x7) kernelRun0_A.sl.HS0_1 (car_pieces c arg2 harg2 arg3 harg3 arg4 harg4 arg5 harg5 arg6 harg6 arg7 harg7 arg8 harg8 arg9 harg9 x0 x1 x2 x3 x4 x5 x6 x7) y (View.cover_of_tiledL (kernelRun0_B.sl.HS0_11 (F := Ideal) c arg2 harg2 arg3 harg3 arg4 harg4 arg5 harg5 arg6 harg6 arg7 harg7 arg8 harg8 arg9 harg9 x0 x1 x2 x3 x4 x5 x6 x7) S2x256.size (by sl_kernel_rfl) y)

theorem carw_A (j : Fin 2) (f : Fin 2816) : (kernelRun0_A.sl.v742 (F := Ideal) c arg2 harg2 arg3 harg3 arg4 harg4 arg5 harg5 arg6 harg6 arg7 harg7 arg8 harg8 arg9 harg9 arg16 x0 x1 x2 x3 x4 x5 x6 x7) (ix2 j f) = carG (hX x0 x1 x2 x3 x4 x5 x6) x7 j f := by
  unfold kernelRun0_A.sl.v742
  rw [View.readCov_eq_canon']
  refine (congrArg (View.canon _) (whole_idx (S := S2x2816) _ _ z2 (ix2 j f))).trans ?_
  exact carry_A c arg2 harg2 arg3 harg3 arg4 harg4 arg5 harg5 arg6 harg6 arg7 harg7 arg8 harg8 arg9 harg9 x0 x1 x2 x3 x4 x5 x6 x7 (ix2 j f)

theorem out12_A (p : Fin 256) (n : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 p n) = outG x0 x1 x2 x3 x4 x5 x6 x7 x8 x9 x10 x11 (fun _ _ => 0) p n := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  rw [View.canon_cons_unit_zero (S := S256x1024) (funext z2)]
  refine (pay1_apply _ _ _ _ p n).trans ?_
  unfold outG
  rw [rdw arg12 harg12 x10 _ _ z2, rdw arg13 harg13 x11 _ _ z2]
  exact congrFun (congrArg₂ rms (congrFun (congrArg₂ down (funext fun n => r_A c arg2 harg2 arg3 harg3 arg4 harg4 arg5 harg5 arg6 harg6 arg7 harg7 x0 x1 x2 x3 x4 x5 p n) (funext fun f => act_A c arg2 harg2 arg3 harg3 arg4 harg4 arg5 harg5 arg6 harg6 arg7 harg7 arg8 harg8 arg9 harg9 arg10 harg10 arg11 harg11 arg16 arg17 x0 x1 x2 x3 x4 x5 x6 x7 x8 x9 p f)) _) rfl) n

theorem out13_A (j : Fin 2) (f : Fin 2816) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix3 0 j f) = carG (hX x0 x1 x2 x3 x4 x5 x6) x7 j f := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  rw [View.canon_cons_unit_zero (S := S1x2x2816) (funext z3)]
  exact (pay2_apply _ j f).trans (carw_A c arg2 harg2 arg3 harg3 arg4 harg4 arg5 harg5 arg6 harg6 arg7 harg7 arg8 harg8 arg9 harg9 arg16 x0 x1 x2 x3 x4 x5 x6 x7 j f)

theorem sout_A (j : Fin 2) (f : Fin 2816) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 j f) = carG (hX x0 x1 x2 x3 x4 x5 x6) x7 j f := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  exact carry_A c arg2 harg2 arg3 harg3 arg4 harg4 arg5 harg5 arg6 harg6 arg7 harg7 arg8 harg8 arg9 harg9 x0 x1 x2 x3 x4 x5 x6 x7 (ix2 j f)

end

section
variable (c : Dev nD) (i : grid0.Coords) (arg2 : Memref sig .tc .vmem S256x1024 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S1x2x2816 .f32) (harg15 : arg15.IsWhole) (arg16 : Memref sig .tc .vmem S2x2816 .f32) (harg16 : arg16.IsWhole) (arg17 : Memref sig .tc .vmem S256x2816 .bf16) (harg17 : arg17.IsWhole) (hc0 : ¬cond0_0 i)
  (x0 : Vec Ideal S256x1024 .f32) (x1 : Vec Ideal S256x256 .bf16) (x2 : Vec Ideal S256x256 .bf16) (x3 : Vec Ideal S256x256 .bf16) (x4 : Vec Ideal S256x256 .bf16) (x5 : Vec Ideal S1024x1024 .bf16) (x6 : Vec Ideal S1x1024 .f32) (x7 : Vec Ideal S1024x5632 .bf16) (x8 : Vec Ideal S3x2816 .f32) (x9 : Vec Ideal S1x2816 .f32) (x10 : Vec Ideal S2816x1024 .bf16) (x11 : Vec Ideal S1x1024 .f32) (xs0 : Vec Ideal S2x2816 .f32)

theorem r_B (p : Fin 256) (n : Fin 1024) : (kernelRun0_B.sl.r (F := Ideal) c arg2 harg2 arg3 harg3 arg4 harg4 arg5 harg5 arg6 harg6 arg7 harg7 x0 x1 x2 x3 x4 x5) (ix2 p n) = resV x0 x1 x2 x3 x4 x5 p n := by
  unfold kernelRun0_B.sl.r
  rw [rdw arg3 harg3 x1 _ _ z2, rdw arg4 harg4 x2 _ _ z2, rdw arg5 harg5 x3 _ _ z2, rdw arg6 harg6 x4 _ _ z2, rdw arg2 harg2 x0 _ _ z2]
  refine (pay4_apply _ _ _ _ _ _ _ _ _ p n).trans ?_
  unfold resV res
  have e0 : ∀ k : Fin 256, View.readAt (Elt Ideal) arg7.view (Rect.unit (s := S1024x1024) ![0, 0] S256x1024.size inb_S1024x1024_S256x1024_0_0).toLoadRect (harg7.unread x5) (ix2 k n)
      = x5 (ix2 ⟨k.val, by omega⟩ n) := fun k =>
    rd arg7 harg7 x5 _ _ _ _ _ fun d => match d with
      | ⟨0, _⟩ => by show k.val = 0 + k.val; omega
      | ⟨1, _⟩ => by show n.val = 0 + n.val; omega
  have e1 : ∀ k : Fin 256, View.readAt (Elt Ideal) arg7.view (Rect.unit (s := S1024x1024) ![256, 0] S256x1024.size inb_S1024x1024_S256x1024_256_0).toLoadRect (harg7.unread x5) (ix2 k n)
      = x5 (ix2 ⟨256 + k.val, by omega⟩ n) := fun k =>
    rd arg7 harg7 x5 _ _ _ _ _ fun d => match d with
      | ⟨0, _⟩ => by show 256 + k.val = 256 + k.val; omega
      | ⟨1, _⟩ => by show n.val = 0 + n.val; omega
  have e2 : ∀ k : Fin 256, View.readAt (Elt Ideal) arg7.view (Rect.unit (s := S1024x1024) ![512, 0] S256x1024.size inb_S1024x1024_S256x1024_512_0).toLoadRect (harg7.unread x5) (ix2 k n)
      = x5 (ix2 ⟨512 + k.val, by omega⟩ n) := fun k =>
    rd arg7 harg7 x5 _ _ _ _ _ fun d => match d with
      | ⟨0, _⟩ => by show 512 + k.val = 512 + k.val; omega
      | ⟨1, _⟩ => by show n.val = 0 + n.val; omega
  have e3 : ∀ k : Fin 256, View.readAt (Elt Ideal) arg7.view (Rect.unit (s := S1024x1024) ![768, 0] S256x1024.size inb_S1024x1024_S256x1024_768_0).toLoadRect (harg7.unread x5) (ix2 k n)
      = x5 (ix2 ⟨768 + k.val, by omega⟩ n) := fun k =>
    rd arg7 harg7 x5 _ _ _ _ _ fun d => match d with
      | ⟨0, _⟩ => by show 768 + k.val = 768 + k.val; omega
      | ⟨1, _⟩ => by show n.val = 0 + n.val; omega
  simp only [e0, e1, e2, e3]

theorem r3_B : (kernelRun0_B.sl.r_3 (F := Ideal) c arg2 harg2 arg3 harg3 arg4 harg4 arg5 harg5 arg6 harg6 arg7 harg7 arg8 harg8 x0 x1 x2 x3 x4 x5 x6) = hX x0 x1 x2 x3 x4 x5 x6 := by
  funext y
  obtain ⟨p, k, rfl⟩ : ∃ (p : Fin 256) (k : Fin 1024), y = ix2 p k := ⟨y 0, y 1, by idx_vars y⟩
  refine (pay7_apply _ _ _ _ _ _ _ _ _ _ p k).trans ?_
  exact congrFun (congrArg₂ rms (funext fun n => r_B c arg2 harg2 arg3 harg3 arg4 harg4 arg5 harg5 arg6 harg6 arg7 harg7 x0 x1 x2 x3 x4 x5 p n)
    (funext fun n => congrFun (rdw arg8 harg8 x6 _ _ z2) (ix2 0 n))) k

theorem act_B (p : Fin 256) (f : Fin 2816) : (kernelRun0_B.sl.v722 (F := Ideal) c arg2 harg2 arg3 harg3 arg4 harg4 arg5 harg5 arg6 harg6 arg7 harg7 arg8 harg8 arg9 harg9 arg10 harg10 arg11 harg11 arg16 harg16 arg17 x0 x1 x2 x3 x4 x5 x6 x7 x8 x9 xs0) (ix2 p f) = actG (hX x0 x1 x2 x3 x4 x5 x6) x7 x8 x9 (fun j f => xs0 (ix2 j f)) p f := by
  have P : View.PiecesOf (fun y : S256x2816.Idx => actG (hX x0 x1 x2 x3 x4 x5 x6) x7 x8 x9 (fun j f => xs0 (ix2 j f)) (y 0) (y 1)) (kernelRun0_B.sl.HS1_11 (F := Ideal) c arg2 harg2 arg3 harg3 arg4 harg4 arg5 harg5 arg6 harg6 arg7 harg7 arg8 harg8 arg9 harg9 arg10 harg10 arg11 harg11 arg16 harg16 x0 x1 x2 x3 x4 x5 x6 x7 x8 x9 xs0) := by
    rw [← r3_B c arg2 harg2 arg3 harg3 arg4 harg4 arg5 harg5 arg6 harg6 arg7 harg7 arg8 harg8 x0 x1 x2 x3 x4 x5 x6]
    exact ⟨
      fun x => (congrFun (act10 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 2560 5376 rfl inb_S1024x5632_S1024x256_0_2560 inb_S1024x5632_S1024x256_0_5376 inb_S1x2816_S1x256_0_2560 inb_S3x2816_S1x256_0_2560 inb_S3x2816_S1x256_1_2560 inb_S3x2816_S1x256_2_2560 inb_S256x2816_S256x256_0_2560 _ _ (fun l f e => rd arg16 harg16 xs0 _ _ inb_S2x2816_S1x256_0_2560 (ix2 0 l) (ix2 0 f) (fun d => match d with | ⟨0, _⟩ => rfl | ⟨1, _⟩ => e)) (fun l f e => rd arg16 harg16 xs0 _ _ inb_S2x2816_S1x256_1_2560 (ix2 0 l) (ix2 1 f) (fun d => match d with | ⟨0, _⟩ => rfl | ⟨1, _⟩ => e)) x),
      fun x => (congrFun (act9 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 2304 5120 rfl inb_S1024x5632_S1024x256_0_2304 inb_S1024x5632_S1024x256_0_5120 inb_S1x2816_S1x256_0_2304 inb_S3x2816_S1x256_0_2304 inb_S3x2816_S1x256_1_2304 inb_S3x2816_S1x256_2_2304 inb_S256x2816_S256x256_0_2304 _ _ (fun l f e => rd arg16 harg16 xs0 _ _ inb_S2x2816_S1x256_0_2304 (ix2 0 l) (ix2 0 f) (fun d => match d with | ⟨0, _⟩ => rfl | ⟨1, _⟩ => e)) (fun l f e => rd arg16 harg16 xs0 _ _ inb_S2x2816_S1x256_1_2304 (ix2 0 l) (ix2 1 f) (fun d => match d with | ⟨0, _⟩ => rfl | ⟨1, _⟩ => e)) x),
      fun x => (congrFun (act8 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 2048 4864 rfl inb_S1024x5632_S1024x256_0_2048 inb_S1024x5632_S1024x256_0_4864 inb_S1x2816_S1x256_0_2048 inb_S3x2816_S1x256_0_2048 inb_S3x2816_S1x256_1_2048 inb_S3x2816_S1x256_2_2048 inb_S256x2816_S256x256_0_2048 _ _ (fun l f e => rd arg16 harg16 xs0 _ _ inb_S2x2816_S1x256_0_2048 (ix2 0 l) (ix2 0 f) (fun d => match d with | ⟨0, _⟩ => rfl | ⟨1, _⟩ => e)) (fun l f e => rd arg16 harg16 xs0 _ _ inb_S2x2816_S1x256_1_2048 (ix2 0 l) (ix2 1 f) (fun d => match d with | ⟨0, _⟩ => rfl | ⟨1, _⟩ => e)) x),
      fun x => (congrFun (act7 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 1792 4608 rfl inb_S1024x5632_S1024x256_0_1792 inb_S1024x5632_S1024x256_0_4608 inb_S1x2816_S1x256_0_1792 inb_S3x2816_S1x256_0_1792 inb_S3x2816_S1x256_1_1792 inb_S3x2816_S1x256_2_1792 inb_S256x2816_S256x256_0_1792 _ _ (fun l f e => rd arg16 harg16 xs0 _ _ inb_S2x2816_S1x256_0_1792 (ix2 0 l) (ix2 0 f) (fun d => match d with | ⟨0, _⟩ => rfl | ⟨1, _⟩ => e)) (fun l f e => rd arg16 harg16 xs0 _ _ inb_S2x2816_S1x256_1_1792 (ix2 0 l) (ix2 1 f) (fun d => match d with | ⟨0, _⟩ => rfl | ⟨1, _⟩ => e)) x),
      fun x => (congrFun (act6 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 1536 4352 rfl inb_S1024x5632_S1024x256_0_1536 inb_S1024x5632_S1024x256_0_4352 inb_S1x2816_S1x256_0_1536 inb_S3x2816_S1x256_0_1536 inb_S3x2816_S1x256_1_1536 inb_S3x2816_S1x256_2_1536 inb_S256x2816_S256x256_0_1536 _ _ (fun l f e => rd arg16 harg16 xs0 _ _ inb_S2x2816_S1x256_0_1536 (ix2 0 l) (ix2 0 f) (fun d => match d with | ⟨0, _⟩ => rfl | ⟨1, _⟩ => e)) (fun l f e => rd arg16 harg16 xs0 _ _ inb_S2x2816_S1x256_1_1536 (ix2 0 l) (ix2 1 f) (fun d => match d with | ⟨0, _⟩ => rfl | ⟨1, _⟩ => e)) x),
      fun x => (congrFun (act5 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 1280 4096 rfl inb_S1024x5632_S1024x256_0_1280 inb_S1024x5632_S1024x256_0_4096 inb_S1x2816_S1x256_0_1280 inb_S3x2816_S1x256_0_1280 inb_S3x2816_S1x256_1_1280 inb_S3x2816_S1x256_2_1280 inb_S256x2816_S256x256_0_1280 _ _ (fun l f e => rd arg16 harg16 xs0 _ _ inb_S2x2816_S1x256_0_1280 (ix2 0 l) (ix2 0 f) (fun d => match d with | ⟨0, _⟩ => rfl | ⟨1, _⟩ => e)) (fun l f e => rd arg16 harg16 xs0 _ _ inb_S2x2816_S1x256_1_1280 (ix2 0 l) (ix2 1 f) (fun d => match d with | ⟨0, _⟩ => rfl | ⟨1, _⟩ => e)) x),
      fun x => (congrFun (act4 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 1024 3840 rfl inb_S1024x5632_S1024x256_0_1024 inb_S1024x5632_S1024x256_0_3840 inb_S1x2816_S1x256_0_1024 inb_S3x2816_S1x256_0_1024 inb_S3x2816_S1x256_1_1024 inb_S3x2816_S1x256_2_1024 inb_S256x2816_S256x256_0_1024 _ _ (fun l f e => rd arg16 harg16 xs0 _ _ inb_S2x2816_S1x256_0_1024 (ix2 0 l) (ix2 0 f) (fun d => match d with | ⟨0, _⟩ => rfl | ⟨1, _⟩ => e)) (fun l f e => rd arg16 harg16 xs0 _ _ inb_S2x2816_S1x256_1_1024 (ix2 0 l) (ix2 1 f) (fun d => match d with | ⟨0, _⟩ => rfl | ⟨1, _⟩ => e)) x),
      fun x => (congrFun (act3 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 768 3584 rfl inb_S1024x5632_S1024x256_0_768 inb_S1024x5632_S1024x256_0_3584 inb_S1x2816_S1x256_0_768 inb_S3x2816_S1x256_0_768 inb_S3x2816_S1x256_1_768 inb_S3x2816_S1x256_2_768 inb_S256x2816_S256x256_0_768 _ _ (fun l f e => rd arg16 harg16 xs0 _ _ inb_S2x2816_S1x256_0_768 (ix2 0 l) (ix2 0 f) (fun d => match d with | ⟨0, _⟩ => rfl | ⟨1, _⟩ => e)) (fun l f e => rd arg16 harg16 xs0 _ _ inb_S2x2816_S1x256_1_768 (ix2 0 l) (ix2 1 f) (fun d => match d with | ⟨0, _⟩ => rfl | ⟨1, _⟩ => e)) x),
      fun x => (congrFun (act2 _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 512 3328 rfl inb_S1024x5632_S1024x256_0_512 inb_S1024x5632_S1024x256_0_3328 inb_S1x2816_S1x256_0_512 inb_S3x2816_S1x256_0_512 inb_S3x2816_S1x256_1_512 inb_S3x2816_S1x256_2_512 inb_S256x2816_S256x256_0_512 _ _ (fun l f e => rd arg16 harg16 xs0 _ _ inb_S2x2816_S1x256_0_512 (ix2 0 l) (ix2 0 f) (fun d => match d with | ⟨0, _⟩ => rfl | ⟨1, _⟩ => e)) (fun l f e => rd arg16 harg16 xs0 _ _ inb_S2x2816_S1x256_1_512 (ix2 0 l) (ix2 1 f) (fun d => match d with | ⟨0, _⟩ => rfl | ⟨1, _⟩ => e)) x),
      fun x => act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 256 3072 rfl inb_S1024x5632_S1024x256_0_256 inb_S1024x5632_S1024x256_0_3072 inb_S1x2816_S1x256_0_256 inb_S3x2816_S1x256_0_256 inb_S3x2816_S1x256_1_256 inb_S3x2816_S1x256_2_256 inb_S256x2816_S256x256_0_256 _ _ (fun l f e => rd arg16 harg16 xs0 _ _ inb_S2x2816_S1x256_0_256 (ix2 0 l) (ix2 0 f) (fun d => match d with | ⟨0, _⟩ => rfl | ⟨1, _⟩ => e)) (fun l f e => rd arg16 harg16 xs0 _ _ inb_S2x2816_S1x256_1_256 (ix2 0 l) (ix2 1 f) (fun d => match d with | ⟨0, _⟩ => rfl | ⟨1, _⟩ => e)) x,
      fun x => (congrFun (act0 _ _ _ _ _ _ _ _ _ _ _) x).trans (act_piece (kernelRun0_B.sl.r_3 (F := Ideal) c arg2 harg2 arg3 harg3 arg4 harg4 arg5 harg5 arg6 harg6 arg7 harg7 arg8 harg8 x0 x1 x2 x3 x4 x5 x6) arg9 harg9 arg10 harg10 arg11 harg11 x7 x8 x9 (fun j f => xs0 (ix2 j f)) 0 2816 rfl inb_S1024x5632_S1024x256_0_0 inb_S1024x5632_S1024x256_0_2816 inb_S1x2816_S1x256_0_0 inb_S3x2816_S1x256_0_0 inb_S3x2816_S1x256_1_0 inb_S3x2816_S1x256_2_0 inb_S256x2816_S256x256_0_0 _ _ (fun l f e => rd arg16 harg16 xs0 _ _ inb_S2x2816_S1x256_0_0 (ix2 0 l) (ix2 0 f) (fun d => match d with | ⟨0, _⟩ => rfl | ⟨1, _⟩ => e)) (fun l f e => rd arg16 harg16 xs0 _ _ inb_S2x2816_S1x256_1_0 (ix2 0 l) (ix2 1 f) (fun d => match d with | ⟨0, _⟩ => rfl | ⟨1, _⟩ => e)) x),
      trivial⟩
  unfold kernelRun0_B.sl.v722
  rw [View.readCov_eq_canon']
  refine (congrArg (View.canon _) (whole_idx (S := S256x2816) _ _ z2 (ix2 p f))).trans ?_
  exact canon_of_pieces' _ _ P _ (View.cover_of_tiledL (kernelRun0_B.sl.HS1_11 (F := Ideal) c arg2 harg2 arg3 harg3 arg4 harg4 arg5 harg5 arg6 harg6 arg7 harg7 arg8 harg8 arg9 harg9 arg10 harg10 arg11 harg11 arg16 harg16 x0 x1 x2 x3 x4 x5 x6 x7 x8 x9 xs0) S256x256.size (by sl_kernel_rfl) _)

theorem carry_B (y : S2x2816.Idx) : View.canon (kernelRun0_B.sl.HS0_11 (F := Ideal) c arg2 harg2 arg3 harg3 arg4 harg4 arg5 harg5 arg6 harg6 arg7 harg7 arg8 harg8 arg9 harg9 x0 x1 x2 x3 x4 x5 x6 x7) y = carG (hX x0 x1 x2 x3 x4 x5 x6) x7 (y 0) (y 1) := by
  exact canon_of_pieces' _ _ (car_pieces c arg2 harg2 arg3 harg3 arg4 harg4 arg5 harg5 arg6 harg6 arg7 harg7 arg8 harg8 arg9 harg9 x0 x1 x2 x3 x4 x5 x6 x7) y (View.cover_of_tiledL (kernelRun0_B.sl.HS0_11 (F := Ideal) c arg2 harg2 arg3 harg3 arg4 harg4 arg5 harg5 arg6 harg6 arg7 harg7 arg8 harg8 arg9 harg9 x0 x1 x2 x3 x4 x5 x6 x7) S2x256.size (by sl_kernel_rfl) y)

theorem carw_B (j : Fin 2) (f : Fin 2816) : (kernelRun0_B.sl.v742 (F := Ideal) c arg2 harg2 arg3 harg3 arg4 harg4 arg5 harg5 arg6 harg6 arg7 harg7 arg8 harg8 arg9 harg9 arg16 x0 x1 x2 x3 x4 x5 x6 x7) (ix2 j f) = carG (hX x0 x1 x2 x3 x4 x5 x6) x7 j f := by
  unfold kernelRun0_B.sl.v742
  rw [View.readCov_eq_canon']
  refine (congrArg (View.canon _) (whole_idx (S := S2x2816) _ _ z2 (ix2 j f))).trans ?_
  exact carry_B c arg2 harg2 arg3 harg3 arg4 harg4 arg5 harg5 arg6 harg6 arg7 harg7 arg8 harg8 arg9 harg9 x0 x1 x2 x3 x4 x5 x6 x7 (ix2 j f)

theorem out12_B (p : Fin 256) (n : Fin 1024) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix2 p n) = outG x0 x1 x2 x3 x4 x5 x6 x7 x8 x9 x10 x11 (fun j f => xs0 (ix2 j f)) p n := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0)]
  unfold kernelRun0_B
  dsimp only
  rw [View.canon_cons_unit_zero (S := S256x1024) (funext z2)]
  refine (pay1_apply _ _ _ _ p n).trans ?_
  unfold outG
  rw [rdw arg12 harg12 x10 _ _ z2, rdw arg13 harg13 x11 _ _ z2]
  exact congrFun (congrArg₂ rms (congrFun (congrArg₂ down (funext fun n => r_B c arg2 harg2 arg3 harg3 arg4 harg4 arg5 harg5 arg6 harg6 arg7 harg7 x0 x1 x2 x3 x4 x5 p n) (funext fun f => act_B c arg2 harg2 arg3 harg3 arg4 harg4 arg5 harg5 arg6 harg6 arg7 harg7 arg8 harg8 arg9 harg9 arg10 harg10 arg11 harg11 arg16 harg16 arg17 x0 x1 x2 x3 x4 x5 x6 x7 x8 x9 xs0 p f)) _) rfl) n

theorem out13_B (j : Fin 2) (f : Fin 2816) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix3 0 j f) = carG (hX x0 x1 x2 x3 x4 x5 x6) x7 j f := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0)]
  unfold kernelRun0_B
  dsimp only
  rw [View.canon_cons_unit_zero (S := S1x2x2816) (funext z3)]
  exact (pay2_apply _ j f).trans (carw_B c arg2 harg2 arg3 harg3 arg4 harg4 arg5 harg5 arg6 harg6 arg7 harg7 arg8 harg8 arg9 harg9 arg16 x0 x1 x2 x3 x4 x5 x6 x7 j f)

theorem sout_B (j : Fin 2) (f : Fin 2816) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 (ix2 j f) = carG (hX x0 x1 x2 x3 x4 x5 x6) x7 j f := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0)]
  exact carry_B c arg2 harg2 arg3 harg3 arg4 harg4 arg5 harg5 arg6 harg6 arg7 harg7 arg8 harg8 arg9 harg9 x0 x1 x2 x3 x4 x5 x6 x7 (ix2 j f)

end

end Cert.FfnIdeal.RefValue

end

end
-- ==== Proof.FfnValue.lean ====
/- The feed-forward call: the output projection with its residual, the up projection, the causal convolution of three
   taps, the gate, the down projection and the last normalisation, 256 rows at a time. The value claim reads the kernel's
   tiles and the reference's arrays entry by entry as the same functions of the arguments; the rows a tile carries to the
   next are the last two rows of its up projection. -/
module

public import proofs.«01_k».proof.Defs
public import proofs.«01_k».proof.Proof.FfnCase
public import proofs.«01_k».proof.Proof.Gen.Ffn.Frame
public import proofs.«01_k».proof.Proof.Gen.FfnIdeal.Value
public import proofs.«01_k».proof.Proof.Gen.FfnRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.Common Cert.Ffn Cert.FfnRefIdeal.RefValue

variable (m : (ℓ : Loc nD τ sig) → Buf (Elt Ideal) ℓ) (ρ : Dev nD → PrngReg)

/-- The memory of argument `b`, of device `c`. -/
abbrev arg (c : Dev nD) (b : Ref sig .tc) : Buf (Elt Ideal) ((c : Thread nD τ).loc b) := m ((c : Thread nD τ).loc b)

/-! ### The weights as the kernel takes them -/

theorem V_v0 (c : Dev nD) : V m c main_v0 = (truncf .bf16 (arg m c main_arg5) bitsLt_bf16_f32 : FVec Ideal S1024x1024 .bf16) := by
  unfold V; after_results <;> rfl
theorem V_v1 (c : Dev nD) : V m c main_v1 = broadcastInDim S1x1024 ![1] bcast_S1024_S1x1024_1 (arg m c main_arg6) := by
  unfold V; after_results <;> rfl
theorem V_v2 (c : Dev nD) : V m c main_v2 = (truncf .bf16 (arg m c main_arg7) bitsLt_bf16_f32 : FVec Ideal S1024x5632 .bf16) := by
  unfold V; after_results <;> rfl
theorem V_v3 (c : Dev nD) : V m c main_v3 = broadcastInDim S1x2816 ![1] bcast_S2816_S1x2816_1 (arg m c main_arg9) := by
  unfold V; after_results <;> rfl
theorem V_v4 (c : Dev nD) : V m c main_v4 = (truncf .bf16 (arg m c main_arg10) bitsLt_bf16_f32 : FVec Ideal S2816x1024 .bf16) := by
  unfold V; after_results <;> rfl
theorem V_v5 (c : Dev nD) : V m c main_v5 = broadcastInDim S1x1024 ![1] bcast_S1024_S1x1024_1 (arg m c main_arg11) := by
  unfold V; after_results <;> rfl

/-! ### The windows -/

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = 0 ∧ win0_10.index t 1 = 0 := by decide +kernel
theorem index_11 : ∀ t : Fin grid0.N, win0_11.index t 0 = 0 ∧ win0_11.index t 1 = 0 := by decide +kernel
theorem index_12 : ∀ t : Fin grid0.N, win0_12.index t 0 = t.val ∧ win0_12.index t 1 = 0 := by decide +kernel
theorem index_13 : ∀ t : Fin grid0.N, win0_13.index t 0 = t.val / 8 ∧ win0_13.index t 1 = 0 ∧ win0_13.index t 2 = 0 := by decide +kernel

theorem lt64 (t : Fin cfg0.N) : t.val < 64 := by
  have h : cfg0.N = 64 := N_0
  have ht := t.isLt
  omega

/-- The sequence tile `t` belongs to. -/
def tb (t : Fin cfg0.N) : Fin 8 := ⟨t.val / 8, by have := lt64 t; omega⟩
/-- The place of row `p` of tile `t` in its sequence. -/
def ts (t : Fin cfg0.N) (p : Fin 256) : Fin 2048 := ⟨256 * (t.val % 8) + p.val, by omega⟩

theorem row_val (t : Fin cfg0.N) (p : Fin 256) : (row (tb t) (ts t p)).val = t.val * 256 + p.val := by
  show t.val / 8 * 2048 + (256 * (t.val % 8) + p.val) = _
  omega

theorem blk_0 (c : Dev nD) (t : Fin cfg0.N) (p : Fin 256) (k : Fin 1024) :
    iblk m c 0 t (ix2 p k) = arg m c main_arg0 (ix2 (row (tb t) (ts t p)) k) := by
  show V m c main_arg0 ((win0_0.rect t).idx (ix2 p k)) = _
  rw [V_main_arg0]
  refine congrArg (arg m c main_arg0) (funext fun a => Fin.ext ?_)
  match a with
  | ⟨0, _⟩ => show win0_0.index t 0 * 256 + 1 * p.val = (row (tb t) (ts t p)).val; rw [(index_0 t).1, row_val]; omega
  | ⟨1, _⟩ => show win0_0.index t 1 * 1024 + 1 * k.val = k.val; rw [(index_0 t).2]; omega

theorem blk_1 (c : Dev nD) (t : Fin cfg0.N) (p : Fin 256) (k : Fin 256) :
    iblk m c 1 t (ix2 p k) = arg m c main_arg1 (ix2 (row (tb t) (ts t p)) k) := by
  show V m c main_arg1 ((win0_1.rect t).idx (ix2 p k)) = _
  rw [V_main_arg1]
  refine congrArg (arg m c main_arg1) (funext fun a => Fin.ext ?_)
  match a with
  | ⟨0, _⟩ => show win0_1.index t 0 * 256 + 1 * p.val = (row (tb t) (ts t p)).val; rw [(index_1 t).1, row_val]; omega
  | ⟨1, _⟩ => show win0_1.index t 1 * 256 + 1 * k.val = k.val; rw [(index_1 t).2]; omega

theorem blk_2 (c : Dev nD) (t : Fin cfg0.N) (p : Fin 256) (k : Fin 256) :
    iblk m c 2 t (ix2 p k) = arg m c main_arg2 (ix2 (row (tb t) (ts t p)) k) := by
  show V m c main_arg2 ((win0_2.rect t).idx (ix2 p k)) = _
  rw [V_main_arg2]
  refine congrArg (arg m c main_arg2) (funext fun a => Fin.ext ?_)
  match a with
  | ⟨0, _⟩ => show win0_2.index t 0 * 256 + 1 * p.val = (row (tb t) (ts t p)).val; rw [(index_2 t).1, row_val]; omega
  | ⟨1, _⟩ => show win0_2.index t 1 * 256 + 1 * k.val = k.val; rw [(index_2 t).2]; omega

theorem blk_3 (c : Dev nD) (t : Fin cfg0.N) (p : Fin 256) (k : Fin 256) :
    iblk m c 3 t (ix2 p k) = arg m c main_arg3 (ix2 (row (tb t) (ts t p)) k) := by
  show V m c main_arg3 ((win0_3.rect t).idx (ix2 p k)) = _
  rw [V_main_arg3]
  refine congrArg (arg m c main_arg3) (funext fun a => Fin.ext ?_)
  match a with
  | ⟨0, _⟩ => show win0_3.index t 0 * 256 + 1 * p.val = (row (tb t) (ts t p)).val; rw [(index_3 t).1, row_val]; omega
  | ⟨1, _⟩ => show win0_3.index t 1 * 256 + 1 * k.val = k.val; rw [(index_3 t).2]; omega

theorem blk_4 (c : Dev nD) (t : Fin cfg0.N) (p : Fin 256) (k : Fin 256) :
    iblk m c 4 t (ix2 p k) = arg m c main_arg4 (ix2 (row (tb t) (ts t p)) k) := by
  show V m c main_arg4 ((win0_4.rect t).idx (ix2 p k)) = _
  rw [V_main_arg4]
  refine congrArg (arg m c main_arg4) (funext fun a => Fin.ext ?_)
  match a with
  | ⟨0, _⟩ => show win0_4.index t 0 * 256 + 1 * p.val = (row (tb t) (ts t p)).val; rw [(index_4 t).1, row_val]; omega
  | ⟨1, _⟩ => show win0_4.index t 1 * 256 + 1 * k.val = k.val; rw [(index_4 t).2]; omega

theorem blk_5 (c : Dev nD) (t : Fin cfg0.N) (a : Fin 1024) (k : Fin 1024) :
    iblk m c 5 t (ix2 a k) = arg m c main_arg5 (ix2 a k) := by
  show V m c main_v0 ((win0_5.rect t).idx (ix2 a k)) = _
  have e : (win0_5.rect t).idx (ix2 a k) = (ix2 a k : S1024x1024.Idx) := funext fun b => Fin.ext (by
    match b with
    | ⟨0, _⟩ => show win0_5.index t 0 * 1024 + 1 * a.val = a.val; rw [(index_5 t).1]; omega
    | ⟨1, _⟩ => show win0_5.index t 1 * 1024 + 1 * k.val = k.val; rw [(index_5 t).2]; omega)
  rw [V_v0, e]
  rfl

theorem blk_7 (c : Dev nD) (t : Fin cfg0.N) (a : Fin 1024) (k : Fin 5632) :
    iblk m c 7 t (ix2 a k) = arg m c main_arg7 (ix2 a k) := by
  show V m c main_v2 ((win0_7.rect t).idx (ix2 a k)) = _
  have e : (win0_7.rect t).idx (ix2 a k) = (ix2 a k : S1024x5632.Idx) := funext fun b => Fin.ext (by
    match b with
    | ⟨0, _⟩ => show win0_7.index t 0 * 1024 + 1 * a.val = a.val; rw [(index_7 t).1]; omega
    | ⟨1, _⟩ => show win0_7.index t 1 * 5632 + 1 * k.val = k.val; rw [(index_7 t).2]; omega)
  rw [V_v2, e]
  rfl

theorem blk_8 (c : Dev nD) (t : Fin cfg0.N) (a : Fin 3) (k : Fin 2816) :
    iblk m c 8 t (ix2 a k) = arg m c main_arg8 (ix2 a k) := by
  show V m c main_arg8 ((win0_8.rect t).idx (ix2 a k)) = _
  have e : (win0_8.rect t).idx (ix2 a k) = (ix2 a k : S3x2816.Idx) := funext fun b => Fin.ext (by
    match b with
    | ⟨0, _⟩ => show win0_8.index t 0 * 3 + 1 * a.val = a.val; rw [(index_8 t).1]; omega
    | ⟨1, _⟩ => show win0_8.index t 1 * 2816 + 1 * k.val = k.val; rw [(index_8 t).2]; omega)
  rw [V_main_arg8, e]

theorem blk_10 (c : Dev nD) (t : Fin cfg0.N) (a : Fin 2816) (k : Fin 1024) :
    iblk m c 10 t (ix2 a k) = arg m c main_arg10 (ix2 a k) := by
  show V m c main_v4 ((win0_10.rect t).idx (ix2 a k)) = _
  have e : (win0_10.rect t).idx (ix2 a k) = (ix2 a k : S2816x1024.Idx) := funext fun b => Fin.ext (by
    match b with
    | ⟨0, _⟩ => show win0_10.index t 0 * 2816 + 1 * a.val = a.val; rw [(index_10 t).1]; omega
    | ⟨1, _⟩ => show win0_10.index t 1 * 1024 + 1 * k.val = k.val; rw [(index_10 t).2]; omega)
  rw [V_v4, e]
  rfl

theorem blk_6 (c : Dev nD) (t : Fin cfg0.N) (k : Fin 1024) :
    iblk m c 6 t (ix2 0 k) = arg m c main_arg6 (ix1 k) := by
  show V m c main_v1 ((win0_6.rect t).idx (ix2 0 k)) = _
  have e : (win0_6.rect t).idx (ix2 0 k) = (ix2 0 k : S1x1024.Idx) := funext fun a => Fin.ext (by
    match a with
    | ⟨0, _⟩ => show win0_6.index t 0 * 1 + 1 * 0 = 0; rw [(index_6 t).1]
    | ⟨1, _⟩ => show win0_6.index t 1 * 1024 + 1 * k.val = k.val; rw [(index_6 t).2]; omega)
  rw [V_v1, e]
  pointwise

theorem blk_9 (c : Dev nD) (t : Fin cfg0.N) (k : Fin 2816) :
    iblk m c 9 t (ix2 0 k) = arg m c main_arg9 (ix1 k) := by
  show V m c main_v3 ((win0_9.rect t).idx (ix2 0 k)) = _
  have e : (win0_9.rect t).idx (ix2 0 k) = (ix2 0 k : S1x2816.Idx) := funext fun a => Fin.ext (by
    match a with
    | ⟨0, _⟩ => show win0_9.index t 0 * 1 + 1 * 0 = 0; rw [(index_9 t).1]
    | ⟨1, _⟩ => show win0_9.index t 1 * 2816 + 1 * k.val = k.val; rw [(index_9 t).2]; omega)
  rw [V_v3, e]
  pointwise

theorem blk_11 (c : Dev nD) (t : Fin cfg0.N) (k : Fin 1024) :
    iblk m c 11 t (ix2 0 k) = arg m c main_arg11 (ix1 k) := by
  show V m c main_v5 ((win0_11.rect t).idx (ix2 0 k)) = _
  have e : (win0_11.rect t).idx (ix2 0 k) = (ix2 0 k : S1x1024.Idx) := funext fun a => Fin.ext (by
    match a with
    | ⟨0, _⟩ => show win0_11.index t 0 * 1 + 1 * 0 = 0; rw [(index_11 t).1]
    | ⟨1, _⟩ => show win0_11.index t 1 * 1024 + 1 * k.val = k.val; rw [(index_11 t).2]; omega)
  rw [V_v5, e]
  pointwise

/-! ### One tile is its rows of the reference -/

theorem res_eq (c : Dev nD) (t : Fin cfg0.N) (p : Fin 256) :
    resV (iblk m c 0 t) (iblk m c 1 t) (iblk m c 2 t) (iblk m c 3 t) (iblk m c 4 t) (iblk m c 5 t) p = resR (arg m c main_arg0) (arg m c main_arg1) (arg m c main_arg2) (arg m c main_arg3) (arg m c main_arg4) (arg m c main_arg5) (row (tb t) (ts t p)) := by
  unfold resV resR
  simp only [blk_0, blk_1, blk_2, blk_3, blk_4, blk_5]

theorem dot_eq (c : Dev nD) (t : Fin cfg0.N) (p : Fin 256) (q : Fin 5632) :
    dotF (hX (iblk m c 0 t) (iblk m c 1 t) (iblk m c 2 t) (iblk m c 3 t) (iblk m c 4 t) (iblk m c 5 t) (iblk m c 6 t)) (iblk m c 7 t) q p = upR (arg m c main_arg0) (arg m c main_arg1) (arg m c main_arg2) (arg m c main_arg3) (arg m c main_arg4) (arg m c main_arg5) (arg m c main_arg6) (arg m c main_arg7) (row (tb t) (ts t p)) q := by
  unfold dotF upR up
  refine Finset.sum_congr rfl fun k _ => ?_
  show rms (resV (iblk m c 0 t) (iblk m c 1 t) (iblk m c 2 t) (iblk m c 3 t) (iblk m c 4 t) (iblk m c 5 t) p) (fun k => iblk m c 6 t (ix2 0 k)) k * iblk m c 7 t (ix2 k q) = _
  rw [res_eq, blk_7]
  simp only [blk_6]

theorem padR_of (c : Dev nD) (b : Fin 8) (s : Fin 2048) (i : Nat) (hi : i = s.val + 2) (f : Fin 2816) :
    padR (arg m c main_arg0) (arg m c main_arg1) (arg m c main_arg2) (arg m c main_arg3) (arg m c main_arg4) (arg m c main_arg5) (arg m c main_arg6) (arg m c main_arg7) b i f = upR (arg m c main_arg0) (arg m c main_arg1) (arg m c main_arg2) (arg m c main_arg3) (arg m c main_arg4) (arg m c main_arg5) (arg m c main_arg6) (arg m c main_arg7) (row b s) ⟨f.val, by omega⟩ := by
  subst hi
  unfold padR
  rw [dif_pos ⟨by omega, by omega⟩]
  rfl

theorem act_eq (c : Dev nD) (t : Fin cfg0.N) (cr : Fin 2 → Fin 2816 → EReal)
    (hcr : ∀ (j : Fin 2) (f : Fin 2816), cr j f = padR (arg m c main_arg0) (arg m c main_arg1) (arg m c main_arg2) (arg m c main_arg3) (arg m c main_arg4) (arg m c main_arg5) (arg m c main_arg6) (arg m c main_arg7) (tb t) (256 * (t.val % 8) + j.val) f) (p : Fin 256) (f : Fin 2816) :
    actG (hX (iblk m c 0 t) (iblk m c 1 t) (iblk m c 2 t) (iblk m c 3 t) (iblk m c 4 t) (iblk m c 5 t) (iblk m c 6 t)) (iblk m c 7 t) (iblk m c 8 t) (iblk m c 9 t) cr p f = actR (arg m c main_arg0) (arg m c main_arg1) (arg m c main_arg2) (arg m c main_arg3) (arg m c main_arg4) (arg m c main_arg5) (arg m c main_arg6) (arg m c main_arg7) (arg m c main_arg8) (arg m c main_arg9) (tb t) (ts t p) f := by
  unfold actG actR
  have e2 : back2 (cr 0 f) (cr 1 f) (dotF (hX (iblk m c 0 t) (iblk m c 1 t) (iblk m c 2 t) (iblk m c 3 t) (iblk m c 4 t) (iblk m c 5 t) (iblk m c 6 t)) (iblk m c 7 t) ⟨f.val, by omega⟩) p = padR (arg m c main_arg0) (arg m c main_arg1) (arg m c main_arg2) (arg m c main_arg3) (arg m c main_arg4) (arg m c main_arg5) (arg m c main_arg6) (arg m c main_arg7) (tb t) (ts t p).val f := by
    unfold back2
    split_ifs with h0 h1
    · rw [hcr]; congr 1; show _ = 256 * (t.val % 8) + p.val; rw [h0]; rfl
    · rw [hcr]; congr 1; show _ = 256 * (t.val % 8) + p.val; rw [h1]; rfl
    · rw [dot_eq]
      exact (padR_of m c (tb t) (ts t ⟨p.val - 2, by omega⟩) _ (by show 256 * (t.val % 8) + p.val = 256 * (t.val % 8) + (p.val - 2) + 2; omega) f).symm
  have e1 : back1 (cr 1 f) (dotF (hX (iblk m c 0 t) (iblk m c 1 t) (iblk m c 2 t) (iblk m c 3 t) (iblk m c 4 t) (iblk m c 5 t) (iblk m c 6 t)) (iblk m c 7 t) ⟨f.val, by omega⟩) p = padR (arg m c main_arg0) (arg m c main_arg1) (arg m c main_arg2) (arg m c main_arg3) (arg m c main_arg4) (arg m c main_arg5) (arg m c main_arg6) (arg m c main_arg7) (tb t) (1 + (ts t p).val) f := by
    unfold back1
    split_ifs with h0
    · rw [hcr]; congr 1; show 256 * (t.val % 8) + 1 = 1 + (256 * (t.val % 8) + p.val); omega
    · rw [dot_eq]
      exact (padR_of m c (tb t) (ts t ⟨p.val - 1, by omega⟩) _ (by show 1 + (256 * (t.val % 8) + p.val) = 256 * (t.val % 8) + (p.val - 1) + 2; omega) f).symm
  rw [e1, e2, dot_eq, dot_eq, padR_of m c (tb t) (ts t p) (2 + (ts t p).val) (by omega) f, blk_8, blk_8, blk_8, blk_9]

theorem out_eq (c : Dev nD) (t : Fin cfg0.N) (cr : Fin 2 → Fin 2816 → EReal)
    (hcr : ∀ (j : Fin 2) (f : Fin 2816), cr j f = padR (arg m c main_arg0) (arg m c main_arg1) (arg m c main_arg2) (arg m c main_arg3) (arg m c main_arg4) (arg m c main_arg5) (arg m c main_arg6) (arg m c main_arg7) (tb t) (256 * (t.val % 8) + j.val) f) (p : Fin 256) (n : Fin 1024) :
    outG (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) cr p n = outR (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (tb t) (ts t p) n := by
  unfold outG outR
  rw [res_eq, show actG (hX (iblk m c 0 t) (iblk m c 1 t) (iblk m c 2 t) (iblk m c 3 t) (iblk m c 4 t) (iblk m c 5 t) (iblk m c 6 t)) (iblk m c 7 t) (iblk m c 8 t) (iblk m c 9 t) cr p = actR (arg m c main_arg0) (arg m c main_arg1) (arg m c main_arg2) (arg m c main_arg3) (arg m c main_arg4) (arg m c main_arg5) (arg m c main_arg6) (arg m c main_arg7) (arg m c main_arg8) (arg m c main_arg9) (tb t) (ts t p) from funext fun f => act_eq m c t cr hcr p f]
  simp only [blk_10, blk_11]

/-- The carried rows after tile `t`: the last two rows of its up projection. -/
theorem carry_eq (c : Dev nD) (t : Fin cfg0.N) (j : Fin 2) (f : Fin 2816) :
    (outsAt0 m c t.val t.isLt).2.2 (ix2 j f) = upR (arg m c main_arg0) (arg m c main_arg1) (arg m c main_arg2) (arg m c main_arg3) (arg m c main_arg4) (arg m c main_arg5) (arg m c main_arg6) (arg m c main_arg7) (row (tb t) (ts t ⟨254 + j.val, by omega⟩)) ⟨f.val, by omega⟩ := by
  refine Eq.trans ?_ (dot_eq m c t ⟨254 + j.val, by omega⟩ ⟨f.val, by omega⟩)
  by_cases h0 : t.val % 8 = 0
  · have h := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j f
    rw [outsAt0_A m c t h0]
    dsimp only
    rw [h]
    rfl
  · have h := sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2 j f
    rw [outsAt0_B m c t h0]
    dsimp only
    rw [h]
    rfl

theorem out13_eq (c : Dev nD) (t : Fin cfg0.N) (j : Fin 2) (f : Fin 2816) :
    (outsAt0 m c t.val t.isLt).2.1 (ix3 0 j f) = upR (arg m c main_arg0) (arg m c main_arg1) (arg m c main_arg2) (arg m c main_arg3) (arg m c main_arg4) (arg m c main_arg5) (arg m c main_arg6) (arg m c main_arg7) (row (tb t) (ts t ⟨254 + j.val, by omega⟩)) ⟨f.val, by omega⟩ := by
  refine Eq.trans ?_ (dot_eq m c t ⟨254 + j.val, by omega⟩ ⟨f.val, by omega⟩)
  by_cases h0 : t.val % 8 = 0
  · have h := out13_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) j f
    rw [outsAt0_A m c t h0]
    dsimp only
    rw [h]
    rfl
  · have h := out13_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2 j f
    rw [outsAt0_B m c t h0]
    dsimp only
    rw [h]
    rfl

theorem out12_eq (c : Dev nD) (t : Fin cfg0.N) (p : Fin 256) (n : Fin 1024) :
    (outsAt0 m c t.val t.isLt).1 (ix2 p n) = outR (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (tb t) (ts t p) n := by
  by_cases h0 : t.val % 8 = 0
  · refine Eq.trans ?_ (out_eq m c t (fun _ _ => 0) (fun j f => ?_) p n)
    · have h := out12_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p n
      rw [outsAt0_A m c t h0]
      dsimp only
      rw [h]
    · unfold padR
      rw [dif_neg (by have := j.isLt; omega)]
  · have hp : t.val - 1 < cfg0.N := Nat.lt_of_le_of_lt (Nat.sub_le _ _) t.isLt
    refine Eq.trans ?_ (out_eq m c t (fun j f => (outsAt0 m c (t.val - 1) hp).2.2 (ix2 j f)) (fun j f => ?_) p n)
    · have h := out12_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2 p n
      rw [outsAt0_B m c t h0]
      dsimp only
      rw [h]
    · refine (carry_eq m c ⟨t.val - 1, hp⟩ j f).trans ?_
      have hb : tb ⟨t.val - 1, hp⟩ = tb t := Fin.ext (by show (t.val - 1) / 8 = t.val / 8; omega)
      rw [hb]
      exact (padR_of m c (tb t) _ _ (by show 256 * (t.val % 8) + j.val = 256 * ((t.val - 1) % 8) + (254 + j.val) + 2; omega) f).symm

/-! ### What each point writes back is its block of the reference's array -/

/-- The rows as the reference computes them. -/
abbrev G12 (c : Dev nD) : Buf (Elt Ideal) ((c : Thread nD τ).loc main_v6_0) :=
  FfnRefIdeal.Read.val_main_v82 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11)

/-- The convolution's last rows as the reference computes them. -/
abbrev G13 (c : Dev nD) : Buf (Elt Ideal) ((c : Thread nD τ).loc main_v6_1) :=
  FfnRefIdeal.Read.val_main_v83 (F := Ideal) (arg m c main_arg0) (arg m c main_arg1) (arg m c main_arg2) (arg m c main_arg3) (arg m c main_arg4) (arg m c main_arg5) (arg m c main_arg6) (arg m c main_arg7)

theorem flushed_12 (c : Dev nD) (t : Fin cfg0.N) :
    (dats m 0 c).flushed 12 t = ((cfg0.win 12).blk t).view.read (Elt Ideal) (G12 m c) := by
  rw [Value.flushed12]
  funext y
  show (outsAt0 m c t.val t.isLt).1 y = G12 m c ((win0_12.rect t).idx y)
  obtain ⟨p, n, rfl⟩ : ∃ (p : Fin 256) (n : Fin 1024), y = ix2 p n := ⟨y 0, y 1, by idx_vars y⟩
  have e : (win0_12.rect t).idx (ix2 p n) = (ix2 (row (tb t) (ts t p)) n : S16384x1024.Idx) := funext fun a => Fin.ext (by
    match a with
    | ⟨0, _⟩ => show win0_12.index t 0 * 256 + 1 * p.val = (row (tb t) (ts t p)).val; rw [(index_12 t).1, row_val]; omega
    | ⟨1, _⟩ => show win0_12.index t 1 * 1024 + 1 * n.val = n.val; rw [(index_12 t).2]; omega)
  rw [e, out12_eq]
  exact (v82_apply _ _ _ _ _ _ _ _ _ _ _ _ (tb t) (ts t p) n).symm

theorem flushed_13 (c : Dev nD) (t : Fin cfg0.N) (hf : (cfg0.win 13).flush t = true) :
    (dats m 0 c).flushed 13 t = ((cfg0.win 13).blk t).view.read (Elt Ideal) (G13 m c) := by
  have h7 : t.val % 8 = 7 := (flush0_13 t).mp hf
  rw [Value.flushed13]
  funext y
  show (outsAt0 m c t.val t.isLt).2.1 y = G13 m c ((win0_13.rect t).idx y)
  obtain ⟨j, f, rfl⟩ : ∃ (j : Fin 2) (f : Fin 2816), y = ix3 0 j f := ⟨y 1, y 2, by
    have h0 : (y 0).val < 1 := (y 0).isLt
    funext b
    match b with
    | ⟨0, _⟩ => exact Fin.ext (by show (y 0).val = 0; omega)
    | ⟨1, _⟩ => rfl
    | ⟨2, _⟩ => rfl⟩
  have e : (win0_13.rect t).idx (ix3 0 j f) = (ix3 (tb t) j f : S8x2x2816.Idx) := funext fun a => Fin.ext (by
    match a with
    | ⟨0, _⟩ => show win0_13.index t 0 * 1 + 1 * 0 = t.val / 8; rw [(index_13 t).1]; omega
    | ⟨1, _⟩ => show win0_13.index t 1 * 2 + 1 * j.val = j.val; rw [(index_13 t).2.1]; omega
    | ⟨2, _⟩ => show win0_13.index t 2 * 2816 + 1 * f.val = f.val; rw [(index_13 t).2.2]; omega)
  rw [e, out13_eq, show ts t ⟨254 + j.val, by omega⟩ = ⟨2046 + j.val, by omega⟩ from
    Fin.ext (by show 256 * (t.val % 8) + (254 + j.val) = 2046 + j.val; omega)]
  exact (v83_apply _ _ _ _ _ _ _ _ (tb t) j f).symm

theorem final_12 (c : Dev nD) : (dats m 0 c).arrAt 12 cfg0.N = G12 m c :=
  (dats m 0 c).arrAt_eq_of_cover 12 (G12 m c) (fun t _ => flushed_12 m c t) fun i => (Value.covered_iff12 i).2 (by
    have h0 : (i 0).val < 16384 := (i 0).isLt
    have h1 : (i 1).val < 1024 := (i 1).isLt
    omega)

theorem final_13 (c : Dev nD) : (dats m 0 c).arrAt 13 cfg0.N = G13 m c :=
  (dats m 0 c).arrAt_eq_of_cover 13 (G13 m c) (fun t hf => flushed_13 m c t hf) fun i => (Value.covered_iff13 i).2 (by
    have h0 : (i 0).val < 8 := (i 0).isLt
    have h1 : (i 1).val < 2 := (i 1).isLt
    have h2 : (i 2).val < 2816 := (i 2).isLt
    omega)

end Cert.FfnIdeal.RefValue

namespace Cert.Proof.FfnClaims

theorem frame_k : Cert.quiescent_Ffn := fun m ρ _ => Cert.Ffn.Gen.frame m ρ
theorem frame_ki : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)
theorem preserves : Cert.preserves_Ffn_FfnIdeal := trivial

/-- The kernel's rows and last convolution rows are the reference's. -/
theorem algebraic : Cert.algebraic_FfnIdeal_FfnRefIdeal := by
  intro m ρ m' ρ' _ hagree
  refine ⟨fun c => FfnIdeal.RefValue.G12 m c, fun c => FfnIdeal.RefValue.G13 m c, ?_, ?_⟩
  · exact (θ_run Cert.FfnIdeal.defs _ _).mono
      (fun _ h c => ⟨(h c).1.trans (FfnIdeal.RefValue.final_12 m c), (h c).2.1.trans (FfnIdeal.RefValue.final_13 m c), (h c).2.2⟩)
      (Cert.FfnIdeal.Value.run_blocks (F := Ideal) m ρ)
  · refine (θ_run Cert.FfnRefIdeal.defs _ _).mono
      (fun _ h c => ⟨(h c).1.trans ?_, (h c).2.1.trans ?_, (h c).2.2⟩)
      (Cert.FfnRefIdeal.Value.run (F := Ideal) m' ρ')
    · obtain ⟨a0, a1, a2, a3, a4, a5, a6, a7, a8, a9, a10, a11⟩ := hagree c
      refine (FfnRefIdeal.Read.val_main_v82_eq _).trans ?_
      show FfnRefIdeal.Read.val_main_v82 (F := Ideal) (m' ((c : Thread FfnRefIdeal.nD FfnRefIdeal.τ).loc FfnRefIdeal.main_arg0)) (m' ((c : Thread FfnRefIdeal.nD FfnRefIdeal.τ).loc FfnRefIdeal.main_arg1)) (m' ((c : Thread FfnRefIdeal.nD FfnRefIdeal.τ).loc FfnRefIdeal.main_arg2)) (m' ((c : Thread FfnRefIdeal.nD FfnRefIdeal.τ).loc FfnRefIdeal.main_arg3)) (m' ((c : Thread FfnRefIdeal.nD FfnRefIdeal.τ).loc FfnRefIdeal.main_arg4)) (m' ((c : Thread FfnRefIdeal.nD FfnRefIdeal.τ).loc FfnRefIdeal.main_arg5)) (m' ((c : Thread FfnRefIdeal.nD FfnRefIdeal.τ).loc FfnRefIdeal.main_arg6)) (m' ((c : Thread FfnRefIdeal.nD FfnRefIdeal.τ).loc FfnRefIdeal.main_arg7)) (m' ((c : Thread FfnRefIdeal.nD FfnRefIdeal.τ).loc FfnRefIdeal.main_arg8)) (m' ((c : Thread FfnRefIdeal.nD FfnRefIdeal.τ).loc FfnRefIdeal.main_arg9)) (m' ((c : Thread FfnRefIdeal.nD FfnRefIdeal.τ).loc FfnRefIdeal.main_arg10)) (m' ((c : Thread FfnRefIdeal.nD FfnRefIdeal.τ).loc FfnRefIdeal.main_arg11)) = _
      rw [a0, a1, a2, a3, a4, a5, a6, a7, a8, a9, a10, a11]
    · obtain ⟨a0, a1, a2, a3, a4, a5, a6, a7, a8, a9, a10, a11⟩ := hagree c
      refine (FfnRefIdeal.Read.val_main_v83_eq _).trans ?_
      show FfnRefIdeal.Read.val_main_v83 (F := Ideal) (m' ((c : Thread FfnRefIdeal.nD FfnRefIdeal.τ).loc FfnRefIdeal.main_arg0)) (m' ((c : Thread FfnRefIdeal.nD FfnRefIdeal.τ).loc FfnRefIdeal.main_arg1)) (m' ((c : Thread FfnRefIdeal.nD FfnRefIdeal.τ).loc FfnRefIdeal.main_arg2)) (m' ((c : Thread FfnRefIdeal.nD FfnRefIdeal.τ).loc FfnRefIdeal.main_arg3)) (m' ((c : Thread FfnRefIdeal.nD FfnRefIdeal.τ).loc FfnRefIdeal.main_arg4)) (m' ((c : Thread FfnRefIdeal.nD FfnRefIdeal.τ).loc FfnRefIdeal.main_arg5)) (m' ((c : Thread FfnRefIdeal.nD FfnRefIdeal.τ).loc FfnRefIdeal.main_arg6)) (m' ((c : Thread FfnRefIdeal.nD FfnRefIdeal.τ).loc FfnRefIdeal.main_arg7)) = _
      rw [a0, a1, a2, a3, a4, a5, a6, a7]

end Cert.Proof.FfnClaims

end
-- ==== Proof.Pairs.lean ====
/- How the sample group's steps lay their arrays out: the 128 samples' 4 heads are 512 pairs, pair `r` being head `r % 4` of
   sample `r / 4`. One entry of each of the laid out arrays is one entry of the array given. -/
module

public import Idealize.ShloMosaic.Lib.Pipeline.Value
public import Idealize.ShloMosaic.Lib.Pointwise

@[expose] public section

noncomputable section

open Idealize.ShloMosaic

namespace Cert.Pairs

/-- The matrices of the pairs. -/
theorem mat {α : Type} (a : (⟨4, ![128, 4, 64, 64]⟩ : Shape).Idx → α) (h) (z : (⟨3, ![512, 64, 64]⟩ : Shape).Idx) (i : (⟨4, ![128, 4, 64, 64]⟩ : Shape).Idx)
    (h0 : (i 0).val * 4 + (i 1).val = (z 0).val) (h2 : (i 2).val = (z 1).val) (h3 : (i 3).val = (z 2).val) :
    shapeCast ⟨3, ![512, 64, 64]⟩ a h z = a i := by
  refine shapeCast_apply _ _ _ i ?_
  rw [Shape.rowMajor_val_four, Shape.rowMajor_val_three]
  show (((i 0).val * 4 + (i 1).val) * 64 + (i 2).val) * 64 + (i 3).val = ((z 0).val * 64 + (z 1).val) * 64 + (z 2).val
  rw [h0, h2, h3]

/-- A row of 64 for each pair, from rows of 256. -/
theorem row {α : Type} (a : (⟨2, ![128, 256]⟩ : Shape).Idx → α) (h) (z : (⟨3, ![512, 1, 64]⟩ : Shape).Idx) (i : (⟨2, ![128, 256]⟩ : Shape).Idx)
    (h0 : (i 0).val * 256 + (i 1).val = (z 0).val * 64 + (z 2).val) : shapeCast ⟨3, ![512, 1, 64]⟩ a h z = a i := by
  refine shapeCast_apply _ _ _ i ?_
  rw [Shape.rowMajor_val_two, Shape.rowMajor_val_three]
  show (i 0).val * 256 + (i 1).val = ((z 0).val * 1 + (z 1).val) * 64 + (z 2).val
  have h1 : (z 1).val < 1 := (z 1).isLt
  omega

/-- A column of 64 for each pair, from rows of 256. -/
theorem col {α : Type} (a : (⟨2, ![128, 256]⟩ : Shape).Idx → α) (h) (z : (⟨3, ![512, 64, 1]⟩ : Shape).Idx) (i : (⟨2, ![128, 256]⟩ : Shape).Idx)
    (h0 : (i 0).val * 256 + (i 1).val = (z 0).val * 64 + (z 1).val) : shapeCast ⟨3, ![512, 64, 1]⟩ a h z = a i := by
  refine shapeCast_apply _ _ _ i ?_
  rw [Shape.rowMajor_val_two, Shape.rowMajor_val_three]
  show (i 0).val * 256 + (i 1).val = ((z 0).val * 64 + (z 1).val) * 1 + (z 2).val
  have h1 : (z 2).val < 1 := (z 2).isLt
  omega

/-- A row of 64 for each pair, from an array of heads. -/
theorem rowH {α : Type} (a : (⟨3, ![128, 4, 64]⟩ : Shape).Idx → α) (h) (z : (⟨3, ![512, 1, 64]⟩ : Shape).Idx) (i : (⟨3, ![128, 4, 64]⟩ : Shape).Idx)
    (h0 : (i 0).val * 4 + (i 1).val = (z 0).val) (h2 : (i 2).val = (z 2).val) : shapeCast ⟨3, ![512, 1, 64]⟩ a h z = a i := by
  refine shapeCast_apply _ _ _ i ?_
  rw [Shape.rowMajor_val_three, Shape.rowMajor_val_three]
  show ((i 0).val * 4 + (i 1).val) * 64 + (i 2).val = ((z 0).val * 1 + (z 1).val) * 64 + (z 2).val
  have h1 : (z 1).val < 1 := (z 1).isLt
  omega

/-- A number for each pair, from four columns of an array. -/
theorem scl {α : Type} (a : (⟨2, ![128, 4]⟩ : Shape).Idx → α) (h) (z : (⟨3, ![512, 1, 1]⟩ : Shape).Idx) (i : (⟨2, ![128, 4]⟩ : Shape).Idx)
    (h0 : (i 0).val * 4 + (i 1).val = (z 0).val) : shapeCast ⟨3, ![512, 1, 1]⟩ a h z = a i := by
  refine shapeCast_apply _ _ _ i ?_
  rw [Shape.rowMajor_val_two, Shape.rowMajor_val_three]
  show (i 0).val * 4 + (i 1).val = ((z 0).val * 1 + (z 1).val) * 1 + (z 2).val
  have h1 : (z 1).val < 1 := (z 1).isLt
  have h2 : (z 2).val < 1 := (z 2).isLt
  omega

end Cert.Pairs

end
-- ==== Proof.GlaStepValue.lean ====
/- The values the gated linear attention's state update leaves in its two result arrays: each is the reference's array, index by
   index. The kernel works on 64 of the 512 (sample, head) pairs at a time, and does the reference's operations on them. -/
module

public import proofs.«01_k».proof.Defs
public import proofs.«01_k».proof.Proof.Gen.GlaStep.Frame
public import proofs.«01_k».proof.Proof.Gen.GlaStepIdeal.Value
public import proofs.«01_k».proof.Proof.Gen.GlaStepRefIdeal.Read
public import proofs.«01_k».proof.Proof.Pairs
public import proofs.«01_k».proof.Proof.RwkvValue
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GlaStepIdeal.RefValue

open Cert.GlaStepIdeal Cert.GlaStepIdeal.Gen

variable (m : (ℓ : Loc nD τ sig) → Buf (Elt Ideal) ℓ) (ρ : Dev nD → PrngReg)

/-- The memory of argument `k`, of device `c`. -/
abbrev arg (c : Dev nD) (b : Ref sig .tc) : Buf (Elt Ideal) ((c : Thread nD τ).loc b) := m ((c : Thread nD τ).loc b)

theorem hz3 : (![0, 0, 0] : Fin 3 → Nat) = fun _ => 0 := funext fun a => by fin_cases a <;> rfl

/-! ### What the host lays out before the call -/

theorem V_0 (c : Dev nD) : V m c main_v0 = shapeCast S512x64x64 (arg m c main_arg0) shapeCasts_S128x4x64x64_S512x64x64 := by
  unfold V; after_results <;> rfl
theorem V_1 (c : Dev nD) : V m c main_v1 = shapeCast S512x64x1 (arg m c main_arg1) shapeCasts_S128x256_S512x64x1 := by
  unfold V; after_results <;> rfl
theorem V_2 (c : Dev nD) : V m c main_v2 = shapeCast S512x64x1 (arg m c main_arg2) shapeCasts_S128x256_S512x64x1 := by
  unfold V; after_results <;> rfl
theorem V_3 (c : Dev nD) : V m c main_v3 = shapeCast S512x1x64 (arg m c main_arg3) shapeCasts_S128x256_S512x1x64 := by
  unfold V; after_results <;> rfl
theorem V_4 (c : Dev nD) : V m c main_v4 = shapeCast S512x64x1 (arg m c main_arg4) shapeCasts_S128x256_S512x64x1 := by
  unfold V; after_results <;> rfl

/-! ### The windows move one block of 64 pairs at a time -/

theorem index_0 : ∀ t : Fin grid0.N, win0_0.index t 0 = t.val ∧ win0_0.index t 1 = 0 ∧ win0_0.index t 2 = 0 := by decide +kernel
theorem index_1 : ∀ t : Fin grid0.N, win0_1.index t 0 = t.val ∧ win0_1.index t 1 = 0 ∧ win0_1.index t 2 = 0 := by decide +kernel
theorem index_2 : ∀ t : Fin grid0.N, win0_2.index t 0 = t.val ∧ win0_2.index t 1 = 0 ∧ win0_2.index t 2 = 0 := by decide +kernel
theorem index_3 : ∀ t : Fin grid0.N, win0_3.index t 0 = t.val ∧ win0_3.index t 1 = 0 ∧ win0_3.index t 2 = 0 := by decide +kernel
theorem index_4 : ∀ t : Fin grid0.N, win0_4.index t 0 = t.val ∧ win0_4.index t 1 = 0 ∧ win0_4.index t 2 = 0 := by decide +kernel
theorem index_5 : ∀ t : Fin grid0.N, win0_5.index t 0 = t.val ∧ win0_5.index t 1 = 0 ∧ win0_5.index t 2 = 0 := by decide +kernel
theorem index_6 : ∀ t : Fin grid0.N, win0_6.index t 0 = t.val ∧ win0_6.index t 1 = 0 ∧ win0_6.index t 2 = 0 := by decide +kernel

theorem blk_0 (c : Dev nD) (t : Fin cfg0.N) (y : S64x64x64.Idx) (i : S128x4x64x64.Idx)
    (h0 : (i 0).val * 4 + (i 1).val = t.val * 64 + (y 0).val) (h2 : (i 2).val = (y 1).val) (h3 : (i 3).val = (y 2).val) :
    iblk m c 0 t y = arg m c main_arg0 i := by
  show V m c main_v0 ((win0_0.rect t).idx y) = _
  rw [V_0]
  exact Pairs.mat _ _ _ i (by show (i 0).val * 4 + (i 1).val = (win0_0.index t 0 * 64 + 1 * (y 0).val); rw [(index_0 t).1]; omega) (by show (i 2).val = (win0_0.index t 1 * 64 + 1 * (y 1).val); rw [(index_0 t).2.1]; omega) (by show (i 3).val = (win0_0.index t 2 * 64 + 1 * (y 2).val); rw [(index_0 t).2.2]; omega)
theorem blk_1 (c : Dev nD) (t : Fin cfg0.N) (y : S64x64x1.Idx) (i : S128x256.Idx)
    (h0 : (i 0).val * 256 + (i 1).val = (t.val * 64 + (y 0).val) * 64 + (y 1).val) :
    iblk m c 1 t y = arg m c main_arg1 i := by
  show V m c main_v1 ((win0_1.rect t).idx y) = _
  rw [V_1]
  exact Pairs.col _ _ _ i (by show (i 0).val * 256 + (i 1).val = (win0_1.index t 0 * 64 + 1 * (y 0).val) * 64 + (win0_1.index t 1 * 64 + 1 * (y 1).val); rw [(index_1 t).1, (index_1 t).2.1]; omega)
theorem blk_2 (c : Dev nD) (t : Fin cfg0.N) (y : S64x64x1.Idx) (i : S128x256.Idx)
    (h0 : (i 0).val * 256 + (i 1).val = (t.val * 64 + (y 0).val) * 64 + (y 1).val) :
    iblk m c 2 t y = arg m c main_arg2 i := by
  show V m c main_v2 ((win0_2.rect t).idx y) = _
  rw [V_2]
  exact Pairs.col _ _ _ i (by show (i 0).val * 256 + (i 1).val = (win0_2.index t 0 * 64 + 1 * (y 0).val) * 64 + (win0_2.index t 1 * 64 + 1 * (y 1).val); rw [(index_2 t).1, (index_2 t).2.1]; omega)
theorem blk_3 (c : Dev nD) (t : Fin cfg0.N) (y : S64x1x64.Idx) (i : S128x256.Idx)
    (h0 : (i 0).val * 256 + (i 1).val = (t.val * 64 + (y 0).val) * 64 + (y 2).val) :
    iblk m c 3 t y = arg m c main_arg3 i := by
  show V m c main_v3 ((win0_3.rect t).idx y) = _
  rw [V_3]
  exact Pairs.row _ _ _ i (by show (i 0).val * 256 + (i 1).val = (win0_3.index t 0 * 64 + 1 * (y 0).val) * 64 + (win0_3.index t 2 * 64 + 1 * (y 2).val); rw [(index_3 t).1, (index_3 t).2.2]; omega)
theorem blk_4 (c : Dev nD) (t : Fin cfg0.N) (y : S64x64x1.Idx) (i : S128x256.Idx)
    (h0 : (i 0).val * 256 + (i 1).val = (t.val * 64 + (y 0).val) * 64 + (y 1).val) :
    iblk m c 4 t y = arg m c main_arg4 i := by
  show V m c main_v4 ((win0_4.rect t).idx y) = _
  rw [V_4]
  exact Pairs.col _ _ _ i (by show (i 0).val * 256 + (i 1).val = (win0_4.index t 0 * 64 + 1 * (y 0).val) * 64 + (win0_4.index t 1 * 64 + 1 * (y 1).val); rw [(index_4 t).1, (index_4 t).2.1]; omega)

/-- One column of a column vector, scaled, times a matrix, summed: the kernel's reduction over the middle axis. -/
theorem colSum (b : FVec Ideal S64x64x1 .f32) (a : FVec Ideal S64x64x64 .f32) (s : Ideal .f32) (hφ) (hn) (j : S64x64.Idx) :
    multiReduction (F := Ideal) .add [1] S64x64 (mulf
      (broadcastTo S64x64x64 (mulf (shapeCast S64x64x1 b shapeCasts_S64x64x1_S64x64x1) (broadcast S64x64x1 s)) broadcasts_S64x64x1_S64x64x64) a)
      0x00000000#32 reduces_S64x64x64_S64x64 hφ hn j
      = ∑ k : Fin 64, (b (fun x => match x with | ⟨0, _⟩ => j 0 | ⟨1, _⟩ => k | ⟨2, _⟩ => ⟨0, Nat.one_pos⟩) * s)
          * a (fun x => match x with | ⟨0, _⟩ => j 0 | ⟨1, _⟩ => k | ⟨2, _⟩ => j 1) := by
  rw [Ideal.multiReduction_add_single]
  refine Finset.sum_congr rfl fun k _ => ?_
  have el : reduces_S64x64x64_S64x64.lift j k = (fun x => match x with | ⟨0, _⟩ => j 0 | ⟨1, _⟩ => k | ⟨2, _⟩ => j 1 : S64x64x64.Idx) :=
    funext fun x => Fin.ext (by match x with | ⟨0, _⟩ => rfl | ⟨1, _⟩ => rfl | ⟨2, _⟩ => rfl)
  rw [el]
  refine congrArg (· * _) ?_
  refine (broadcastTo_apply _ _ _ (fun x => match x with | ⟨0, _⟩ => j 0 | ⟨1, _⟩ => k | ⟨2, _⟩ => ⟨0, Nat.one_pos⟩ : S64x64x1.Idx) (fun x => by
    match x with | ⟨0, _⟩ => rfl | ⟨1, _⟩ => rfl | ⟨2, _⟩ => rfl)).trans ?_
  exact congrArg (· * s) (shapeCast_apply _ _ _ _ rfl)

/-- The new state as the reference computes it. -/
abbrev G5 (c : Dev nD) : Buf (Elt Ideal) ((c : Thread nD τ).loc main_v5_0) :=
  GlaStepRefIdeal.Read.val_main_v16 (F := Ideal) (arg m c main_arg0) (arg m c main_arg2) (arg m c main_arg3) (arg m c main_arg4)

/-- The output vectors as the reference computes them. -/
abbrev G6 (c : Dev nD) : Buf (Elt Ideal) ((c : Thread nD τ).loc main_v5_1) :=
  GlaStepRefIdeal.Read.val_main_v17 (F := Ideal) (arg m c main_arg0) (arg m c main_arg1) (arg m c main_arg2) (arg m c main_arg3) (arg m c main_arg4)

open GlaStepRefIdeal.Read in
/-- One entry of the new state of one pair, from block `t`: the kernel's arithmetic is the reference's. -/
theorem state_eq (c : Dev nD) (t : Fin cfg0.N) (y : S64x64x64.Idx) (i : GlaStepRefIdeal.S128x4x64x64.Idx)
    (h0 : (i 0).val * 4 + (i 1).val = t.val * 64 + (y 0).val) (h2 : (i 2).val = (y 1).val) (h3 : (i 3).val = (y 2).val) :
    Value.E5 (F := Ideal) (iblk m c 4 t) (iblk m c 0 t) (iblk m c 2 t) (iblk m c 3 t) y
      = val_main_v14 (F := Ideal) (arg m c main_arg0) (arg m c main_arg2) (arg m c main_arg3) (arg m c main_arg4) i := by
  have l1 : (i 1).val < 4 := (i 1).isLt
  have l2 : (i 2).val < 64 := (i 2).isLt
  have l3 : (i 3).val < 64 := (i 3).isLt
  rw [val_main_v14_apply, val_main_v8_apply, val_main_v7_apply, val_main_v6_apply, val_main_v5_apply, val_main_v13_apply,
    val_main_v11_apply, val_main_v9_apply, val_main_v3_apply, val_main_v12_apply, val_main_v10_apply, val_main_v4_apply]
  refine congrArg₂ FloatOps.addf (congrArg₂ FloatOps.mulf ?_ ?_) (congrArg₂ FloatOps.mulf ?_ ?_)
  · refine blk_4 m c t _ _ ?_
    show (((i 0).val * 4 + (i 1).val) * 64 + (i 2).val) / 256 * 256 + (((i 0).val * 4 + (i 1).val) * 64 + (i 2).val) % 256 = (t.val * 64 + (y 0).val) * 64 + (y 1).val
    omega
  · exact blk_0 m c t _ i h0 h2 h3
  · refine blk_2 m c t _ _ ?_
    show (((i 0).val * 4 + (i 1).val) * 64 + (i 2).val) / 256 * 256 + (((i 0).val * 4 + (i 1).val) * 64 + (i 2).val) % 256 = (t.val * 64 + (y 0).val) * 64 + (y 1).val
    omega
  · refine blk_3 m c t _ _ ?_
    show (((i 0).val * 4 + (i 1).val) * 64 + (i 3).val) / 256 * 256 + (((i 0).val * 4 + (i 1).val) * 64 + (i 3).val) % 256 = (t.val * 64 + (y 0).val) * 64 + (y 2).val
    omega

/-! ### What each point writes back is its block of the reference's array -/

open GlaStepRefIdeal.Read in
theorem flushed_5 (c : Dev nD) (t : Fin cfg0.N) :
    (dats m 0 c).flushed 5 t = ((cfg0.win 5).blk t).view.read (Elt Ideal) (G5 m c) := by
  rw [Value.flushed5]
  funext y
  have y0 : (y 0).val < 64 := (y 0).isLt
  have y1 : (y 1).val < 64 := (y 1).isLt
  have y2 : (y 2).val < 64 := (y 2).isLt
  show out0_5 (iblk m c 0 t) (iblk m c 1 t) (iblk m c 2 t) (iblk m c 3 t) (iblk m c 4 t) y
    = G5 m c ((win0_5.rect t).idx y)
  unfold out0_5
  rw [View.ld_unit_zero hz3, View.ld_unit_zero hz3, View.ld_unit_zero hz3, View.ld_unit_zero hz3]
  refine (Value.canon5_eq _ _ _ _ y).trans ?_
  unfold G5
  rw [val_main_v16_apply]
  have e0 : (((win0_5.rect t).idx y) 0).val = win0_5.index t 0 * 64 + 1 * (y 0).val := rfl
  have e1 : (((win0_5.rect t).idx y) 1).val = win0_5.index t 1 * 64 + 1 * (y 1).val := rfl
  have e2 : (((win0_5.rect t).idx y) 2).val = win0_5.index t 2 * 64 + 1 * (y 2).val := rfl
  rw [(index_5 t).1] at e0; rw [(index_5 t).2.1] at e1; rw [(index_5 t).2.2] at e2
  generalize (win0_5.rect t).idx y = z at e0 e1 e2 ⊢
  refine state_eq m c t y _ ?_ ?_ ?_
  · show (((z 0).val * 64 + (z 1).val) * 64 + (z 2).val) / 16384 * 4 + (((z 0).val * 64 + (z 1).val) * 64 + (z 2).val) / 4096 % 4 = _
    omega
  · show (((z 0).val * 64 + (z 1).val) * 64 + (z 2).val) / 64 % 64 = _
    omega
  · show (((z 0).val * 64 + (z 1).val) * 64 + (z 2).val) % 64 = _
    omega

open GlaStepRefIdeal.Read in
theorem flushed_6 (c : Dev nD) (t : Fin cfg0.N) :
    (dats m 0 c).flushed 6 t = ((cfg0.win 6).blk t).view.read (Elt Ideal) (G6 m c) := by
  rw [Value.flushed6]
  funext y
  have y0 : (y 0).val < 64 := (y 0).isLt
  have y1 : (y 1).val < 1 := (y 1).isLt
  have y2 : (y 2).val < 64 := (y 2).isLt
  show out0_6 (iblk m c 0 t) (iblk m c 1 t) (iblk m c 2 t) (iblk m c 3 t) (iblk m c 4 t) y
    = G6 m c ((win0_6.rect t).idx y)
  unfold out0_6
  rw [View.ld_unit_zero hz3, View.ld_unit_zero hz3, View.ld_unit_zero hz3, View.ld_unit_zero hz3, View.ld_unit_zero hz3]
  refine (Value.canon6_eq _ _ _ _ _ y).trans ?_
  unfold G6
  rw [val_main_v17_apply, val_main_v15_apply]
  have e0 : (((win0_6.rect t).idx y) 0).val = win0_6.index t 0 * 64 + 1 * (y 0).val := rfl
  have e1 : (((win0_6.rect t).idx y) 1).val = win0_6.index t 1 * 1 + 1 * (y 1).val := rfl
  have e2 : (((win0_6.rect t).idx y) 2).val = win0_6.index t 2 * 64 + 1 * (y 2).val := rfl
  rw [(index_6 t).1] at e0; rw [(index_6 t).2.1] at e1; rw [(index_6 t).2.2] at e2
  generalize (win0_6.rect t).idx y = z at e0 e1 e2 ⊢
  refine (colSum _ _ _ _ _ _).trans (Finset.sum_congr rfl fun k _ => ?_)
  have hk : k.val < 64 := k.isLt
  have hz : ((idx_main_v17 z) 0).val * 4 + ((idx_main_v17 z) 1).val = t.val * 64 + (y 0).val := by
    show (((z 0).val * 1 + (z 1).val) * 64 + (z 2).val) / 256 * 4 + (((z 0).val * 1 + (z 1).val) * 64 + (z 2).val) / 64 % 4 = t.val * 64 + (y 0).val
    omega
  have hw : ((idx_main_v17 z) 2).val = (y 2).val := by
    show (((z 0).val * 1 + (z 1).val) * 64 + (z 2).val) % 64 = (y 2).val
    omega
  generalize idx_main_v17 z = w at hz hw ⊢
  refine congrArg₂ (· * ·) ?_ ?_
  · rw [val_main_v2_apply, val_main_v1_apply, val_main_v0_apply]
    refine congrArg₂ (· * ·) (blk_1 m c t _ _ ?_) rfl
    show (((w 0).val * 4 + (w 1).val) * 64 + k.val) / 256 * 256 + (((w 0).val * 4 + (w 1).val) * 64 + k.val) % 256 = (t.val * 64 + (y 0).val) * 64 + k.val
    omega
  · refine (congrFun (Value.lay5_0_eq _ _ _ _).symm _).trans ((Value.piece5_0 _ _ _ _ _).trans (state_eq m c t _ _ ?_ ?_ ?_))
    · show (w 0).val * 4 + (w 1).val = t.val * 64 + (0 + 1 * (y 0).val)
      omega
    · show k.val = 0 + 1 * k.val
      omega
    · show (w 2).val = 0 + 1 * (y 2).val
      omega

/-! ### The blocks tile the arrays -/

theorem cover_5 (i : S512x64x64.Idx) : ∃ t : Fin cfg0.N, (cfg0.win 5).flush t = true ∧ i ∈ ((cfg0.win 5).blk t).view.set := by
  have h0 : (i 0 : Nat) < 512 := (i 0).isLt
  have h1 : (i 1 : Nat) < 64 := (i 1).isLt
  have h2 : (i 2 : Nat) < 64 := (i 2).isLt
  have hN : cfg0.N = 8 := N_0
  have ht : (i 0 : Nat) / 64 < cfg0.N := by omega
  refine ⟨⟨(i 0 : Nat) / 64, ht⟩, flush0_5 _, ?_⟩
  show i ∈ ((View.whole main_v5_0).slice (win0_5.rect ⟨(i 0 : Nat) / 64, ht⟩)).set
  rw [View.set_slice_whole, Rect.mem_set_unit]
  obtain ⟨e0, e1, e2⟩ := index_5 ⟨(i 0 : Nat) / 64, ht⟩
  intro a
  match a with
  | ⟨0, _⟩ => show win0_5.index _ 0 * 64 ≤ (i 0 : Nat) ∧ (i 0 : Nat) < win0_5.index _ 0 * 64 + 64
              rw [e0]; dsimp only; omega
  | ⟨1, _⟩ => show win0_5.index _ 1 * 64 ≤ (i 1 : Nat) ∧ (i 1 : Nat) < win0_5.index _ 1 * 64 + 64
              rw [e1]; omega
  | ⟨2, _⟩ => show win0_5.index _ 2 * 64 ≤ (i 2 : Nat) ∧ (i 2 : Nat) < win0_5.index _ 2 * 64 + 64
              rw [e2]; omega

theorem final_5 (c : Dev nD) : (dats m 0 c).arrAt 5 cfg0.N = G5 m c :=
  (dats m 0 c).arrAt_eq_of_cover 5 (G5 m c) (fun t _ => flushed_5 m c t) cover_5

theorem cover_6 (i : S512x1x64.Idx) : ∃ t : Fin cfg0.N, (cfg0.win 6).flush t = true ∧ i ∈ ((cfg0.win 6).blk t).view.set := by
  have h0 : (i 0 : Nat) < 512 := (i 0).isLt
  have h1 : (i 1 : Nat) < 1 := (i 1).isLt
  have h2 : (i 2 : Nat) < 64 := (i 2).isLt
  have hN : cfg0.N = 8 := N_0
  have ht : (i 0 : Nat) / 64 < cfg0.N := by omega
  refine ⟨⟨(i 0 : Nat) / 64, ht⟩, flush0_6 _, ?_⟩
  show i ∈ ((View.whole main_v5_1).slice (win0_6.rect ⟨(i 0 : Nat) / 64, ht⟩)).set
  rw [View.set_slice_whole, Rect.mem_set_unit]
  obtain ⟨e0, e1, e2⟩ := index_6 ⟨(i 0 : Nat) / 64, ht⟩
  intro a
  match a with
  | ⟨0, _⟩ => show win0_6.index _ 0 * 64 ≤ (i 0 : Nat) ∧ (i 0 : Nat) < win0_6.index _ 0 * 64 + 64
              rw [e0]; dsimp only; omega
  | ⟨1, _⟩ => show win0_6.index _ 1 * 1 ≤ (i 1 : Nat) ∧ (i 1 : Nat) < win0_6.index _ 1 * 1 + 1
              rw [e1]; omega
  | ⟨2, _⟩ => show win0_6.index _ 2 * 64 ≤ (i 2 : Nat) ∧ (i 2 : Nat) < win0_6.index _ 2 * 64 + 64
              rw [e2]; omega

theorem final_6 (c : Dev nD) : (dats m 0 c).arrAt 6 cfg0.N = G6 m c :=
  (dats m 0 c).arrAt_eq_of_cover 6 (G6 m c) (fun t _ => flushed_6 m c t) cover_6

end Cert.GlaStepIdeal.RefValue

/-! ### The claims -/

namespace Cert.Proof.GlaStepClaims

theorem frame_k : Cert.quiescent_GlaStep := fun m ρ _ => Cert.GlaStep.Gen.frame m ρ
theorem frame_ki : Cert.quiescent_GlaStepIdeal := fun m ρ _ => Cert.GlaStepIdeal.Gen.frame m ρ
theorem frame_ri : Cert.quiescent_GlaStepRefIdeal := fun m ρ _ =>
  (θ_run Cert.GlaStepRefIdeal.defs _ _).mono (fun r h => ⟨fun c => (h c).2.2, sem_eq_zero_of_no_sems (by decide) r.2⟩)
    (Cert.GlaStepRefIdeal.Value.run (F := Ideal) m ρ)
theorem preserves : Cert.preserves_GlaStep_GlaStepIdeal := trivial

/-- The kernel's new state and outputs are the reference's. -/
theorem algebraic : Cert.algebraic_GlaStepIdeal_GlaStepRefIdeal := by
  intro m ρ m' ρ' _ hagree
  refine ⟨fun c => GlaStepIdeal.RefValue.G5 m c, fun c => GlaStepIdeal.RefValue.G6 m c, ?_, ?_⟩
  · exact (θ_run Cert.GlaStepIdeal.defs _ _).mono
      (fun _ h c => ⟨(h c).1.trans (GlaStepIdeal.RefValue.final_5 m c), (h c).2.1.trans (GlaStepIdeal.RefValue.final_6 m c), (h c).2.2⟩)
      (Cert.GlaStepIdeal.Value.run_blocks (F := Ideal) m ρ)
  · refine (θ_run Cert.GlaStepRefIdeal.defs _ _).mono
      (fun _ h c => ⟨(h c).1.trans ?_, (h c).2.1.trans ?_, (h c).2.2⟩)
      (Cert.GlaStepRefIdeal.Value.run (F := Ideal) m' ρ')
    · obtain ⟨a0, a1, a2, a3, a4⟩ := hagree c
      refine (GlaStepRefIdeal.Read.val_main_v16_eq _ _ _ _).trans ?_
      rw [a0, a2, a3, a4]
    · obtain ⟨a0, a1, a2, a3, a4⟩ := hagree c
      refine (GlaStepRefIdeal.Read.val_main_v17_eq _ _ _ _ _).trans ?_
      rw [a0, a1, a2, a3, a4]

end Cert.Proof.GlaStepClaims

end
-- ==== Proof.MlstmStepValue.lean ====
/- The values the mLSTM's state update leaves in its three result arrays: each is the reference's array, index by index. The
   kernel works on 64 of the 512 (sample, head) pairs at a time, and does the reference's operations on them. -/
module

public import proofs.«01_k».proof.Defs
public import proofs.«01_k».proof.Proof.Gen.MlstmStep.Frame
public import proofs.«01_k».proof.Proof.Gen.MlstmStepIdeal.Value
public import proofs.«01_k».proof.Proof.Gen.MlstmStepRefIdeal.Read
public import proofs.«01_k».proof.Proof.Pairs
public import proofs.«01_k».proof.Proof.RwkvValue
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlstmStepIdeal.RefValue

open Cert.MlstmStepIdeal Cert.MlstmStepIdeal.Gen

variable (m : (ℓ : Loc nD τ sig) → Buf (Elt Ideal) ℓ) (ρ : Dev nD → PrngReg)

/-- The memory of argument `k`, of device `c`. -/
abbrev arg (c : Dev nD) (b : Ref sig .tc) : Buf (Elt Ideal) ((c : Thread nD τ).loc b) := m ((c : Thread nD τ).loc b)

theorem hz3 : (![0, 0, 0] : Fin 3 → Nat) = fun _ => 0 := funext fun a => by fin_cases a <;> rfl

/-! ### What the host lays out before the call -/

theorem V_0 (c : Dev nD) : V m c main_v0 = shapeCast S512x64x64 (arg m c main_arg0) shapeCasts_S128x4x64x64_S512x64x64 := by
  unfold V; after_results <;> rfl
theorem V_1 (c : Dev nD) : V m c main_v1 = shapeCast S512x1x64 (arg m c main_arg1) shapeCasts_S128x4x64_S512x1x64 := by
  unfold V; after_results <;> rfl
theorem V_2 (c : Dev nD) : V m c main_v2 = shapeCast S512x1x64 (arg m c main_arg2) shapeCasts_S128x256_S512x1x64 := by
  unfold V; after_results <;> rfl
theorem V_3 (c : Dev nD) : V m c main_v3 = shapeCast S512x1x64 (arg m c main_arg3) shapeCasts_S128x256_S512x1x64 := by
  unfold V; after_results <;> rfl
theorem V_4 (c : Dev nD) : V m c main_v4 = shapeCast S512x64x1 (arg m c main_arg4) shapeCasts_S128x256_S512x64x1 := by
  unfold V; after_results <;> rfl
theorem V_5 (c : Dev nD) : V m c main_v6 = shapeCast S512x1x1 (extractStridedSlice S128x4 ![0, 16] (arg m c main_arg5) slices_S128x128_S128x4_0_16) shapeCasts_S128x4_S512x1x1 := by
  unfold V; after_results <;> rfl
theorem V_6 (c : Dev nD) : V m c main_v8 = shapeCast S512x1x1 (extractStridedSlice S128x4 ![0, 16] (arg m c main_arg6) slices_S128x128_S128x4_0_16) shapeCasts_S128x4_S512x1x1 := by
  unfold V; after_results <;> rfl
theorem V_7 (c : Dev nD) : V m c main_v10 = shapeCast S512x1x1 (extractStridedSlice S128x4 ![0, 16] (arg m c main_arg7) slices_S128x128_S128x4_0_16) shapeCasts_S128x4_S512x1x1 := by
  unfold V; after_results <;> rfl

/-! ### The windows move one block of 64 pairs at a time -/

theorem index_0 : ∀ t : Fin grid0.N, win0_0.index t 0 = t.val ∧ win0_0.index t 1 = 0 ∧ win0_0.index t 2 = 0 := by decide +kernel
theorem index_1 : ∀ t : Fin grid0.N, win0_1.index t 0 = t.val ∧ win0_1.index t 1 = 0 ∧ win0_1.index t 2 = 0 := by decide +kernel
theorem index_2 : ∀ t : Fin grid0.N, win0_2.index t 0 = t.val ∧ win0_2.index t 1 = 0 ∧ win0_2.index t 2 = 0 := by decide +kernel
theorem index_3 : ∀ t : Fin grid0.N, win0_3.index t 0 = t.val ∧ win0_3.index t 1 = 0 ∧ win0_3.index t 2 = 0 := by decide +kernel
theorem index_4 : ∀ t : Fin grid0.N, win0_4.index t 0 = t.val ∧ win0_4.index t 1 = 0 ∧ win0_4.index t 2 = 0 := by decide +kernel
theorem index_5 : ∀ t : Fin grid0.N, win0_5.index t 0 = t.val ∧ win0_5.index t 1 = 0 ∧ win0_5.index t 2 = 0 := by decide +kernel
theorem index_6 : ∀ t : Fin grid0.N, win0_6.index t 0 = t.val ∧ win0_6.index t 1 = 0 ∧ win0_6.index t 2 = 0 := by decide +kernel
theorem index_7 : ∀ t : Fin grid0.N, win0_7.index t 0 = t.val ∧ win0_7.index t 1 = 0 ∧ win0_7.index t 2 = 0 := by decide +kernel
theorem index_8 : ∀ t : Fin grid0.N, win0_8.index t 0 = t.val ∧ win0_8.index t 1 = 0 ∧ win0_8.index t 2 = 0 := by decide +kernel
theorem index_9 : ∀ t : Fin grid0.N, win0_9.index t 0 = t.val ∧ win0_9.index t 1 = 0 ∧ win0_9.index t 2 = 0 := by decide +kernel
theorem index_10 : ∀ t : Fin grid0.N, win0_10.index t 0 = t.val ∧ win0_10.index t 1 = 0 ∧ win0_10.index t 2 = 0 := by decide +kernel

theorem blk_0 (c : Dev nD) (t : Fin cfg0.N) (y : S64x64x64.Idx) (i : S128x4x64x64.Idx)
    (h0 : (i 0).val * 4 + (i 1).val = t.val * 64 + (y 0).val) (h2 : (i 2).val = (y 1).val) (h3 : (i 3).val = (y 2).val) :
    iblk m c 0 t y = arg m c main_arg0 i := by
  show V m c main_v0 ((win0_0.rect t).idx y) = _
  rw [V_0]
  exact Pairs.mat _ _ _ i (by show (i 0).val * 4 + (i 1).val = (win0_0.index t 0 * 64 + 1 * (y 0).val); rw [(index_0 t).1]; omega) (by show (i 2).val = (win0_0.index t 1 * 64 + 1 * (y 1).val); rw [(index_0 t).2.1]; omega) (by show (i 3).val = (win0_0.index t 2 * 64 + 1 * (y 2).val); rw [(index_0 t).2.2]; omega)
theorem blk_1 (c : Dev nD) (t : Fin cfg0.N) (y : S64x1x64.Idx) (i : S128x4x64.Idx)
    (h0 : (i 0).val * 4 + (i 1).val = t.val * 64 + (y 0).val) (h2 : (i 2).val = (y 2).val) :
    iblk m c 1 t y = arg m c main_arg1 i := by
  show V m c main_v1 ((win0_1.rect t).idx y) = _
  rw [V_1]
  exact Pairs.rowH _ _ _ i (by show (i 0).val * 4 + (i 1).val = (win0_1.index t 0 * 64 + 1 * (y 0).val); rw [(index_1 t).1]; omega) (by show (i 2).val = (win0_1.index t 2 * 64 + 1 * (y 2).val); rw [(index_1 t).2.2]; omega)
theorem blk_2 (c : Dev nD) (t : Fin cfg0.N) (y : S64x1x64.Idx) (i : S128x256.Idx)
    (h0 : (i 0).val * 256 + (i 1).val = (t.val * 64 + (y 0).val) * 64 + (y 2).val) :
    iblk m c 2 t y = arg m c main_arg2 i := by
  show V m c main_v2 ((win0_2.rect t).idx y) = _
  rw [V_2]
  exact Pairs.row _ _ _ i (by show (i 0).val * 256 + (i 1).val = (win0_2.index t 0 * 64 + 1 * (y 0).val) * 64 + (win0_2.index t 2 * 64 + 1 * (y 2).val); rw [(index_2 t).1, (index_2 t).2.2]; omega)
theorem blk_3 (c : Dev nD) (t : Fin cfg0.N) (y : S64x1x64.Idx) (i : S128x256.Idx)
    (h0 : (i 0).val * 256 + (i 1).val = (t.val * 64 + (y 0).val) * 64 + (y 2).val) :
    iblk m c 3 t y = arg m c main_arg3 i := by
  show V m c main_v3 ((win0_3.rect t).idx y) = _
  rw [V_3]
  exact Pairs.row _ _ _ i (by show (i 0).val * 256 + (i 1).val = (win0_3.index t 0 * 64 + 1 * (y 0).val) * 64 + (win0_3.index t 2 * 64 + 1 * (y 2).val); rw [(index_3 t).1, (index_3 t).2.2]; omega)
theorem blk_4 (c : Dev nD) (t : Fin cfg0.N) (y : S64x64x1.Idx) (i : S128x256.Idx)
    (h0 : (i 0).val * 256 + (i 1).val = (t.val * 64 + (y 0).val) * 64 + (y 1).val) :
    iblk m c 4 t y = arg m c main_arg4 i := by
  show V m c main_v4 ((win0_4.rect t).idx y) = _
  rw [V_4]
  exact Pairs.col _ _ _ i (by show (i 0).val * 256 + (i 1).val = (win0_4.index t 0 * 64 + 1 * (y 0).val) * 64 + (win0_4.index t 1 * 64 + 1 * (y 1).val); rw [(index_4 t).1, (index_4 t).2.1]; omega)
theorem blk_5 (c : Dev nD) (t : Fin cfg0.N) (y : S64x1x1.Idx) (i : S128x4.Idx)
    (h0 : (i 0).val * 4 + (i 1).val = t.val * 64 + (y 0).val) :
    iblk m c 5 t y = extractStridedSlice S128x4 ![0, 16] (arg m c main_arg5) slices_S128x128_S128x4_0_16 i := by
  show V m c main_v6 ((win0_5.rect t).idx y) = _
  rw [V_5]
  exact Pairs.scl _ _ _ i (by show (i 0).val * 4 + (i 1).val = (win0_5.index t 0 * 64 + 1 * (y 0).val); rw [(index_5 t).1]; omega)
theorem blk_6 (c : Dev nD) (t : Fin cfg0.N) (y : S64x1x1.Idx) (i : S128x4.Idx)
    (h0 : (i 0).val * 4 + (i 1).val = t.val * 64 + (y 0).val) :
    iblk m c 6 t y = extractStridedSlice S128x4 ![0, 16] (arg m c main_arg6) slices_S128x128_S128x4_0_16 i := by
  show V m c main_v8 ((win0_6.rect t).idx y) = _
  rw [V_6]
  exact Pairs.scl _ _ _ i (by show (i 0).val * 4 + (i 1).val = (win0_6.index t 0 * 64 + 1 * (y 0).val); rw [(index_6 t).1]; omega)
theorem blk_7 (c : Dev nD) (t : Fin cfg0.N) (y : S64x1x1.Idx) (i : S128x4.Idx)
    (h0 : (i 0).val * 4 + (i 1).val = t.val * 64 + (y 0).val) :
    iblk m c 7 t y = extractStridedSlice S128x4 ![0, 16] (arg m c main_arg7) slices_S128x128_S128x4_0_16 i := by
  show V m c main_v10 ((win0_7.rect t).idx y) = _
  rw [V_7]
  exact Pairs.scl _ _ _ i (by show (i 0).val * 4 + (i 1).val = (win0_7.index t 0 * 64 + 1 * (y 0).val); rw [(index_7 t).1]; omega)

/-- A number taken from zero is the number negated. -/
theorem neg_eq (x : Ideal .f32) : FloatOps.subf (Scalar.ofBits (F := Ideal) .f32 0x00000000#32) x = FloatOps.hostNegf x := by
  show (Ideal.ofBits .f32 0x00000000#32 : EReal) - x = - x
  rw [Ideal.ofBits_zero, zero_sub]

/-- The product of two row vectors, summed. -/
theorem rowDot (a b : FVec Ideal S64x1x64 .f32) (hφ) (hn) (j : S64x1.Idx) :
    multiReduction (F := Ideal) .add [2] S64x1 (mulf a (shapeCast S64x1x64 b shapeCasts_S64x1x64_S64x1x64)) 0x00000000#32 reduces_S64x1x64_S64x1 hφ hn j
      = ∑ k : Fin 64, a (fun x => match x with | ⟨0, _⟩ => j 0 | ⟨1, _⟩ => j 1 | ⟨2, _⟩ => k)
          * b (fun x => match x with | ⟨0, _⟩ => j 0 | ⟨1, _⟩ => j 1 | ⟨2, _⟩ => k) := by
  rw [Ideal.multiReduction_add_single]
  refine Finset.sum_congr rfl fun k _ => ?_
  have el : reduces_S64x1x64_S64x1.lift j k = (fun x => match x with | ⟨0, _⟩ => j 0 | ⟨1, _⟩ => j 1 | ⟨2, _⟩ => k : S64x1x64.Idx) :=
    funext fun x => Fin.ext (by match x with | ⟨0, _⟩ => rfl | ⟨1, _⟩ => rfl | ⟨2, _⟩ => rfl)
  rw [el]
  exact congrArg (_ * ·) (shapeCast_apply _ _ _ _ rfl)

/-- The new matrices as the reference computes them. -/
abbrev G8 (c : Dev nD) : Buf (Elt Ideal) ((c : Thread nD τ).loc main_v11_0) :=
  MlstmStepRefIdeal.Read.val_main_v36 (F := Ideal) (arg m c main_arg0) (arg m c main_arg3) (arg m c main_arg4) (arg m c main_arg5) (arg m c main_arg6)

/-- The new normalizers as the reference computes them. -/
abbrev G9 (c : Dev nD) : Buf (Elt Ideal) ((c : Thread nD τ).loc main_v11_1) :=
  MlstmStepRefIdeal.Read.val_main_v37 (F := Ideal) (arg m c main_arg1) (arg m c main_arg3) (arg m c main_arg5) (arg m c main_arg6)

/-- The output vectors as the reference computes them. -/
abbrev G10 (c : Dev nD) : Buf (Elt Ideal) ((c : Thread nD τ).loc main_v11_2) :=
  MlstmStepRefIdeal.Read.val_main_v38 (F := Ideal) (arg m c main_arg0) (arg m c main_arg1) (arg m c main_arg2) (arg m c main_arg3) (arg m c main_arg4) (arg m c main_arg5) (arg m c main_arg6) (arg m c main_arg7)

open MlstmStepRefIdeal.Read in
/-- One entry of the new matrix of one pair, from block `t`: the kernel's arithmetic is the reference's. -/
theorem mat_eq (c : Dev nD) (t : Fin cfg0.N) (y : S64x64x64.Idx) (i : MlstmStepRefIdeal.S128x4x64x64.Idx)
    (h0 : (i 0).val * 4 + (i 1).val = t.val * 64 + (y 0).val) (h2 : (i 2).val = (y 1).val) (h3 : (i 3).val = (y 2).val) :
    Value.E8 (F := Ideal) (iblk m c 6 t) (iblk m c 0 t) (iblk m c 5 t) (iblk m c 4 t) (iblk m c 3 t) y
      = val_main_v19 (F := Ideal) (arg m c main_arg0) (arg m c main_arg3) (arg m c main_arg4) (arg m c main_arg5) (arg m c main_arg6) i := by
  have l1 : (i 1).val < 4 := (i 1).isLt
  have l2 : (i 2).val < 64 := (i 2).isLt
  have l3 : (i 3).val < 64 := (i 3).isLt
  rw [val_main_v19_apply, val_main_v10_apply, val_main_v9_apply, val_main_v8_apply, val_main_v18_apply, val_main_v17_apply,
    val_main_v11_apply, val_main_v16_apply, val_main_v14_apply, val_main_v12_apply, val_main_v4_apply, val_main_v15_apply,
    val_main_v13_apply, val_main_v3_apply, val_main_v1_apply, val_main_v2_apply]
  refine congrArg₂ FloatOps.addf (congrArg₂ FloatOps.mulf ?_ ?_) (congrArg₂ FloatOps.mulf ?_ (congrArg₂ FloatOps.mulf ?_ (congrArg₂ FloatOps.mulf ?_ rfl)))
  · exact blk_6 m c t _ _ h0
  · exact blk_0 m c t _ i h0 h2 h3
  · exact blk_5 m c t _ _ h0
  · refine blk_4 m c t _ _ ?_
    show (((i 0).val * 4 + (i 1).val) * 64 + (i 2).val) / 256 * 256 + (((i 0).val * 4 + (i 1).val) * 64 + (i 2).val) % 256 = (t.val * 64 + (y 0).val) * 64 + (y 1).val
    omega
  · refine blk_3 m c t _ _ ?_
    show (((i 0).val * 4 + (i 1).val) * 64 + (i 3).val) / 256 * 256 + (((i 0).val * 4 + (i 1).val) * 64 + (i 3).val) % 256 = (t.val * 64 + (y 0).val) * 64 + (y 2).val
    omega

open MlstmStepRefIdeal.Read in
/-- One entry of the new normalizer of one pair. -/
theorem norm_eq (c : Dev nD) (t : Fin cfg0.N) (y : S64x1x64.Idx) (i : MlstmStepRefIdeal.S128x4x64.Idx)
    (h0 : (i 0).val * 4 + (i 1).val = t.val * 64 + (y 0).val) (h2 : (i 2).val = (y 2).val) :
    Value.E9 (F := Ideal) (iblk m c 6 t) (iblk m c 1 t) (iblk m c 5 t) (iblk m c 3 t) y
      = val_main_v26 (F := Ideal) (arg m c main_arg1) (arg m c main_arg3) (arg m c main_arg5) (arg m c main_arg6) i := by
  have l1 : (i 1).val < 4 := (i 1).isLt
  have l2 : (i 2).val < 64 := (i 2).isLt
  rw [val_main_v26_apply, val_main_v22_apply, val_main_v21_apply, val_main_v20_apply, val_main_v25_apply, val_main_v24_apply,
    val_main_v23_apply, val_main_v3_apply, val_main_v1_apply, val_main_v2_apply]
  refine congrArg₂ FloatOps.addf (congrArg₂ FloatOps.mulf ?_ ?_) (congrArg₂ FloatOps.mulf ?_ (congrArg₂ FloatOps.mulf ?_ rfl))
  · exact blk_6 m c t _ _ h0
  · exact blk_1 m c t _ i h0 h2
  · exact blk_5 m c t _ _ h0
  · refine blk_3 m c t _ _ ?_
    show (((i 0).val * 4 + (i 1).val) * 64 + (i 2).val) / 256 * 256 + (((i 0).val * 4 + (i 1).val) * 64 + (i 2).val) % 256 = (t.val * 64 + (y 0).val) * 64 + (y 2).val
    omega

/-! ### What each point writes back is its block of the reference's array -/

open MlstmStepRefIdeal.Read in
theorem flushed_8 (c : Dev nD) (t : Fin cfg0.N) :
    (dats m 0 c).flushed 8 t = ((cfg0.win 8).blk t).view.read (Elt Ideal) (G8 m c) := by
  rw [Value.flushed8]
  funext y
  have y0 : (y 0).val < 64 := (y 0).isLt
  have y1 : (y 1).val < 64 := (y 1).isLt
  have y2 : (y 2).val < 64 := (y 2).isLt
  show out0_8 (iblk m c 0 t) (iblk m c 1 t) (iblk m c 2 t) (iblk m c 3 t) (iblk m c 4 t) (iblk m c 5 t) (iblk m c 6 t) (iblk m c 7 t) y
    = G8 m c ((win0_8.rect t).idx y)
  unfold out0_8
  rw [View.ld_unit_zero hz3, View.ld_unit_zero hz3, View.ld_unit_zero hz3, View.ld_unit_zero hz3, View.ld_unit_zero hz3]
  refine (Value.canon8_eq _ _ _ _ _ y).trans ?_
  unfold G8
  rw [val_main_v36_apply]
  have e0 : (((win0_8.rect t).idx y) 0).val = win0_8.index t 0 * 64 + 1 * (y 0).val := rfl
  have e1 : (((win0_8.rect t).idx y) 1).val = win0_8.index t 1 * 64 + 1 * (y 1).val := rfl
  have e2 : (((win0_8.rect t).idx y) 2).val = win0_8.index t 2 * 64 + 1 * (y 2).val := rfl
  rw [(index_8 t).1] at e0; rw [(index_8 t).2.1] at e1; rw [(index_8 t).2.2] at e2
  generalize (win0_8.rect t).idx y = z at e0 e1 e2 ⊢
  refine mat_eq m c t y _ ?_ ?_ ?_
  · show (((z 0).val * 64 + (z 1).val) * 64 + (z 2).val) / 16384 * 4 + (((z 0).val * 64 + (z 1).val) * 64 + (z 2).val) / 4096 % 4 = _
    omega
  · show (((z 0).val * 64 + (z 1).val) * 64 + (z 2).val) / 64 % 64 = _
    omega
  · show (((z 0).val * 64 + (z 1).val) * 64 + (z 2).val) % 64 = _
    omega

open MlstmStepRefIdeal.Read in
theorem flushed_9 (c : Dev nD) (t : Fin cfg0.N) :
    (dats m 0 c).flushed 9 t = ((cfg0.win 9).blk t).view.read (Elt Ideal) (G9 m c) := by
  rw [Value.flushed9]
  funext y
  have y0 : (y 0).val < 64 := (y 0).isLt
  have y1 : (y 1).val < 1 := (y 1).isLt
  have y2 : (y 2).val < 64 := (y 2).isLt
  show out0_9 (iblk m c 0 t) (iblk m c 1 t) (iblk m c 2 t) (iblk m c 3 t) (iblk m c 4 t) (iblk m c 5 t) (iblk m c 6 t) (iblk m c 7 t) y
    = G9 m c ((win0_9.rect t).idx y)
  unfold out0_9
  rw [View.ld_unit_zero hz3, View.ld_unit_zero hz3, View.ld_unit_zero hz3, View.ld_unit_zero hz3]
  refine (Value.canon9_eq _ _ _ _ y).trans ?_
  unfold G9
  rw [val_main_v37_apply]
  have e0 : (((win0_9.rect t).idx y) 0).val = win0_9.index t 0 * 64 + 1 * (y 0).val := rfl
  have e1 : (((win0_9.rect t).idx y) 1).val = win0_9.index t 1 * 1 + 1 * (y 1).val := rfl
  have e2 : (((win0_9.rect t).idx y) 2).val = win0_9.index t 2 * 64 + 1 * (y 2).val := rfl
  rw [(index_9 t).1] at e0; rw [(index_9 t).2.1] at e1; rw [(index_9 t).2.2] at e2
  generalize (win0_9.rect t).idx y = z at e0 e1 e2 ⊢
  refine norm_eq m c t y _ ?_ ?_
  · show (((z 0).val * 1 + (z 1).val) * 64 + (z 2).val) / 256 * 4 + (((z 0).val * 1 + (z 1).val) * 64 + (z 2).val) / 64 % 4 = t.val * 64 + (y 0).val
    omega
  · show (((z 0).val * 1 + (z 1).val) * 64 + (z 2).val) % 64 = (y 2).val
    omega

open MlstmStepRefIdeal.Read in
theorem flushed_10 (c : Dev nD) (t : Fin cfg0.N) :
    (dats m 0 c).flushed 10 t = ((cfg0.win 10).blk t).view.read (Elt Ideal) (G10 m c) := by
  rw [Value.flushed10]
  funext y
  have y0 : (y 0).val < 64 := (y 0).isLt
  have y1 : (y 1).val < 64 := (y 1).isLt
  have y2 : (y 2).val < 1 := (y 2).isLt
  show out0_10 (iblk m c 0 t) (iblk m c 1 t) (iblk m c 2 t) (iblk m c 3 t) (iblk m c 4 t) (iblk m c 5 t) (iblk m c 6 t) (iblk m c 7 t) y
    = G10 m c ((win0_10.rect t).idx y)
  unfold out0_10
  rw [View.ld_unit_zero hz3, View.ld_unit_zero hz3, View.ld_unit_zero hz3, View.ld_unit_zero hz3, View.ld_unit_zero hz3, View.ld_unit_zero hz3, View.ld_unit_zero hz3, View.ld_unit_zero hz3]
  refine (Value.canon10_eq _ _ _ _ _ _ _ _ y).trans ?_
  unfold G10
  rw [val_main_v38_apply, val_main_v35_apply, val_main_v34_apply, val_main_v33_apply, val_main_v32_apply, val_main_v29_apply,
    val_main_v31_apply, val_main_v30_apply]
  have e0 : (((win0_10.rect t).idx y) 0).val = win0_10.index t 0 * 64 + 1 * (y 0).val := rfl
  have e1 : (((win0_10.rect t).idx y) 1).val = win0_10.index t 1 * 64 + 1 * (y 1).val := rfl
  have e2 : (((win0_10.rect t).idx y) 2).val = win0_10.index t 2 * 1 + 1 * (y 2).val := rfl
  rw [(index_10 t).1] at e0; rw [(index_10 t).2.1] at e1; rw [(index_10 t).2.2] at e2
  generalize (win0_10.rect t).idx y = z at e0 e1 e2 ⊢
  have hz : ((idx_main_v38 z) 0).val * 4 + ((idx_main_v38 z) 1).val = t.val * 64 + (y 0).val := by
    show (((z 0).val * 64 + (z 1).val) * 1 + (z 2).val) / 256 * 4 + (((z 0).val * 64 + (z 1).val) * 1 + (z 2).val) / 64 % 4 = t.val * 64 + (y 0).val
    omega
  have hw : ((idx_main_v38 z) 2).val = (y 1).val := by
    show (((z 0).val * 64 + (z 1).val) * 1 + (z 2).val) % 64 = (y 1).val
    omega
  generalize idx_main_v38 z = w at hz hw ⊢
  refine congrArg₂ FloatOps.divf ?_ (congrArg₂ FloatOps.maximumf (congrArg FloatOps.absf ?_) ?_)
  · rw [val_main_v27_apply]
    refine (RwkvIdeal.RefValue.rowSum' _ _ _ _ _).trans (Finset.sum_congr rfl fun k _ => ?_)
    have hk : k.val < 64 := k.isLt
    refine congrArg₂ (· * ·) ?_ ?_
    · refine (congrFun (Value.lay8_0_eq _ _ _ _ _).symm _).trans ((Value.piece8_0 _ _ _ _ _ _).trans (mat_eq m c t _ _ ?_ ?_ ?_))
      · show (w 0).val * 4 + (w 1).val = t.val * 64 + (0 + 1 * (y 0).val)
        omega
      · show (w 2).val = 0 + 1 * (y 1).val
        omega
      · show k.val = 0 + 1 * k.val
        omega
    · rw [val_main_v0_apply]
      refine blk_2 m c t _ _ ?_
      show (((w 0).val * 4 + (w 1).val) * 64 + k.val) / 256 * 256 + (((w 0).val * 4 + (w 1).val) * 64 + k.val) % 256 = (t.val * 64 + (y 0).val) * 64 + k.val
      omega
  · rw [val_main_v28_apply]
    refine (rowDot _ _ _ _ _).trans (Finset.sum_congr rfl fun k _ => ?_)
    have hk : k.val < 64 := k.isLt
    refine congrArg₂ (· * ·) ?_ ?_
    · refine (congrFun (Value.lay9_0_eq _ _ _ _).symm _).trans ((Value.piece9_0 _ _ _ _ _).trans (norm_eq m c t _ _ ?_ ?_))
      · show (w 0).val * 4 + (w 1).val = t.val * 64 + (0 + 1 * (y 0).val)
        omega
      · show k.val = 0 + 1 * k.val
        omega
    · rw [val_main_v0_apply]
      refine blk_2 m c t _ _ ?_
      show (((w 0).val * 4 + (w 1).val) * 64 + k.val) / 256 * 256 + (((w 0).val * 4 + (w 1).val) * 64 + k.val) % 256 = (t.val * 64 + (y 0).val) * 64 + k.val
      omega
  · refine congrArg FloatOps.exp ((neg_eq _).trans (congrArg FloatOps.hostNegf ?_))
    exact blk_7 m c t _ _ hz

/-! ### The blocks tile the arrays -/

theorem cover_8 (i : S512x64x64.Idx) : ∃ t : Fin cfg0.N, (cfg0.win 8).flush t = true ∧ i ∈ ((cfg0.win 8).blk t).view.set := by
  have h0 : (i 0 : Nat) < 512 := (i 0).isLt
  have h1 : (i 1 : Nat) < 64 := (i 1).isLt
  have h2 : (i 2 : Nat) < 64 := (i 2).isLt
  have hN : cfg0.N = 8 := N_0
  have ht : (i 0 : Nat) / 64 < cfg0.N := by omega
  refine ⟨⟨(i 0 : Nat) / 64, ht⟩, flush0_8 _, ?_⟩
  show i ∈ ((View.whole main_v11_0).slice (win0_8.rect ⟨(i 0 : Nat) / 64, ht⟩)).set
  rw [View.set_slice_whole, Rect.mem_set_unit]
  obtain ⟨e0, e1, e2⟩ := index_8 ⟨(i 0 : Nat) / 64, ht⟩
  intro a
  match a with
  | ⟨0, _⟩ => show win0_8.index _ 0 * 64 ≤ (i 0 : Nat) ∧ (i 0 : Nat) < win0_8.index _ 0 * 64 + 64
              rw [e0]; dsimp only; omega
  | ⟨1, _⟩ => show win0_8.index _ 1 * 64 ≤ (i 1 : Nat) ∧ (i 1 : Nat) < win0_8.index _ 1 * 64 + 64
              rw [e1]; omega
  | ⟨2, _⟩ => show win0_8.index _ 2 * 64 ≤ (i 2 : Nat) ∧ (i 2 : Nat) < win0_8.index _ 2 * 64 + 64
              rw [e2]; omega

theorem final_8 (c : Dev nD) : (dats m 0 c).arrAt 8 cfg0.N = G8 m c :=
  (dats m 0 c).arrAt_eq_of_cover 8 (G8 m c) (fun t _ => flushed_8 m c t) cover_8

theorem cover_9 (i : S512x1x64.Idx) : ∃ t : Fin cfg0.N, (cfg0.win 9).flush t = true ∧ i ∈ ((cfg0.win 9).blk t).view.set := by
  have h0 : (i 0 : Nat) < 512 := (i 0).isLt
  have h1 : (i 1 : Nat) < 1 := (i 1).isLt
  have h2 : (i 2 : Nat) < 64 := (i 2).isLt
  have hN : cfg0.N = 8 := N_0
  have ht : (i 0 : Nat) / 64 < cfg0.N := by omega
  refine ⟨⟨(i 0 : Nat) / 64, ht⟩, flush0_9 _, ?_⟩
  show i ∈ ((View.whole main_v11_1).slice (win0_9.rect ⟨(i 0 : Nat) / 64, ht⟩)).set
  rw [View.set_slice_whole, Rect.mem_set_unit]
  obtain ⟨e0, e1, e2⟩ := index_9 ⟨(i 0 : Nat) / 64, ht⟩
  intro a
  match a with
  | ⟨0, _⟩ => show win0_9.index _ 0 * 64 ≤ (i 0 : Nat) ∧ (i 0 : Nat) < win0_9.index _ 0 * 64 + 64
              rw [e0]; dsimp only; omega
  | ⟨1, _⟩ => show win0_9.index _ 1 * 1 ≤ (i 1 : Nat) ∧ (i 1 : Nat) < win0_9.index _ 1 * 1 + 1
              rw [e1]; omega
  | ⟨2, _⟩ => show win0_9.index _ 2 * 64 ≤ (i 2 : Nat) ∧ (i 2 : Nat) < win0_9.index _ 2 * 64 + 64
              rw [e2]; omega

theorem final_9 (c : Dev nD) : (dats m 0 c).arrAt 9 cfg0.N = G9 m c :=
  (dats m 0 c).arrAt_eq_of_cover 9 (G9 m c) (fun t _ => flushed_9 m c t) cover_9

theorem cover_10 (i : S512x64x1.Idx) : ∃ t : Fin cfg0.N, (cfg0.win 10).flush t = true ∧ i ∈ ((cfg0.win 10).blk t).view.set := by
  have h0 : (i 0 : Nat) < 512 := (i 0).isLt
  have h1 : (i 1 : Nat) < 64 := (i 1).isLt
  have h2 : (i 2 : Nat) < 1 := (i 2).isLt
  have hN : cfg0.N = 8 := N_0
  have ht : (i 0 : Nat) / 64 < cfg0.N := by omega
  refine ⟨⟨(i 0 : Nat) / 64, ht⟩, flush0_10 _, ?_⟩
  show i ∈ ((View.whole main_v11_2).slice (win0_10.rect ⟨(i 0 : Nat) / 64, ht⟩)).set
  rw [View.set_slice_whole, Rect.mem_set_unit]
  obtain ⟨e0, e1, e2⟩ := index_10 ⟨(i 0 : Nat) / 64, ht⟩
  intro a
  match a with
  | ⟨0, _⟩ => show win0_10.index _ 0 * 64 ≤ (i 0 : Nat) ∧ (i 0 : Nat) < win0_10.index _ 0 * 64 + 64
              rw [e0]; dsimp only; omega
  | ⟨1, _⟩ => show win0_10.index _ 1 * 64 ≤ (i 1 : Nat) ∧ (i 1 : Nat) < win0_10.index _ 1 * 64 + 64
              rw [e1]; omega
  | ⟨2, _⟩ => show win0_10.index _ 2 * 1 ≤ (i 2 : Nat) ∧ (i 2 : Nat) < win0_10.index _ 2 * 1 + 1
              rw [e2]; omega

theorem final_10 (c : Dev nD) : (dats m 0 c).arrAt 10 cfg0.N = G10 m c :=
  (dats m 0 c).arrAt_eq_of_cover 10 (G10 m c) (fun t _ => flushed_10 m c t) cover_10

end Cert.MlstmStepIdeal.RefValue

/-! ### The claims -/

namespace Cert.Proof.MlstmStepClaims

theorem frame_k : Cert.quiescent_MlstmStep := fun m ρ _ => Cert.MlstmStep.Gen.frame m ρ
theorem frame_ki : Cert.quiescent_MlstmStepIdeal := fun m ρ _ => Cert.MlstmStepIdeal.Gen.frame m ρ
theorem frame_ri : Cert.quiescent_MlstmStepRefIdeal := fun m ρ _ =>
  (θ_run Cert.MlstmStepRefIdeal.defs _ _).mono (fun r h => ⟨fun c => (h c).2.2.2, sem_eq_zero_of_no_sems (by decide) r.2⟩)
    (Cert.MlstmStepRefIdeal.Value.run (F := Ideal) m ρ)
theorem preserves : Cert.preserves_MlstmStep_MlstmStepIdeal := trivial

/-- The kernel's new matrices, normalizers and outputs are the reference's. -/
theorem algebraic : Cert.algebraic_MlstmStepIdeal_MlstmStepRefIdeal := by
  intro m ρ m' ρ' _ hagree
  refine ⟨fun c => MlstmStepIdeal.RefValue.G8 m c, fun c => MlstmStepIdeal.RefValue.G9 m c, fun c => MlstmStepIdeal.RefValue.G10 m c, ?_, ?_⟩
  · exact (θ_run Cert.MlstmStepIdeal.defs _ _).mono
      (fun _ h c => ⟨(h c).1.trans (MlstmStepIdeal.RefValue.final_8 m c), (h c).2.1.trans (MlstmStepIdeal.RefValue.final_9 m c), (h c).2.2.1.trans (MlstmStepIdeal.RefValue.final_10 m c), (h c).2.2.2⟩)
      (Cert.MlstmStepIdeal.Value.run_blocks (F := Ideal) m ρ)
  · refine (θ_run Cert.MlstmStepRefIdeal.defs _ _).mono
      (fun _ h c => ⟨(h c).1.trans ?_, (h c).2.1.trans ?_, (h c).2.2.1.trans ?_, (h c).2.2.2⟩)
      (Cert.MlstmStepRefIdeal.Value.run (F := Ideal) m' ρ')
    · obtain ⟨a0, a1, a2, a3, a4, a5, a6, a7⟩ := hagree c
      refine (MlstmStepRefIdeal.Read.val_main_v36_eq _ _ _ _ _).trans ?_
      rw [a0, a3, a4, a5, a6]
    · obtain ⟨a0, a1, a2, a3, a4, a5, a6, a7⟩ := hagree c
      refine (MlstmStepRefIdeal.Read.val_main_v37_eq _ _ _ _).trans ?_
      rw [a1, a3, a5, a6]
    · obtain ⟨a0, a1, a2, a3, a4, a5, a6, a7⟩ := hagree c
      refine (MlstmStepRefIdeal.Read.val_main_v38_eq _ _ _ _ _ _ _ _).trans ?_
      rw [a0, a1, a2, a3, a4, a5, a6, a7]

end Cert.Proof.MlstmStepClaims

end
-- ==== Proof.InStepValue.lean ====
/- The values the sample group's input projection leaves: the same projection over the 128 rows of one step, in one
   block. The order of the weight columns is the prompt group's, so its lemmas read the packed weights here too. -/
module

public import proofs.«01_k».proof.Defs
public import proofs.«01_k».proof.Proof.Common
public import proofs.«01_k».proof.Proof.InprojValue
public import proofs.«01_k».proof.Proof.Gen.InStep.Frame
public import proofs.«01_k».proof.Proof.Gen.InStepIdeal.Value
public import proofs.«01_k».proof.Proof.Gen.InStepRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ### The kernel's arithmetic, entry by entry -/

namespace Cert.InStepIdeal.RefValue

open Cert.InStepIdeal Cert.InStepIdeal.Gen Cert.Common

theorem pay1_apply (x : FVec Ideal S128x1024 .f32) (g : FVec Ideal S1x1024 .f32) (p : Fin 128) (k : Fin 1024) :
    k0_pay1 (F := Ideal) x g (ix2 p k) = rms (fun k => x (ix2 p k)) (fun k => g (ix2 0 k)) k := by
  pointwise [k0_pay1, rms]

theorem pay2_apply (x : FVec Ideal S128x1024 .f32) (g : FVec Ideal S1x1024 .f32) (w : FVec Ideal S1024x3328 .bf16) (p : Fin 128) (c : Fin 3328) :
    k0_pay2 (F := Ideal) x g w (ix2 p c) = ∑ k : Fin 1024, rms (fun k => x (ix2 p k)) (fun k => g (ix2 0 k)) k * w (ix2 k c) := by
  pointwise [k0_pay2, pay1_apply]

theorem pay3_apply (x : FVec Ideal S128x1024 .f32) (g : FVec Ideal S1x1024 .f32) (w : FVec Ideal S8x1024 .bf16) (a : Fin 8) (p : Fin 128) :
    k0_pay3 (F := Ideal) x g w (ix3 0 a p) = ∑ k : Fin 1024, w (ix2 a k) * rms (fun k => x (ix2 p k)) (fun k => g (ix2 0 k)) k := by
  pointwise [k0_pay3, pay1_apply]

end Cert.InStepIdeal.RefValue

namespace Cert.InStepRefIdeal.RefValue

open Cert.InStepRefIdeal Cert.InStepRefIdeal.Gen Cert.InStepRefIdeal.Read Cert.Common

theorem proj_apply (x : FVec Ideal S128x1024 .f32) (g : FVec Ideal S1024 .f32) (w : FVec Ideal S1024x3224 .f32) (t : Fin 128) (c : Fin 3224) :
    val_main_v13 (F := Ideal) x g w (ix2 t c)
      = ∑ k : Fin 1024, rms (fun k => x (ix2 t k)) (fun k => g (ix1 k)) k * w (ix2 k c) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms]

set_option maxHeartbeats 2000000 in
/-- The products in the order of the result: the reference's concatenation, column by column. -/
theorem rows_apply (x : FVec Ideal S128x1024 .f32) (g : FVec Ideal S1024 .f32) (w : FVec Ideal S1024x3224 .f32) (t : Fin 128) (c : Fin 3328) :
    val_main_v28 (F := Ideal) x g w (ix2 t c)
      = if h : 920 ≤ c.val ∧ c.val < 1024 then 0 else val_main_v13 (F := Ideal) x g w (ix2 t ⟨src c.val, src_lt _ c.isLt h⟩) := by
  obtain ⟨c, hc⟩ := c
  unfold val_main_v28
  by_cases h0 : c < 896
  · rw [dif_neg (by dsimp only; omega)]
    exact slice2 (n := 896) _ _ 0 (Nat.le_of_ble_eq_true rfl) (val_main_v13 (F := Ideal) x g w) 2328 _ rfl 0 rfl t _ _ (by dsimp only; omega) (by dsimp only; omega) (by dsimp only [src]; split_ifs <;> omega)
  by_cases h1 : c < 912
  · rw [dif_neg (by dsimp only; omega)]
    exact slice2 (n := 16) _ _ 1 (Nat.le_of_ble_eq_true rfl) (val_main_v13 (F := Ideal) x g w) 2056 _ rfl 896 rfl t _ _ (by dsimp only; omega) (by dsimp only; omega) (by dsimp only [src]; split_ifs <;> omega)
  by_cases h2 : c < 916
  · rw [dif_neg (by dsimp only; omega)]
    exact slice2 (n := 4) _ _ 2 (Nat.le_of_ble_eq_true rfl) (val_main_v13 (F := Ideal) x g w) 1024 _ rfl 912 rfl t _ _ (by dsimp only; omega) (by dsimp only; omega) (by dsimp only [src]; split_ifs <;> omega)
  by_cases h3 : c < 920
  · rw [dif_neg (by dsimp only; omega)]
    exact slice2 (n := 4) _ _ 3 (Nat.le_of_ble_eq_true rfl) (val_main_v13 (F := Ideal) x g w) 1028 _ rfl 916 rfl t _ _ (by dsimp only; omega) (by dsimp only; omega) (by dsimp only [src]; split_ifs <;> omega)
  by_cases h4 : c < 1024
  · rw [dif_pos ⟨by dsimp only; omega, by dsimp only; omega⟩]
    exact (piece2 _ _ 4 (Nat.le_of_ble_eq_true rfl) _ rfl 920 rfl t _ (by dsimp only; omega) (by dsimp only; omega)).trans (by pointwise [val_main_v27, val_main_cst_2])
  by_cases h5 : c < 1280
  · rw [dif_neg (by dsimp only; omega)]
    exact slice2 (n := 256) _ _ 5 (Nat.le_of_ble_eq_true rfl) (val_main_v13 (F := Ideal) x g w) 0 _ rfl 1024 rfl t _ _ (by dsimp only; omega) (by dsimp only; omega) (by dsimp only [src]; split_ifs <;> omega)
  by_cases h6 : c < 1536
  · rw [dif_neg (by dsimp only; omega)]
    exact slice2 (n := 256) _ _ 6 (Nat.le_of_ble_eq_true rfl) (val_main_v13 (F := Ideal) x g w) 256 _ rfl 1280 rfl t _ _ (by dsimp only; omega) (by dsimp only; omega) (by dsimp only [src]; split_ifs <;> omega)
  by_cases h7 : c < 1792
  · rw [dif_neg (by dsimp only; omega)]
    exact slice2 (n := 256) _ _ 7 (Nat.le_of_ble_eq_true rfl) (val_main_v13 (F := Ideal) x g w) 512 _ rfl 1536 rfl t _ _ (by dsimp only; omega) (by dsimp only; omega) (by dsimp only [src]; split_ifs <;> omega)
  by_cases h8 : c < 2048
  · rw [dif_neg (by dsimp only; omega)]
    exact slice2 (n := 256) _ _ 8 (Nat.le_of_ble_eq_true rfl) (val_main_v13 (F := Ideal) x g w) 768 _ rfl 1792 rfl t _ _ (by dsimp only; omega) (by dsimp only; omega) (by dsimp only [src]; split_ifs <;> omega)
  by_cases h9 : c < 2304
  · rw [dif_neg (by dsimp only; omega)]
    exact slice2 (n := 256) _ _ 9 (Nat.le_of_ble_eq_true rfl) (val_main_v13 (F := Ideal) x g w) 1032 _ rfl 2048 rfl t _ _ (by dsimp only; omega) (by dsimp only; omega) (by dsimp only [src]; split_ifs <;> omega)
  by_cases h10 : c < 2560
  · rw [dif_neg (by dsimp only; omega)]
    exact slice2 (n := 256) _ _ 10 (Nat.le_of_ble_eq_true rfl) (val_main_v13 (F := Ideal) x g w) 1288 _ rfl 2304 rfl t _ _ (by dsimp only; omega) (by dsimp only; omega) (by dsimp only [src]; split_ifs <;> omega)
  by_cases h11 : c < 2816
  · rw [dif_neg (by dsimp only; omega)]
    exact slice2 (n := 256) _ _ 11 (Nat.le_of_ble_eq_true rfl) (val_main_v13 (F := Ideal) x g w) 1544 _ rfl 2560 rfl t _ _ (by dsimp only; omega) (by dsimp only; omega) (by dsimp only [src]; split_ifs <;> omega)
  by_cases h12 : c < 3072
  · rw [dif_neg (by dsimp only; omega)]
    exact slice2 (n := 256) _ _ 12 (Nat.le_of_ble_eq_true rfl) (val_main_v13 (F := Ideal) x g w) 1800 _ rfl 2816 rfl t _ _ (by dsimp only; omega) (by dsimp only; omega) (by dsimp only [src]; split_ifs <;> omega)
  rw [dif_neg (by dsimp only; omega)]
  exact slice2 (n := 256) _ _ 13 (Nat.le_of_ble_eq_true rfl) (val_main_v13 (F := Ideal) x g w) 2072 _ rfl 3072 rfl t _ _ (by dsimp only; omega) (by dsimp only; omega) (by dsimp only [src]; split_ifs <;> omega)

/-- The gate products: columns 1024 to 1031. -/
theorem gates_apply (x : FVec Ideal S128x1024 .f32) (g : FVec Ideal S1024 .f32) (w : FVec Ideal S1024x3224 .f32) (t : Fin 128) (a : Fin 8) :
    val_main_v29 (F := Ideal) x g w (ix2 t a) = val_main_v13 (F := Ideal) x g w (ix2 t ⟨1024 + a.val, by omega⟩) := by
  unfold val_main_v29
  by_cases h : a.val < 4
  · exact slice2 (n := 4) _ _ 0 (Nat.le_of_ble_eq_true rfl) (val_main_v13 (F := Ideal) x g w) 1024 _ rfl 0 rfl t _ _ (by omega) (by omega) (by dsimp only; omega)
  · exact slice2 (n := 4) _ _ 1 (Nat.le_of_ble_eq_true rfl) (val_main_v13 (F := Ideal) x g w) 1028 _ rfl 4 rfl t _ _ (by omega) (by omega) (by dsimp only; omega)

end Cert.InStepRefIdeal.RefValue

/-! ### The weights as the kernel takes them -/

namespace Cert.InStepIdeal.RefValue

open Cert.InStepIdeal Cert.InStepIdeal.Gen Cert.Common
open Cert.InprojIdeal.RefValue (packed packed_apply gatesT gatesT_apply)

variable (m : (ℓ : Loc nD τ sig) → Buf (Elt Ideal) ℓ) (ρ : Dev nD → PrngReg)

/-- The memory of argument `b`, of device `c`. -/
abbrev arg (c : Dev nD) (b : Ref sig .tc) : Buf (Elt Ideal) ((c : Thread nD τ).loc b) := m ((c : Thread nD τ).loc b)

theorem result_v14 (hxs) (hy) (W : Valuation τ sig (Elt Ideal)) :
    (StableHlo.nary (τ := τ) ![main_v10, main_v4, main_v5, main_v13] main_v14 (fun u => (concatenate S1024x128 1 [⟨S1024x16, (u 0 : (⟨S1024x16, .f32⟩ : BufTy).Contents (Elt Ideal))⟩, ⟨S1024x4, (u 1 : (⟨S1024x4, .f32⟩ : BufTy).Contents (Elt Ideal))⟩, ⟨S1024x4, (u 2 : (⟨S1024x4, .f32⟩ : BufTy).Contents (Elt Ideal))⟩, ⟨S1024x104, (u 3 : (⟨S1024x104, .f32⟩ : BufTy).Contents (Elt Ideal))⟩] concatenates_S1024x16_S1024x4_S1024x4_S1024x104_S1024x128_d1 : (⟨S1024x128, .f32⟩ : BufTy).Contents (Elt Ideal))) hxs hy).result W (Proc.devRef .tc main_v14)
      = concatenate S1024x128 1 [⟨S1024x16, (W (Proc.devRef .tc main_v10) : (⟨S1024x16, .f32⟩ : BufTy).Contents (Elt Ideal))⟩, ⟨S1024x4, (W (Proc.devRef .tc main_v4) : (⟨S1024x4, .f32⟩ : BufTy).Contents (Elt Ideal))⟩, ⟨S1024x4, (W (Proc.devRef .tc main_v5) : (⟨S1024x4, .f32⟩ : BufTy).Contents (Elt Ideal))⟩, ⟨S1024x104, (W (Proc.devRef .tc main_v13) : (⟨S1024x104, .f32⟩ : BufTy).Contents (Elt Ideal))⟩] concatenates_S1024x16_S1024x4_S1024x4_S1024x104_S1024x128_d1 := StableHlo.nary_result _ _ _ _ _ _

theorem result_v15 (hxs) (hy) (W : Valuation τ sig (Elt Ideal)) :
    (StableHlo.nary (τ := τ) ![main_v12, main_v14, main_v0, main_v1, main_v2, main_v3, main_v6, main_v7, main_v8, main_v9, main_v11] main_v15 (fun u => (concatenate S1024x3328 1 [⟨S1024x896, (u 0 : (⟨S1024x896, .f32⟩ : BufTy).Contents (Elt Ideal))⟩, ⟨S1024x128, (u 1 : (⟨S1024x128, .f32⟩ : BufTy).Contents (Elt Ideal))⟩, ⟨S1024x256, (u 2 : (⟨S1024x256, .f32⟩ : BufTy).Contents (Elt Ideal))⟩, ⟨S1024x256, (u 3 : (⟨S1024x256, .f32⟩ : BufTy).Contents (Elt Ideal))⟩, ⟨S1024x256, (u 4 : (⟨S1024x256, .f32⟩ : BufTy).Contents (Elt Ideal))⟩, ⟨S1024x256, (u 5 : (⟨S1024x256, .f32⟩ : BufTy).Contents (Elt Ideal))⟩, ⟨S1024x256, (u 6 : (⟨S1024x256, .f32⟩ : BufTy).Contents (Elt Ideal))⟩, ⟨S1024x256, (u 7 : (⟨S1024x256, .f32⟩ : BufTy).Contents (Elt Ideal))⟩, ⟨S1024x256, (u 8 : (⟨S1024x256, .f32⟩ : BufTy).Contents (Elt Ideal))⟩, ⟨S1024x256, (u 9 : (⟨S1024x256, .f32⟩ : BufTy).Contents (Elt Ideal))⟩, ⟨S1024x256, (u 10 : (⟨S1024x256, .f32⟩ : BufTy).Contents (Elt Ideal))⟩] concatenates_S1024x896_S1024x128_S1024x256_S1024x256_S1024x256_S1024x256_S1024x256_S1024x256_S1024x256_S1024x256_S1024x256_S1024x3328_d1 : (⟨S1024x3328, .f32⟩ : BufTy).Contents (Elt Ideal))) hxs hy).result W (Proc.devRef .tc main_v15)
      = concatenate S1024x3328 1 [⟨S1024x896, (W (Proc.devRef .tc main_v12) : (⟨S1024x896, .f32⟩ : BufTy).Contents (Elt Ideal))⟩, ⟨S1024x128, (W (Proc.devRef .tc main_v14) : (⟨S1024x128, .f32⟩ : BufTy).Contents (Elt Ideal))⟩, ⟨S1024x256, (W (Proc.devRef .tc main_v0) : (⟨S1024x256, .f32⟩ : BufTy).Contents (Elt Ideal))⟩, ⟨S1024x256, (W (Proc.devRef .tc main_v1) : (⟨S1024x256, .f32⟩ : BufTy).Contents (Elt Ideal))⟩, ⟨S1024x256, (W (Proc.devRef .tc main_v2) : (⟨S1024x256, .f32⟩ : BufTy).Contents (Elt Ideal))⟩, ⟨S1024x256, (W (Proc.devRef .tc main_v3) : (⟨S1024x256, .f32⟩ : BufTy).Contents (Elt Ideal))⟩, ⟨S1024x256, (W (Proc.devRef .tc main_v6) : (⟨S1024x256, .f32⟩ : BufTy).Contents (Elt Ideal))⟩, ⟨S1024x256, (W (Proc.devRef .tc main_v7) : (⟨S1024x256, .f32⟩ : BufTy).Contents (Elt Ideal))⟩, ⟨S1024x256, (W (Proc.devRef .tc main_v8) : (⟨S1024x256, .f32⟩ : BufTy).Contents (Elt Ideal))⟩, ⟨S1024x256, (W (Proc.devRef .tc main_v9) : (⟨S1024x256, .f32⟩ : BufTy).Contents (Elt Ideal))⟩, ⟨S1024x256, (W (Proc.devRef .tc main_v11) : (⟨S1024x256, .f32⟩ : BufTy).Contents (Elt Ideal))⟩] concatenates_S1024x896_S1024x128_S1024x256_S1024x256_S1024x256_S1024x256_S1024x256_S1024x256_S1024x256_S1024x256_S1024x256_S1024x3328_d1 := StableHlo.nary_result _ _ _ _ _ _

/-- The arrays after the columns are cut out and before they are joined. -/
abbrev W (c : Dev nD) : Valuation τ sig (Elt Ideal) := StableHlo.after ((hostOps0 (F := Ideal)).take 15) (fun b => m (c, b))
theorem V_W (c : Dev nD) (b : Ref sig .tc) : V m c b = StableHlo.after ((hostOps0 (F := Ideal)).drop 15) (W m c) (Proc.devRef .tc b) := by
  unfold W
  rw [← StableHlo.after_append, List.take_append_drop]
theorem W_v0 (c : Dev nD) : W m c (Proc.devRef .tc main_v0) = extractStridedSlice S1024x256 ![0, 0] (arg m c main_arg2) slices_S1024x3224_S1024x256_0_0 := by
  unfold W hostOps0; dsimp only [List.take]; after_results <;> rfl
theorem W_v1 (c : Dev nD) : W m c (Proc.devRef .tc main_v1) = extractStridedSlice S1024x256 ![0, 256] (arg m c main_arg2) slices_S1024x3224_S1024x256_0_256 := by
  unfold W hostOps0; dsimp only [List.take]; after_results <;> rfl
theorem W_v2 (c : Dev nD) : W m c (Proc.devRef .tc main_v2) = extractStridedSlice S1024x256 ![0, 512] (arg m c main_arg2) slices_S1024x3224_S1024x256_0_512 := by
  unfold W hostOps0; dsimp only [List.take]; after_results <;> rfl
theorem W_v3 (c : Dev nD) : W m c (Proc.devRef .tc main_v3) = extractStridedSlice S1024x256 ![0, 768] (arg m c main_arg2) slices_S1024x3224_S1024x256_0_768 := by
  unfold W hostOps0; dsimp only [List.take]; after_results <;> rfl
theorem W_v4 (c : Dev nD) : W m c (Proc.devRef .tc main_v4) = extractStridedSlice S1024x4 ![0, 1024] (arg m c main_arg2) slices_S1024x3224_S1024x4_0_1024 := by
  unfold W hostOps0; dsimp only [List.take]; after_results <;> rfl
theorem W_v5 (c : Dev nD) : W m c (Proc.devRef .tc main_v5) = extractStridedSlice S1024x4 ![0, 1028] (arg m c main_arg2) slices_S1024x3224_S1024x4_0_1028 := by
  unfold W hostOps0; dsimp only [List.take]; after_results <;> rfl
theorem W_v6 (c : Dev nD) : W m c (Proc.devRef .tc main_v6) = extractStridedSlice S1024x256 ![0, 1032] (arg m c main_arg2) slices_S1024x3224_S1024x256_0_1032 := by
  unfold W hostOps0; dsimp only [List.take]; after_results <;> rfl
theorem W_v7 (c : Dev nD) : W m c (Proc.devRef .tc main_v7) = extractStridedSlice S1024x256 ![0, 1288] (arg m c main_arg2) slices_S1024x3224_S1024x256_0_1288 := by
  unfold W hostOps0; dsimp only [List.take]; after_results <;> rfl
theorem W_v8 (c : Dev nD) : W m c (Proc.devRef .tc main_v8) = extractStridedSlice S1024x256 ![0, 1544] (arg m c main_arg2) slices_S1024x3224_S1024x256_0_1544 := by
  unfold W hostOps0; dsimp only [List.take]; after_results <;> rfl
theorem W_v9 (c : Dev nD) : W m c (Proc.devRef .tc main_v9) = extractStridedSlice S1024x256 ![0, 1800] (arg m c main_arg2) slices_S1024x3224_S1024x256_0_1800 := by
  unfold W hostOps0; dsimp only [List.take]; after_results <;> rfl
theorem W_v10 (c : Dev nD) : W m c (Proc.devRef .tc main_v10) = extractStridedSlice S1024x16 ![0, 2056] (arg m c main_arg2) slices_S1024x3224_S1024x16_0_2056 := by
  unfold W hostOps0; dsimp only [List.take]; after_results <;> rfl
theorem W_v11 (c : Dev nD) : W m c (Proc.devRef .tc main_v11) = extractStridedSlice S1024x256 ![0, 2072] (arg m c main_arg2) slices_S1024x3224_S1024x256_0_2072 := by
  unfold W hostOps0; dsimp only [List.take]; after_results <;> rfl
theorem W_v12 (c : Dev nD) : W m c (Proc.devRef .tc main_v12) = extractStridedSlice S1024x896 ![0, 2328] (arg m c main_arg2) slices_S1024x3224_S1024x896_0_2328 := by
  unfold W hostOps0; dsimp only [List.take]; after_results <;> rfl
theorem W_v13 (c : Dev nD) : W m c (Proc.devRef .tc main_v13) = broadcastInDim S1024x104 ![] bcast_S_S1024x104 (constant (F := Ideal) S_ .f32 0x00000000#32) := by
  unfold W hostOps0; dsimp only [List.take]; after_results <;> rfl

theorem V_v16 (c : Dev nD) : V m c main_v16 = truncf .bf16 (packed (arg m c main_arg2)) bitsLt_bf16_f32 := by
  rw [V_W]
  have e0 := W_v0 m c; have e1 := W_v1 m c; have e2 := W_v2 m c; have e3 := W_v3 m c; have e4 := W_v4 m c; have e5 := W_v5 m c
  have e6 := W_v6 m c; have e7 := W_v7 m c; have e8 := W_v8 m c; have e9 := W_v9 m c; have e10 := W_v10 m c; have e11 := W_v11 m c
  have e12 := W_v12 m c; have e13 := W_v13 m c
  generalize W m c = X at e0 e1 e2 e3 e4 e5 e6 e7 e8 e9 e10 e11 e12 e13 ⊢
  unfold hostOps0
  dsimp only [List.drop]
  simp only [StableHlo.after_cons, StableHlo.after_nil]
  repeat (first
    | rw [StableHlo.unary_result] | rw [result_v14] | rw [result_v15]
    | (rw [StableHlo.unary_result_ne]; rotate_left; decide)
    | (rw [StableHlo.binary_result_ne]; rotate_left; decide)
    | (rw [StableHlo.nary_result_ne]; rotate_left; decide))
  rw [e0, e1, e2, e3, e4, e5, e6, e7, e8, e9, e10, e11, e12, e13]
  rfl
theorem V_v19 (c : Dev nD) : V m c main_v19 = truncf .bf16 (gatesT (arg m c main_arg2)) bitsLt_bf16_f32 := by
  unfold V; after_results <;> rfl
theorem V_v20 (c : Dev nD) : V m c main_v20 = broadcastInDim S1x1024 ![1] bcast_S1024_S1x1024_1 (arg m c main_arg1) := by
  unfold V; after_results <;> rfl
theorem V_arg0 (c : Dev nD) : V m c main_arg0 = arg m c main_arg0 := by
  unfold V; after_results <;> rfl

/-! ### The windows -/

theorem index_0 : ∀ t : Fin grid0.N, win0_0.index t 0 = 0 ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 ∧ win0_5.index t 2 = 0 := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

/-- The rows: one block, all of them. -/
theorem blk_0 (c : Dev nD) (t : Fin cfg0.N) (p : Fin 128) (k : Fin 1024) :
    iblk m c 0 t (ix2 p k) = arg m c main_arg0 (ix2 p k) := by
  show V m c main_arg0 ((win0_0.rect t).idx (ix2 p k)) = _
  rw [V_arg0]
  refine congrArg (arg m c main_arg0) (funext fun a => Fin.ext ?_)
  match a with
  | ⟨0, _⟩ => show win0_0.index t 0 * 128 + 1 * p.val = p.val; rw [(index_0 t).1]; omega
  | ⟨1, _⟩ => show win0_0.index t 1 * 1024 + 1 * k.val = k.val; rw [(index_0 t).2]; omega

/-- The gains: one block, the whole vector. -/
theorem blk_1 (c : Dev nD) (t : Fin cfg0.N) (k : Fin 1024) :
    iblk m c 1 t (ix2 0 k) = arg m c main_arg1 (ix1 k) := by
  show V m c main_v20 ((win0_1.rect t).idx (ix2 0 k)) = _
  have e : (win0_1.rect t).idx (ix2 0 k) = (ix2 0 k : S1x1024.Idx) := funext fun a => Fin.ext (by
    match a with
    | ⟨0, _⟩ => show win0_1.index t 0 * 1 + 1 * 0 = 0; rw [(index_1 t).1]
    | ⟨1, _⟩ => show win0_1.index t 1 * 1024 + 1 * k.val = k.val; rw [(index_1 t).2]; omega)
  rw [V_v20, e]
  pointwise

/-- The weights in the kernel's order: one block, all of them. -/
theorem blk_2 (c : Dev nD) (t : Fin cfg0.N) (k : Fin 1024) (j : Fin 3328) :
    iblk m c 2 t (ix2 k j) = packed (arg m c main_arg2) (ix2 k j) := by
  show V m c main_v16 ((win0_2.rect t).idx (ix2 k j)) = _
  have e : (win0_2.rect t).idx (ix2 k j) = (ix2 k j : S1024x3328.Idx) := funext fun a => Fin.ext (by
    match a with
    | ⟨0, _⟩ => show win0_2.index t 0 * 1024 + 1 * k.val = k.val; rw [(index_2 t).1]; omega
    | ⟨1, _⟩ => show win0_2.index t 1 * 3328 + 1 * j.val = j.val; rw [(index_2 t).2]; omega)
  rw [V_v16, e]
  rfl

/-- The gate columns, turned: one block, all of them. -/
theorem blk_3 (c : Dev nD) (t : Fin cfg0.N) (a : Fin 8) (k : Fin 1024) :
    iblk m c 3 t (ix2 a k) = gatesT (arg m c main_arg2) (ix2 a k) := by
  show V m c main_v19 ((win0_3.rect t).idx (ix2 a k)) = _
  have e : (win0_3.rect t).idx (ix2 a k) = (ix2 a k : S8x1024.Idx) := funext fun b => Fin.ext (by
    match b with
    | ⟨0, _⟩ => show win0_3.index t 0 * 8 + 1 * a.val = a.val; rw [(index_3 t).1]; omega
    | ⟨1, _⟩ => show win0_3.index t 1 * 1024 + 1 * k.val = k.val; rw [(index_3 t).2]; omega)
  rw [V_v19, e]
  rfl

/-! ### What each point writes back is its block of the reference's array -/

/-- The projected rows as the reference computes them. -/
abbrev G4 (c : Dev nD) : Buf (Elt Ideal) ((c : Thread nD τ).loc main_v21_0) :=
  InStepRefIdeal.Read.val_main_v28 (F := Ideal) (arg m c main_arg0) (arg m c main_arg1) (arg m c main_arg2)

/-- The gates as the reference computes them. -/
abbrev G5 (c : Dev nD) : Buf (Elt Ideal) ((c : Thread nD τ).loc main_v21_1) :=
  InStepRefIdeal.Read.val_main_v31 (F := Ideal) (arg m c main_arg0) (arg m c main_arg1) (arg m c main_arg2)

/-- One normalised row, times a column of weights, is the reference's product. -/
theorem row_eq (c : Dev nD) (t : Fin cfg0.N) (p : Fin 128) (j : Fin 3224) :
    InStepRefIdeal.Read.val_main_v13 (F := Ideal) (arg m c main_arg0) (arg m c main_arg1) (arg m c main_arg2) (ix2 p j)
      = ∑ k : Fin 1024, rms (fun k => iblk m c 0 t (ix2 p k)) (fun k => iblk m c 1 t (ix2 0 k)) k * (arg m c main_arg2 (ix2 k j) : EReal) := by
  rw [InStepRefIdeal.RefValue.proj_apply]
  have e0 : (fun k : Fin 1024 => iblk m c 0 t (ix2 p k)) = fun k => arg m c main_arg0 (ix2 p k) := funext fun k => blk_0 m c t p k
  have e1 : (fun k : Fin 1024 => iblk m c 1 t (ix2 0 k)) = fun k => arg m c main_arg1 (ix1 k) := funext fun k => blk_1 m c t k
  rw [e0, e1]

theorem flushed_4 (c : Dev nD) (t : Fin cfg0.N) :
    (dats m 0 c).flushed 4 t = ((cfg0.win 4).blk t).view.read (Elt Ideal) (G4 m c) := by
  rw [Value.flushed4]
  funext y
  show out0_4 (iblk m c 0 t) (iblk m c 1 t) (iblk m c 2 t) (iblk m c 3 t) y = G4 m c ((win0_4.rect t).idx y)
  unfold out0_4
  rw [View.ld_unit_zero hz2, View.ld_unit_zero hz2, View.ld_unit_zero hz2, View.canon_unit_zero hz2]
  obtain ⟨p, j, rfl⟩ : ∃ (p : Fin 128) (j : Fin 3328), y = ix2 p j := ⟨y 0, y 1, by idx_vars y⟩
  have e : (win0_4.rect t).idx (ix2 p j) = (ix2 p j : S128x3328.Idx) := funext fun b => Fin.ext (by
    match b with
    | ⟨0, _⟩ => show win0_4.index t 0 * 128 + 1 * p.val = p.val; rw [(index_4 t).1]; omega
    | ⟨1, _⟩ => show win0_4.index t 1 * 3328 + 1 * j.val = j.val; rw [(index_4 t).2]; omega)
  rw [e]
  unfold G4
  rw [InStepRefIdeal.RefValue.rows_apply, pay2_apply]
  split_ifs with h
  · refine Finset.sum_eq_zero fun k _ => ?_
    rw [blk_2, packed_apply, dif_pos h]
    exact mul_zero _
  · rw [row_eq m c t]
    refine Finset.sum_congr rfl fun k _ => ?_
    rw [blk_2, packed_apply, dif_neg h]

open InStepRefIdeal.Read in
theorem flushed_5 (c : Dev nD) (t : Fin cfg0.N) :
    (dats m 0 c).flushed 5 t = ((cfg0.win 5).blk t).view.read (Elt Ideal) (G5 m c) := by
  rw [Value.flushed5]
  funext y
  show out0_5 (iblk m c 0 t) (iblk m c 1 t) (iblk m c 2 t) (iblk m c 3 t) y = G5 m c ((win0_5.rect t).idx y)
  unfold out0_5
  rw [View.ld_unit_zero hz2, View.ld_unit_zero hz2, View.ld_unit_zero hz2, View.canon_unit_zero hz3]
  obtain ⟨a, p, rfl⟩ : ∃ (a : Fin 8) (p : Fin 128), y = ix3 0 a p := ⟨y 1, y 2, by
    have h0 : (y 0).val < 1 := (y 0).isLt
    funext b
    match b with
    | ⟨0, _⟩ => exact Fin.ext (by show (y 0).val = 0; omega)
    | ⟨1, _⟩ => rfl
    | ⟨2, _⟩ => rfl⟩
  have e : (win0_5.rect t).idx (ix3 0 a p) = (ix3 0 a p : S1x8x128.Idx) := funext fun b => Fin.ext (by
    match b with
    | ⟨0, _⟩ => show win0_5.index t 0 * 1 + 1 * 0 = 0; rw [(index_5 t).1]
    | ⟨1, _⟩ => show win0_5.index t 1 * 8 + 1 * a.val = a.val; rw [(index_5 t).2.1]; omega
    | ⟨2, _⟩ => show win0_5.index t 2 * 128 + 1 * p.val = p.val; rw [(index_5 t).2.2]; omega)
  rw [e]
  unfold G5
  have hz : idx_main_v30 (idx_main_v31 (ix3 0 a p)) = ix2 p a := funext fun b => Fin.ext (by
    match b with
    | ⟨0, _⟩ => rfl
    | ⟨1, _⟩ => rfl)
  rw [val_main_v31_apply, val_main_v30_apply, hz, InStepRefIdeal.RefValue.gates_apply, pay3_apply, row_eq m c t]
  refine Finset.sum_congr rfl fun k _ => ?_
  rw [blk_3, gatesT_apply, mul_comm]

/-! ### The one block is the whole array -/

theorem t0lt : 0 < cfg0.N := by have h : cfg0.N = 1 := N_0; omega

theorem cover_4 (i : S128x3328.Idx) : ∃ t : Fin cfg0.N, (cfg0.win 4).flush t = true ∧ i ∈ ((cfg0.win 4).blk t).view.set := by
  have h0 : (i 0 : Nat) < 128 := (i 0).isLt
  have h1 : (i 1 : Nat) < 3328 := (i 1).isLt
  refine ⟨⟨0, t0lt⟩, flush0_4 _, ?_⟩
  show i ∈ ((View.whole main_v21_0).slice (win0_4.rect ⟨0, t0lt⟩)).set
  rw [View.set_slice_whole, Rect.mem_set_unit]
  obtain ⟨e0, e1⟩ := index_4 ⟨0, t0lt⟩
  intro a
  match a with
  | ⟨0, _⟩ => show win0_4.index _ 0 * 128 ≤ (i 0 : Nat) ∧ (i 0 : Nat) < win0_4.index _ 0 * 128 + 128
              rw [e0]; omega
  | ⟨1, _⟩ => show win0_4.index _ 1 * 3328 ≤ (i 1 : Nat) ∧ (i 1 : Nat) < win0_4.index _ 1 * 3328 + 3328
              rw [e1]; omega

theorem cover_5 (i : S1x8x128.Idx) : ∃ t : Fin cfg0.N, (cfg0.win 5).flush t = true ∧ i ∈ ((cfg0.win 5).blk t).view.set := by
  have h0 : (i 0 : Nat) < 1 := (i 0).isLt
  have h1 : (i 1 : Nat) < 8 := (i 1).isLt
  have h2 : (i 2 : Nat) < 128 := (i 2).isLt
  refine ⟨⟨0, t0lt⟩, flush0_5 _, ?_⟩
  show i ∈ ((View.whole main_v21_1).slice (win0_5.rect ⟨0, t0lt⟩)).set
  rw [View.set_slice_whole, Rect.mem_set_unit]
  obtain ⟨e0, e1, e2⟩ := index_5 ⟨0, t0lt⟩
  intro a
  match a with
  | ⟨0, _⟩ => show win0_5.index _ 0 * 1 ≤ (i 0 : Nat) ∧ (i 0 : Nat) < win0_5.index _ 0 * 1 + 1
              rw [e0]; omega
  | ⟨1, _⟩ => show win0_5.index _ 1 * 8 ≤ (i 1 : Nat) ∧ (i 1 : Nat) < win0_5.index _ 1 * 8 + 8
              rw [e1]; omega
  | ⟨2, _⟩ => show win0_5.index _ 2 * 128 ≤ (i 2 : Nat) ∧ (i 2 : Nat) < win0_5.index _ 2 * 128 + 128
              rw [e2]; omega

theorem final_4 (c : Dev nD) : (dats m 0 c).arrAt 4 cfg0.N = G4 m c :=
  (dats m 0 c).arrAt_eq_of_cover 4 (G4 m c) (fun t _ => flushed_4 m c t) cover_4

theorem final_5 (c : Dev nD) : (dats m 0 c).arrAt 5 cfg0.N = G5 m c :=
  (dats m 0 c).arrAt_eq_of_cover 5 (G5 m c) (fun t _ => flushed_5 m c t) cover_5

end Cert.InStepIdeal.RefValue

/-! ### The claims -/

namespace Cert.Proof.InStepClaims

theorem frame_k : Cert.quiescent_InStep := fun m ρ _ => Cert.InStep.Gen.frame m ρ
theorem frame_ki : Cert.quiescent_InStepIdeal := fun m ρ _ => Cert.InStepIdeal.Gen.frame m ρ
theorem frame_ri : Cert.quiescent_InStepRefIdeal := fun m ρ _ =>
  (θ_run Cert.InStepRefIdeal.defs _ _).mono (fun r h => ⟨fun c => (h c).2.2, sem_eq_zero_of_no_sems (by decide) r.2⟩)
    (Cert.InStepRefIdeal.Value.run (F := Ideal) m ρ)
theorem preserves : Cert.preserves_InStep_InStepIdeal := trivial

/-- The kernel's projected rows and gates are the reference's. -/
theorem algebraic : Cert.algebraic_InStepIdeal_InStepRefIdeal := by
  intro m ρ m' ρ' _ hagree
  refine ⟨fun c => InStepIdeal.RefValue.G4 m c, fun c => InStepIdeal.RefValue.G5 m c, ?_, ?_⟩
  · exact (θ_run Cert.InStepIdeal.defs _ _).mono
      (fun _ h c => ⟨(h c).1.trans (InStepIdeal.RefValue.final_4 m c), (h c).2.1.trans (InStepIdeal.RefValue.final_5 m c), (h c).2.2⟩)
      (Cert.InStepIdeal.Value.run_blocks (F := Ideal) m ρ)
  · refine (θ_run Cert.InStepRefIdeal.defs _ _).mono
      (fun _ h c => ⟨(h c).1.trans ?_, (h c).2.1.trans ?_, (h c).2.2⟩)
      (Cert.InStepRefIdeal.Value.run (F := Ideal) m' ρ')
    · obtain ⟨a0, a1, a2⟩ := hagree c
      refine (InStepRefIdeal.Read.val_main_v28_eq m' c).trans ?_
      rw [a0, a1, a2]
    · obtain ⟨a0, a1, a2⟩ := hagree c
      refine (InStepRefIdeal.Read.val_main_v31_eq _ _ _).trans ?_
      rw [a0, a1, a2]

end Cert.Proof.InStepClaims

end
-- ==== Proof.FfnStepMath.lean ====
module

public import proofs.«01_k».proof.Proof.FfnMath
public import proofs.«01_k».proof.Proof.FfnChunk
public import proofs.«01_k».proof.Proof.Gen.FfnStepIdeal.Frame
public import proofs.«01_k».proof.Proof.Gen.FfnStepRefIdeal.Read
public import Idealize.ShloMosaic.Lib.Pointwise
public import Idealize.ShloMosaic.Lib.Pipeline.ValueKit

/-!
# One step of the feed-forward kernel, entry by entry

The step's kernel has one row for each of 128 sequences. The convolution reads the two rows before from the buffer it is given. Its
eleven chunks of 256 columns are blocks of one array, `actG`; the rows of the up projection it leaves are the blocks of `dotF`.
-/

@[expose] public section

set_option maxRecDepth 16384

noncomputable section

open Idealize.ShloMosaic Idealize.ShloMosaic.TcCoe Idealize.SL.Sem

namespace Cert.FfnStepIdeal.RefValue

open Cert.FfnStepIdeal Cert.FfnStepIdeal.Gen Cert.Common Cert.Ffn

/-! ### The kernel's expressions -/

/-- A row times a column of 256. -/
def dotc (h : FVec Ideal S128x1024 .bf16) (w : FVec Ideal S1024x256 .bf16) (p : Fin 128) (l : Fin 256) : EReal :=
  ∑ k : Fin 1024, h (ix2 p k) * w (ix2 k l)

/-- One chunk of 256 columns, as the kernel computes it. -/
def actV (h : FVec Ideal S128x1024 .bf16) (wu wv : FVec Ideal S1024x256 .bf16) (p2 p1 : FVec Ideal S128x256 .f32) (cb w0 w1 w2 : FVec Ideal S1x256 .f32) :
    FVec Ideal S128x256 .bf16 :=
  k0_pay14 (k0_pay11 h wu) (k0_pay12 h wv) (k0_pay13 p2 p1 cb w0 w1) w2

theorem pay11_apply (h : FVec Ideal S128x1024 .bf16) (w : FVec Ideal S1024x256 .bf16) (p : Fin 128) (l : Fin 256) :
    k0_pay11 h w (ix2 p l) = dotc h w p l := by
  pointwise [k0_pay11, dotc]

theorem pay12_apply (h : FVec Ideal S128x1024 .bf16) (w : FVec Ideal S1024x256 .bf16) (p : Fin 128) (l : Fin 256) :
    k0_pay12 h w (ix2 p l) = dotc h w p l := by
  pointwise [k0_pay12, dotc]

theorem actV_apply (h : FVec Ideal S128x1024 .bf16) (wu wv : FVec Ideal S1024x256 .bf16) (p2 p1 : FVec Ideal S128x256 .f32)
    (cb w0 w1 w2 : FVec Ideal S1x256 .f32) (p : Fin 128) (l : Fin 256) :
    actV h wu wv p2 p1 cb w0 w1 w2 (ix2 p l)
      = gate (conv (cb (ix2 0 l)) (w0 (ix2 0 l)) (w1 (ix2 0 l)) (w2 (ix2 0 l)) (p2 (ix2 p l)) (p1 (ix2 p l)) (dotc h wu p l)) (dotc h wv p l) := by
  simp only [← pay11_apply h wu, ← pay12_apply h wv]
  unfold actV
  generalize k0_pay11 h wu = u
  generalize k0_pay12 h wv = v
  pointwise [k0_pay14, k0_pay13, gate, conv]

section
variable (h : FVec Ideal S128x1024 .bf16) (r : FVec Ideal S128x1024 .f32) (r1 : FVec Ideal S1x1024 .f32) (r2 : FVec Ideal S128x1024 .f32)
  (wu wv : FVec Ideal S1024x256 .bf16) (p2 p1 : FVec Ideal S128x256 .f32) (cb w0 w1 w2 : FVec Ideal S1x256 .f32)

theorem act0 : k0_pay10 (k0_pay6 r r1 r2 wv) (k0_pay8 r r1 r2 wu p2 p1 cb w0 w1 w2) (k0_pay9 r r1 r2 wu p2 p1 cb w0 w1 w2) = actV (k0_pay4 r r1 r2) wu wv p2 p1 cb w0 w1 w2 := rfl
theorem act2 : k0_pay21 (k0_pay15 h wu) (k0_pay16 h wv) (k0_pay17 p2) (k0_pay18 p1) (k0_pay19 cb) (k0_pay20 w0) w1 w2 = actV h wu wv p2 p1 cb w0 w1 w2 := rfl
theorem act3 : k0_pay25 (k0_pay22 h wu) (k0_pay23 h wv) (k0_pay24 p2) p1 cb w0 w1 w2 = actV h wu wv p2 p1 cb w0 w1 w2 := rfl
theorem act4 : k0_pay28 (k0_pay27 h (k0_pay26 h wu) wv p2 p1 cb w0 w1 w2) = actV h wu wv p2 p1 cb w0 w1 w2 := rfl
theorem act5 : k0_pay34 (k0_pay30 h wv) (k0_pay32 h wu p2 p1 cb w0 w1 w2) (k0_pay33 h wu p2 p1 cb w0 w1 w2) = actV h wu wv p2 p1 cb w0 w1 w2 := rfl
theorem act6 : k0_pay38 (k0_pay35 h wu) (k0_pay36 h wv) (k0_pay37 p2 p1 cb w0 w1) w2 = actV h wu wv p2 p1 cb w0 w1 w2 := rfl
theorem act7 : k0_pay45 (k0_pay39 h wu) (k0_pay40 h wv) (k0_pay41 p2) (k0_pay42 p1) (k0_pay43 cb) (k0_pay44 w0) w1 w2 = actV h wu wv p2 p1 cb w0 w1 w2 := rfl
theorem act8 : k0_pay49 (k0_pay46 h wu) (k0_pay47 h wv) (k0_pay48 p2) p1 cb w0 w1 w2 = actV h wu wv p2 p1 cb w0 w1 w2 := rfl
theorem act9 : k0_pay52 (k0_pay51 h (k0_pay50 h wu) wv p2 p1 cb w0 w1 w2) = actV h wu wv p2 p1 cb w0 w1 w2 := rfl
theorem act10 : k0_pay58 (k0_pay54 h wv) (k0_pay56 h wu p2 p1 cb w0 w1 w2) (k0_pay57 h wu p2 p1 cb w0 w1 w2) = actV h wu wv p2 p1 cb w0 w1 w2 := rfl

theorem up0 : k0_pay5 r r1 r2 wu = k0_pay11 (F := Ideal) (k0_pay4 r r1 r2) wu := rfl
theorem up2 : k0_pay15 h wu = k0_pay11 (F := Ideal) h wu := rfl
theorem up3 : k0_pay22 h wu = k0_pay11 (F := Ideal) h wu := rfl
theorem up4 : k0_pay26 h wu = k0_pay11 (F := Ideal) h wu := rfl
theorem up5 : k0_pay29 h wu = k0_pay11 (F := Ideal) h wu := rfl
theorem up6 : k0_pay35 h wu = k0_pay11 (F := Ideal) h wu := rfl
theorem up7 : k0_pay39 h wu = k0_pay11 (F := Ideal) h wu := rfl
theorem up8 : k0_pay46 h wu = k0_pay11 (F := Ideal) h wu := rfl
theorem up9 : k0_pay50 h wu = k0_pay11 (F := Ideal) h wu := rfl
theorem up10 : k0_pay53 h wu = k0_pay11 (F := Ideal) h wu := rfl
end

/-- The residual rows. -/
def resV (x : FVec Ideal S128x1024 .f32) (y0 y1 y2 y3 : FVec Ideal S128x256 .bf16) (wo : FVec Ideal S1024x1024 .bf16) (p : Fin 128) : Fin 1024 → EReal :=
  res (fun n => x (ix2 p n)) (fun k => y0 (ix2 p k)) (fun k => y1 (ix2 p k)) (fun k => y2 (ix2 p k)) (fun k => y3 (ix2 p k)) (fun k n => wo (ix2 k n))

theorem pay1_apply (y0 y1 y2 y3 : FVec Ideal S128x256 .bf16) (x : FVec Ideal S128x1024 .f32) (w0 w1 w2 w3 : FVec Ideal S256x1024 .bf16)
    (p : Fin 128) (n : Fin 1024) :
    k0_pay1 y0 y1 y2 y3 x w0 w1 w2 w3 (ix2 p n)
      = x (ix2 p n) + (∑ k : Fin 256, y0 (ix2 p k) * w0 (ix2 k n)) + (∑ k : Fin 256, y1 (ix2 p k) * w1 (ix2 k n))
          + (∑ k : Fin 256, y2 (ix2 p k) * w2 (ix2 k n)) + (∑ k : Fin 256, y3 (ix2 p k) * w3 (ix2 k n)) := by
  pointwise [k0_pay1]

theorem pay4_apply (y0 y1 y2 y3 : FVec Ideal S128x256 .bf16) (x : FVec Ideal S128x1024 .f32) (w0 w1 w2 w3 : FVec Ideal S256x1024 .bf16)
    (g : FVec Ideal S1x1024 .f32) (p : Fin 128) (k : Fin 1024) :
    k0_pay4 (F := Ideal) (k0_pay1 y0 y1 y2 y3 x w0 w1 w2 w3) (k0_pay2 g) (k0_pay3 y0 y1 y2 y3 x w0 w1 w2 w3) (ix2 p k)
      = rms (fun n => k0_pay1 (F := Ideal) y0 y1 y2 y3 x w0 w1 w2 w3 (ix2 p n)) (fun n => g (ix2 0 n)) k := by
  unfold k0_pay3
  generalize k0_pay1 (F := Ideal) y0 y1 y2 y3 x w0 w1 w2 w3 = r
  pointwise [k0_pay4, k0_pay2, rms]

theorem pay59_apply (r : FVec Ideal S128x1024 .f32) (a : FVec Ideal S128x2816 .bf16) (wd : FVec Ideal S2816x1024 .bf16) (nf : FVec Ideal S1x1024 .f32)
    (p : Fin 128) (n : Fin 1024) :
    k0_pay59 r a wd nf (ix2 p n)
      = rms (down (fun n => r (ix2 p n)) (fun f => a (ix2 p f)) (fun f n => wd (ix2 f n))) (fun n => nf (ix2 0 n)) n := by
  have e : down (fun n => r (ix2 p n)) (fun f => a (ix2 p f)) (fun f n => wd (ix2 f n))
      = fun n => addf r (matmul dot_S128x2816_S2816x1024_S128x1024_1_0_0_1_n_n none a (shapeCast S2816x1024 wd shapeCasts_S2816x1024_S2816x1024) (constant S128x1024 .f32 0x00000000#32)) (ix2 p n) :=
    funext fun n => by pointwise [down]
  rw [e]
  unfold k0_pay59
  dsimp only
  generalize addf r (matmul dot_S128x2816_S2816x1024_S128x1024_1_0_0_1_n_n none a (shapeCast S2816x1024 wd shapeCasts_S2816x1024_S2816x1024) (constant S128x1024 .f32 0x00000000#32)) = z
  pointwise [rms]

/-! ### What a chunk loads -/

/-- Column `c` of the up projection of row `p`. -/
def dotF (h : FVec Ideal S128x1024 .bf16) (x7 : FVec Ideal S1024x5632 .bf16) (c : Fin 5632) (p : Fin 128) : EReal :=
  ∑ k : Fin 1024, h (ix2 p k) * x7 (ix2 k c)

/-- The gated value at row `p`, column `f`, after the rows `b2` and `b1`. -/
def actG (h : FVec Ideal S128x1024 .bf16) (x7 : FVec Ideal S1024x5632 .bf16) (x8 : FVec Ideal S3x2816 .f32) (x9 : FVec Ideal S1x2816 .f32)
    (b2 b1 : FVec Ideal S128x2816 .f32) (p : Fin 128) (f : Fin 2816) : EReal :=
  gate (conv (x9 (ix2 0 f)) (x8 (ix2 0 f)) (x8 (ix2 1 f)) (x8 (ix2 2 f)) (b2 (ix2 p f)) (b1 (ix2 p f)) (dotF h x7 ⟨f.val, by omega⟩ p))
    (dotF h x7 ⟨2816 + f.val, by omega⟩ p)

/-- A block loaded from the whole buffer, at one entry. -/
theorem rd {S : Shape} {e : EltTy} (a : Memref sig .tc .vmem S e) (ha : a.IsWhole) (x : Vec Ideal S e) (off size : Fin S.rank → Nat) (inb)
    (y : (Rect.unit off size inb).shape.Idx) (i : S.Idx) (hi : ∀ d, (i d : Nat) = off d + y d) :
    View.readAt (Elt Ideal) a.view (Rect.unit off size inb).toLoadRect (ha.unread x) y = x i := by
  rw [View.readAt_eq_ld, ha.read_unread]
  exact View.ld_unit_apply_of x off size inb y i hi

/-- A whole buffer loaded back. -/
theorem rdw {S : Shape} {e : EltTy} (a : Memref sig .tc .vmem S e) (ha : a.IsWhole) (x : Vec Ideal S e) (off : Fin S.rank → Nat) (inb)
    (h0 : ∀ d, off d = 0) : View.readAt (Elt Ideal) a.view (Rect.unit off S.size inb).toLoadRect (ha.unread x) = x :=
  funext fun y => rd a ha x off S.size inb y y fun d => by rw [h0 d]; omega

section
variable (h : FVec Ideal S128x1024 .bf16) (a8 : Memref sig .tc .vmem S1024x5632 .bf16) (h8 : a8.IsWhole)
  (a9 : Memref sig .tc .vmem S3x2816 .f32) (h9 : a9.IsWhole) (a10 : Memref sig .tc .vmem S1x2816 .f32) (h10 : a10.IsWhole)
  (a13 : Memref sig .tc .vmem S128x2816 .f32) (h13 : a13.IsWhole) (a14 : Memref sig .tc .vmem S128x2816 .f32) (h14 : a14.IsWhole)
  (x7 : FVec Ideal S1024x5632 .bf16) (x8 : FVec Ideal S3x2816 .f32) (x9 : FVec Ideal S1x2816 .f32) (b2 b1 : FVec Ideal S128x2816 .f32)

/-- The load of 256 columns of the up projection. -/
abbrev ldW (o : Nat) (i : ∀ a, (![0, o] : Fin 2 → Nat) a + S1024x256.size a ≤ S1024x5632.size a) : FVec Ideal S1024x256 .bf16 :=
  View.readAt (Elt Ideal) a8.view (Rect.unit (s := S1024x5632) ![0, o] S1024x256.size i).toLoadRect (h8.unread x7)

theorem dotc_ld (o : Nat) (i : ∀ a, (![0, o] : Fin 2 → Nat) a + S1024x256.size a ≤ S1024x5632.size a) (p : Fin 128) (l : Fin 256) (c : Fin 5632) (hc : c.val = o + l.val) :
    dotc h (ldW a8 h8 x7 o i) p l = dotF h x7 c p := by
  unfold dotc dotF
  refine Finset.sum_congr rfl fun k _ => congrArg (h (ix2 p k) * ·) ?_
  refine rd a8 h8 x7 _ _ _ _ _ fun d => ?_
  match d with
  | ⟨0, _⟩ => show k.val = 0 + k.val; omega
  | ⟨1, _⟩ => exact hc

theorem emb0 (o : Nat) (ia : ∀ a, (![0, o] : Fin 2 → Nat) a + S128x256.size a ≤ S128x2816.size a) (p : Fin 128) (l : Fin 256) :
    (Rect.unit (s := S128x2816) ![0, o] S128x256.size ia).emb (ix2 p l) 0 = p := Fin.ext (by
  refine (Rect.idx_unit_val _ _ _ _ _).trans ?_
  show 0 + p.val = p.val; omega)

theorem emb1 (o : Nat) (ia : ∀ a, (![0, o] : Fin 2 → Nat) a + S128x256.size a ≤ S128x2816.size a) (p : Fin 128) (l : Fin 256) (hl : o + l.val < 2816) :
    (Rect.unit (s := S128x2816) ![0, o] S128x256.size ia).emb (ix2 p l) 1 = ⟨o + l.val, hl⟩ := Fin.ext (Rect.idx_unit_val _ _ _ _ _)

/-- One chunk's stored block is the block of `actG` at its columns. -/
theorem act_piece (o v : Nat) (hv : v = 2816 + o)
    (iu : ∀ a, (![0, o] : Fin 2 → Nat) a + S1024x256.size a ≤ S1024x5632.size a) (iv : ∀ a, (![0, v] : Fin 2 → Nat) a + S1024x256.size a ≤ S1024x5632.size a)
    (ib : ∀ a, (![0, o] : Fin 2 → Nat) a + S1x256.size a ≤ S1x2816.size a)
    (i0 : ∀ a, (![0, o] : Fin 2 → Nat) a + S1x256.size a ≤ S3x2816.size a) (i1 : ∀ a, (![1, o] : Fin 2 → Nat) a + S1x256.size a ≤ S3x2816.size a)
    (i2 : ∀ a, (![2, o] : Fin 2 → Nat) a + S1x256.size a ≤ S3x2816.size a)
    (ia : ∀ a, (![0, o] : Fin 2 → Nat) a + S128x256.size a ≤ S128x2816.size a)
    (x : (Rect.unit (s := S128x2816) ![0, o] S128x256.size ia).shape.Idx) :
    actV h (ldW a8 h8 x7 o iu) (ldW a8 h8 x7 v iv)
        (View.readAt (Elt Ideal) a13.view (Rect.unit (s := S128x2816) ![0, o] S128x256.size ia).toLoadRect (h13.unread b2))
        (View.readAt (Elt Ideal) a14.view (Rect.unit (s := S128x2816) ![0, o] S128x256.size ia).toLoadRect (h14.unread b1))
        (View.readAt (Elt Ideal) a10.view (Rect.unit (s := S1x2816) ![0, o] S1x256.size ib).toLoadRect (h10.unread x9))
        (View.readAt (Elt Ideal) a9.view (Rect.unit (s := S3x2816) ![0, o] S1x256.size i0).toLoadRect (h9.unread x8))
        (View.readAt (Elt Ideal) a9.view (Rect.unit (s := S3x2816) ![1, o] S1x256.size i1).toLoadRect (h9.unread x8))
        (View.readAt (Elt Ideal) a9.view (Rect.unit (s := S3x2816) ![2, o] S1x256.size i2).toLoadRect (h9.unread x8)) x
      = (fun y : S128x2816.Idx => actG h x7 x8 x9 b2 b1 (y 0) (y 1)) ((Rect.unit (s := S128x2816) ![0, o] S128x256.size ia).emb x) := by
  obtain ⟨p, l, rfl⟩ : ∃ (p : Fin 128) (l : Fin 256), x = ix2 p l := ⟨x 0, x 1, by idx_vars x⟩
  have hl : o + l.val < 2816 := by have := ia 1; simp at this; omega
  dsimp only
  rw [emb0 o ia p l, emb1 o ia p l hl, actV_apply]
  unfold actG
  rw [dotc_ld h a8 h8 x7 o iu p l ⟨o + l.val, by omega⟩ rfl,
    dotc_ld h a8 h8 x7 v iv p l ⟨2816 + (o + l.val), by omega⟩ (by show 2816 + (o + l.val) = v + l.val; omega),
    rd a13 h13 b2 _ _ ia (ix2 p l) (ix2 p ⟨o + l.val, hl⟩) (fun d => match d with | ⟨0, _⟩ => (by show p.val = 0 + p.val; omega) | ⟨1, _⟩ => rfl),
    rd a14 h14 b1 _ _ ia (ix2 p l) (ix2 p ⟨o + l.val, hl⟩) (fun d => match d with | ⟨0, _⟩ => (by show p.val = 0 + p.val; omega) | ⟨1, _⟩ => rfl),
    rd a10 h10 x9 _ _ ib (ix2 0 l) (ix2 0 ⟨o + l.val, hl⟩) (fun d => match d with | ⟨0, _⟩ => rfl | ⟨1, _⟩ => rfl),
    rd a9 h9 x8 _ _ i0 (ix2 0 l) (ix2 0 ⟨o + l.val, hl⟩) (fun d => match d with | ⟨0, _⟩ => rfl | ⟨1, _⟩ => rfl),
    rd a9 h9 x8 _ _ i1 (ix2 0 l) (ix2 1 ⟨o + l.val, hl⟩) (fun d => match d with | ⟨0, _⟩ => rfl | ⟨1, _⟩ => rfl),
    rd a9 h9 x8 _ _ i2 (ix2 0 l) (ix2 2 ⟨o + l.val, hl⟩) (fun d => match d with | ⟨0, _⟩ => rfl | ⟨1, _⟩ => rfl)]
  rfl

/-- One chunk's rows of the up projection are the block of `dotF` at its columns. -/
theorem up_piece (o : Nat) (iu : ∀ a, (![0, o] : Fin 2 → Nat) a + S1024x256.size a ≤ S1024x5632.size a)
    (ia : ∀ a, (![0, o] : Fin 2 → Nat) a + S128x256.size a ≤ S128x2816.size a)
    (x : (Rect.unit (s := S128x2816) ![0, o] S128x256.size ia).shape.Idx) :
    k0_pay11 (F := Ideal) h (ldW a8 h8 x7 o iu) x
      = (fun y : S128x2816.Idx => dotF h x7 ⟨(y 1).val, Nat.lt_of_lt_of_le (y 1).isLt (by decide)⟩ (y 0)) ((Rect.unit (s := S128x2816) ![0, o] S128x256.size ia).emb x) := by
  obtain ⟨p, l, rfl⟩ : ∃ (p : Fin 128) (l : Fin 256), x = ix2 p l := ⟨x 0, x 1, by idx_vars x⟩
  have hl : o + l.val < 2816 := by have := ia 1; simp at this; omega
  dsimp only
  rw [emb0 o ia p l, pay11_apply]
  refine dotc_ld h a8 h8 x7 o iu p l _ ?_
  exact congrArg Fin.val (emb1 o ia p l hl)

end

end Cert.FfnStepIdeal.RefValue

/-! ### The reference's values, entry by entry -/

namespace Cert.FfnStepRefIdeal.RefValue

open Cert.FfnStepRefIdeal Cert.FfnStepRefIdeal.Gen Cert.FfnStepRefIdeal.Read Cert.Common Cert.Ffn

variable (x0 : FVec Ideal S128x1024 .f32) (x1 x2 x3 x4 : FVec Ideal S128x256 .bf16) (x5 : FVec Ideal S128x2x2816 .f32) (x6 : FVec Ideal S1024x1024 .f32)
  (x7 : FVec Ideal S1024 .f32) (x8 : FVec Ideal S1024x5632 .f32) (x9 : FVec Ideal S3x2816 .f32) (x10 : FVec Ideal S2816 .f32)
  (x11 : FVec Ideal S2816x1024 .f32) (x12 : FVec Ideal S1024 .f32)

/-- The residual row `r`. -/
def resR (r : Fin 128) : Fin 1024 → EReal :=
  res (fun n => x0 (ix2 r n)) (fun k => x1 (ix2 r k)) (fun k => x2 (ix2 r k)) (fun k => x3 (ix2 r k)) (fun k => x4 (ix2 r k)) (fun k n => x6 (ix2 k n))

theorem v0_apply (r : Fin 128) (k : Fin 256) : val_main_v0 (F := Ideal) x1 (ix2 r k) = x1 (ix2 r k) := by
  pointwise [val_main_v0]
theorem v1_apply (r : Fin 128) (k : Fin 256) : val_main_v1 (F := Ideal) x2 (ix2 r k) = x2 (ix2 r k) := by
  pointwise [val_main_v1]
theorem v2_apply (r : Fin 128) (k : Fin 256) : val_main_v2 (F := Ideal) x3 (ix2 r k) = x3 (ix2 r k) := by
  pointwise [val_main_v2]
theorem v3_apply (r : Fin 128) (k : Fin 256) : val_main_v3 (F := Ideal) x4 (ix2 r k) = x4 (ix2 r k) := by
  pointwise [val_main_v3]

theorem v6_apply (r : Fin 128) (n : Fin 1024) : val_main_v6 (F := Ideal) x0 x1 x2 x3 x4 x6 (ix2 r n) = resR x0 x1 x2 x3 x4 x6 r n := by
  have e : val_main_v6 (F := Ideal) x0 x1 x2 x3 x4 x6 (ix2 r n) = x0 (ix2 r n) + ∑ k : Fin 1024, val_main_v4 (F := Ideal) x1 x2 x3 x4 (ix2 r k) * x6 (ix2 k n) := by
    unfold val_main_v6 val_main_v5
    generalize val_main_v4 (F := Ideal) x1 x2 x3 x4 = z
    pointwise
  have c0 : ∀ k : Fin 256, val_main_v4 (F := Ideal) x1 x2 x3 x4 (ix2 r ⟨k.val, by omega⟩) = x1 (ix2 r k) := fun k => by
    unfold val_main_v4
    exact (piece2 _ _ 0 (Nat.le_of_ble_eq_true rfl) (val_main_v0 (F := Ideal) x1) rfl 0 rfl r _ (by dsimp only; omega) (by dsimp only; omega)).trans
      ((congrArg (val_main_v0 (F := Ideal) x1) (congrArg (ix2 r) (Fin.ext (by dsimp only; omega)))).trans (v0_apply x1 r k))
  have c1 : ∀ k : Fin 256, val_main_v4 (F := Ideal) x1 x2 x3 x4 (ix2 r ⟨256 + k.val, by omega⟩) = x2 (ix2 r k) := fun k => by
    unfold val_main_v4
    exact (piece2 _ _ 1 (Nat.le_of_ble_eq_true rfl) (val_main_v1 (F := Ideal) x2) rfl 256 rfl r _ (by dsimp only; omega) (by dsimp only; omega)).trans
      ((congrArg (val_main_v1 (F := Ideal) x2) (congrArg (ix2 r) (Fin.ext (by dsimp only; omega)))).trans (v1_apply x2 r k))
  have c2 : ∀ k : Fin 256, val_main_v4 (F := Ideal) x1 x2 x3 x4 (ix2 r ⟨512 + k.val, by omega⟩) = x3 (ix2 r k) := fun k => by
    unfold val_main_v4
    exact (piece2 _ _ 2 (Nat.le_of_ble_eq_true rfl) (val_main_v2 (F := Ideal) x3) rfl 512 rfl r _ (by dsimp only; omega) (by dsimp only; omega)).trans
      ((congrArg (val_main_v2 (F := Ideal) x3) (congrArg (ix2 r) (Fin.ext (by dsimp only; omega)))).trans (v2_apply x3 r k))
  have c3 : ∀ k : Fin 256, val_main_v4 (F := Ideal) x1 x2 x3 x4 (ix2 r ⟨768 + k.val, by omega⟩) = x4 (ix2 r k) := fun k => by
    unfold val_main_v4
    exact (piece2 _ _ 3 (Nat.le_of_ble_eq_true rfl) (val_main_v3 (F := Ideal) x4) rfl 768 rfl r _ (by dsimp only; omega) (by dsimp only; omega)).trans
      ((congrArg (val_main_v3 (F := Ideal) x4) (congrArg (ix2 r) (Fin.ext (by dsimp only; omega)))).trans (v3_apply x4 r k))
  rw [e, Cert.FfnRefIdeal.RefValue.sum4]
  simp only [c0, c1, c2, c3]
  unfold resR res
  simp only [add_assoc]

/-- The up projection of row `r`, column `c`. -/
def upR (r : Fin 128) (c : Fin 5632) : EReal :=
  up (resR x0 x1 x2 x3 x4 x6 r) (fun k => x7 (ix1 k)) (fun k c => x8 (ix2 k c)) c

theorem v19_apply (r : Fin 128) (k : Fin 1024) :
    val_main_v19 (F := Ideal) x0 x1 x2 x3 x4 x6 x7 (ix2 r k) = rms (resR x0 x1 x2 x3 x4 x6 r) (fun k => x7 (ix1 k)) k := by
  have e : resR x0 x1 x2 x3 x4 x6 r = fun n => val_main_v6 (F := Ideal) x0 x1 x2 x3 x4 x6 (ix2 r n) := funext fun n => (v6_apply x0 x1 x2 x3 x4 x6 r n).symm
  rw [e]
  unfold val_main_v19 val_main_v16 val_main_v15 val_main_v14 val_main_v13 val_main_v11 val_main_v9 val_main_v8 val_main_v7
  generalize val_main_v6 (F := Ideal) x0 x1 x2 x3 x4 x6 = z
  pointwise [val_main_cst, val_main_cst_0, val_main_v10, val_main_cst_1, val_main_v12, val_main_v17, val_main_v18, rms]

theorem v20_apply (r : Fin 128) (c : Fin 5632) : val_main_v20 (F := Ideal) x0 x1 x2 x3 x4 x6 x7 x8 (ix2 r c) = upR x0 x1 x2 x3 x4 x6 x7 x8 r c := by
  have e : val_main_v20 (F := Ideal) x0 x1 x2 x3 x4 x6 x7 x8 (ix2 r c) = ∑ k : Fin 1024, val_main_v19 (F := Ideal) x0 x1 x2 x3 x4 x6 x7 (ix2 r k) * x8 (ix2 k c) := by
    unfold val_main_v20
    generalize val_main_v19 (F := Ideal) x0 x1 x2 x3 x4 x6 x7 = z
    pointwise
  rw [e]
  simp only [v19_apply]
  rfl

theorem v21_apply (r : Fin 128) (f : Fin 2816) : val_main_v21 (F := Ideal) x0 x1 x2 x3 x4 x6 x7 x8 (ix2 r f) = upR x0 x1 x2 x3 x4 x6 x7 x8 r ⟨f.val, by omega⟩ := by
  rw [← v20_apply]
  unfold val_main_v21
  generalize val_main_v20 (F := Ideal) x0 x1 x2 x3 x4 x6 x7 x8 = z
  pointwise

theorem v22_apply (r : Fin 128) (f : Fin 2816) : val_main_v22 (F := Ideal) x0 x1 x2 x3 x4 x6 x7 x8 (ix2 r f) = upR x0 x1 x2 x3 x4 x6 x7 x8 r ⟨2816 + f.val, by omega⟩ := by
  rw [← v20_apply]
  unfold val_main_v22
  generalize val_main_v20 (F := Ideal) x0 x1 x2 x3 x4 x6 x7 x8 = z
  pointwise

/-- The rows the convolution reads: the buffer's two, then the step's own. -/
theorem v24_old (r : Fin 128) (i : Fin 2) (f : Fin 2816) : val_main_v24 (F := Ideal) x0 x1 x2 x3 x4 x5 x6 x7 x8 (ix3 r ⟨i.val, by omega⟩ f) = x5 (ix3 r i f) := by
  unfold val_main_v24
  exact concatenate_apply_piece (t := S128x3x2816) 1 _ _ (ix3 r ⟨i.val, by omega⟩ f) 0 (Nat.le_of_ble_eq_true rfl) _ x5 rfl rfl 0 rfl (ix3 r i f)
    (fun a ha => by
      match a, ha with
      | ⟨0, _⟩, _ => rfl
      | ⟨1, _⟩, ha => exact absurd rfl ha
      | ⟨2, _⟩, _ => rfl)
    (by show 0 + i.val = i.val; omega)

theorem v24_new (r : Fin 128) (f : Fin 2816) : val_main_v24 (F := Ideal) x0 x1 x2 x3 x4 x5 x6 x7 x8 (ix3 r 2 f) = upR x0 x1 x2 x3 x4 x6 x7 x8 r ⟨f.val, by omega⟩ := by
  have e : val_main_v23 (F := Ideal) x0 x1 x2 x3 x4 x6 x7 x8 (ix3 r 0 f) = upR x0 x1 x2 x3 x4 x6 x7 x8 r ⟨f.val, by omega⟩ := by
    rw [← v21_apply]
    unfold val_main_v23
    generalize val_main_v21 (F := Ideal) x0 x1 x2 x3 x4 x6 x7 x8 = z
    pointwise
  rw [← e]
  unfold val_main_v24
  exact concatenate_apply_piece (t := S128x3x2816) 1 _ _ (ix3 r 2 f) 1 (Nat.le_of_ble_eq_true rfl) _ (val_main_v23 (F := Ideal) x0 x1 x2 x3 x4 x6 x7 x8) rfl rfl 2 rfl (ix3 r 0 f)
    (fun a ha => by
      match a, ha with
      | ⟨0, _⟩, _ => rfl
      | ⟨1, _⟩, ha => exact absurd rfl ha
      | ⟨2, _⟩, _ => rfl)
    rfl

theorem v28_apply (r : Fin 128) (f : Fin 2816) : val_main_v28 (F := Ideal) x0 x1 x2 x3 x4 x5 x6 x7 x8 (ix2 r f) = x5 (ix3 r 0 f) := by
  rw [← v24_old x0 x1 x2 x3 x4 x5 x6 x7 x8 r 0 f]
  unfold val_main_v28 val_main_v27
  generalize val_main_v24 (F := Ideal) x0 x1 x2 x3 x4 x5 x6 x7 x8 = z
  pointwise

theorem v38_apply (r : Fin 128) (f : Fin 2816) : val_main_v38 (F := Ideal) x0 x1 x2 x3 x4 x5 x6 x7 x8 (ix2 r f) = x5 (ix3 r 1 f) := by
  rw [← v24_old x0 x1 x2 x3 x4 x5 x6 x7 x8 r 1 f]
  unfold val_main_v38 val_main_v37
  generalize val_main_v24 (F := Ideal) x0 x1 x2 x3 x4 x5 x6 x7 x8 = z
  pointwise

theorem v46_apply (r : Fin 128) (f : Fin 2816) : val_main_v46 (F := Ideal) x0 x1 x2 x3 x4 x5 x6 x7 x8 (ix2 r f) = upR x0 x1 x2 x3 x4 x6 x7 x8 r ⟨f.val, by omega⟩ := by
  rw [← v24_new]
  unfold val_main_v46 val_main_v45
  generalize val_main_v24 (F := Ideal) x0 x1 x2 x3 x4 x5 x6 x7 x8 = z
  pointwise

theorem v81_apply (r : Fin 128) (f : Fin 2816) : val_main_v81 (F := Ideal) x0 x1 x2 x3 x4 x5 x6 x7 x8 (ix2 r f) = upR x0 x1 x2 x3 x4 x6 x7 x8 r ⟨f.val, by omega⟩ := by
  rw [← v24_new]
  unfold val_main_v81 val_main_v80
  generalize val_main_v24 (F := Ideal) x0 x1 x2 x3 x4 x5 x6 x7 x8 = z
  pointwise

/-- The gated value of row `r`, column `f`. -/
def actR (r : Fin 128) (f : Fin 2816) : EReal :=
  gate (conv (x10 (ix1 f)) (x9 (ix2 0 f)) (x9 (ix2 1 f)) (x9 (ix2 2 f)) (x5 (ix3 r 0 f)) (x5 (ix3 r 1 f)) (upR x0 x1 x2 x3 x4 x6 x7 x8 r ⟨f.val, by omega⟩))
    (upR x0 x1 x2 x3 x4 x6 x7 x8 r ⟨2816 + f.val, by omega⟩)

theorem v50_apply (r : Fin 128) (f : Fin 2816) :
    val_main_v50 (F := Ideal) x0 x1 x2 x3 x4 x5 x6 x7 x8 x9 x10 (ix2 r f)
      = conv (x10 (ix1 f)) (x9 (ix2 0 f)) (x9 (ix2 1 f)) (x9 (ix2 2 f)) (x5 (ix3 r 0 f)) (x5 (ix3 r 1 f)) (upR x0 x1 x2 x3 x4 x6 x7 x8 r ⟨f.val, by omega⟩) := by
  rw [← v28_apply x0 x1 x2 x3 x4 x5 x6 x7 x8, ← v38_apply x0 x1 x2 x3 x4 x5 x6 x7 x8, ← v46_apply x0 x1 x2 x3 x4 x5 x6 x7 x8]
  unfold val_main_v50 val_main_v42 val_main_v34 val_main_v31 val_main_v41 val_main_v49
  generalize val_main_v28 (F := Ideal) x0 x1 x2 x3 x4 x5 x6 x7 x8 = z0
  generalize val_main_v38 (F := Ideal) x0 x1 x2 x3 x4 x5 x6 x7 x8 = z1
  generalize val_main_v46 (F := Ideal) x0 x1 x2 x3 x4 x5 x6 x7 x8 = z2
  pointwise [val_main_v33, val_main_v32, val_main_v30, val_main_v29, val_main_v26, val_main_v25, val_main_v40, val_main_v39, val_main_v36, val_main_v35,
    val_main_v48, val_main_v47, val_main_v44, val_main_v43, conv]

theorem v64_apply (r : Fin 128) (f : Fin 2816) : val_main_v64 (F := Ideal) x0 x1 x2 x3 x4 x5 x6 x7 x8 x9 x10 (ix2 r f) = actR x0 x1 x2 x3 x4 x5 x6 x7 x8 x9 x10 r f := by
  unfold actR
  rw [← v22_apply, ← v50_apply]
  unfold val_main_v64 val_main_v63 val_main_v62 val_main_v60 val_main_v58 val_main_v57 val_main_v55 val_main_v54 val_main_v52 val_main_v51
  generalize val_main_v50 (F := Ideal) x0 x1 x2 x3 x4 x5 x6 x7 x8 x9 x10 = z
  generalize val_main_v22 (F := Ideal) x0 x1 x2 x3 x4 x6 x7 x8 = v
  have e : ∀ (h z a v : EReal), z * (h * a) * v = h * z * a * v := fun h z a v => by
    rw [← mul_assoc z h a, mul_comm z h]
  refine Eq.trans ?_ (e _ _ _ _)
  pointwise [val_main_v53, val_main_v56, val_main_v59, val_main_v61, val_main_cst_2, val_main_cst_3, val_main_cst_4, val_main_cst_5]

/-- The result's row `r`. -/
def outR (r : Fin 128) (n : Fin 1024) : EReal :=
  rms (down (resR x0 x1 x2 x3 x4 x6 r) (actR x0 x1 x2 x3 x4 x5 x6 x7 x8 x9 x10 r) (fun f n => x11 (ix2 f n))) (fun n => x12 (ix1 n)) n

theorem v79_apply (r : Fin 128) (n : Fin 1024) : val_main_v79 (F := Ideal) x0 x1 x2 x3 x4 x5 x6 x7 x8 x9 x10 x11 x12 (ix2 r n) = outR x0 x1 x2 x3 x4 x5 x6 x7 x8 x9 x10 x11 x12 r n := by
  have e66 : ∀ n : Fin 1024, val_main_v66 (F := Ideal) x0 x1 x2 x3 x4 x5 x6 x7 x8 x9 x10 x11 (ix2 r n)
      = down (resR x0 x1 x2 x3 x4 x6 r) (actR x0 x1 x2 x3 x4 x5 x6 x7 x8 x9 x10 r) (fun f n => x11 (ix2 f n)) n := fun n => by
    have e : val_main_v66 (F := Ideal) x0 x1 x2 x3 x4 x5 x6 x7 x8 x9 x10 x11 (ix2 r n) = val_main_v6 (F := Ideal) x0 x1 x2 x3 x4 x6 (ix2 r n) + ∑ f : Fin 2816, val_main_v64 (F := Ideal) x0 x1 x2 x3 x4 x5 x6 x7 x8 x9 x10 (ix2 r f) * x11 (ix2 f n) := by
      unfold val_main_v66 val_main_v65
      generalize val_main_v64 (F := Ideal) x0 x1 x2 x3 x4 x5 x6 x7 x8 x9 x10 = z
      generalize val_main_v6 (F := Ideal) x0 x1 x2 x3 x4 x6 = r
      pointwise
    rw [e]
    simp only [v6_apply, v64_apply]
    rfl
  unfold outR
  rw [← (funext e66 : (fun n => val_main_v66 (F := Ideal) x0 x1 x2 x3 x4 x5 x6 x7 x8 x9 x10 x11 (ix2 r n)) = _)]
  unfold val_main_v79 val_main_v76 val_main_v75 val_main_v74 val_main_v73 val_main_v71 val_main_v69 val_main_v68 val_main_v67
  generalize val_main_v66 (F := Ideal) x0 x1 x2 x3 x4 x5 x6 x7 x8 x9 x10 x11 = z
  pointwise [val_main_cst_6, val_main_cst_7, val_main_v70, val_main_cst_8, val_main_v72, val_main_v77, val_main_v78, rms]

end Cert.FfnStepRefIdeal.RefValue

end

end
-- ==== Proof.FfnStepCase.lean ====
module

public import proofs.«01_k».proof.Proof.FfnStepMath
public import proofs.«01_k».proof.Proof.Gen.FfnStepIdeal.Frame
public import Idealize.ShloMosaic.Lib.Pipeline.Value
public import Idealize.ShloMosaic.Lib.Pipeline.ReadBack
public import Idealize.ShloMosaic.Lib.Pointwise
public import Idealize.ShloMosaic.Lib.Tactic

/-!
# The block of the step's feed-forward kernel

What the kernel's one grid point leaves in its two outputs, entry by entry.
-/

@[expose] public section

set_option maxRecDepth 16384

noncomputable section

open Idealize.ShloMosaic Idealize.ShloMosaic.TcCoe Idealize.SL.Sem

namespace Cert.FfnStepIdeal.RefValue

open Cert.Common Cert.Ffn Cert.FfnStepIdeal Cert.FfnStepIdeal.Gen
open Cert.FfnIdeal.RefValue (canon_of_pieces' whole_idx)

/-- The normalised rows. -/
def hX (x0 : FVec Ideal S128x1024 .f32) (x1 x2 x3 x4 : FVec Ideal S128x256 .bf16) (x5 : FVec Ideal S1024x1024 .bf16) (x6 : FVec Ideal S1x1024 .f32) :
    FVec Ideal S128x1024 .bf16 :=
  fun y => rms (resV x0 x1 x2 x3 x4 x5 (y 0)) (fun k => x6 (ix2 0 k)) (y 1)

/-- Entry `(p, n)` of the first output. -/
def outG (x0 : FVec Ideal S128x1024 .f32) (x1 x2 x3 x4 : FVec Ideal S128x256 .bf16) (x5 : FVec Ideal S1024x1024 .bf16) (x6 : FVec Ideal S1x1024 .f32)
    (x7 : FVec Ideal S1024x5632 .bf16) (x8 : FVec Ideal S3x2816 .f32) (x9 : FVec Ideal S1x2816 .f32) (x10 : FVec Ideal S2816x1024 .bf16)
    (x11 : FVec Ideal S1x1024 .f32) (x12 x13 : FVec Ideal S128x2816 .f32) (p : Fin 128) (n : Fin 1024) : EReal :=
  rms (down (resV x0 x1 x2 x3 x4 x5 p) (actG (hX x0 x1 x2 x3 x4 x5 x6) x7 x8 x9 x12 x13 p) (fun f n => x10 (ix2 f n))) (fun n => x11 (ix2 0 n)) n

theorem z2 : ∀ d, (![0, 0] : Fin 2 → Nat) d = 0 := fun d => match d with | ⟨0, _⟩ => rfl | ⟨1, _⟩ => rfl

section
variable (c : Dev nD) (i : grid0.Coords) (arg1 : Memref sig .tc .vmem S128x1024 .f32) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S128x2816 .f32) (harg13 : arg13.IsWhole) (arg14 : Memref sig .tc .vmem S128x2816 .f32) (harg14 : arg14.IsWhole) (arg15 : Memref sig .tc .vmem S128x1024 .f32) (harg15 : arg15.IsWhole) (arg16 : Memref sig .tc .vmem S128x2816 .f32) (harg16 : arg16.IsWhole) (arg17 : Memref sig .tc .vmem S128x2816 .bf16) (harg17 : arg17.IsWhole)
  (x0 : Vec Ideal S128x1024 .f32) (x1 : Vec Ideal S128x256 .bf16) (x2 : Vec Ideal S128x256 .bf16) (x3 : Vec Ideal S128x256 .bf16) (x4 : Vec Ideal S128x256 .bf16) (x5 : Vec Ideal S1024x1024 .bf16) (x6 : Vec Ideal S1x1024 .f32) (x7 : Vec Ideal S1024x5632 .bf16) (x8 : Vec Ideal S3x2816 .f32) (x9 : Vec Ideal S1x2816 .f32) (x10 : Vec Ideal S2816x1024 .bf16) (x11 : Vec Ideal S1x1024 .f32) (x12 : Vec Ideal S128x2816 .f32) (x13 : Vec Ideal S128x2816 .f32)

theorem r_A (p : Fin 128) (n : Fin 1024) : (kernelRun0_A.sl.r (F := Ideal) c arg1 harg1 arg2 harg2 arg3 harg3 arg4 harg4 arg5 harg5 arg6 harg6 x0 x1 x2 x3 x4 x5) (ix2 p n) = resV x0 x1 x2 x3 x4 x5 p n := by
  unfold kernelRun0_A.sl.r
  rw [rdw arg2 harg2 x1 _ _ z2, rdw arg3 harg3 x2 _ _ z2, rdw arg4 harg4 x3 _ _ z2, rdw arg5 harg5 x4 _ _ z2, rdw arg1 harg1 x0 _ _ z2]
  refine (pay1_apply _ _ _ _ _ _ _ _ _ p n).trans ?_
  unfold resV res
  have e0 : ∀ k : Fin 256, View.readAt (Elt Ideal) arg6.view (Rect.unit (s := S1024x1024) ![0, 0] S256x1024.size inb_S1024x1024_S256x1024_0_0).toLoadRect (harg6.unread x5) (ix2 k n)
      = x5 (ix2 ⟨k.val, by omega⟩ n) := fun k =>
    rd arg6 harg6 x5 _ _ _ _ _ fun d => match d with
      | ⟨0, _⟩ => by show k.val = 0 + k.val; omega
      | ⟨1, _⟩ => by show n.val = 0 + n.val; omega
  have e1 : ∀ k : Fin 256, View.readAt (Elt Ideal) arg6.view (Rect.unit (s := S1024x1024) ![256, 0] S256x1024.size inb_S1024x1024_S256x1024_256_0).toLoadRect (harg6.unread x5) (ix2 k n)
      = x5 (ix2 ⟨256 + k.val, by omega⟩ n) := fun k =>
    rd arg6 harg6 x5 _ _ _ _ _ fun d => match d with
      | ⟨0, _⟩ => by show 256 + k.val = 256 + k.val; omega
      | ⟨1, _⟩ => by show n.val = 0 + n.val; omega
  have e2 : ∀ k : Fin 256, View.readAt (Elt Ideal) arg6.view (Rect.unit (s := S1024x1024) ![512, 0] S256x1024.size inb_S1024x1024_S256x1024_512_0).toLoadRect (harg6.unread x5) (ix2 k n)
      = x5 (ix2 ⟨512 + k.val, by omega⟩ n) := fun k =>
    rd arg6 harg6 x5 _ _ _ _ _ fun d => match d with
      | ⟨0, _⟩ => by show 512 + k.val = 512 + k.val; omega
      | ⟨1, _⟩ => by show n.val = 0 + n.val; omega
  have e3 : ∀ k : Fin 256, View.readAt (Elt Ideal) arg6.view (Rect.unit (s := S1024x1024) ![768, 0] S256x1024.size inb_S1024x1024_S256x1024_768_0).toLoadRect (harg6.unread x5) (ix2 k n)
      = x5 (ix2 ⟨768 + k.val, by omega⟩ n) := fun k =>
    rd arg6 harg6 x5 _ _ _ _ _ fun d => match d with
      | ⟨0, _⟩ => by show 768 + k.val = 768 + k.val; omega
      | ⟨1, _⟩ => by show n.val = 0 + n.val; omega
  simp only [e0, e1, e2, e3]

theorem r3_A : (kernelRun0_A.sl.r_3 (F := Ideal) c arg1 harg1 arg2 harg2 arg3 harg3 arg4 harg4 arg5 harg5 arg6 harg6 arg7 harg7 x0 x1 x2 x3 x4 x5 x6) = hX x0 x1 x2 x3 x4 x5 x6 := by
  funext y
  obtain ⟨p, k, rfl⟩ : ∃ (p : Fin 128) (k : Fin 1024), y = ix2 p k := ⟨y 0, y 1, by idx_vars y⟩
  refine (pay4_apply _ _ _ _ _ _ _ _ _ _ p k).trans ?_
  exact congrFun (congrArg₂ rms (funext fun n => r_A c arg1 harg1 arg2 harg2 arg3 harg3 arg4 harg4 arg5 harg5 arg6 harg6 x0 x1 x2 x3 x4 x5 p n)
    (funext fun n => congrFun (rdw arg7 harg7 x6 _ _ z2) (ix2 0 n))) k

theorem act_A (p : Fin 128) (f : Fin 2816) : (kernelRun0_A.sl.v520 (F := Ideal) c arg1 harg1 arg2 harg2 arg3 harg3 arg4 harg4 arg5 harg5 arg6 harg6 arg7 harg7 arg8 harg8 arg9 harg9 arg10 harg10 arg13 harg13 arg14 harg14 arg17 x0 x1 x2 x3 x4 x5 x6 x7 x8 x9 x12 x13) (ix2 p f) = actG (hX x0 x1 x2 x3 x4 x5 x6) x7 x8 x9 x12 x13 p f := by
  have P : View.PiecesOf (fun y : S128x2816.Idx => actG (hX x0 x1 x2 x3 x4 x5 x6) x7 x8 x9 x12 x13 (y 0) (y 1)) (kernelRun0_A.sl.HS0_11 (F := Ideal) c arg1 harg1 arg2 harg2 arg3 harg3 arg4 harg4 arg5 harg5 arg6 harg6 arg7 harg7 arg8 harg8 arg9 harg9 arg10 harg10 arg13 harg13 arg14 harg14 x0 x1 x2 x3 x4 x5 x6 x7 x8 x9 x12 x13) := by
    rw [← r3_A c arg1 harg1 arg2 harg2 arg3 harg3 arg4 harg4 arg5 harg5 arg6 harg6 arg7 harg7 x0 x1 x2 x3 x4 x5 x6]
    exact ⟨
      fun x => (congrFun (act10 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 2560 5376 rfl inb_S1024x5632_S1024x256_0_2560 inb_S1024x5632_S1024x256_0_5376 inb_S1x2816_S1x256_0_2560 inb_S3x2816_S1x256_0_2560 inb_S3x2816_S1x256_1_2560 inb_S3x2816_S1x256_2_2560 inb_S128x2816_S128x256_0_2560 x),
      fun x => (congrFun (act9 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 2304 5120 rfl inb_S1024x5632_S1024x256_0_2304 inb_S1024x5632_S1024x256_0_5120 inb_S1x2816_S1x256_0_2304 inb_S3x2816_S1x256_0_2304 inb_S3x2816_S1x256_1_2304 inb_S3x2816_S1x256_2_2304 inb_S128x2816_S128x256_0_2304 x),
      fun x => (congrFun (act8 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 2048 4864 rfl inb_S1024x5632_S1024x256_0_2048 inb_S1024x5632_S1024x256_0_4864 inb_S1x2816_S1x256_0_2048 inb_S3x2816_S1x256_0_2048 inb_S3x2816_S1x256_1_2048 inb_S3x2816_S1x256_2_2048 inb_S128x2816_S128x256_0_2048 x),
      fun x => (congrFun (act7 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 1792 4608 rfl inb_S1024x5632_S1024x256_0_1792 inb_S1024x5632_S1024x256_0_4608 inb_S1x2816_S1x256_0_1792 inb_S3x2816_S1x256_0_1792 inb_S3x2816_S1x256_1_1792 inb_S3x2816_S1x256_2_1792 inb_S128x2816_S128x256_0_1792 x),
      fun x => (congrFun (act6 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 1536 4352 rfl inb_S1024x5632_S1024x256_0_1536 inb_S1024x5632_S1024x256_0_4352 inb_S1x2816_S1x256_0_1536 inb_S3x2816_S1x256_0_1536 inb_S3x2816_S1x256_1_1536 inb_S3x2816_S1x256_2_1536 inb_S128x2816_S128x256_0_1536 x),
      fun x => (congrFun (act5 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 1280 4096 rfl inb_S1024x5632_S1024x256_0_1280 inb_S1024x5632_S1024x256_0_4096 inb_S1x2816_S1x256_0_1280 inb_S3x2816_S1x256_0_1280 inb_S3x2816_S1x256_1_1280 inb_S3x2816_S1x256_2_1280 inb_S128x2816_S128x256_0_1280 x),
      fun x => (congrFun (act4 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 1024 3840 rfl inb_S1024x5632_S1024x256_0_1024 inb_S1024x5632_S1024x256_0_3840 inb_S1x2816_S1x256_0_1024 inb_S3x2816_S1x256_0_1024 inb_S3x2816_S1x256_1_1024 inb_S3x2816_S1x256_2_1024 inb_S128x2816_S128x256_0_1024 x),
      fun x => (congrFun (act3 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 768 3584 rfl inb_S1024x5632_S1024x256_0_768 inb_S1024x5632_S1024x256_0_3584 inb_S1x2816_S1x256_0_768 inb_S3x2816_S1x256_0_768 inb_S3x2816_S1x256_1_768 inb_S3x2816_S1x256_2_768 inb_S128x2816_S128x256_0_768 x),
      fun x => (congrFun (act2 _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 512 3328 rfl inb_S1024x5632_S1024x256_0_512 inb_S1024x5632_S1024x256_0_3328 inb_S1x2816_S1x256_0_512 inb_S3x2816_S1x256_0_512 inb_S3x2816_S1x256_1_512 inb_S3x2816_S1x256_2_512 inb_S128x2816_S128x256_0_512 x),
      fun x => act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 256 3072 rfl inb_S1024x5632_S1024x256_0_256 inb_S1024x5632_S1024x256_0_3072 inb_S1x2816_S1x256_0_256 inb_S3x2816_S1x256_0_256 inb_S3x2816_S1x256_1_256 inb_S3x2816_S1x256_2_256 inb_S128x2816_S128x256_0_256 x,
      fun x => (congrFun (act0 _ _ _ _ _ _ _ _ _ _ _) x).trans (act_piece (kernelRun0_A.sl.r_3 (F := Ideal) c arg1 harg1 arg2 harg2 arg3 harg3 arg4 harg4 arg5 harg5 arg6 harg6 arg7 harg7 x0 x1 x2 x3 x4 x5 x6) arg8 harg8 arg9 harg9 arg10 harg10 arg13 harg13 arg14 harg14 x7 x8 x9 x12 x13 0 2816 rfl inb_S1024x5632_S1024x256_0_0 inb_S1024x5632_S1024x256_0_2816 inb_S1x2816_S1x256_0_0 inb_S3x2816_S1x256_0_0 inb_S3x2816_S1x256_1_0 inb_S3x2816_S1x256_2_0 inb_S128x2816_S128x256_0_0 x),
      trivial⟩
  unfold kernelRun0_A.sl.v520
  rw [View.readCov_eq_canon']
  refine (congrArg (View.canon _) (whole_idx (S := S128x2816) _ _ z2 (ix2 p f))).trans ?_
  exact canon_of_pieces' _ _ P _ (View.cover_of_tiledL (kernelRun0_A.sl.HS0_11 (F := Ideal) c arg1 harg1 arg2 harg2 arg3 harg3 arg4 harg4 arg5 harg5 arg6 harg6 arg7 harg7 arg8 harg8 arg9 harg9 arg10 harg10 arg13 harg13 arg14 harg14 x0 x1 x2 x3 x4 x5 x6 x7 x8 x9 x12 x13) S128x256.size (by sl_kernel_rfl) _)

theorem out14_A (p : Fin 128) (n : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix2 p n) = outG x0 x1 x2 x3 x4 x5 x6 x7 x8 x9 x10 x11 x12 x13 p n := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13)]
  unfold kernelRun0_A
  dsimp only
  rw [View.canon_cons_unit_zero (S := S128x1024) (funext z2)]
  unfold kernelRun0_A.sl.r_43
  refine (pay59_apply _ _ _ _ p n).trans ?_
  unfold outG
  rw [rdw arg11 harg11 x10 _ _ z2, rdw arg12 harg12 x11 _ _ z2]
  exact congrFun (congrArg₂ rms (congrFun (congrArg₂ down (funext fun n => r_A c arg1 harg1 arg2 harg2 arg3 harg3 arg4 harg4 arg5 harg5 arg6 harg6 x0 x1 x2 x3 x4 x5 p n) (funext fun f => act_A c arg1 harg1 arg2 harg2 arg3 harg3 arg4 harg4 arg5 harg5 arg6 harg6 arg7 harg7 arg8 harg8 arg9 harg9 arg10 harg10 arg13 harg13 arg14 harg14 arg17 x0 x1 x2 x3 x4 x5 x6 x7 x8 x9 x12 x13 p f)) _) rfl) n

theorem out15_A (p : Fin 128) (f : Fin 2816) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix2 p f) = dotF (hX x0 x1 x2 x3 x4 x5 x6) x7 ⟨f.val, by omega⟩ p := by
  have P : View.PiecesOf (fun y : S128x2816.Idx => dotF (hX x0 x1 x2 x3 x4 x5 x6) x7 ⟨(y 1).val, Nat.lt_of_lt_of_le (y 1).isLt (by decide)⟩ (y 0))
      (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13).2.1 := by
    unfold kernelRun0_A
    dsimp only
    rw [← r3_A c arg1 harg1 arg2 harg2 arg3 harg3 arg4 harg4 arg5 harg5 arg6 harg6 arg7 harg7 x0 x1 x2 x3 x4 x5 x6]
    exact ⟨
      fun x => (congrFun (up10 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 2560 inb_S1024x5632_S1024x256_0_2560 inb_S128x2816_S128x256_0_2560 x),
      fun x => (congrFun (up9 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 2304 inb_S1024x5632_S1024x256_0_2304 inb_S128x2816_S128x256_0_2304 x),
      fun x => (congrFun (up8 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 2048 inb_S1024x5632_S1024x256_0_2048 inb_S128x2816_S128x256_0_2048 x),
      fun x => (congrFun (up7 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 1792 inb_S1024x5632_S1024x256_0_1792 inb_S128x2816_S128x256_0_1792 x),
      fun x => (congrFun (up6 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 1536 inb_S1024x5632_S1024x256_0_1536 inb_S128x2816_S128x256_0_1536 x),
      fun x => (congrFun (up5 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 1280 inb_S1024x5632_S1024x256_0_1280 inb_S128x2816_S128x256_0_1280 x),
      fun x => (congrFun (up4 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 1024 inb_S1024x5632_S1024x256_0_1024 inb_S128x2816_S128x256_0_1024 x),
      fun x => (congrFun (up3 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 768 inb_S1024x5632_S1024x256_0_768 inb_S128x2816_S128x256_0_768 x),
      fun x => (congrFun (up2 _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 512 inb_S1024x5632_S1024x256_0_512 inb_S128x2816_S128x256_0_512 x),
      fun x => up_piece (kernelRun0_A.sl.r_3 (F := Ideal) c arg1 harg1 arg2 harg2 arg3 harg3 arg4 harg4 arg5 harg5 arg6 harg6 arg7 harg7 x0 x1 x2 x3 x4 x5 x6) arg8 harg8 x7 256 inb_S1024x5632_S1024x256_0_256 inb_S128x2816_S128x256_0_256 x,
      fun x => (congrFun (up0 _ _ _ _) x).trans (up_piece (kernelRun0_A.sl.r_3 (F := Ideal) c arg1 harg1 arg2 harg2 arg3 harg3 arg4 harg4 arg5 harg5 arg6 harg6 arg7 harg7 x0 x1 x2 x3 x4 x5 x6) arg8 harg8 x7 0 inb_S1024x5632_S1024x256_0_0 inb_S128x2816_S128x256_0_0 x),
      trivial⟩
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13)]
  exact canon_of_pieces' _ _ P _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 _)

end

end Cert.FfnStepIdeal.RefValue

end

end
-- ==== Proof.FfnStepValue.lean ====
/- The feed-forward call of the step: the output projection with its residual, the up projection, the causal convolution of
   three taps over the buffer's two rows and the step's own, the gate, the down projection and the last normalisation, one
   row for each of 128 sequences. The value claim reads the kernel's block and the reference's arrays entry by entry as the
   same functions of the arguments. -/
module

public import proofs.«01_k».proof.Defs
public import proofs.«01_k».proof.Proof.FfnStepCase
public import proofs.«01_k».proof.Proof.Gen.FfnStep.Frame
public import proofs.«01_k».proof.Proof.Gen.FfnStepIdeal.Value
public import proofs.«01_k».proof.Proof.Gen.FfnStepRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnStepIdeal.RefValue

open Cert.FfnStepIdeal Cert.FfnStepIdeal.Gen Cert.Common Cert.Ffn Cert.FfnStepRefIdeal.RefValue

variable (m : (ℓ : Loc nD τ sig) → Buf (Elt Ideal) ℓ) (ρ : Dev nD → PrngReg)

/-- The memory of argument `b`, of device `c`. -/
abbrev arg (c : Dev nD) (b : Ref sig .tc) : Buf (Elt Ideal) ((c : Thread nD τ).loc b) := m ((c : Thread nD τ).loc b)

/-! ### The weights as the kernel takes them -/

theorem V_v0 (c : Dev nD) : V m c main_v0 = (truncf .bf16 (arg m c main_arg6) bitsLt_bf16_f32 : FVec Ideal S1024x1024 .bf16) := by
  unfold V; after_results <;> rfl
theorem V_v1 (c : Dev nD) : V m c main_v1 = broadcastInDim S1x1024 ![1] bcast_S1024_S1x1024_1 (arg m c main_arg7) := by
  unfold V; after_results <;> rfl
theorem V_v2 (c : Dev nD) : V m c main_v2 = (truncf .bf16 (arg m c main_arg8) bitsLt_bf16_f32 : FVec Ideal S1024x5632 .bf16) := by
  unfold V; after_results <;> rfl
theorem V_v3 (c : Dev nD) : V m c main_v3 = broadcastInDim S1x2816 ![1] bcast_S2816_S1x2816_1 (arg m c main_arg10) := by
  unfold V; after_results <;> rfl
theorem V_v4 (c : Dev nD) : V m c main_v4 = (truncf .bf16 (arg m c main_arg11) bitsLt_bf16_f32 : FVec Ideal S2816x1024 .bf16) := by
  unfold V; after_results <;> rfl
theorem V_v5 (c : Dev nD) : V m c main_v5 = broadcastInDim S1x1024 ![1] bcast_S1024_S1x1024_1 (arg m c main_arg12) := by
  unfold V; after_results <;> rfl
theorem V_v7 (c : Dev nD) : V m c main_v7 = shapeCast S128x2816 (extractStridedSlice S128x1x2816 ![0, 0, 0] (arg m c main_arg5) slices_S128x2x2816_S128x1x2816_0_0_0) shapeCasts_S128x1x2816_S128x2816 := by
  unfold V; after_results <;> rfl
theorem V_v9 (c : Dev nD) : V m c main_v9 = shapeCast S128x2816 (extractStridedSlice S128x1x2816 ![0, 1, 0] (arg m c main_arg5) slices_S128x2x2816_S128x1x2816_0_1_0) shapeCasts_S128x1x2816_S128x2816 := by
  unfold V; after_results <;> rfl
/-! ### The windows -/

theorem index_0 : ∀ t : Fin grid0.N, win0_0.index t 0 = 0 ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = 0 ∧ win0_10.index t 1 = 0 := by decide +kernel
theorem index_11 : ∀ t : Fin grid0.N, win0_11.index t 0 = 0 ∧ win0_11.index t 1 = 0 := by decide +kernel
theorem index_12 : ∀ t : Fin grid0.N, win0_12.index t 0 = 0 ∧ win0_12.index t 1 = 0 := by decide +kernel
theorem index_13 : ∀ t : Fin grid0.N, win0_13.index t 0 = 0 ∧ win0_13.index t 1 = 0 := by decide +kernel
theorem index_14 : ∀ t : Fin grid0.N, win0_14.index t 0 = 0 ∧ win0_14.index t 1 = 0 := by decide +kernel
theorem index_15 : ∀ t : Fin grid0.N, win0_15.index t 0 = 0 ∧ win0_15.index t 1 = 0 := by decide +kernel

theorem blk_0 (c : Dev nD) (t : Fin cfg0.N) (a : Fin 128) (k : Fin 1024) :
    iblk m c 0 t (ix2 a k) = arg m c main_arg0 (ix2 a k) := by
  show V m c main_arg0 ((win0_0.rect t).idx (ix2 a k)) = _
  have e : (win0_0.rect t).idx (ix2 a k) = (ix2 a k : S128x1024.Idx) := funext fun b => Fin.ext (by
    match b with
    | ⟨0, _⟩ => show win0_0.index t 0 * 128 + 1 * a.val = a.val; rw [(index_0 t).1]; omega
    | ⟨1, _⟩ => show win0_0.index t 1 * 1024 + 1 * k.val = k.val; rw [(index_0 t).2]; omega)
  rw [V_main_arg0, e]

theorem blk_1 (c : Dev nD) (t : Fin cfg0.N) (a : Fin 128) (k : Fin 256) :
    iblk m c 1 t (ix2 a k) = arg m c main_arg1 (ix2 a k) := by
  show V m c main_arg1 ((win0_1.rect t).idx (ix2 a k)) = _
  have e : (win0_1.rect t).idx (ix2 a k) = (ix2 a k : S128x256.Idx) := funext fun b => Fin.ext (by
    match b with
    | ⟨0, _⟩ => show win0_1.index t 0 * 128 + 1 * a.val = a.val; rw [(index_1 t).1]; omega
    | ⟨1, _⟩ => show win0_1.index t 1 * 256 + 1 * k.val = k.val; rw [(index_1 t).2]; omega)
  rw [V_main_arg1, e]

theorem blk_2 (c : Dev nD) (t : Fin cfg0.N) (a : Fin 128) (k : Fin 256) :
    iblk m c 2 t (ix2 a k) = arg m c main_arg2 (ix2 a k) := by
  show V m c main_arg2 ((win0_2.rect t).idx (ix2 a k)) = _
  have e : (win0_2.rect t).idx (ix2 a k) = (ix2 a k : S128x256.Idx) := funext fun b => Fin.ext (by
    match b with
    | ⟨0, _⟩ => show win0_2.index t 0 * 128 + 1 * a.val = a.val; rw [(index_2 t).1]; omega
    | ⟨1, _⟩ => show win0_2.index t 1 * 256 + 1 * k.val = k.val; rw [(index_2 t).2]; omega)
  rw [V_main_arg2, e]

theorem blk_3 (c : Dev nD) (t : Fin cfg0.N) (a : Fin 128) (k : Fin 256) :
    iblk m c 3 t (ix2 a k) = arg m c main_arg3 (ix2 a k) := by
  show V m c main_arg3 ((win0_3.rect t).idx (ix2 a k)) = _
  have e : (win0_3.rect t).idx (ix2 a k) = (ix2 a k : S128x256.Idx) := funext fun b => Fin.ext (by
    match b with
    | ⟨0, _⟩ => show win0_3.index t 0 * 128 + 1 * a.val = a.val; rw [(index_3 t).1]; omega
    | ⟨1, _⟩ => show win0_3.index t 1 * 256 + 1 * k.val = k.val; rw [(index_3 t).2]; omega)
  rw [V_main_arg3, e]

theorem blk_4 (c : Dev nD) (t : Fin cfg0.N) (a : Fin 128) (k : Fin 256) :
    iblk m c 4 t (ix2 a k) = arg m c main_arg4 (ix2 a k) := by
  show V m c main_arg4 ((win0_4.rect t).idx (ix2 a k)) = _
  have e : (win0_4.rect t).idx (ix2 a k) = (ix2 a k : S128x256.Idx) := funext fun b => Fin.ext (by
    match b with
    | ⟨0, _⟩ => show win0_4.index t 0 * 128 + 1 * a.val = a.val; rw [(index_4 t).1]; omega
    | ⟨1, _⟩ => show win0_4.index t 1 * 256 + 1 * k.val = k.val; rw [(index_4 t).2]; omega)
  rw [V_main_arg4, e]

theorem blk_5 (c : Dev nD) (t : Fin cfg0.N) (a : Fin 1024) (k : Fin 1024) :
    iblk m c 5 t (ix2 a k) = arg m c main_arg6 (ix2 a k) := by
  show V m c main_v0 ((win0_5.rect t).idx (ix2 a k)) = _
  have e : (win0_5.rect t).idx (ix2 a k) = (ix2 a k : S1024x1024.Idx) := funext fun b => Fin.ext (by
    match b with
    | ⟨0, _⟩ => show win0_5.index t 0 * 1024 + 1 * a.val = a.val; rw [(index_5 t).1]; omega
    | ⟨1, _⟩ => show win0_5.index t 1 * 1024 + 1 * k.val = k.val; rw [(index_5 t).2]; omega)
  rw [V_v0, e]
  rfl

theorem blk_7 (c : Dev nD) (t : Fin cfg0.N) (a : Fin 1024) (k : Fin 5632) :
    iblk m c 7 t (ix2 a k) = arg m c main_arg8 (ix2 a k) := by
  show V m c main_v2 ((win0_7.rect t).idx (ix2 a k)) = _
  have e : (win0_7.rect t).idx (ix2 a k) = (ix2 a k : S1024x5632.Idx) := funext fun b => Fin.ext (by
    match b with
    | ⟨0, _⟩ => show win0_7.index t 0 * 1024 + 1 * a.val = a.val; rw [(index_7 t).1]; omega
    | ⟨1, _⟩ => show win0_7.index t 1 * 5632 + 1 * k.val = k.val; rw [(index_7 t).2]; omega)
  rw [V_v2, e]
  rfl

theorem blk_8 (c : Dev nD) (t : Fin cfg0.N) (a : Fin 3) (k : Fin 2816) :
    iblk m c 8 t (ix2 a k) = arg m c main_arg9 (ix2 a k) := by
  show V m c main_arg9 ((win0_8.rect t).idx (ix2 a k)) = _
  have e : (win0_8.rect t).idx (ix2 a k) = (ix2 a k : S3x2816.Idx) := funext fun b => Fin.ext (by
    match b with
    | ⟨0, _⟩ => show win0_8.index t 0 * 3 + 1 * a.val = a.val; rw [(index_8 t).1]; omega
    | ⟨1, _⟩ => show win0_8.index t 1 * 2816 + 1 * k.val = k.val; rw [(index_8 t).2]; omega)
  rw [V_main_arg9, e]

theorem blk_10 (c : Dev nD) (t : Fin cfg0.N) (a : Fin 2816) (k : Fin 1024) :
    iblk m c 10 t (ix2 a k) = arg m c main_arg11 (ix2 a k) := by
  show V m c main_v4 ((win0_10.rect t).idx (ix2 a k)) = _
  have e : (win0_10.rect t).idx (ix2 a k) = (ix2 a k : S2816x1024.Idx) := funext fun b => Fin.ext (by
    match b with
    | ⟨0, _⟩ => show win0_10.index t 0 * 2816 + 1 * a.val = a.val; rw [(index_10 t).1]; omega
    | ⟨1, _⟩ => show win0_10.index t 1 * 1024 + 1 * k.val = k.val; rw [(index_10 t).2]; omega)
  rw [V_v4, e]
  rfl

theorem blk_6 (c : Dev nD) (t : Fin cfg0.N) (k : Fin 1024) :
    iblk m c 6 t (ix2 0 k) = arg m c main_arg7 (ix1 k) := by
  show V m c main_v1 ((win0_6.rect t).idx (ix2 0 k)) = _
  have e : (win0_6.rect t).idx (ix2 0 k) = (ix2 0 k : S1x1024.Idx) := funext fun a => Fin.ext (by
    match a with
    | ⟨0, _⟩ => show win0_6.index t 0 * 1 + 1 * 0 = 0; rw [(index_6 t).1]
    | ⟨1, _⟩ => show win0_6.index t 1 * 1024 + 1 * k.val = k.val; rw [(index_6 t).2]; omega)
  rw [V_v1, e]
  pointwise

theorem blk_9 (c : Dev nD) (t : Fin cfg0.N) (k : Fin 2816) :
    iblk m c 9 t (ix2 0 k) = arg m c main_arg10 (ix1 k) := by
  show V m c main_v3 ((win0_9.rect t).idx (ix2 0 k)) = _
  have e : (win0_9.rect t).idx (ix2 0 k) = (ix2 0 k : S1x2816.Idx) := funext fun a => Fin.ext (by
    match a with
    | ⟨0, _⟩ => show win0_9.index t 0 * 1 + 1 * 0 = 0; rw [(index_9 t).1]
    | ⟨1, _⟩ => show win0_9.index t 1 * 2816 + 1 * k.val = k.val; rw [(index_9 t).2]; omega)
  rw [V_v3, e]
  pointwise

theorem blk_11 (c : Dev nD) (t : Fin cfg0.N) (k : Fin 1024) :
    iblk m c 11 t (ix2 0 k) = arg m c main_arg12 (ix1 k) := by
  show V m c main_v5 ((win0_11.rect t).idx (ix2 0 k)) = _
  have e : (win0_11.rect t).idx (ix2 0 k) = (ix2 0 k : S1x1024.Idx) := funext fun a => Fin.ext (by
    match a with
    | ⟨0, _⟩ => show win0_11.index t 0 * 1 + 1 * 0 = 0; rw [(index_11 t).1]
    | ⟨1, _⟩ => show win0_11.index t 1 * 1024 + 1 * k.val = k.val; rw [(index_11 t).2]; omega)
  rw [V_v5, e]
  pointwise

theorem blk_12 (c : Dev nD) (t : Fin cfg0.N) (p : Fin 128) (f : Fin 2816) :
    iblk m c 12 t (ix2 p f) = arg m c main_arg5 (ix3 p 0 f) := by
  show V m c main_v7 ((win0_12.rect t).idx (ix2 p f)) = _
  have e : (win0_12.rect t).idx (ix2 p f) = (ix2 p f : S128x2816.Idx) := funext fun b => Fin.ext (by
    match b with
    | ⟨0, _⟩ => show win0_12.index t 0 * 128 + 1 * p.val = p.val; rw [(index_12 t).1]; omega
    | ⟨1, _⟩ => show win0_12.index t 1 * 2816 + 1 * f.val = f.val; rw [(index_12 t).2]; omega)
  rw [V_v7, e]
  pointwise

theorem blk_13 (c : Dev nD) (t : Fin cfg0.N) (p : Fin 128) (f : Fin 2816) :
    iblk m c 13 t (ix2 p f) = arg m c main_arg5 (ix3 p 1 f) := by
  show V m c main_v9 ((win0_13.rect t).idx (ix2 p f)) = _
  have e : (win0_13.rect t).idx (ix2 p f) = (ix2 p f : S128x2816.Idx) := funext fun b => Fin.ext (by
    match b with
    | ⟨0, _⟩ => show win0_13.index t 0 * 128 + 1 * p.val = p.val; rw [(index_13 t).1]; omega
    | ⟨1, _⟩ => show win0_13.index t 1 * 2816 + 1 * f.val = f.val; rw [(index_13 t).2]; omega)
  rw [V_v9, e]
  pointwise

/-! ### The block is the reference's rows -/

theorem res_eq (c : Dev nD) (t : Fin cfg0.N) (p : Fin 128) : resV (iblk m c 0 t) (iblk m c 1 t) (iblk m c 2 t) (iblk m c 3 t) (iblk m c 4 t) (iblk m c 5 t) p = resR (arg m c main_arg0) (arg m c main_arg1) (arg m c main_arg2) (arg m c main_arg3) (arg m c main_arg4) (arg m c main_arg6) p := by
  unfold resV resR
  simp only [blk_0, blk_1, blk_2, blk_3, blk_4, blk_5]

theorem dot_eq (c : Dev nD) (t : Fin cfg0.N) (p : Fin 128) (q : Fin 5632) :
    dotF (hX (iblk m c 0 t) (iblk m c 1 t) (iblk m c 2 t) (iblk m c 3 t) (iblk m c 4 t) (iblk m c 5 t) (iblk m c 6 t)) (iblk m c 7 t) q p = upR (arg m c main_arg0) (arg m c main_arg1) (arg m c main_arg2) (arg m c main_arg3) (arg m c main_arg4) (arg m c main_arg6) (arg m c main_arg7) (arg m c main_arg8) p q := by
  unfold dotF upR up
  refine Finset.sum_congr rfl fun k _ => ?_
  show rms (resV (iblk m c 0 t) (iblk m c 1 t) (iblk m c 2 t) (iblk m c 3 t) (iblk m c 4 t) (iblk m c 5 t) p) (fun k => iblk m c 6 t (ix2 0 k)) k * iblk m c 7 t (ix2 k q) = _
  rw [res_eq, blk_7]
  simp only [blk_6]

theorem act_eq (c : Dev nD) (t : Fin cfg0.N) (p : Fin 128) (f : Fin 2816) :
    actG (hX (iblk m c 0 t) (iblk m c 1 t) (iblk m c 2 t) (iblk m c 3 t) (iblk m c 4 t) (iblk m c 5 t) (iblk m c 6 t)) (iblk m c 7 t) (iblk m c 8 t) (iblk m c 9 t) (iblk m c 12 t) (iblk m c 13 t) p f = actR (arg m c main_arg0) (arg m c main_arg1) (arg m c main_arg2) (arg m c main_arg3) (arg m c main_arg4) (arg m c main_arg5) (arg m c main_arg6) (arg m c main_arg7) (arg m c main_arg8) (arg m c main_arg9) (arg m c main_arg10) p f := by
  unfold actG actR
  rw [dot_eq, dot_eq, blk_8, blk_8, blk_8, blk_9, blk_12, blk_13]

theorem out_eq (c : Dev nD) (t : Fin cfg0.N) (p : Fin 128) (n : Fin 1024) : outG (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p n = outR (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) p n := by
  unfold outG outR
  rw [res_eq, show actG (hX (iblk m c 0 t) (iblk m c 1 t) (iblk m c 2 t) (iblk m c 3 t) (iblk m c 4 t) (iblk m c 5 t) (iblk m c 6 t)) (iblk m c 7 t) (iblk m c 8 t) (iblk m c 9 t) (iblk m c 12 t) (iblk m c 13 t) p = actR (arg m c main_arg0) (arg m c main_arg1) (arg m c main_arg2) (arg m c main_arg3) (arg m c main_arg4) (arg m c main_arg5) (arg m c main_arg6) (arg m c main_arg7) (arg m c main_arg8) (arg m c main_arg9) (arg m c main_arg10) p from funext fun f => act_eq m c t p f]
  simp only [blk_10, blk_11]

theorem out14_eq (c : Dev nD) (t : Fin cfg0.N) (p : Fin 128) (n : Fin 1024) : (outsAt0 m c t).1 (ix2 p n) = outR (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) p n := by
  refine Eq.trans ?_ (out_eq m c t p n)
  have h := out14_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p n
  unfold outsAt0
  dsimp only
  rw [h]

theorem out15_eq (c : Dev nD) (t : Fin cfg0.N) (p : Fin 128) (f : Fin 2816) : (outsAt0 m c t).2 (ix2 p f) = upR (arg m c main_arg0) (arg m c main_arg1) (arg m c main_arg2) (arg m c main_arg3) (arg m c main_arg4) (arg m c main_arg6) (arg m c main_arg7) (arg m c main_arg8) p ⟨f.val, by omega⟩ := by
  refine Eq.trans ?_ (dot_eq m c t p ⟨f.val, by omega⟩)
  have h := out15_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p f
  unfold outsAt0
  dsimp only
  rw [h]

/-! ### What the one point writes back is the reference's arrays -/

/-- The rows as the reference computes them. -/
abbrev G14 (c : Dev nD) : Buf (Elt Ideal) ((c : Thread nD τ).loc main_v10_0) :=
  FfnStepRefIdeal.Read.val_main_v79 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12)

/-- The convolution's newest row as the reference computes it. -/
abbrev G15 (c : Dev nD) : Buf (Elt Ideal) ((c : Thread nD τ).loc main_v10_1) :=
  FfnStepRefIdeal.Read.val_main_v81 (F := Ideal) (arg m c main_arg0) (arg m c main_arg1) (arg m c main_arg2) (arg m c main_arg3) (arg m c main_arg4) (arg m c main_arg5) (arg m c main_arg6) (arg m c main_arg7) (arg m c main_arg8)

theorem t0lt : 0 < cfg0.N := by have h : cfg0.N = 1 := N_0; omega

theorem flushed_14 (c : Dev nD) (t : Fin cfg0.N) :
    (dats m 0 c).flushed 14 t = ((cfg0.win 14).blk t).view.read (Elt Ideal) (G14 m c) := by
  rw [Value.flushed14]
  funext y
  show (outsAt0 m c t).1 y = G14 m c ((win0_14.rect t).idx y)
  obtain ⟨p, n, rfl⟩ : ∃ (p : Fin 128) (n : Fin 1024), y = ix2 p n := ⟨y 0, y 1, by idx_vars y⟩
  have e : (win0_14.rect t).idx (ix2 p n) = (ix2 p n : S128x1024.Idx) := funext fun a => Fin.ext (by
    match a with
    | ⟨0, _⟩ => show win0_14.index t 0 * 128 + 1 * p.val = p.val; rw [(index_14 t).1]; omega
    | ⟨1, _⟩ => show win0_14.index t 1 * 1024 + 1 * n.val = n.val; rw [(index_14 t).2]; omega)
  rw [e, out14_eq]
  exact (v79_apply _ _ _ _ _ _ _ _ _ _ _ _ _ p n).symm

theorem cover_14 (i : S128x1024.Idx) : ∃ t : Fin cfg0.N, (cfg0.win 14).flush t = true ∧ i ∈ ((cfg0.win 14).blk t).view.set := by
  have h0 : (i 0 : Nat) < 128 := (i 0).isLt
  have h1 : (i 1 : Nat) < 1024 := (i 1).isLt
  refine ⟨⟨0, t0lt⟩, flush0_14 _, ?_⟩
  show i ∈ ((View.whole main_v10_0).slice (win0_14.rect ⟨0, t0lt⟩)).set
  rw [View.set_slice_whole, Rect.mem_set_unit]
  obtain ⟨e0, e1⟩ := index_14 ⟨0, t0lt⟩
  intro a
  match a with
  | ⟨0, _⟩ => show win0_14.index _ 0 * 128 ≤ (i 0 : Nat) ∧ (i 0 : Nat) < win0_14.index _ 0 * 128 + 128
              rw [e0]; omega
  | ⟨1, _⟩ => show win0_14.index _ 1 * 1024 ≤ (i 1 : Nat) ∧ (i 1 : Nat) < win0_14.index _ 1 * 1024 + 1024
              rw [e1]; omega

theorem final_14 (c : Dev nD) : (dats m 0 c).arrAt 14 cfg0.N = G14 m c :=
  (dats m 0 c).arrAt_eq_of_cover 14 (G14 m c) (fun t _ => flushed_14 m c t) cover_14

theorem flushed_15 (c : Dev nD) (t : Fin cfg0.N) :
    (dats m 0 c).flushed 15 t = ((cfg0.win 15).blk t).view.read (Elt Ideal) (G15 m c) := by
  rw [Value.flushed15]
  funext y
  show (outsAt0 m c t).2 y = G15 m c ((win0_15.rect t).idx y)
  obtain ⟨p, n, rfl⟩ : ∃ (p : Fin 128) (n : Fin 2816), y = ix2 p n := ⟨y 0, y 1, by idx_vars y⟩
  have e : (win0_15.rect t).idx (ix2 p n) = (ix2 p n : S128x2816.Idx) := funext fun a => Fin.ext (by
    match a with
    | ⟨0, _⟩ => show win0_15.index t 0 * 128 + 1 * p.val = p.val; rw [(index_15 t).1]; omega
    | ⟨1, _⟩ => show win0_15.index t 1 * 2816 + 1 * n.val = n.val; rw [(index_15 t).2]; omega)
  rw [e, out15_eq]
  exact (v81_apply _ _ _ _ _ _ _ _ _ p n).symm

theorem cover_15 (i : S128x2816.Idx) : ∃ t : Fin cfg0.N, (cfg0.win 15).flush t = true ∧ i ∈ ((cfg0.win 15).blk t).view.set := by
  have h0 : (i 0 : Nat) < 128 := (i 0).isLt
  have h1 : (i 1 : Nat) < 2816 := (i 1).isLt
  refine ⟨⟨0, t0lt⟩, flush0_15 _, ?_⟩
  show i ∈ ((View.whole main_v10_1).slice (win0_15.rect ⟨0, t0lt⟩)).set
  rw [View.set_slice_whole, Rect.mem_set_unit]
  obtain ⟨e0, e1⟩ := index_15 ⟨0, t0lt⟩
  intro a
  match a with
  | ⟨0, _⟩ => show win0_15.index _ 0 * 128 ≤ (i 0 : Nat) ∧ (i 0 : Nat) < win0_15.index _ 0 * 128 + 128
              rw [e0]; omega
  | ⟨1, _⟩ => show win0_15.index _ 1 * 2816 ≤ (i 1 : Nat) ∧ (i 1 : Nat) < win0_15.index _ 1 * 2816 + 2816
              rw [e1]; omega

theorem final_15 (c : Dev nD) : (dats m 0 c).arrAt 15 cfg0.N = G15 m c :=
  (dats m 0 c).arrAt_eq_of_cover 15 (G15 m c) (fun t _ => flushed_15 m c t) cover_15

end Cert.FfnStepIdeal.RefValue

/-! ### The claims -/

namespace Cert.Proof.FfnStepClaims

theorem frame_k : Cert.quiescent_FfnStep := fun m ρ _ => Cert.FfnStep.Gen.frame m ρ
theorem frame_ki : Cert.quiescent_FfnStepIdeal := fun m ρ _ => Cert.FfnStepIdeal.Gen.frame m ρ
theorem frame_ri : Cert.quiescent_FfnStepRefIdeal := fun m ρ _ =>
  (θ_run Cert.FfnStepRefIdeal.defs _ _).mono (fun r h => ⟨fun c => (h c).2.2, sem_eq_zero_of_no_sems (by decide) r.2⟩)
    (Cert.FfnStepRefIdeal.Value.run (F := Ideal) m ρ)
theorem preserves : Cert.preserves_FfnStep_FfnStepIdeal := trivial

/-- The kernel's rows and newest convolution row are the reference's. -/
theorem algebraic : Cert.algebraic_FfnStepIdeal_FfnStepRefIdeal := by
  intro m ρ m' ρ' _ hagree
  refine ⟨fun c => FfnStepIdeal.RefValue.G14 m c, fun c => FfnStepIdeal.RefValue.G15 m c, ?_, ?_⟩
  · exact (θ_run Cert.FfnStepIdeal.defs _ _).mono
      (fun _ h c => ⟨(h c).1.trans (FfnStepIdeal.RefValue.final_14 m c), (h c).2.1.trans (FfnStepIdeal.RefValue.final_15 m c), (h c).2.2⟩)
      (Cert.FfnStepIdeal.Value.run_blocks (F := Ideal) m ρ)
  · refine (θ_run Cert.FfnStepRefIdeal.defs _ _).mono
      (fun _ h c => ⟨(h c).1.trans ?_, (h c).2.1.trans ?_, (h c).2.2⟩)
      (Cert.FfnStepRefIdeal.Value.run (F := Ideal) m' ρ')
    · obtain ⟨a0, a1, a2, a3, a4, a5, a6, a7, a8, a9, a10, a11, a12⟩ := hagree c
      refine (FfnStepRefIdeal.Read.val_main_v79_eq _).trans ?_
      show FfnStepRefIdeal.Read.val_main_v79 (F := Ideal) (m' ((c : Thread FfnStepRefIdeal.nD FfnStepRefIdeal.τ).loc FfnStepRefIdeal.main_arg0)) (m' ((c : Thread FfnStepRefIdeal.nD FfnStepRefIdeal.τ).loc FfnStepRefIdeal.main_arg1)) (m' ((c : Thread FfnStepRefIdeal.nD FfnStepRefIdeal.τ).loc FfnStepRefIdeal.main_arg2)) (m' ((c : Thread FfnStepRefIdeal.nD FfnStepRefIdeal.τ).loc FfnStepRefIdeal.main_arg3)) (m' ((c : Thread FfnStepRefIdeal.nD FfnStepRefIdeal.τ).loc FfnStepRefIdeal.main_arg4)) (m' ((c : Thread FfnStepRefIdeal.nD FfnStepRefIdeal.τ).loc FfnStepRefIdeal.main_arg5)) (m' ((c : Thread FfnStepRefIdeal.nD FfnStepRefIdeal.τ).loc FfnStepRefIdeal.main_arg6)) (m' ((c : Thread FfnStepRefIdeal.nD FfnStepRefIdeal.τ).loc FfnStepRefIdeal.main_arg7)) (m' ((c : Thread FfnStepRefIdeal.nD FfnStepRefIdeal.τ).loc FfnStepRefIdeal.main_arg8)) (m' ((c : Thread FfnStepRefIdeal.nD FfnStepRefIdeal.τ).loc FfnStepRefIdeal.main_arg9)) (m' ((c : Thread FfnStepRefIdeal.nD FfnStepRefIdeal.τ).loc FfnStepRefIdeal.main_arg10)) (m' ((c : Thread FfnStepRefIdeal.nD FfnStepRefIdeal.τ).loc FfnStepRefIdeal.main_arg11)) (m' ((c : Thread FfnStepRefIdeal.nD FfnStepRefIdeal.τ).loc FfnStepRefIdeal.main_arg12)) = _
      rw [a0, a1, a2, a3, a4, a5, a6, a7, a8, a9, a10, a11, a12]
    · obtain ⟨a0, a1, a2, a3, a4, a5, a6, a7, a8, a9, a10, a11, a12⟩ := hagree c
      refine (FfnStepRefIdeal.Read.val_main_v81_eq _).trans ?_
      show FfnStepRefIdeal.Read.val_main_v81 (F := Ideal) (m' ((c : Thread FfnStepRefIdeal.nD FfnStepRefIdeal.τ).loc FfnStepRefIdeal.main_arg0)) (m' ((c : Thread FfnStepRefIdeal.nD FfnStepRefIdeal.τ).loc FfnStepRefIdeal.main_arg1)) (m' ((c : Thread FfnStepRefIdeal.nD FfnStepRefIdeal.τ).loc FfnStepRefIdeal.main_arg2)) (m' ((c : Thread FfnStepRefIdeal.nD FfnStepRefIdeal.τ).loc FfnStepRefIdeal.main_arg3)) (m' ((c : Thread FfnStepRefIdeal.nD FfnStepRefIdeal.τ).loc FfnStepRefIdeal.main_arg4)) (m' ((c : Thread FfnStepRefIdeal.nD FfnStepRefIdeal.τ).loc FfnStepRefIdeal.main_arg5)) (m' ((c : Thread FfnStepRefIdeal.nD FfnStepRefIdeal.τ).loc FfnStepRefIdeal.main_arg6)) (m' ((c : Thread FfnStepRefIdeal.nD FfnStepRefIdeal.τ).loc FfnStepRefIdeal.main_arg7)) (m' ((c : Thread FfnStepRefIdeal.nD FfnStepRefIdeal.τ).loc FfnStepRefIdeal.main_arg8)) = _
      rw [a0, a1, a2, a3, a4, a5, a6, a7, a8]

end Cert.Proof.FfnStepClaims

end
-- ==== Proof.S5StepMath.lean ====
module

public import proofs.«01_k».proof.Proof.Common
public import proofs.«01_k».proof.Proof.Gen.S5StepIdeal.Skeleton
public import proofs.«01_k».proof.Proof.Gen.S5StepRefIdeal.Read
public import Idealize.ShloMosaic.Lib.Pointwise
public import Idealize.ShloMosaic.Lib.Pipeline.Value

/-!
# One step of the S5 recurrence, entry by entry

The kernel multiplies by two matrices of 16 diagonal blocks, one block for each group of channels, with zeros elsewhere. The
reference sums over one group only. Both are read here as the same functions.
-/

@[expose] public section

set_option maxRecDepth 16384

noncomputable section

open Idealize.ShloMosaic Idealize.ShloMosaic.TcCoe Idealize.SL.Sem

namespace Cert.S5

/-- Channel `d` of group `g`. -/
def ug (g d : Fin 16) : Fin 256 := ⟨16 * g.val + d.val, by omega⟩

/-- State `s` of group `g`. -/
def us (g : Fin 16) (s : Fin 64) : Fin 1024 := ⟨64 * g.val + s.val, by omega⟩

theorem ex_ug (n : Fin 256) : ∃ g d, n = ug g d :=
  ⟨⟨n.val / 16, by omega⟩, ⟨n.val % 16, by omega⟩, Fin.ext (by show n.val = 16 * (n.val / 16) + n.val % 16; omega)⟩

theorem ex_us (n : Fin 1024) : ∃ g s, n = us g s :=
  ⟨⟨n.val / 64, by omega⟩, ⟨n.val % 64, by omega⟩, Fin.ext (by show n.val = 64 * (n.val / 64) + n.val % 64; omega)⟩

/-- A sum group by group. -/
theorem sum_ug (f : Fin 256 → EReal) : ∑ k : Fin 256, f k = ∑ g : Fin 16, ∑ d : Fin 16, f (ug g d) := by
  rw [← (finProdFinEquiv (m := 16) (n := 16)).sum_comp f, Fintype.sum_prod_type]
  refine Finset.sum_congr rfl fun g _ => Finset.sum_congr rfl fun d _ => congrArg f (Fin.ext ?_)
  show d.val + 16 * g.val = 16 * g.val + d.val
  omega

theorem sum_us (f : Fin 1024 → EReal) : ∑ k : Fin 1024, f k = ∑ g : Fin 16, ∑ s : Fin 64, f (us g s) := by
  rw [← (finProdFinEquiv (m := 16) (n := 64)).sum_comp f, Fintype.sum_prod_type]
  refine Finset.sum_congr rfl fun g _ => Finset.sum_congr rfl fun d _ => congrArg f (Fin.ext ?_)
  show d.val + 64 * g.val = 64 * g.val + d.val
  omega

/-- Of a sum against a column that is zero outside group `g`, what is left is the sum over that group. -/
theorem sum_ug_block (u w : Fin 256 → EReal) (g : Fin 16) (b : Fin 16 → EReal) (h : ∀ g' d, w (ug g' d) = if g' = g then b d else 0) :
    ∑ k : Fin 256, u k * w k = ∑ d : Fin 16, u (ug g d) * b d := by
  rw [sum_ug, Finset.sum_eq_single g]
  · exact Finset.sum_congr rfl fun d _ => by rw [h, if_pos rfl]
  · intro g' _ hg
    exact Finset.sum_eq_zero fun d _ => by rw [h, if_neg hg, mul_zero]
  · intro hg
    exact absurd (Finset.mem_univ g) hg

theorem sum_us_block (u w : Fin 1024 → EReal) (g : Fin 16) (b : Fin 64 → EReal) (h : ∀ g' s, w (us g' s) = if g' = g then b s else 0) :
    ∑ k : Fin 1024, u k * w k = ∑ s : Fin 64, u (us g s) * b s := by
  rw [sum_us, Finset.sum_eq_single g]
  · exact Finset.sum_congr rfl fun d _ => by rw [h, if_pos rfl]
  · intro g' _ hg
    exact Finset.sum_eq_zero fun d _ => by rw [h, if_neg hg, mul_zero]
  · intro hg
    exact absurd (Finset.mem_univ g) hg

/-- A sum of 2048 terms, one half and then the other. -/
theorem sum_half (f : Fin 2048 → EReal) :
    ∑ k : Fin 2048, f k = (∑ k : Fin 1024, f ⟨k.val, by omega⟩) + ∑ k : Fin 1024, f ⟨1024 + k.val, by omega⟩ := by
  rw [show (∑ k : Fin 2048, f k) = ∑ k : Fin (1024 + 1024), f k from rfl, Fin.sum_univ_add]
  rfl

/-- The tanh form of gelu. -/
def gel (z : EReal) : EReal :=
  Ideal.ofBits .f32 0x3F000000#32 * z * (Ideal.ofBits .f32 0x3F800000#32
    + Ideal.tanh (Ideal.ofBits .f32 0x3F4C422A#32 * (z + Ideal.ofBits .f32 0x3D372713#32 * (z * z * z))))

/-- Entry `n` of the gated row: the row times the logistic function of the row times the weights. -/
def glu (y : Fin 256 → EReal) (w : Fin 256 → Fin 256 → EReal) (n : Fin 256) : EReal :=
  y n * Ideal.div (Ideal.ofBits .f32 0x3F800000#32) (Ideal.ofBits .f32 0x3F800000#32 + Ideal.exp (-(∑ k : Fin 256, y k * w k n)))

end Cert.S5

/-! ### The kernel's expressions -/

namespace Cert.S5StepIdeal.RefValue

open Cert.S5StepIdeal Cert.S5StepIdeal.Gen Cert.Common Cert.S5

theorem pay4_apply (u : FVec Ideal S128x256 .f32) (w : FVec Ideal S256x2048 .bf16) (p : Fin 128) (c : Fin 2048) :
    k0_pay4 (F := Ideal) u w (ix2 p c) = ∑ k : Fin 256, u (ix2 p k) * w (ix2 k c) := by
  pointwise [k0_pay4]

theorem pay7_apply (lr li hr hi x : FVec Ideal S128x1024 .f32) (p : Fin 128) (k : Fin 1024) :
    k0_pay7 (F := Ideal) lr li hr hi x (ix2 p k) = lr (ix2 p k) * hr (ix2 p k) - li (ix2 p k) * hi (ix2 p k) + x (ix2 p k) := by
  pointwise [k0_pay7, k0_pay6, k0_pay5]

theorem pay8_apply (lr li hr hi x : FVec Ideal S128x1024 .f32) (p : Fin 128) (k : Fin 1024) :
    k0_pay8 (F := Ideal) lr li hr hi x (ix2 p k) = lr (ix2 p k) * hi (ix2 p k) + li (ix2 p k) * hr (ix2 p k) + x (ix2 p k) := by
  pointwise [k0_pay8, k0_pay6, k0_pay5]

theorem pay9_eq (lr li hr hi x : FVec Ideal S128x1024 .f32) : k0_pay9 (F := Ideal) lr li hr hi x = k0_pay7 (F := Ideal) lr li hr hi x := by
  funext y
  obtain ⟨p, k, rfl⟩ : ∃ (p : Fin 128) (k : Fin 1024), y = ix2 p k := ⟨y 0, y 1, by idx_vars y⟩
  unfold k0_pay9
  generalize k0_pay7 (F := Ideal) lr li hr hi x = z
  pointwise

theorem pay10_eq (x : FVec Ideal S128x1024 .f32) : k0_pay10 (F := Ideal) x = x := by
  funext y
  obtain ⟨p, k, rfl⟩ : ∃ (p : Fin 128) (k : Fin 1024), y = ix2 p k := ⟨y 0, y 1, by idx_vars y⟩
  pointwise [k0_pay10]

theorem pay11_eq (x : FVec Ideal S128x1024 .f32) : k0_pay11 (F := Ideal) x = x := by
  funext y
  obtain ⟨p, k, rfl⟩ : ∃ (p : Fin 128) (k : Fin 1024), y = ix2 p k := ⟨y 0, y 1, by idx_vars y⟩
  pointwise [k0_pay11]

theorem pay12_eq (x : FVec Ideal S128x1024 .f32) : k0_pay12 (F := Ideal) x = x := by
  funext y
  obtain ⟨p, k, rfl⟩ : ∃ (p : Fin 128) (k : Fin 1024), y = ix2 p k := ⟨y 0, y 1, by idx_vars y⟩
  pointwise [k0_pay12]

theorem pay2_eq (x : FVec Ideal S128x1024 .f32) : k0_pay2 (F := Ideal) x = x := by
  funext y
  obtain ⟨p, k, rfl⟩ : ∃ (p : Fin 128) (k : Fin 1024), y = ix2 p k := ⟨y 0, y 1, by idx_vars y⟩
  pointwise [k0_pay2]

theorem pay3_eq (x : FVec Ideal S128x1024 .f32) : k0_pay3 (F := Ideal) x = x := by
  funext y
  obtain ⟨p, k, rfl⟩ : ∃ (p : Fin 128) (k : Fin 1024), y = ix2 p k := ⟨y 0, y 1, by idx_vars y⟩
  pointwise [k0_pay3]

theorem pay13_apply (u : FVec Ideal S128x256 .f32) (hs : FVec Ideal S128x2048 .f32) (w : FVec Ideal S2048x256 .bf16) (d : FVec Ideal S1x256 .f32)
    (p : Fin 128) (n : Fin 256) :
    k0_pay13 (F := Ideal) u hs w d (ix2 p n) = gel ((∑ k : Fin 2048, hs (ix2 p k) * w (ix2 k n)) + d (ix2 0 n) * u (ix2 p n)) := by
  pointwise [k0_pay13, gel]

theorem pay1_apply (y : FVec Ideal S128x256 .f32) (w : FVec Ideal S256x256 .bf16) (p : Fin 128) (n : Fin 256) :
    k0_pay1 (F := Ideal) y w (ix2 p n) = glu (fun k => y (ix2 p k)) (fun k n => w (ix2 k n)) n := by
  have e : k0_pay1 (F := Ideal) y w (ix2 p n) = y (ix2 p n) * Ideal.div (Ideal.ofBits .f32 0x3F800000#32) (Ideal.ofBits .f32 0x3F800000#32
      + Ideal.exp (Ideal.ofBits .f32 0x00000000#32 - ∑ k : Fin 256, y (ix2 p k) * w (ix2 k n))) := by
    pointwise [k0_pay1]
  rw [e, Ideal.ofBits_zero, zero_sub]
  rfl

/-! ### The matrices of diagonal blocks -/

/-- The identity matrix that the program compares two counters for. -/
def eye : FVec Ideal S16x16 .f32 :=
  uitofp .f32 (cmpi .eq (addi (iotaInDim S16x16 32 0) (broadcastInDim S16x16 ![] bcast_S_S16x16 (constantI S_ 32 0#32))) (iotaInDim S16x16 32 1))

theorem eye_bits : ∀ a b : Fin 16, BitVec.ofBool (BitVec.ofNat 32 a.val + 0#32 == BitVec.ofNat 32 b.val) = if a = b then 1#1 else 0#1 := by
  decide +kernel

theorem eye_apply (a b : Fin 16) : eye (ix2 a b) = if a = b then (1 : EReal) else 0 := by
  have e : eye (ix2 a b) = (((BitVec.ofBool (BitVec.ofNat 32 a.val + 0#32 == BitVec.ofNat 32 b.val)).toNat : ℝ) : EReal) := rfl
  rw [e, eye_bits]
  by_cases h : a = b
  · rw [if_pos h, if_pos h]; simp
  · rw [if_neg h, if_neg h]; simp

/-- The blocks of the input matrix laid on the diagonal. -/
def bBlk (b : FVec Ideal S16x64x16 .f32) : FVec Ideal S256x1024 .f32 :=
  shapeCast S256x1024 (mulf
    (broadcastInDim S16x16x16x64 ![0, 1, 2, 3] bcast_S16x16x1x64_S16x16x16x64_0_1_2_3
      (broadcastInDim S16x16x1x64 ![0, 1, 3] bcast_S16x16x64_S16x16x1x64_0_1_3 (transpose S16x16x64 [0, 2, 1] b transposes_S16x64x16_S16x16x64_0_2_1)))
    (broadcastInDim S16x16x16x64 ![0, 1, 2, 3] bcast_S16x1x16x1_S16x16x16x64_0_1_2_3 (broadcastInDim S16x1x16x1 ![0, 2] bcast_S16x16_S16x1x16x1_0_2 eye)))
    shapeCasts_S16x16x16x64_S256x1024

theorem bBlk_apply (b : FVec Ideal S16x64x16 .f32) (g' d g : Fin 16) (s : Fin 64) :
    bBlk b (ix2 (ug g' d) (us g s)) = if g' = g then b (ix3 g s d) else 0 := by
  unfold bBlk
  refine (shapeCast_apply _ shapeCasts_S16x16x16x64_S256x1024 _ (ix4 g' d g s) ?_).trans ?_
  · rw [Shape.rowMajor_val_two, Shape.rowMajor_val_four]
    show ((g'.val * 16 + d.val) * 16 + g.val) * 64 + s.val = (16 * g'.val + d.val) * 1024 + (64 * g.val + s.val)
    omega
  · have hE := eye_apply g' g
    revert hE
    generalize eye = E
    intro hE
    have e : mulf
        (broadcastInDim S16x16x16x64 ![0, 1, 2, 3] bcast_S16x16x1x64_S16x16x16x64_0_1_2_3
          (broadcastInDim S16x16x1x64 ![0, 1, 3] bcast_S16x16x64_S16x16x1x64_0_1_3 (transpose S16x16x64 [0, 2, 1] b transposes_S16x64x16_S16x16x64_0_2_1)))
        (broadcastInDim S16x16x16x64 ![0, 1, 2, 3] bcast_S16x1x16x1_S16x16x16x64_0_1_2_3 (broadcastInDim S16x1x16x1 ![0, 2] bcast_S16x16_S16x1x16x1_0_2 E))
        (ix4 g' d g s) = b (ix3 g' s d) * E (ix2 g' g) := by
      pointwise
    rw [e, hE]
    by_cases h : g' = g
    · subst h; rw [if_pos rfl, if_pos rfl, mul_one]
    · rw [if_neg h, if_neg h, mul_zero]

/-- The blocks of the output matrix laid on the diagonal. -/
def cBlk (x : FVec Ideal S16x16x64 .f32) : FVec Ideal S1024x256 .f32 :=
  shapeCast S1024x256 (mulf
    (broadcastInDim S16x64x16x16 ![0, 1, 2, 3] bcast_S1x64x16x16_S16x64x16x16_0_1_2_3
      (broadcastInDim S1x64x16x16 ![1, 2, 3] bcast_S64x16x16_S1x64x16x16_1_2_3 (transpose S64x16x16 [2, 0, 1] x transposes_S16x16x64_S64x16x16_2_0_1)))
    (broadcastInDim S16x64x16x16 ![0, 1, 2, 3] bcast_S16x1x16x1_S16x64x16x16_0_1_2_3
      (broadcastInDim S16x1x16x1 ![0, 2] bcast_S16x16_S16x1x16x1_0_2 (transpose S16x16 [1, 0] eye transposes_S16x16_S16x16_1_0))))
    shapeCasts_S16x64x16x16_S1024x256

theorem cBlk_apply (x : FVec Ideal S16x16x64 .f32) (g' : Fin 16) (s : Fin 64) (g o : Fin 16) :
    cBlk x (ix2 (us g' s) (ug g o)) = if g' = g then x (ix3 g o s) else 0 := by
  unfold cBlk
  refine (shapeCast_apply _ shapeCasts_S16x64x16x16_S1024x256 _ (ix4 g' s g o) ?_).trans ?_
  · rw [Shape.rowMajor_val_two, Shape.rowMajor_val_four]
    show ((g'.val * 64 + s.val) * 16 + g.val) * 16 + o.val = (64 * g'.val + s.val) * 256 + (16 * g.val + o.val)
    omega
  · have hE := eye_apply g g'
    revert hE
    generalize eye = E
    intro hE
    have e : mulf
        (broadcastInDim S16x64x16x16 ![0, 1, 2, 3] bcast_S1x64x16x16_S16x64x16x16_0_1_2_3
          (broadcastInDim S1x64x16x16 ![1, 2, 3] bcast_S64x16x16_S1x64x16x16_1_2_3 (transpose S64x16x16 [2, 0, 1] x transposes_S16x16x64_S64x16x16_2_0_1)))
        (broadcastInDim S16x64x16x16 ![0, 1, 2, 3] bcast_S16x1x16x1_S16x64x16x16_0_1_2_3
          (broadcastInDim S16x1x16x1 ![0, 2] bcast_S16x16_S16x1x16x1_0_2 (transpose S16x16 [1, 0] E transposes_S16x16_S16x16_1_0)))
        (ix4 g' s g o) = x (ix3 g o s) * E (ix2 g g') := by
      pointwise
    rw [e, hE]
    by_cases h : g' = g
    · subst h; rw [if_pos rfl, if_pos rfl, mul_one]
    · rw [if_neg h, if_neg (fun h' => h h'.symm), mul_zero]

/-- The input matrix: real parts, then imaginary parts. -/
def bMat (br bi : FVec Ideal S16x64x16 .f32) : FVec Ideal S256x2048 .bf16 :=
  truncf .bf16 (concatenate S256x2048 1 [⟨S256x1024, bBlk br⟩, ⟨S256x1024, bBlk bi⟩] concatenates_S256x1024_S256x1024_S256x2048_d1) bitsLt_bf16_f32

theorem bMat_re (br bi : FVec Ideal S16x64x16 .f32) (k : Fin 256) (c : Fin 1024) :
    bMat br bi (ix2 k ⟨c.val, by omega⟩) = bBlk br (ix2 k c) := by
  show concatenate S256x2048 1 [⟨S256x1024, bBlk br⟩, ⟨S256x1024, bBlk bi⟩] concatenates_S256x1024_S256x1024_S256x2048_d1 (ix2 k ⟨c.val, _⟩) = _
  exact (piece2 [⟨S256x1024, bBlk br⟩, ⟨S256x1024, bBlk bi⟩] concatenates_S256x1024_S256x1024_S256x2048_d1 0 (Nat.le_of_ble_eq_true rfl) (bBlk br) rfl 0 rfl k _ (by dsimp only; omega) (by dsimp only; omega)).trans
    (congrArg (bBlk br) (congrArg (ix2 k) (Fin.ext (by dsimp only; omega))))

theorem bMat_im (br bi : FVec Ideal S16x64x16 .f32) (k : Fin 256) (c : Fin 1024) :
    bMat br bi (ix2 k ⟨1024 + c.val, by omega⟩) = bBlk bi (ix2 k c) := by
  show concatenate S256x2048 1 [⟨S256x1024, bBlk br⟩, ⟨S256x1024, bBlk bi⟩] concatenates_S256x1024_S256x1024_S256x2048_d1 (ix2 k ⟨1024 + c.val, _⟩) = _
  exact (piece2 [⟨S256x1024, bBlk br⟩, ⟨S256x1024, bBlk bi⟩] concatenates_S256x1024_S256x1024_S256x2048_d1 1 (Nat.le_of_ble_eq_true rfl) (bBlk bi) rfl 1024 rfl k _ (by dsimp only; omega) (by dsimp only; omega)).trans
    (congrArg (bBlk bi) (congrArg (ix2 k) (Fin.ext (by dsimp only; omega))))

/-- The output matrix: real parts, then imaginary parts with their sign changed. -/
def cMat (cr ci : FVec Ideal S16x16x64 .f32) : FVec Ideal S2048x256 .bf16 :=
  truncf .bf16 (concatenate S2048x256 0 [⟨S1024x256, cBlk cr⟩, ⟨S1024x256, Host.negf (cBlk ci)⟩] concatenates_S1024x256_S1024x256_S2048x256_d0) bitsLt_bf16_f32

theorem cMat_re (cr ci : FVec Ideal S16x16x64 .f32) (k : Fin 1024) (n : Fin 256) :
    cMat cr ci (ix2 ⟨k.val, by omega⟩ n) = cBlk cr (ix2 k n) := by
  show concatenate S2048x256 0 [⟨S1024x256, cBlk cr⟩, ⟨S1024x256, Host.negf (cBlk ci)⟩] concatenates_S1024x256_S1024x256_S2048x256_d0 (ix2 ⟨k.val, _⟩ n) = _
  exact concatenate_apply_piece (t := S2048x256) 0 [⟨S1024x256, cBlk cr⟩, ⟨S1024x256, Host.negf (cBlk ci)⟩] concatenates_S1024x256_S1024x256_S2048x256_d0 (ix2 ⟨k.val, by omega⟩ n) 0 (Nat.le_of_ble_eq_true rfl) _ (cBlk cr) rfl rfl 0 rfl (ix2 k n)
    (fun a ha => by
      match a, ha with
      | ⟨0, _⟩, ha => exact absurd rfl ha
      | ⟨1, _⟩, _ => rfl)
    (by show 0 + k.val = k.val; omega)

theorem cMat_im (cr ci : FVec Ideal S16x16x64 .f32) (k : Fin 1024) (n : Fin 256) :
    cMat cr ci (ix2 ⟨1024 + k.val, by omega⟩ n) = -(cBlk ci (ix2 k n)) := by
  show concatenate S2048x256 0 [⟨S1024x256, cBlk cr⟩, ⟨S1024x256, Host.negf (cBlk ci)⟩] concatenates_S1024x256_S1024x256_S2048x256_d0 (ix2 ⟨1024 + k.val, _⟩ n) = _
  exact concatenate_apply_piece (t := S2048x256) 0 [⟨S1024x256, cBlk cr⟩, ⟨S1024x256, Host.negf (cBlk ci)⟩] concatenates_S1024x256_S1024x256_S2048x256_d0 (ix2 ⟨1024 + k.val, by omega⟩ n) 1 (Nat.le_of_ble_eq_true rfl) _ (Host.negf (cBlk ci)) rfl rfl 1024 rfl (ix2 k n)
    (fun a ha => by
      match a, ha with
      | ⟨0, _⟩, ha => exact absurd rfl ha
      | ⟨1, _⟩, _ => rfl)
    rfl

/-- A row of the input times the matrix, real part: the sum over the state's own group. -/
theorem xb_re (u : Fin 256 → EReal) (br bi : FVec Ideal S16x64x16 .f32) (g : Fin 16) (s : Fin 64) :
    ∑ k : Fin 256, u k * bMat br bi (ix2 k ⟨(us g s).val, by omega⟩) = ∑ d : Fin 16, u (ug g d) * br (ix3 g s d) :=
  sum_ug_block u _ g _ fun g' d => (bMat_re br bi (ug g' d) (us g s)).trans (bBlk_apply br g' d g s)

theorem xb_im (u : Fin 256 → EReal) (br bi : FVec Ideal S16x64x16 .f32) (g : Fin 16) (s : Fin 64) :
    ∑ k : Fin 256, u k * bMat br bi (ix2 k ⟨1024 + (us g s).val, by omega⟩) = ∑ d : Fin 16, u (ug g d) * bi (ix3 g s d) :=
  sum_ug_block u _ g _ fun g' d => (bMat_im br bi (ug g' d) (us g s)).trans (bBlk_apply bi g' d g s)

/-- A row of both halves of the state times the matrix: the sum over the channel's own group. -/
theorem y_sum (hs : Fin 2048 → EReal) (cr ci : FVec Ideal S16x16x64 .f32) (g o : Fin 16) :
    ∑ k : Fin 2048, hs k * cMat cr ci (ix2 k (ug g o))
      = ∑ s : Fin 64, (hs ⟨(us g s).val, by omega⟩ * cr (ix3 g o s) - hs ⟨1024 + (us g s).val, by omega⟩ * ci (ix3 g o s)) := by
  rw [sum_half,
    sum_us_block (fun k => hs ⟨k.val, by omega⟩) (fun k => cMat cr ci (ix2 ⟨k.val, by omega⟩ (ug g o))) g (fun s => cr (ix3 g o s))
      (fun g' s => (cMat_re cr ci (us g' s) (ug g o)).trans (cBlk_apply cr g' s g o)),
    sum_us_block (fun k => hs ⟨1024 + k.val, by omega⟩) (fun k => cMat cr ci (ix2 ⟨1024 + k.val, by omega⟩ (ug g o))) g (fun s => -(ci (ix3 g o s)))
      (fun g' s => by
        rw [cMat_im, cBlk_apply]
        by_cases h : g' = g
        · rw [if_pos h, if_pos h]
        · rw [if_neg h, if_neg h, neg_zero]),
    ← Finset.sum_add_distrib]
  refine Finset.sum_congr rfl fun s _ => ?_
  rw [mul_neg, sub_eq_add_neg]

end Cert.S5StepIdeal.RefValue

/-! ### The reference's values, entry by entry -/

namespace Cert.S5StepRefIdeal.RefValue

open Cert.S5StepRefIdeal Cert.S5StepRefIdeal.Gen Cert.S5StepRefIdeal.Read Cert.Common Cert.S5

variable (x0 : FVec Ideal S128x256 .f32) (x1 x2 : FVec Ideal S128x16x64 .f32) (x3 x4 : FVec Ideal S16x64 .f32) (x5 : FVec Ideal S16 .f32)
  (x6 x7 : FVec Ideal S16x64x16 .f32) (x8 x9 : FVec Ideal S16x16x64 .f32) (x10 : FVec Ideal S256 .f32) (x11 : FVec Ideal S256x256 .f32)

theorem v40_apply (p : Fin 128) (g d : Fin 16) : val_main_v40 (F := Ideal) x0 (ix3 p g d) = x0 (ix2 p (ug g d)) := by
  unfold val_main_v40
  refine shapeCast_apply x0 _ _ _ ?_
  rw [Shape.rowMajor_val_two, Shape.rowMajor_val_three]
  show p.val * 256 + (16 * g.val + d.val) = (p.val * 16 + g.val) * 16 + d.val
  omega

theorem v46_apply (p : Fin 128) (g : Fin 16) (s : Fin 64) :
    val_main_v46 (F := Ideal) x0 x3 x4 x5 x6 x7 (ix3 p g s) = ∑ d : Fin 16, x0 (ix2 p (ug g d)) * val_main_v34 (F := Ideal) x3 x4 x5 x6 x7 (ix3 g s d) := by
  simp only [← v40_apply]
  unfold val_main_v46 val_main_v45 val_main_v44 val_main_v43 val_main_v42 val_main_v41
  generalize val_main_v34 (F := Ideal) x3 x4 x5 x6 x7 = b
  generalize val_main_v40 (F := Ideal) x0 = u
  pointwise [val_main_cst_1]

theorem v52_apply (p : Fin 128) (g : Fin 16) (s : Fin 64) :
    val_main_v52 (F := Ideal) x0 x3 x4 x5 x6 x7 (ix3 p g s) = ∑ d : Fin 16, x0 (ix2 p (ug g d)) * val_main_v39 (F := Ideal) x3 x4 x5 x6 x7 (ix3 g s d) := by
  simp only [← v40_apply]
  unfold val_main_v52 val_main_v51 val_main_v50 val_main_v49 val_main_v48 val_main_v47
  generalize val_main_v39 (F := Ideal) x3 x4 x5 x6 x7 = b
  generalize val_main_v40 (F := Ideal) x0 = u
  pointwise [val_main_cst_2]

/-- The new state's real part, at state `s` of group `g`. -/
def hreR (p : Fin 128) (g : Fin 16) (s : Fin 64) : EReal :=
  val_main_v8 (F := Ideal) x3 x4 x5 (ix2 g s) * x1 (ix3 p g s) - val_main_v12 (F := Ideal) x3 x4 x5 (ix2 g s) * x2 (ix3 p g s)
    + ∑ d : Fin 16, x0 (ix2 p (ug g d)) * val_main_v34 (F := Ideal) x3 x4 x5 x6 x7 (ix3 g s d)

/-- The new state's imaginary part. -/
def himR (p : Fin 128) (g : Fin 16) (s : Fin 64) : EReal :=
  val_main_v8 (F := Ideal) x3 x4 x5 (ix2 g s) * x2 (ix3 p g s) + val_main_v12 (F := Ideal) x3 x4 x5 (ix2 g s) * x1 (ix3 p g s)
    + ∑ d : Fin 16, x0 (ix2 p (ug g d)) * val_main_v39 (F := Ideal) x3 x4 x5 x6 x7 (ix3 g s d)

theorem v60_apply (p : Fin 128) (g : Fin 16) (s : Fin 64) :
    val_main_v60 (F := Ideal) x0 x1 x2 x3 x4 x5 x6 x7 (ix3 p g s) = hreR x0 x1 x2 x3 x4 x5 x6 x7 p g s := by
  unfold hreR
  rw [← v46_apply]
  unfold val_main_v60 val_main_v59 val_main_v58 val_main_v57 val_main_v56 val_main_v55 val_main_v54 val_main_v53
  generalize val_main_v8 (F := Ideal) x3 x4 x5 = a
  generalize val_main_v12 (F := Ideal) x3 x4 x5 = b
  generalize val_main_v46 (F := Ideal) x0 x3 x4 x5 x6 x7 = z
  pointwise

theorem v68_apply (p : Fin 128) (g : Fin 16) (s : Fin 64) :
    val_main_v68 (F := Ideal) x0 x1 x2 x3 x4 x5 x6 x7 (ix3 p g s) = himR x0 x1 x2 x3 x4 x5 x6 x7 p g s := by
  unfold himR
  rw [← v52_apply]
  unfold val_main_v68 val_main_v67 val_main_v66 val_main_v65 val_main_v64 val_main_v63 val_main_v62 val_main_v61
  generalize val_main_v8 (F := Ideal) x3 x4 x5 = a
  generalize val_main_v12 (F := Ideal) x3 x4 x5 = b
  generalize val_main_v52 (F := Ideal) x0 x3 x4 x5 x6 x7 = z
  pointwise

theorem v108_apply (p : Fin 128) (g : Fin 16) (s : Fin 64) :
    val_main_v108 (F := Ideal) x0 x1 x2 x3 x4 x5 x6 x7 (ix2 p (us g s)) = hreR x0 x1 x2 x3 x4 x5 x6 x7 p g s := by
  rw [← v60_apply]
  unfold val_main_v108
  refine shapeCast_apply _ _ _ _ ?_
  rw [Shape.rowMajor_val_two, Shape.rowMajor_val_three]
  show (p.val * 16 + g.val) * 64 + s.val = p.val * 1024 + (64 * g.val + s.val)
  omega

theorem v109_apply (p : Fin 128) (g : Fin 16) (s : Fin 64) :
    val_main_v109 (F := Ideal) x0 x1 x2 x3 x4 x5 x6 x7 (ix2 p (us g s)) = himR x0 x1 x2 x3 x4 x5 x6 x7 p g s := by
  rw [← v68_apply]
  unfold val_main_v109
  refine shapeCast_apply _ _ _ _ ?_
  rw [Shape.rowMajor_val_two, Shape.rowMajor_val_three]
  show (p.val * 16 + g.val) * 64 + s.val = p.val * 1024 + (64 * g.val + s.val)
  omega

/-- The row before gelu, at channel `o` of group `g`. -/
def yR (p : Fin 128) (g o : Fin 16) : EReal :=
  (∑ s : Fin 64, (hreR x0 x1 x2 x3 x4 x5 x6 x7 p g s * x8 (ix3 g o s) - himR x0 x1 x2 x3 x4 x5 x6 x7 p g s * x9 (ix3 g o s)))
    + x10 (ix1 (ug g o)) * x0 (ix2 p (ug g o))

theorem v80_apply (p : Fin 128) (g o : Fin 16) :
    val_main_v80 (F := Ideal) x0 x1 x2 x3 x4 x5 x6 x7 x8 x9 (ix3 p g o)
      = ∑ s : Fin 64, (hreR x0 x1 x2 x3 x4 x5 x6 x7 p g s * x8 (ix3 g o s) - himR x0 x1 x2 x3 x4 x5 x6 x7 p g s * x9 (ix3 g o s)) := by
  simp only [← v60_apply, ← v68_apply]
  unfold val_main_v80 val_main_v79 val_main_v78 val_main_v77 val_main_v76 val_main_v75 val_main_v74 val_main_v73 val_main_v72 val_main_v71 val_main_v70 val_main_v69
  generalize val_main_v60 (F := Ideal) x0 x1 x2 x3 x4 x5 x6 x7 = a
  generalize val_main_v68 (F := Ideal) x0 x1 x2 x3 x4 x5 x6 x7 = b
  pointwise [val_main_cst_3]

theorem v81_apply (p : Fin 128) (g o : Fin 16) :
    val_main_v81 (F := Ideal) x0 x1 x2 x3 x4 x5 x6 x7 x8 x9 (ix2 p (ug g o)) = val_main_v80 (F := Ideal) x0 x1 x2 x3 x4 x5 x6 x7 x8 x9 (ix3 p g o) := by
  unfold val_main_v81
  refine shapeCast_apply _ _ _ _ ?_
  rw [Shape.rowMajor_val_two, Shape.rowMajor_val_three]
  show (p.val * 16 + g.val) * 16 + o.val = p.val * 256 + (16 * g.val + o.val)
  omega

theorem v85_apply (p : Fin 128) (g o : Fin 16) :
    val_main_v85 (F := Ideal) x0 x1 x2 x3 x4 x5 x6 x7 x8 x9 x10 (ix2 p (ug g o)) = yR x0 x1 x2 x3 x4 x5 x6 x7 x8 x9 x10 p g o := by
  unfold yR
  rw [← v80_apply, ← v81_apply]
  unfold val_main_v85 val_main_v84 val_main_v83 val_main_v82
  generalize val_main_v81 (F := Ideal) x0 x1 x2 x3 x4 x5 x6 x7 x8 x9 = z
  generalize ug g o = n
  pointwise

theorem v98_apply (p : Fin 128) (n : Fin 256) :
    val_main_v98 (F := Ideal) x0 x1 x2 x3 x4 x5 x6 x7 x8 x9 x10 (ix2 p n) = gel (val_main_v85 (F := Ideal) x0 x1 x2 x3 x4 x5 x6 x7 x8 x9 x10 (ix2 p n)) := by
  unfold val_main_v98 val_main_v97 val_main_v95 val_main_v93 val_main_v92 val_main_v90 val_main_v89 val_main_v87 val_main_v86
  generalize val_main_v85 (F := Ideal) x0 x1 x2 x3 x4 x5 x6 x7 x8 x9 x10 = z
  refine Eq.trans (b := z (ix2 p n) * (Ideal.ofBits .f32 0x3F000000#32 * (Ideal.ofBits .f32 0x3F800000#32
        + Ideal.tanh (Ideal.ofBits .f32 0x3F4C422A#32 * (z (ix2 p n) + Ideal.ofBits .f32 0x3D372713#32 * (z (ix2 p n) * z (ix2 p n) * z (ix2 p n))))))) ?_ ?_
  · pointwise [val_main_v96, val_main_cst_7, val_main_v94, val_main_cst_6, val_main_v91, val_main_cst_5, val_main_v88, val_main_cst_4]
  unfold gel
  rw [← mul_assoc, mul_comm (z (ix2 p n)) (Ideal.ofBits .f32 0x3F000000#32)]

theorem v107_apply (p : Fin 128) (n : Fin 256) :
    val_main_v107 (F := Ideal) x0 x1 x2 x3 x4 x5 x6 x7 x8 x9 x10 x11 (ix2 p n)
      = glu (fun k => gel (val_main_v85 (F := Ideal) x0 x1 x2 x3 x4 x5 x6 x7 x8 x9 x10 (ix2 p k))) (fun k n => x11 (ix2 k n)) n := by
  simp only [← v98_apply]
  unfold val_main_v107 val_main_v106 val_main_v105 val_main_v103 val_main_v101 val_main_v100 val_main_v99
  generalize val_main_v98 (F := Ideal) x0 x1 x2 x3 x4 x5 x6 x7 x8 x9 x10 = z
  pointwise [val_main_v104, val_main_cst_9, val_main_v102, val_main_cst_8, glu]

end Cert.S5StepRefIdeal.RefValue

end

end
-- ==== Proof.S5StepCase.lean ====
module

public import proofs.«01_k».proof.Proof.S5StepMath
public import proofs.«01_k».proof.Proof.FfnChunk
public import proofs.«01_k».proof.Proof.FfnCase
public import proofs.«01_k».proof.Proof.Gen.S5StepIdeal.Frame
public import Idealize.ShloMosaic.Lib.Pipeline.Value
public import Idealize.ShloMosaic.Lib.Pipeline.ReadBack
public import Idealize.ShloMosaic.Lib.Pointwise
public import Idealize.ShloMosaic.Lib.Tactic

/-!
# The block of the S5 kernel's step

What the kernel's one grid point leaves in its three outputs, entry by entry.
-/

@[expose] public section

set_option maxRecDepth 16384

noncomputable section

open Idealize.ShloMosaic Idealize.ShloMosaic.TcCoe Idealize.SL.Sem

namespace Cert.S5StepIdeal.RefValue

open Cert.Common Cert.S5 Cert.S5StepIdeal Cert.S5StepIdeal.Gen
open Cert.FfnIdeal.RefValue (canon_of_pieces' whole_idx)

/-- The new state's real part, entry `k` of row `p`. -/
def hreK (x0 : FVec Ideal S128x256 .f32) (x1 x2 : FVec Ideal S128x1024 .f32) (x3 : FVec Ideal S256x2048 .bf16) (x4 x5 : FVec Ideal S128x1024 .f32)
    (p : Fin 128) (k : Fin 1024) : EReal :=
  x4 (ix2 p k) * x1 (ix2 p k) - x5 (ix2 p k) * x2 (ix2 p k) + ∑ j : Fin 256, x0 (ix2 p j) * x3 (ix2 j ⟨k.val, by omega⟩)

/-- The new state's imaginary part. -/
def himK (x0 : FVec Ideal S128x256 .f32) (x1 x2 : FVec Ideal S128x1024 .f32) (x3 : FVec Ideal S256x2048 .bf16) (x4 x5 : FVec Ideal S128x1024 .f32)
    (p : Fin 128) (k : Fin 1024) : EReal :=
  x4 (ix2 p k) * x2 (ix2 p k) + x5 (ix2 p k) * x1 (ix2 p k) + ∑ j : Fin 256, x0 (ix2 p j) * x3 (ix2 j ⟨1024 + k.val, by omega⟩)

/-- Both parts of the new state in one row. -/
def hsK (x0 : FVec Ideal S128x256 .f32) (x1 x2 : FVec Ideal S128x1024 .f32) (x3 : FVec Ideal S256x2048 .bf16) (x4 x5 : FVec Ideal S128x1024 .f32)
    (p : Fin 128) (k : Fin 2048) : EReal :=
  if h : k.val < 1024 then hreK x0 x1 x2 x3 x4 x5 p ⟨k.val, h⟩ else himK x0 x1 x2 x3 x4 x5 p ⟨k.val - 1024, by omega⟩

theorem hsK_re (x0 : FVec Ideal S128x256 .f32) (x1 x2 : FVec Ideal S128x1024 .f32) (x3 : FVec Ideal S256x2048 .bf16) (x4 x5 : FVec Ideal S128x1024 .f32)
    (p : Fin 128) (k : Fin 1024) (hk : k.val < 2048) : hsK x0 x1 x2 x3 x4 x5 p ⟨k.val, hk⟩ = hreK x0 x1 x2 x3 x4 x5 p k := by
  unfold hsK
  exact dif_pos k.isLt

theorem hsK_im (x0 : FVec Ideal S128x256 .f32) (x1 x2 : FVec Ideal S128x1024 .f32) (x3 : FVec Ideal S256x2048 .bf16) (x4 x5 : FVec Ideal S128x1024 .f32)
    (p : Fin 128) (k : Fin 1024) (hk : 1024 + k.val < 2048) : hsK x0 x1 x2 x3 x4 x5 p ⟨1024 + k.val, hk⟩ = himK x0 x1 x2 x3 x4 x5 p k := by
  unfold hsK
  refine (dif_neg (by dsimp only; omega)).trans ?_
  exact congrArg (himK x0 x1 x2 x3 x4 x5 p) (Fin.ext (by dsimp only; omega))

/-- The row after gelu's argument is formed: the state times the output matrix, and the input scaled. -/
def yK (x0 : FVec Ideal S128x256 .f32) (x1 x2 : FVec Ideal S128x1024 .f32) (x3 : FVec Ideal S256x2048 .bf16) (x4 x5 : FVec Ideal S128x1024 .f32)
    (x6 : FVec Ideal S2048x256 .bf16) (x7 : FVec Ideal S1x256 .f32) (p : Fin 128) (n : Fin 256) : EReal :=
  (∑ k : Fin 2048, hsK x0 x1 x2 x3 x4 x5 p k * x6 (ix2 k n)) + x7 (ix2 0 n) * x0 (ix2 p n)

theorem z2 : ∀ d, (![0, 0] : Fin 2 → Nat) d = 0 := fun d => match d with | ⟨0, _⟩ => rfl | ⟨1, _⟩ => rfl

/-- A load of a whole argument gives the argument. -/
theorem rdw {S : Shape} {e : EltTy} (a : Memref sig .tc .vmem S e) (ha : a.IsWhole) (x : Vec Ideal S e) (off : Fin S.rank → Nat) (inb)
    (h0 : ∀ d, off d = 0) : View.readAt (Elt Ideal) a.view (Rect.unit off S.size inb).toLoadRect (ha.unread x) = x := by
  funext y
  rw [View.readAt_eq_ld, ha.read_unread]
  exact View.ld_unit_apply_of x off S.size inb y y fun d => by rw [h0 d]; omega

/-- A load of a whole buffer gives its contents. -/
theorem ld_all (X : Vec Ideal S128x1024 .f32) (inb) : View.ld (Val := Elt Ideal) (e' := .f32) X (Rect.unit (s := S128x1024) ![0, 0] S128x1024.size inb) = X :=
  funext fun y => View.ld_unit_apply_of X ![0, 0] S128x1024.size inb y y fun d => by rw [z2 d]; omega

/-- A load of a block of columns, read at a column. -/
theorem ld_cols (X : Vec Ideal S128x2048 .f32) (o : Nat) (inb) (p : Fin 128) (k : Fin 1024) (c : Fin 2048) (h : c.val = o + k.val) :
    View.ld (Val := Elt Ideal) (e' := .f32) X (Rect.unit (s := S128x2048) ![0, o] S128x1024.size inb) (ix2 p k) = X (ix2 p c) :=
  View.ld_unit_apply_of X ![0, o] S128x1024.size inb (ix2 p k) (ix2 p c) fun d => match d with
    | ⟨0, _⟩ => by show p.val = 0 + p.val; omega
    | ⟨1, _⟩ => h

/-- Where an entry of a block of columns lies in the buffer. -/
theorem emb_at (o : Nat) (inb : ∀ a, (![0, o] : Fin 2 → Nat) a + S128x1024.size a ≤ S128x2048.size a) (a : Fin 128) (b : Fin 1024) (c : Fin 2048) (h : c.val = o + b.val) :
    (Rect.unit (s := S128x2048) ![0, o] S128x1024.size inb).emb (ix2 a b) = ix2 a c :=
  funext fun d => Fin.ext ((Rect.idx_unit_val _ _ _ _ _).trans (match d with
    | ⟨0, _⟩ => by show 0 + a.val = a.val; omega
    | ⟨1, _⟩ => h.symm))

section
variable (c : Dev nD) (i : grid0.Coords) (arg1 : Memref sig .tc .vmem S128x256 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S256x2048 .bf16) (harg4 : arg4.IsWhole) (arg5 : Memref sig .tc .vmem S128x1024 .f32) (harg5 : arg5.IsWhole) (arg6 : Memref sig .tc .vmem S128x1024 .f32) (harg6 : arg6.IsWhole) (arg7 : Memref sig .tc .vmem S2048x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S128x256 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x2048 .f32) (harg13 : arg13.IsWhole) (arg14 : Memref sig .tc .vmem S128x2048 .f32) (harg14 : arg14.IsWhole) (arg15 : Memref sig .tc .vmem S128x1024 .f32) (harg15 : arg15.IsWhole) (arg16 : Memref sig .tc .vmem S128x1024 .f32) (harg16 : arg16.IsWhole) (hc0 : cond0_0 i)
    (x0 : Vec Ideal S128x256 .f32) (x1 : Vec Ideal S128x1024 .f32) (x2 : Vec Ideal S128x1024 .f32) (x3 : Vec Ideal S256x2048 .bf16) (x4 : Vec Ideal S128x1024 .f32) (x5 : Vec Ideal S128x1024 .f32) (x6 : Vec Ideal S2048x256 .bf16) (x7 : Vec Ideal S1x256 .f32) (x8 : Vec Ideal S256x256 .bf16)

theorem v15_A : kernelRun0_A.sl.v15 (F := Ideal) c arg2 harg2 arg15 x1 = x1 := by
  unfold kernelRun0_A.sl.v15 kernelRun0_A.sl.HS2_1
  rw [View.readCov_fill _ _ _ _ _ z2, pay2_eq, rdw arg2 harg2 x1 _ _ z2]
  exact ld_all x1 _

theorem v16_A : kernelRun0_A.sl.v16 (F := Ideal) c arg3 harg3 arg16 x2 = x2 := by
  unfold kernelRun0_A.sl.v16 kernelRun0_A.sl.HS3_1
  rw [View.readCov_fill _ _ _ _ _ z2, pay3_eq, rdw arg3 harg3 x2 _ _ z2]
  exact ld_all x2 _

theorem v19_A (p : Fin 128) (k : Fin 1024) : kernelRun0_A.sl.v19 (F := Ideal) c arg1 harg1 arg4 harg4 arg13 x0 x3 (ix2 p k) = ∑ j : Fin 256, x0 (ix2 p j) * x3 (ix2 j ⟨k.val, by omega⟩) := by
  unfold kernelRun0_A.sl.v19 kernelRun0_A.sl.HS0_1
  rw [View.readCov_fill _ _ _ _ _ z2, rdw arg1 harg1 x0 _ _ z2, rdw arg4 harg4 x3 _ _ z2]
  refine Eq.trans ?_ (pay4_apply x0 x3 p ⟨k.val, by omega⟩)
  exact ld_cols (k0_pay4 (F := Ideal) x0 x3) 0 _ p k ⟨k.val, by omega⟩ (by show k.val = 0 + k.val; omega)

theorem v21_A (p : Fin 128) (k : Fin 1024) : kernelRun0_A.sl.v21 (F := Ideal) c arg1 harg1 arg4 harg4 arg13 x0 x3 (ix2 p k) = ∑ j : Fin 256, x0 (ix2 p j) * x3 (ix2 j ⟨1024 + k.val, by omega⟩) := by
  unfold kernelRun0_A.sl.v21 kernelRun0_A.sl.HS0_1
  rw [View.readCov_fill _ _ _ _ _ z2, rdw arg1 harg1 x0 _ _ z2, rdw arg4 harg4 x3 _ _ z2]
  refine Eq.trans ?_ (pay4_apply x0 x3 p ⟨1024 + k.val, by omega⟩)
  exact ld_cols (k0_pay4 (F := Ideal) x0 x3) 1024 _ p k ⟨1024 + k.val, by omega⟩ rfl

theorem re_A (p : Fin 128) (k : Fin 1024) : kernelRun0_A.sl.r_1 (F := Ideal) c arg1 harg1 arg2 harg2 arg3 harg3 arg4 harg4 arg5 harg5 arg6 harg6 arg13 arg15 arg16 x0 x1 x2 x3 x4 x5 (ix2 p k) = hreK x0 x1 x2 x3 x4 x5 p k := by
  unfold kernelRun0_A.sl.r_1
  rw [rdw arg5 harg5 x4 _ _ z2, rdw arg6 harg6 x5 _ _ z2, v15_A, v16_A]
  refine (pay7_apply _ _ _ _ _ p k).trans ?_
  rw [v19_A]
  rfl

theorem im_A (p : Fin 128) (k : Fin 1024) : kernelRun0_A.sl.r_2 (F := Ideal) c arg1 harg1 arg2 harg2 arg3 harg3 arg4 harg4 arg5 harg5 arg6 harg6 arg13 arg15 arg16 x0 x1 x2 x3 x4 x5 (ix2 p k) = himK x0 x1 x2 x3 x4 x5 p k := by
  unfold kernelRun0_A.sl.r_2
  rw [rdw arg5 harg5 x4 _ _ z2, rdw arg6 harg6 x5 _ _ z2, v15_A, v16_A]
  refine (pay8_apply _ _ _ _ _ p k).trans ?_
  rw [v21_A]
  rfl

theorem hs_A (p : Fin 128) (k : Fin 2048) : kernelRun0_A.sl.v46 (F := Ideal) c arg1 harg1 arg2 harg2 arg3 harg3 arg4 harg4 arg5 harg5 arg6 harg6 arg13 arg14 arg15 arg16 x0 x1 x2 x3 x4 x5 (ix2 p k) = hsK x0 x1 x2 x3 x4 x5 p k := by
  have P : View.PiecesOf (fun y : S128x2048.Idx => hsK x0 x1 x2 x3 x4 x5 (y 0) (y 1)) (kernelRun0_A.sl.HS1_2 (F := Ideal) c arg1 harg1 arg2 harg2 arg3 harg3 arg4 harg4 arg5 harg5 arg6 harg6 arg13 arg15 arg16 x0 x1 x2 x3 x4 x5) :=
    ⟨fun x => by
        obtain ⟨a, b, rfl⟩ : ∃ (a : Fin 128) (b : Fin 1024), x = ix2 a b := ⟨x 0, x 1, by idx_vars x⟩
        refine (congrFun (pay10_eq _) (ix2 a b)).trans ((im_A c arg1 harg1 arg2 harg2 arg3 harg3 arg4 harg4 arg5 harg5 arg6 harg6 arg13 arg15 arg16 x0 x1 x2 x3 x4 x5 a b).trans ?_)
        rw [emb_at 1024 _ a b ⟨1024 + b.val, by omega⟩ rfl]
        exact (hsK_im x0 x1 x2 x3 x4 x5 a b _).symm,
      fun x => by
        obtain ⟨a, b, rfl⟩ : ∃ (a : Fin 128) (b : Fin 1024), x = ix2 a b := ⟨x 0, x 1, by idx_vars x⟩
        refine (congrFun (pay9_eq _ _ _ _ _) (ix2 a b)).trans ((re_A c arg1 harg1 arg2 harg2 arg3 harg3 arg4 harg4 arg5 harg5 arg6 harg6 arg13 arg15 arg16 x0 x1 x2 x3 x4 x5 a b).trans ?_)
        rw [emb_at 0 _ a b ⟨b.val, by omega⟩ (by show b.val = 0 + b.val; omega)]
        exact (hsK_re x0 x1 x2 x3 x4 x5 a b _).symm,
      trivial⟩
  unfold kernelRun0_A.sl.v46
  rw [View.readCov_eq_canon']
  refine (congrArg (View.canon _) (whole_idx (S := S128x2048) _ _ z2 (ix2 p k))).trans ?_
  exact canon_of_pieces' _ _ P _ (View.cover_of_tiledL (kernelRun0_A.sl.HS1_2 (F := Ideal) c arg1 harg1 arg2 harg2 arg3 harg3 arg4 harg4 arg5 harg5 arg6 harg6 arg13 arg15 arg16 x0 x1 x2 x3 x4 x5) S128x1024.size (by sl_kernel_rfl) _)

theorem out10_A (p : Fin 128) (k : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p k) = hreK x0 x1 x2 x3 x4 x5 p k := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  rw [View.canon_cons_unit_zero (S := S128x1024) (funext z2)]
  exact re_A c arg1 harg1 arg2 harg2 arg3 harg3 arg4 harg4 arg5 harg5 arg6 harg6 arg13 arg15 arg16 x0 x1 x2 x3 x4 x5 p k

theorem out11_A (p : Fin 128) (k : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p k) = himK x0 x1 x2 x3 x4 x5 p k := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  rw [View.canon_cons_unit_zero (S := S128x1024) (funext z2)]
  exact im_A c arg1 harg1 arg2 harg2 arg3 harg3 arg4 harg4 arg5 harg5 arg6 harg6 arg13 arg15 arg16 x0 x1 x2 x3 x4 x5 p k

theorem out9_A (p : Fin 128) (n : Fin 256) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p n) = glu (fun k => gel (yK x0 x1 x2 x3 x4 x5 x6 x7 p k)) (fun k n => x8 (ix2 k n)) n := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  rw [View.canon_cons_unit_zero (S := S128x256) (funext z2)]
  rw [rdw arg9 harg9 x8 _ _ z2]
  refine (pay1_apply _ _ p n).trans ?_
  refine congrFun (congrArg₂ glu (funext fun k => ?_) rfl) n
  unfold kernelRun0_A.sl.r_3 kernelRun0_A.sl.r
  rw [rdw arg1 harg1 x0 _ _ z2, rdw arg7 harg7 x6 _ _ z2, rdw arg8 harg8 x7 _ _ z2]
  refine (pay13_apply _ _ _ _ p k).trans ?_
  unfold yK
  exact congrArg gel (congrArg (fun z => z + x7 (ix2 0 k) * x0 (ix2 p k)) (Finset.sum_congr rfl fun j _ =>
    congrArg (fun z => z * x6 (ix2 j k)) (hs_A c arg1 harg1 arg2 harg2 arg3 harg3 arg4 harg4 arg5 harg5 arg6 harg6 arg13 arg14 arg15 arg16 x0 x1 x2 x3 x4 x5 p j)))

end

end Cert.S5StepIdeal.RefValue

end

end
-- ==== Proof.S5StepValue.lean ====
/- The S5 call of the step: the new state of each group from the old one and the group's channels, the row read from the
   state, gelu and the gate, one row for each of 128 sequences. The value claim reads the kernel's block and the reference's
   arrays entry by entry as the same functions of the arguments. -/
module

public import proofs.«01_k».proof.Defs
public import proofs.«01_k».proof.Proof.S5StepCase
public import proofs.«01_k».proof.Proof.Gen.S5Step.Frame
public import proofs.«01_k».proof.Proof.Gen.S5StepIdeal.Value
public import proofs.«01_k».proof.Proof.Gen.S5StepRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.S5StepIdeal.RefValue

open Cert.S5StepIdeal Cert.S5StepIdeal.Gen Cert.Common Cert.S5 Cert.S5StepRefIdeal.RefValue

variable (m : (ℓ : Loc nD τ sig) → Buf (Elt Ideal) ℓ) (ρ : Dev nD → PrngReg)

/-- The memory of argument `b`, of device `c`. -/
abbrev arg (c : Dev nD) (b : Ref sig .tc) : Buf (Elt Ideal) ((c : Thread nD τ).loc b) := m ((c : Thread nD τ).loc b)

/-! ### The weights as the kernel takes them -/

/-- The discretised decay and input matrix, real and imaginary parts. -/
abbrev lamRe (c : Dev nD) : FVec Ideal S16x64 .f32 := S5StepRefIdeal.Read.val_main_v8 (F := Ideal) (arg m c main_arg3) (arg m c main_arg4) (arg m c main_arg5)
abbrev lamIm (c : Dev nD) : FVec Ideal S16x64 .f32 := S5StepRefIdeal.Read.val_main_v12 (F := Ideal) (arg m c main_arg3) (arg m c main_arg4) (arg m c main_arg5)
abbrev bRe (c : Dev nD) : FVec Ideal S16x64x16 .f32 :=
  S5StepRefIdeal.Read.val_main_v34 (F := Ideal) (arg m c main_arg3) (arg m c main_arg4) (arg m c main_arg5) (arg m c main_arg6) (arg m c main_arg7)
abbrev bIm (c : Dev nD) : FVec Ideal S16x64x16 .f32 :=
  S5StepRefIdeal.Read.val_main_v39 (F := Ideal) (arg m c main_arg3) (arg m c main_arg4) (arg m c main_arg5) (arg m c main_arg6) (arg m c main_arg7)

theorem V_v8 (c : Dev nD) : V m c main_v8 = lamRe m c := by unfold V; after_results <;> rfl
theorem V_v12 (c : Dev nD) : V m c main_v12 = lamIm m c := by unfold V; after_results <;> rfl
theorem V_v34 (c : Dev nD) : V m c main_v34 = bRe m c := by unfold V; after_results <;> rfl
theorem V_v39 (c : Dev nD) : V m c main_v39 = bIm m c := by unfold V; after_results <;> rfl
theorem V_v61 (c : Dev nD) : V m c main_v61 = bMat (V m c main_v34) (V m c main_v39) := by unfold V; after_results <;> rfl
theorem V_v80 (c : Dev nD) : V m c main_v80 = cMat (arg m c main_arg8) (arg m c main_arg9) := by unfold V; after_results <;> rfl
theorem V_v83 (c : Dev nD) : V m c main_v83 = broadcastInDim S1x256 ![1] bcast_S256_S1x256_1 (arg m c main_arg10) := by unfold V; after_results <;> rfl
theorem V_v84 (c : Dev nD) : V m c main_v84 = (truncf .bf16 (arg m c main_arg11) bitsLt_bf16_f32 : FVec Ideal S256x256 .bf16) := by unfold V; after_results <;> rfl
theorem V_v85 (c : Dev nD) : V m c main_v85 = shapeCast S128x1024 (arg m c main_arg1) shapeCasts_S128x16x64_S128x1024 := by unfold V; after_results <;> rfl
theorem V_v86 (c : Dev nD) : V m c main_v86 = shapeCast S128x1024 (arg m c main_arg2) shapeCasts_S128x16x64_S128x1024 := by unfold V; after_results <;> rfl
theorem V_v87 (c : Dev nD) : V m c main_v87 = broadcastInDim S128x1024 ![0, 1] bcast_S1x1024_S128x1024_0_1 (shapeCast S1x1024 (V m c main_v8) shapeCasts_S16x64_S1x1024) := by
  unfold V; after_results <;> rfl
theorem V_v88 (c : Dev nD) : V m c main_v88 = broadcastInDim S128x1024 ![0, 1] bcast_S1x1024_S128x1024_0_1 (shapeCast S1x1024 (V m c main_v12) shapeCasts_S16x64_S1x1024) := by
  unfold V; after_results <;> rfl

/-- A state laid out as one row of 1024 entries, read at state `s` of group `g`. -/
theorem flat_state (h : FVec Ideal S128x16x64 .f32) (p : Fin 128) (g : Fin 16) (s : Fin 64) :
    shapeCast S128x1024 h shapeCasts_S128x16x64_S128x1024 (ix2 p (us g s)) = h (ix3 p g s) := by
  refine shapeCast_apply _ _ _ _ ?_
  rw [Shape.rowMajor_val_two, Shape.rowMajor_val_three]
  show (p.val * 16 + g.val) * 64 + s.val = p.val * 1024 + (64 * g.val + s.val)
  omega

/-- The decay repeated for each sequence. -/
theorem flat_lam (a : FVec Ideal S16x64 .f32) (p : Fin 128) (g : Fin 16) (s : Fin 64) :
    broadcastInDim S128x1024 ![0, 1] bcast_S1x1024_S128x1024_0_1 (shapeCast S1x1024 a shapeCasts_S16x64_S1x1024) (ix2 p (us g s)) = a (ix2 g s) := by
  have e : shapeCast S1x1024 a shapeCasts_S16x64_S1x1024 (ix2 0 (us g s)) = a (ix2 g s) := by
    refine shapeCast_apply _ _ _ _ ?_
    rw [Shape.rowMajor_val_two, Shape.rowMajor_val_two]
    show g.val * 64 + s.val = 0 * 1024 + (64 * g.val + s.val)
    omega
  rw [← e]
  generalize shapeCast S1x1024 a shapeCasts_S16x64_S1x1024 = z
  generalize us g s = k
  pointwise

/-! ### The windows -/

theorem index_0 : ∀ t : Fin grid0.N, win0_0.index t 0 = 0 ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = 0 ∧ win0_10.index t 1 = 0 := by decide +kernel
theorem index_11 : ∀ t : Fin grid0.N, win0_11.index t 0 = 0 ∧ win0_11.index t 1 = 0 := by decide +kernel

theorem at_0 (c : Dev nD) (t : Fin cfg0.N) (a : Fin 128) (k : Fin 256) : iblk m c 0 t (ix2 a k) = V m c main_arg0 (ix2 a k) := by
  show V m c main_arg0 ((win0_0.rect t).idx (ix2 a k)) = _
  have e : (win0_0.rect t).idx (ix2 a k) = (ix2 a k : S128x256.Idx) := funext fun b => Fin.ext (by
    match b with
    | ⟨0, _⟩ => show win0_0.index t 0 * 128 + 1 * a.val = a.val; rw [(index_0 t).1]; omega
    | ⟨1, _⟩ => show win0_0.index t 1 * 256 + 1 * k.val = k.val; rw [(index_0 t).2]; omega)
  rw [e]

theorem at_1 (c : Dev nD) (t : Fin cfg0.N) (a : Fin 128) (k : Fin 1024) : iblk m c 1 t (ix2 a k) = V m c main_v85 (ix2 a k) := by
  show V m c main_v85 ((win0_1.rect t).idx (ix2 a k)) = _
  have e : (win0_1.rect t).idx (ix2 a k) = (ix2 a k : S128x1024.Idx) := funext fun b => Fin.ext (by
    match b with
    | ⟨0, _⟩ => show win0_1.index t 0 * 128 + 1 * a.val = a.val; rw [(index_1 t).1]; omega
    | ⟨1, _⟩ => show win0_1.index t 1 * 1024 + 1 * k.val = k.val; rw [(index_1 t).2]; omega)
  rw [e]

theorem at_2 (c : Dev nD) (t : Fin cfg0.N) (a : Fin 128) (k : Fin 1024) : iblk m c 2 t (ix2 a k) = V m c main_v86 (ix2 a k) := by
  show V m c main_v86 ((win0_2.rect t).idx (ix2 a k)) = _
  have e : (win0_2.rect t).idx (ix2 a k) = (ix2 a k : S128x1024.Idx) := funext fun b => Fin.ext (by
    match b with
    | ⟨0, _⟩ => show win0_2.index t 0 * 128 + 1 * a.val = a.val; rw [(index_2 t).1]; omega
    | ⟨1, _⟩ => show win0_2.index t 1 * 1024 + 1 * k.val = k.val; rw [(index_2 t).2]; omega)
  rw [e]

theorem at_3 (c : Dev nD) (t : Fin cfg0.N) (a : Fin 256) (k : Fin 2048) : iblk m c 3 t (ix2 a k) = V m c main_v61 (ix2 a k) := by
  show V m c main_v61 ((win0_3.rect t).idx (ix2 a k)) = _
  have e : (win0_3.rect t).idx (ix2 a k) = (ix2 a k : S256x2048.Idx) := funext fun b => Fin.ext (by
    match b with
    | ⟨0, _⟩ => show win0_3.index t 0 * 256 + 1 * a.val = a.val; rw [(index_3 t).1]; omega
    | ⟨1, _⟩ => show win0_3.index t 1 * 2048 + 1 * k.val = k.val; rw [(index_3 t).2]; omega)
  rw [e]

theorem at_4 (c : Dev nD) (t : Fin cfg0.N) (a : Fin 128) (k : Fin 1024) : iblk m c 4 t (ix2 a k) = V m c main_v87 (ix2 a k) := by
  show V m c main_v87 ((win0_4.rect t).idx (ix2 a k)) = _
  have e : (win0_4.rect t).idx (ix2 a k) = (ix2 a k : S128x1024.Idx) := funext fun b => Fin.ext (by
    match b with
    | ⟨0, _⟩ => show win0_4.index t 0 * 128 + 1 * a.val = a.val; rw [(index_4 t).1]; omega
    | ⟨1, _⟩ => show win0_4.index t 1 * 1024 + 1 * k.val = k.val; rw [(index_4 t).2]; omega)
  rw [e]

theorem at_5 (c : Dev nD) (t : Fin cfg0.N) (a : Fin 128) (k : Fin 1024) : iblk m c 5 t (ix2 a k) = V m c main_v88 (ix2 a k) := by
  show V m c main_v88 ((win0_5.rect t).idx (ix2 a k)) = _
  have e : (win0_5.rect t).idx (ix2 a k) = (ix2 a k : S128x1024.Idx) := funext fun b => Fin.ext (by
    match b with
    | ⟨0, _⟩ => show win0_5.index t 0 * 128 + 1 * a.val = a.val; rw [(index_5 t).1]; omega
    | ⟨1, _⟩ => show win0_5.index t 1 * 1024 + 1 * k.val = k.val; rw [(index_5 t).2]; omega)
  rw [e]

theorem at_6 (c : Dev nD) (t : Fin cfg0.N) (a : Fin 2048) (k : Fin 256) : iblk m c 6 t (ix2 a k) = V m c main_v80 (ix2 a k) := by
  show V m c main_v80 ((win0_6.rect t).idx (ix2 a k)) = _
  have e : (win0_6.rect t).idx (ix2 a k) = (ix2 a k : S2048x256.Idx) := funext fun b => Fin.ext (by
    match b with
    | ⟨0, _⟩ => show win0_6.index t 0 * 2048 + 1 * a.val = a.val; rw [(index_6 t).1]; omega
    | ⟨1, _⟩ => show win0_6.index t 1 * 256 + 1 * k.val = k.val; rw [(index_6 t).2]; omega)
  rw [e]

theorem at_7 (c : Dev nD) (t : Fin cfg0.N) (a : Fin 1) (k : Fin 256) : iblk m c 7 t (ix2 a k) = V m c main_v83 (ix2 a k) := by
  show V m c main_v83 ((win0_7.rect t).idx (ix2 a k)) = _
  have e : (win0_7.rect t).idx (ix2 a k) = (ix2 a k : S1x256.Idx) := funext fun b => Fin.ext (by
    match b with
    | ⟨0, _⟩ => show win0_7.index t 0 * 1 + 1 * a.val = a.val; rw [(index_7 t).1]; omega
    | ⟨1, _⟩ => show win0_7.index t 1 * 256 + 1 * k.val = k.val; rw [(index_7 t).2]; omega)
  rw [e]

theorem at_8 (c : Dev nD) (t : Fin cfg0.N) (a : Fin 256) (k : Fin 256) : iblk m c 8 t (ix2 a k) = V m c main_v84 (ix2 a k) := by
  show V m c main_v84 ((win0_8.rect t).idx (ix2 a k)) = _
  have e : (win0_8.rect t).idx (ix2 a k) = (ix2 a k : S256x256.Idx) := funext fun b => Fin.ext (by
    match b with
    | ⟨0, _⟩ => show win0_8.index t 0 * 256 + 1 * a.val = a.val; rw [(index_8 t).1]; omega
    | ⟨1, _⟩ => show win0_8.index t 1 * 256 + 1 * k.val = k.val; rw [(index_8 t).2]; omega)
  rw [e]

theorem blk_0 (c : Dev nD) (t : Fin cfg0.N) (p : Fin 128) (k : Fin 256) : iblk m c 0 t (ix2 p k) = arg m c main_arg0 (ix2 p k) := by
  rw [at_0, V_main_arg0]
theorem blk_1 (c : Dev nD) (t : Fin cfg0.N) (p : Fin 128) (g : Fin 16) (s : Fin 64) : iblk m c 1 t (ix2 p (us g s)) = arg m c main_arg1 (ix3 p g s) := by
  rw [at_1, V_v85]; exact flat_state _ p g s
theorem blk_2 (c : Dev nD) (t : Fin cfg0.N) (p : Fin 128) (g : Fin 16) (s : Fin 64) : iblk m c 2 t (ix2 p (us g s)) = arg m c main_arg2 (ix3 p g s) := by
  rw [at_2, V_v86]; exact flat_state _ p g s
theorem blk_3 (c : Dev nD) (t : Fin cfg0.N) (k : Fin 256) (j : Fin 2048) : iblk m c 3 t (ix2 k j) = bMat (bRe m c) (bIm m c) (ix2 k j) := by
  rw [at_3, V_v61, V_v34, V_v39]
theorem blk_4 (c : Dev nD) (t : Fin cfg0.N) (p : Fin 128) (g : Fin 16) (s : Fin 64) : iblk m c 4 t (ix2 p (us g s)) = lamRe m c (ix2 g s) := by
  rw [at_4, V_v87, V_v8]; exact flat_lam _ p g s
theorem blk_5 (c : Dev nD) (t : Fin cfg0.N) (p : Fin 128) (g : Fin 16) (s : Fin 64) : iblk m c 5 t (ix2 p (us g s)) = lamIm m c (ix2 g s) := by
  rw [at_5, V_v88, V_v12]; exact flat_lam _ p g s
theorem blk_6 (c : Dev nD) (t : Fin cfg0.N) (k : Fin 2048) (n : Fin 256) :
    iblk m c 6 t (ix2 k n) = cMat (arg m c main_arg8) (arg m c main_arg9) (ix2 k n) := by
  rw [at_6, V_v80]
theorem blk_7 (c : Dev nD) (t : Fin cfg0.N) (n : Fin 256) : iblk m c 7 t (ix2 0 n) = arg m c main_arg10 (ix1 n) := by
  rw [at_7, V_v83]
  pointwise
theorem blk_8 (c : Dev nD) (t : Fin cfg0.N) (k n : Fin 256) : iblk m c 8 t (ix2 k n) = arg m c main_arg11 (ix2 k n) := by
  rw [at_8, V_v84]
  rfl

/-! ### The block is the reference's rows -/

theorem hre_eq (c : Dev nD) (t : Fin cfg0.N) (p : Fin 128) (g : Fin 16) (s : Fin 64) :
    hreK (iblk m c 0 t) (iblk m c 1 t) (iblk m c 2 t) (iblk m c 3 t) (iblk m c 4 t) (iblk m c 5 t) p (us g s) = hreR (arg m c main_arg0) (arg m c main_arg1) (arg m c main_arg2) (arg m c main_arg3) (arg m c main_arg4) (arg m c main_arg5) (arg m c main_arg6) (arg m c main_arg7) p g s := by
  unfold hreK hreR
  rw [blk_4, blk_1, blk_5, blk_2]
  simp only [blk_0, blk_3]
  exact congrArg _ (xb_re (fun k => arg m c main_arg0 (ix2 p k)) (bRe m c) (bIm m c) g s)

theorem him_eq (c : Dev nD) (t : Fin cfg0.N) (p : Fin 128) (g : Fin 16) (s : Fin 64) :
    himK (iblk m c 0 t) (iblk m c 1 t) (iblk m c 2 t) (iblk m c 3 t) (iblk m c 4 t) (iblk m c 5 t) p (us g s) = himR (arg m c main_arg0) (arg m c main_arg1) (arg m c main_arg2) (arg m c main_arg3) (arg m c main_arg4) (arg m c main_arg5) (arg m c main_arg6) (arg m c main_arg7) p g s := by
  unfold himK himR
  rw [blk_4, blk_1, blk_5, blk_2]
  simp only [blk_0, blk_3]
  exact congrArg _ (xb_im (fun k => arg m c main_arg0 (ix2 p k)) (bRe m c) (bIm m c) g s)

theorem y_eq (c : Dev nD) (t : Fin cfg0.N) (p : Fin 128) (g o : Fin 16) : yK (iblk m c 0 t) (iblk m c 1 t) (iblk m c 2 t) (iblk m c 3 t) (iblk m c 4 t) (iblk m c 5 t) (iblk m c 6 t) (iblk m c 7 t) p (ug g o) = yR (arg m c main_arg0) (arg m c main_arg1) (arg m c main_arg2) (arg m c main_arg3) (arg m c main_arg4) (arg m c main_arg5) (arg m c main_arg6) (arg m c main_arg7) (arg m c main_arg8) (arg m c main_arg9) (arg m c main_arg10) p g o := by
  unfold yK yR
  simp only [blk_6]
  rw [y_sum (hsK (iblk m c 0 t) (iblk m c 1 t) (iblk m c 2 t) (iblk m c 3 t) (iblk m c 4 t) (iblk m c 5 t) p), blk_7, blk_0]
  simp only [hsK_re, hsK_im, hre_eq, him_eq]

theorem out9_eq (c : Dev nD) (t : Fin cfg0.N) (p : Fin 128) (n : Fin 256) :
    (outsAt0 m c t).1 (ix2 p n) = S5StepRefIdeal.Read.val_main_v107 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (ix2 p n) := by
  have ey : ∀ k : Fin 256, yK (iblk m c 0 t) (iblk m c 1 t) (iblk m c 2 t) (iblk m c 3 t) (iblk m c 4 t) (iblk m c 5 t) (iblk m c 6 t) (iblk m c 7 t) p k = S5StepRefIdeal.Read.val_main_v85 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (ix2 p k) := fun k => by
    obtain ⟨g, o, rfl⟩ := ex_ug k
    exact (y_eq m c t p g o).trans (v85_apply _ _ _ _ _ _ _ _ _ _ _ p g o).symm
  have h := out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) p n
  unfold outsAt0
  dsimp only
  rw [h, v107_apply]
  simp only [ey, blk_8]

theorem out10_eq (c : Dev nD) (t : Fin cfg0.N) (p : Fin 128) (k : Fin 1024) :
    (outsAt0 m c t).2.1 (ix2 p k) = S5StepRefIdeal.Read.val_main_v108 (F := Ideal) (arg m c main_arg0) (arg m c main_arg1) (arg m c main_arg2) (arg m c main_arg3) (arg m c main_arg4) (arg m c main_arg5) (arg m c main_arg6) (arg m c main_arg7) (ix2 p k) := by
  obtain ⟨g, s, rfl⟩ := ex_us k
  have h := out10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) p (us g s)
  unfold outsAt0
  dsimp only
  rw [h, hre_eq, v108_apply]

theorem out11_eq (c : Dev nD) (t : Fin cfg0.N) (p : Fin 128) (k : Fin 1024) :
    (outsAt0 m c t).2.2 (ix2 p k) = S5StepRefIdeal.Read.val_main_v109 (F := Ideal) (arg m c main_arg0) (arg m c main_arg1) (arg m c main_arg2) (arg m c main_arg3) (arg m c main_arg4) (arg m c main_arg5) (arg m c main_arg6) (arg m c main_arg7) (ix2 p k) := by
  obtain ⟨g, s, rfl⟩ := ex_us k
  have h := out11_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (iblk m c 8 t) p (us g s)
  unfold outsAt0
  dsimp only
  rw [h, him_eq, v109_apply]

/-! ### What the one point writes back is the reference's arrays -/

/-- The gated rows as the reference computes them. -/
abbrev G9 (c : Dev nD) : Buf (Elt Ideal) ((c : Thread nD τ).loc main_v89_0) :=
  S5StepRefIdeal.Read.val_main_v107 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11)

/-- The new state as the reference computes it, real and imaginary parts. -/
abbrev G10 (c : Dev nD) : Buf (Elt Ideal) ((c : Thread nD τ).loc main_v89_1) :=
  S5StepRefIdeal.Read.val_main_v108 (F := Ideal) (arg m c main_arg0) (arg m c main_arg1) (arg m c main_arg2) (arg m c main_arg3) (arg m c main_arg4) (arg m c main_arg5) (arg m c main_arg6) (arg m c main_arg7)
abbrev G11 (c : Dev nD) : Buf (Elt Ideal) ((c : Thread nD τ).loc main_v89_2) :=
  S5StepRefIdeal.Read.val_main_v109 (F := Ideal) (arg m c main_arg0) (arg m c main_arg1) (arg m c main_arg2) (arg m c main_arg3) (arg m c main_arg4) (arg m c main_arg5) (arg m c main_arg6) (arg m c main_arg7)

theorem t0lt : 0 < cfg0.N := by have h : cfg0.N = 1 := N_0; omega

theorem flushed_9 (c : Dev nD) (t : Fin cfg0.N) :
    (dats m 0 c).flushed 9 t = ((cfg0.win 9).blk t).view.read (Elt Ideal) (G9 m c) := by
  rw [Value.flushed9]
  funext y
  show (outsAt0 m c t).1 y = G9 m c ((win0_9.rect t).idx y)
  obtain ⟨p, n, rfl⟩ : ∃ (p : Fin 128) (n : Fin 256), y = ix2 p n := ⟨y 0, y 1, by idx_vars y⟩
  have e : (win0_9.rect t).idx (ix2 p n) = (ix2 p n : S128x256.Idx) := funext fun a => Fin.ext (by
    match a with
    | ⟨0, _⟩ => show win0_9.index t 0 * 128 + 1 * p.val = p.val; rw [(index_9 t).1]; omega
    | ⟨1, _⟩ => show win0_9.index t 1 * 256 + 1 * n.val = n.val; rw [(index_9 t).2]; omega)
  rw [e, out9_eq]

theorem cover_9 (i : S128x256.Idx) : ∃ t : Fin cfg0.N, (cfg0.win 9).flush t = true ∧ i ∈ ((cfg0.win 9).blk t).view.set := by
  have h0 : (i 0 : Nat) < 128 := (i 0).isLt
  have h1 : (i 1 : Nat) < 256 := (i 1).isLt
  refine ⟨⟨0, t0lt⟩, flush0_9 _, ?_⟩
  show i ∈ ((View.whole main_v89_0).slice (win0_9.rect ⟨0, t0lt⟩)).set
  rw [View.set_slice_whole, Rect.mem_set_unit]
  obtain ⟨e0, e1⟩ := index_9 ⟨0, t0lt⟩
  intro a
  match a with
  | ⟨0, _⟩ => show win0_9.index _ 0 * 128 ≤ (i 0 : Nat) ∧ (i 0 : Nat) < win0_9.index _ 0 * 128 + 128
              rw [e0]; omega
  | ⟨1, _⟩ => show win0_9.index _ 1 * 256 ≤ (i 1 : Nat) ∧ (i 1 : Nat) < win0_9.index _ 1 * 256 + 256
              rw [e1]; omega

theorem final_9 (c : Dev nD) : (dats m 0 c).arrAt 9 cfg0.N = G9 m c :=
  (dats m 0 c).arrAt_eq_of_cover 9 (G9 m c) (fun t _ => flushed_9 m c t) cover_9

theorem flushed_10 (c : Dev nD) (t : Fin cfg0.N) :
    (dats m 0 c).flushed 10 t = ((cfg0.win 10).blk t).view.read (Elt Ideal) (G10 m c) := by
  rw [Value.flushed10]
  funext y
  show (outsAt0 m c t).2.1 y = G10 m c ((win0_10.rect t).idx y)
  obtain ⟨p, n, rfl⟩ : ∃ (p : Fin 128) (n : Fin 1024), y = ix2 p n := ⟨y 0, y 1, by idx_vars y⟩
  have e : (win0_10.rect t).idx (ix2 p n) = (ix2 p n : S128x1024.Idx) := funext fun a => Fin.ext (by
    match a with
    | ⟨0, _⟩ => show win0_10.index t 0 * 128 + 1 * p.val = p.val; rw [(index_10 t).1]; omega
    | ⟨1, _⟩ => show win0_10.index t 1 * 1024 + 1 * n.val = n.val; rw [(index_10 t).2]; omega)
  rw [e, out10_eq]

theorem cover_10 (i : S128x1024.Idx) : ∃ t : Fin cfg0.N, (cfg0.win 10).flush t = true ∧ i ∈ ((cfg0.win 10).blk t).view.set := by
  have h0 : (i 0 : Nat) < 128 := (i 0).isLt
  have h1 : (i 1 : Nat) < 1024 := (i 1).isLt
  refine ⟨⟨0, t0lt⟩, flush0_10 _, ?_⟩
  show i ∈ ((View.whole main_v89_1).slice (win0_10.rect ⟨0, t0lt⟩)).set
  rw [View.set_slice_whole, Rect.mem_set_unit]
  obtain ⟨e0, e1⟩ := index_10 ⟨0, t0lt⟩
  intro a
  match a with
  | ⟨0, _⟩ => show win0_10.index _ 0 * 128 ≤ (i 0 : Nat) ∧ (i 0 : Nat) < win0_10.index _ 0 * 128 + 128
              rw [e0]; omega
  | ⟨1, _⟩ => show win0_10.index _ 1 * 1024 ≤ (i 1 : Nat) ∧ (i 1 : Nat) < win0_10.index _ 1 * 1024 + 1024
              rw [e1]; omega

theorem final_10 (c : Dev nD) : (dats m 0 c).arrAt 10 cfg0.N = G10 m c :=
  (dats m 0 c).arrAt_eq_of_cover 10 (G10 m c) (fun t _ => flushed_10 m c t) cover_10

theorem flushed_11 (c : Dev nD) (t : Fin cfg0.N) :
    (dats m 0 c).flushed 11 t = ((cfg0.win 11).blk t).view.read (Elt Ideal) (G11 m c) := by
  rw [Value.flushed11]
  funext y
  show (outsAt0 m c t).2.2 y = G11 m c ((win0_11.rect t).idx y)
  obtain ⟨p, n, rfl⟩ : ∃ (p : Fin 128) (n : Fin 1024), y = ix2 p n := ⟨y 0, y 1, by idx_vars y⟩
  have e : (win0_11.rect t).idx (ix2 p n) = (ix2 p n : S128x1024.Idx) := funext fun a => Fin.ext (by
    match a with
    | ⟨0, _⟩ => show win0_11.index t 0 * 128 + 1 * p.val = p.val; rw [(index_11 t).1]; omega
    | ⟨1, _⟩ => show win0_11.index t 1 * 1024 + 1 * n.val = n.val; rw [(index_11 t).2]; omega)
  rw [e, out11_eq]

theorem cover_11 (i : S128x1024.Idx) : ∃ t : Fin cfg0.N, (cfg0.win 11).flush t = true ∧ i ∈ ((cfg0.win 11).blk t).view.set := by
  have h0 : (i 0 : Nat) < 128 := (i 0).isLt
  have h1 : (i 1 : Nat) < 1024 := (i 1).isLt
  refine ⟨⟨0, t0lt⟩, flush0_11 _, ?_⟩
  show i ∈ ((View.whole main_v89_2).slice (win0_11.rect ⟨0, t0lt⟩)).set
  rw [View.set_slice_whole, Rect.mem_set_unit]
  obtain ⟨e0, e1⟩ := index_11 ⟨0, t0lt⟩
  intro a
  match a with
  | ⟨0, _⟩ => show win0_11.index _ 0 * 128 ≤ (i 0 : Nat) ∧ (i 0 : Nat) < win0_11.index _ 0 * 128 + 128
              rw [e0]; omega
  | ⟨1, _⟩ => show win0_11.index _ 1 * 1024 ≤ (i 1 : Nat) ∧ (i 1 : Nat) < win0_11.index _ 1 * 1024 + 1024
              rw [e1]; omega

theorem final_11 (c : Dev nD) : (dats m 0 c).arrAt 11 cfg0.N = G11 m c :=
  (dats m 0 c).arrAt_eq_of_cover 11 (G11 m c) (fun t _ => flushed_11 m c t) cover_11

end Cert.S5StepIdeal.RefValue

/-! ### The claims -/

namespace Cert.Proof.S5StepClaims

theorem frame_k : Cert.quiescent_S5Step := fun m ρ _ => Cert.S5Step.Gen.frame m ρ
theorem frame_ki : Cert.quiescent_S5StepIdeal := fun m ρ _ => Cert.S5StepIdeal.Gen.frame m ρ
theorem frame_ri : Cert.quiescent_S5StepRefIdeal := fun m ρ _ =>
  (θ_run Cert.S5StepRefIdeal.defs _ _).mono (fun r h => ⟨fun c => (h c).2.2.2, sem_eq_zero_of_no_sems (by decide) r.2⟩)
    (Cert.S5StepRefIdeal.Value.run (F := Ideal) m ρ)
theorem preserves : Cert.preserves_S5Step_S5StepIdeal := trivial

/-- The kernel's rows and new state are the reference's. -/
theorem algebraic : Cert.algebraic_S5StepIdeal_S5StepRefIdeal := by
  intro m ρ m' ρ' _ hagree
  refine ⟨fun c => S5StepIdeal.RefValue.G9 m c, fun c => S5StepIdeal.RefValue.G10 m c, fun c => S5StepIdeal.RefValue.G11 m c, ?_, ?_⟩
  · exact (θ_run Cert.S5StepIdeal.defs _ _).mono
      (fun _ h c => ⟨(h c).1.trans (S5StepIdeal.RefValue.final_9 m c), (h c).2.1.trans (S5StepIdeal.RefValue.final_10 m c),
        (h c).2.2.1.trans (S5StepIdeal.RefValue.final_11 m c), (h c).2.2.2⟩)
      (Cert.S5StepIdeal.Value.run_blocks (F := Ideal) m ρ)
  · refine (θ_run Cert.S5StepRefIdeal.defs _ _).mono
      (fun _ h c => ⟨(h c).1.trans ?_, (h c).2.1.trans ?_, (h c).2.2.1.trans ?_, (h c).2.2.2⟩)
      (Cert.S5StepRefIdeal.Value.run (F := Ideal) m' ρ')
    · obtain ⟨a0, a1, a2, a3, a4, a5, a6, a7, a8, a9, a10, a11⟩ := hagree c
      refine (S5StepRefIdeal.Read.val_main_v107_eq _).trans ?_
      show S5StepRefIdeal.Read.val_main_v107 (F := Ideal) (m' ((c : Thread S5StepRefIdeal.nD S5StepRefIdeal.τ).loc S5StepRefIdeal.main_arg0)) (m' ((c : Thread S5StepRefIdeal.nD S5StepRefIdeal.τ).loc S5StepRefIdeal.main_arg1)) (m' ((c : Thread S5StepRefIdeal.nD S5StepRefIdeal.τ).loc S5StepRefIdeal.main_arg2)) (m' ((c : Thread S5StepRefIdeal.nD S5StepRefIdeal.τ).loc S5StepRefIdeal.main_arg3)) (m' ((c : Thread S5StepRefIdeal.nD S5StepRefIdeal.τ).loc S5StepRefIdeal.main_arg4)) (m' ((c : Thread S5StepRefIdeal.nD S5StepRefIdeal.τ).loc S5StepRefIdeal.main_arg5)) (m' ((c : Thread S5StepRefIdeal.nD S5StepRefIdeal.τ).loc S5StepRefIdeal.main_arg6)) (m' ((c : Thread S5StepRefIdeal.nD S5StepRefIdeal.τ).loc S5StepRefIdeal.main_arg7)) (m' ((c : Thread S5StepRefIdeal.nD S5StepRefIdeal.τ).loc S5StepRefIdeal.main_arg8)) (m' ((c : Thread S5StepRefIdeal.nD S5StepRefIdeal.τ).loc S5StepRefIdeal.main_arg9)) (m' ((c : Thread S5StepRefIdeal.nD S5StepRefIdeal.τ).loc S5StepRefIdeal.main_arg10)) (m' ((c : Thread S5StepRefIdeal.nD S5StepRefIdeal.τ).loc S5StepRefIdeal.main_arg11)) = _
      rw [a0, a1, a2, a3, a4, a5, a6, a7, a8, a9, a10, a11]
    · obtain ⟨a0, a1, a2, a3, a4, a5, a6, a7, a8, a9, a10, a11⟩ := hagree c
      refine (S5StepRefIdeal.Read.val_main_v108_eq _).trans ?_
      show S5StepRefIdeal.Read.val_main_v108 (F := Ideal) (m' ((c : Thread S5StepRefIdeal.nD S5StepRefIdeal.τ).loc S5StepRefIdeal.main_arg0)) (m' ((c : Thread S5StepRefIdeal.nD S5StepRefIdeal.τ).loc S5StepRefIdeal.main_arg1)) (m' ((c : Thread S5StepRefIdeal.nD S5StepRefIdeal.τ).loc S5StepRefIdeal.main_arg2)) (m' ((c : Thread S5StepRefIdeal.nD S5StepRefIdeal.τ).loc S5StepRefIdeal.main_arg3)) (m' ((c : Thread S5StepRefIdeal.nD S5StepRefIdeal.τ).loc S5StepRefIdeal.main_arg4)) (m' ((c : Thread S5StepRefIdeal.nD S5StepRefIdeal.τ).loc S5StepRefIdeal.main_arg5)) (m' ((c : Thread S5StepRefIdeal.nD S5StepRefIdeal.τ).loc S5StepRefIdeal.main_arg6)) (m' ((c : Thread S5StepRefIdeal.nD S5StepRefIdeal.τ).loc S5StepRefIdeal.main_arg7)) = _
      rw [a0, a1, a2, a3, a4, a5, a6, a7]
    · obtain ⟨a0, a1, a2, a3, a4, a5, a6, a7, a8, a9, a10, a11⟩ := hagree c
      refine (S5StepRefIdeal.Read.val_main_v109_eq _).trans ?_
      show S5StepRefIdeal.Read.val_main_v109 (F := Ideal) (m' ((c : Thread S5StepRefIdeal.nD S5StepRefIdeal.τ).loc S5StepRefIdeal.main_arg0)) (m' ((c : Thread S5StepRefIdeal.nD S5StepRefIdeal.τ).loc S5StepRefIdeal.main_arg1)) (m' ((c : Thread S5StepRefIdeal.nD S5StepRefIdeal.τ).loc S5StepRefIdeal.main_arg2)) (m' ((c : Thread S5StepRefIdeal.nD S5StepRefIdeal.τ).loc S5StepRefIdeal.main_arg3)) (m' ((c : Thread S5StepRefIdeal.nD S5StepRefIdeal.τ).loc S5StepRefIdeal.main_arg4)) (m' ((c : Thread S5StepRefIdeal.nD S5StepRefIdeal.τ).loc S5StepRefIdeal.main_arg5)) (m' ((c : Thread S5StepRefIdeal.nD S5StepRefIdeal.τ).loc S5StepRefIdeal.main_arg6)) (m' ((c : Thread S5StepRefIdeal.nD S5StepRefIdeal.τ).loc S5StepRefIdeal.main_arg7)) = _
      rw [a0, a1, a2, a3, a4, a5, a6, a7]

end Cert.Proof.S5StepClaims

end
-- ==== Proof.lean ====
module

public import proofs.«01_k».proof.Defs
public import proofs.«01_k».proof.Proof.Gen.Rwkv
public import proofs.«01_k».proof.Proof.Gen.RwkvIdeal
public import proofs.«01_k».proof.Proof.Gen.RwkvRefIdeal
public import proofs.«01_k».proof.Proof.Gen.RwkvIdeal.Value
public import proofs.«01_k».proof.Proof.Gen.RwkvRefIdeal.Run
public import proofs.«01_k».proof.Proof.Gen.RwkvRefIdeal.Read
public import proofs.«01_k».proof.Proof.RwkvValue
public import proofs.«01_k».proof.Proof.Gen.Inproj
public import proofs.«01_k».proof.Proof.Gen.InprojIdeal
public import proofs.«01_k».proof.Proof.Gen.InprojRefIdeal
public import proofs.«01_k».proof.Proof.Gen.InprojIdeal.Value
public import proofs.«01_k».proof.Proof.Gen.InprojRefIdeal.Run
public import proofs.«01_k».proof.Proof.Gen.InprojRefIdeal.Read
public import proofs.«01_k».proof.Proof.InprojValue
public import proofs.«01_k».proof.Proof.Gen.Ffn
public import proofs.«01_k».proof.Proof.Gen.FfnIdeal
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnValue
public import proofs.«01_k».proof.Proof.Gen.GlaStep
public import proofs.«01_k».proof.Proof.Gen.GlaStepIdeal
public import proofs.«01_k».proof.Proof.Gen.GlaStepRefIdeal
public import proofs.«01_k».proof.Proof.Gen.GlaStepIdeal.Value
public import proofs.«01_k».proof.Proof.Gen.GlaStepRefIdeal.Run
public import proofs.«01_k».proof.Proof.Gen.GlaStepRefIdeal.Read
public import proofs.«01_k».proof.Proof.GlaStepValue
public import proofs.«01_k».proof.Proof.Gen.MlstmStep
public import proofs.«01_k».proof.Proof.Gen.MlstmStepIdeal
public import proofs.«01_k».proof.Proof.Gen.MlstmStepRefIdeal
public import proofs.«01_k».proof.Proof.Gen.MlstmStepIdeal.Value
public import proofs.«01_k».proof.Proof.Gen.MlstmStepRefIdeal.Run
public import proofs.«01_k».proof.Proof.Gen.MlstmStepRefIdeal.Read
public import proofs.«01_k».proof.Proof.MlstmStepValue
public import proofs.«01_k».proof.Proof.Gen.InStep
public import proofs.«01_k».proof.Proof.Gen.InStepIdeal
public import proofs.«01_k».proof.Proof.Gen.InStepRefIdeal
public import proofs.«01_k».proof.Proof.Gen.InStepIdeal.Value
public import proofs.«01_k».proof.Proof.Gen.InStepRefIdeal.Run
public import proofs.«01_k».proof.Proof.Gen.InStepRefIdeal.Read
public import proofs.«01_k».proof.Proof.InStepValue
public import proofs.«01_k».proof.Proof.Gen.FfnStep
public import proofs.«01_k».proof.Proof.Gen.FfnStepIdeal
public import proofs.«01_k».proof.Proof.Gen.FfnStepRefIdeal
public import proofs.«01_k».proof.Proof.Gen.FfnStepIdeal.Value
public import proofs.«01_k».proof.Proof.Gen.FfnStepRefIdeal.Run
public import proofs.«01_k».proof.Proof.Gen.FfnStepRefIdeal.Read
public import proofs.«01_k».proof.Proof.FfnStepValue
public import proofs.«01_k».proof.Proof.Gen.S5Step
public import proofs.«01_k».proof.Proof.Gen.S5StepIdeal
public import proofs.«01_k».proof.Proof.Gen.S5StepRefIdeal
public import proofs.«01_k».proof.Proof.Gen.S5StepIdeal.Value
public import proofs.«01_k».proof.Proof.Gen.S5StepRefIdeal.Run
public import proofs.«01_k».proof.Proof.Gen.S5StepRefIdeal.Read
public import proofs.«01_k».proof.Proof.S5StepValue

@[expose] public section

noncomputable section

theorem Cert.Proof.claim : Cert.Claim :=
  ⟨Cert.Rwkv.Gen.facts, Cert.RwkvIdeal.Gen.facts, Cert.RwkvRefIdeal.Gen.facts,
    Cert.Inproj.Gen.facts, Cert.InprojIdeal.Gen.facts, Cert.InprojRefIdeal.Gen.facts,
    Cert.Ffn.Gen.facts, Cert.FfnIdeal.Gen.facts, Cert.FfnRefIdeal.Gen.facts,
    Cert.GlaStep.Gen.facts, Cert.GlaStepIdeal.Gen.facts, Cert.GlaStepRefIdeal.Gen.facts,
    Cert.MlstmStep.Gen.facts, Cert.MlstmStepIdeal.Gen.facts, Cert.MlstmStepRefIdeal.Gen.facts,
    Cert.InStep.Gen.facts, Cert.InStepIdeal.Gen.facts, Cert.InStepRefIdeal.Gen.facts,
    Cert.FfnStep.Gen.facts, Cert.FfnStepIdeal.Gen.facts, Cert.FfnStepRefIdeal.Gen.facts,
    Cert.S5Step.Gen.facts, Cert.S5StepIdeal.Gen.facts, Cert.S5StepRefIdeal.Gen.facts,
    Cert.Proof.RwkvClaims.frame_k, Cert.Proof.RwkvClaims.frame_ki, Cert.Proof.RwkvClaims.frame_ri,
    Cert.Proof.InprojClaims.frame_k, Cert.Proof.InprojClaims.frame_ki, Cert.Proof.InprojClaims.frame_ri,
    Cert.Proof.FfnClaims.frame_k, Cert.Proof.FfnClaims.frame_ki, Cert.Proof.FfnClaims.frame_ri,
    Cert.Proof.GlaStepClaims.frame_k, Cert.Proof.GlaStepClaims.frame_ki, Cert.Proof.GlaStepClaims.frame_ri,
    Cert.Proof.MlstmStepClaims.frame_k, Cert.Proof.MlstmStepClaims.frame_ki, Cert.Proof.MlstmStepClaims.frame_ri,
    Cert.Proof.InStepClaims.frame_k, Cert.Proof.InStepClaims.frame_ki, Cert.Proof.InStepClaims.frame_ri,
    Cert.Proof.FfnStepClaims.frame_k, Cert.Proof.FfnStepClaims.frame_ki, Cert.Proof.FfnStepClaims.frame_ri,
    Cert.Proof.S5StepClaims.frame_k, Cert.Proof.S5StepClaims.frame_ki, Cert.Proof.S5StepClaims.frame_ri,
    Cert.Proof.RwkvClaims.preserves, Cert.Proof.RwkvClaims.algebraic,
    Cert.Proof.InprojClaims.preserves, Cert.Proof.InprojClaims.algebraic,
    Cert.Proof.FfnClaims.preserves, Cert.Proof.FfnClaims.algebraic,
    Cert.Proof.GlaStepClaims.preserves, Cert.Proof.GlaStepClaims.algebraic,
    Cert.Proof.MlstmStepClaims.preserves, Cert.Proof.MlstmStepClaims.algebraic,
    Cert.Proof.InStepClaims.preserves, Cert.Proof.InStepClaims.algebraic,
    Cert.Proof.FfnStepClaims.preserves, Cert.Proof.FfnStepClaims.algebraic,
    Cert.Proof.S5StepClaims.preserves, Cert.Proof.S5StepClaims.algebraic⟩

end
